-- ==== Defs.lean ====
def Pre_KernelIdeal [hPre_labels_ok : Cert.Pre_labels_ok.Facts] (m : (ℓ : Loc Cert.KernelIdeal.nD Cert.KernelIdeal.τ Cert.KernelIdeal.sig) → Buf (Elt Ideal) ℓ) : Prop :=
  ∀ c : Dev Cert.KernelIdeal.nD,
    (Cert.Pre_labels_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rows_ok [hPre_rows_ok : Cert.Pre_rows_ok.Facts] (m : (ℓ : Loc Cert.KernelIdeal.nD Cert.KernelIdeal.τ Cert.KernelIdeal.sig) → Buf (Elt Ideal) ℓ) : Prop :=
  ∀ c : Dev Cert.KernelIdeal.nD,
    (Cert.Pre_rows_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_rows_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_rows_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_ok [hPre_rows_ok : Cert.Pre_rows_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_rows_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_rows_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_KernelIdeal [hKernelIdeal : Cert.KernelIdeal.Facts] [hPre_labels_ok : Cert.Pre_labels_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_ok [hKernelIdeal : Cert.KernelIdeal.Facts] [hPre_rows_ok : Cert.Pre_rows_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_ok [hReferenceIdeal : Cert.ReferenceIdeal.Facts] [hPre_rows_ok : Cert.Pre_rows_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_rows_ok [hKernelIdeal : Cert.KernelIdeal.Facts] [hReferenceIdeal : Cert.ReferenceIdeal.Facts] [hPre_rows_ok : Cert.Pre_rows_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_labels_ok : Cert.Pre_labels_ok.Facts) (hPre_rows_ok : Cert.Pre_rows_ok.Facts),
    quiescent_KernelIdeal (hKernelIdeal := hKernelIdeal) (hPre_labels_ok := hPre_labels_ok)
    ∧ quiescent_KernelIdeal_pre_rows_ok (hKernelIdeal := hKernelIdeal) (hPre_rows_ok := hPre_rows_ok)
    ∧ quiescent_ReferenceIdeal (hReferenceIdeal := hReferenceIdeal)
    ∧ quiescent_ReferenceIdeal_pre_rows_ok (hReferenceIdeal := hReferenceIdeal) (hPre_rows_ok := hPre_rows_ok)
    ∧ algebraic_KernelIdeal_ReferenceIdeal_pre_rows_ok (hKernelIdeal := hKernelIdeal) (hReferenceIdeal := hReferenceIdeal) (hPre_rows_ok := hPre_rows_ok)
-- ==== Pre_labels_ok.lean ====
abbrev S2000000x16 : Shape := ⟨2, ![2000000, 16]⟩
abbrev S2000000 : Shape := ⟨1, ![2000000]⟩
abbrev S_ : Shape := ⟨0, ![]⟩

class Facts : Prop where
  bcast_S_S2000000 : S_.BroadcastsInDim S2000000 (![] : Fin 0 → Fin S2000000.rank)

variable [Facts]

def fn {F : FTy → Type} [FloatOps F] (main_arg0 : FVec F S2000000x16 .f32) (main_arg1 : IVec S2000000 32) : IVec S2000000 1 :=
  let main_c : IVec S_ 32 := constantI S_ 32 0#32
  let main_v0 : IVec S2000000 32 := broadcastInDim S2000000 ![] bcast_S_S2000000 main_c
  let main_v1 : IVec S2000000 1 := cmpi .sge main_arg1 main_v0
  let main_c_0 : IVec S_ 32 := constantI S_ 32 16#32
  let main_v2 : IVec S2000000 32 := broadcastInDim S2000000 ![] bcast_S_S2000000 main_c_0
  let main_v3 : IVec S2000000 1 := cmpi .slt main_arg1 main_v2
  let main_v4 : IVec S2000000 1 := andi main_v1 main_v3
  main_v4
-- ==== Pre_rows_ok.lean ====
abbrev S2000000x16 : Shape := ⟨2, ![2000000, 16]⟩
abbrev S2000000 : Shape := ⟨1, ![2000000]⟩
abbrev S_ : Shape := ⟨0, ![]⟩
abbrev S16 : Shape := ⟨1, ![16]⟩
abbrev S1x16 : Shape := ⟨2, ![1, 16]⟩
abbrev S2000000x1 : Shape := ⟨2, ![2000000, 1]⟩

class Facts : Prop where
  bcast_S_S2000000x16 : S_.BroadcastsInDim S2000000x16 (![] : Fin 0 → Fin S2000000x16.rank)
  reducesTo_S2000000x16_S2000000_d1 : S2000000x16.ReducesTo [1] S2000000
  h_S_ : 0 < S_.numel
  bcast_S16_S1x16_1 : S16.BroadcastsInDim S1x16 (![1] : Fin 1 → Fin S1x16.rank)
  bcast_S2000000_S2000000x1_0 : S2000000.BroadcastsInDim S2000000x1 (![0] : Fin 1 → Fin S2000000x1.rank)
  bcast_S1x16_S2000000x16_0_1 : S1x16.BroadcastsInDim S2000000x16 (![0, 1] : Fin 2 → Fin S2000000x16.rank)
  bcast_S2000000x1_S2000000x16_0_1 : S2000000x1.BroadcastsInDim S2000000x16 (![0, 1] : Fin 2 → Fin S2000000x16.rank)
  bcast_S_S2000000 : S_.BroadcastsInDim S2000000 (![] : Fin 0 → Fin S2000000.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S2000000x16 .f32) : IVec S2000000 32 :=
  let v0 : IVec S2000000x16 32 := iotaInDim S2000000x16 32 1
  let cst : FVec F S_ .f32 := constant S_ .f32 0xFF800000#32
  let c : IVec S_ 32 := constantI S_ 32 0#32
  let v1_0 : FVec F S2000000 .f32 := (fun x y u v j => (Host.argReduce reducer_argmax_f32_i32 x y u v reducesTo_S2000000x16_S2000000_d1 h_S_ j).1) arg0 v0 cst c
  let v1_1 : IVec S2000000 32 := (fun x y u v j => (Host.argReduce reducer_argmax_f32_i32 x y u v reducesTo_S2000000x16_S2000000_d1 h_S_ j).2) arg0 v0 cst c
  v1_1

def fn_part3 {F : FTy → Type} [FloatOps F] (main_arg1 : IVec S2000000 32) (main_v21 : IVec S2000000x16 1) (main_v52 : IVec S2000000 1) (main_v54 : IVec S2000000 1) (main_v55 : IVec S2000000 32) : IVec S2000000 1 × IVec S2000000x16 1 × IVec S2000000 1 :=
  let main_v56 : IVec S2000000 1 := cmpi .slt main_arg1 main_v55
  let main_v57 : IVec S2000000 1 := andi main_v54 main_v56
  (main_v57, main_v21, main_v52)

def fn_part2 {F : FTy → Type} [FloatOps F] (main_arg1 : IVec S2000000 32) (main_v21 : IVec S2000000x16 1) (main_v23 : FVec F S2000000 .f32) (main_v37 : IVec S2000000 1) (main_cst_8 : FVec F S_ .f32) : IVec S2000000 1 × IVec S2000000x16 1 × IVec S2000000 1 :=
  let main_v38 : FVec F S2000000 .f32 := broadcastInDim S2000000 ![] bcast_S_S2000000 main_cst_8
  let main_v39 : IVec S2000000 1 := cmpf .une main_v23 main_v38
  let main_v40 : IVec S2000000 1 := andi main_v37 main_v39
  let main_cst_9 : FVec F S_ .f32 := constant S_ .f32 0x40C00000#32
  let main_v41 : FVec F S2000000 .f32 := broadcastInDim S2000000 ![] bcast_S_S2000000 main_cst_9
  let main_v42 : IVec S2000000 1 := cmpf .une main_v23 main_v41
  let main_v43 : IVec S2000000 1 := andi main_v40 main_v42
  let main_cst_10 : FVec F S_ .f32 := constant S_ .f32 0x40E00000#32
  let main_v44 : FVec F S2000000 .f32 := broadcastInDim S2000000 ![] bcast_S_S2000000 main_cst_10
  let main_v45 : IVec S2000000 1 := cmpf .une main_v23 main_v44
  let main_v46 : IVec S2000000 1 := andi main_v43 main_v45
  let main_cst_11 : FVec F S_ .f32 := constant S_ .f32 0x41000000#32
  let main_v47 : FVec F S2000000 .f32 := broadcastInDim S2000000 ![] bcast_S_S2000000 main_cst_11
  let main_v48 : IVec S2000000 1 := cmpf .une main_v23 main_v47
  let main_v49 : IVec S2000000 1 := andi main_v46 main_v48
  let main_cst_12 : FVec F S_ .f32 := constant S_ .f32 0x41100000#32
  let main_v50 : FVec F S2000000 .f32 := broadcastInDim S2000000 ![] bcast_S_S2000000 main_cst_12
  let main_v51 : IVec S2000000 1 := cmpf .une main_v23 main_v50
  let main_v52 : IVec S2000000 1 := andi main_v49 main_v51
  let main_c : IVec S_ 32 := constantI S_ 32 0#32
  let main_v53 : IVec S2000000 32 := broadcastInDim S2000000 ![] bcast_S_S2000000 main_c
  let main_v54 : IVec S2000000 1 := cmpi .sge main_arg1 main_v53
  let main_c_13 : IVec S_ 32 := constantI S_ 32 16#32
  let main_v55 : IVec S2000000 32 := broadcastInDim S2000000 ![] bcast_S_S2000000 main_c_13
  fn_part3 (F := F) main_arg1 main_v21 main_v52 main_v54 main_v55

def fn_part1 {F : FTy → Type} [FloatOps F] (main_arg1 : IVec S2000000 32) (main_v6 : FVec F S2000000 .f32) (main_v16 : IVec S2000000x16 1) (main_v20 : IVec S2000000x16 1) : IVec S2000000 1 × IVec S2000000x16 1 × IVec S2000000 1 :=
  let main_v21 : IVec S2000000x16 1 := ori main_v16 main_v20
  let main_cst_2 : FVec F S_ .f32 := constant S_ .f32 0x41200000#32
  let main_v22 : FVec F S2000000 .f32 := broadcastInDim S2000000 ![] bcast_S_S2000000 main_cst_2
  let main_v23 : FVec F S2000000 .f32 := mulf main_v6 main_v22
  let main_cst_3 : FVec F S_ .f32 := constant S_ .f32 0x00000000#32
  let main_v24 : FVec F S2000000 .f32 := broadcastInDim S2000000 ![] bcast_S_S2000000 main_cst_3
  let main_v25 : IVec S2000000 1 := cmpf .une main_v23 main_v24
  let main_cst_4 : FVec F S_ .f32 := constant S_ .f32 0x3F800000#32
  let main_v26 : FVec F S2000000 .f32 := broadcastInDim S2000000 ![] bcast_S_S2000000 main_cst_4
  let main_v27 : IVec S2000000 1 := cmpf .une main_v23 main_v26
  let main_v28 : IVec S2000000 1 := andi main_v25 main_v27
  let main_cst_5 : FVec F S_ .f32 := constant S_ .f32 0x40000000#32
  let main_v29 : FVec F S2000000 .f32 := broadcastInDim S2000000 ![] bcast_S_S2000000 main_cst_5
  let main_v30 : IVec S2000000 1 := cmpf .une main_v23 main_v29
  let main_v31 : IVec S2000000 1 := andi main_v28 main_v30
  let main_cst_6 : FVec F S_ .f32 := constant S_ .f32 0x40400000#32
  let main_v32 : FVec F S2000000 .f32 := broadcastInDim S2000000 ![] bcast_S_S2000000 main_cst_6
  let main_v33 : IVec S2000000 1 := cmpf .une main_v23 main_v32
  let main_v34 : IVec S2000000 1 := andi main_v31 main_v33
  let main_cst_7 : FVec F S_ .f32 := constant S_ .f32 0x40800000#32
  let main_v35 : FVec F S2000000 .f32 := broadcastInDim S2000000 ![] bcast_S_S2000000 main_cst_7
  let main_v36 : IVec S2000000 1 := cmpf .une main_v23 main_v35
  let main_v37 : IVec S2000000 1 := andi main_v34 main_v36
  let main_cst_8 : FVec F S_ .f32 := constant S_ .f32 0x40A00000#32
  fn_part2 (F := F) main_arg1 main_v21 main_v23 main_v37 main_cst_8

def fn {F : FTy → Type} [FloatOps F] (main_arg0 : FVec F S2000000x16 .f32) (main_arg1 : IVec S2000000 32) : IVec S2000000 1 × IVec S2000000x16 1 × IVec S2000000 1 :=
  let main_v0 : FVec F S2000000x16 .f32 := Host.negf main_arg0
  let main_v1 : FVec F S2000000x16 .f32 := Host.exp main_v0
  let main_cst : FVec F S_ .f32 := constant S_ .f32 0x3F800000#32
  let main_v2 : FVec F S2000000x16 .f32 := broadcastInDim S2000000x16 ![] bcast_S_S2000000x16 main_cst
  let main_v3 : FVec F S2000000x16 .f32 := addf main_v2 main_v1
  let main_cst_0 : FVec F S_ .f32 := constant S_ .f32 0x3F800000#32
  let main_v4 : FVec F S2000000x16 .f32 := broadcastInDim S2000000x16 ![] bcast_S_S2000000x16 main_cst_0
  let main_v5 : FVec F S2000000x16 .f32 := Host.divf main_v4 main_v3
  let main_cst_1 : FVec F S_ .f32 := constant S_ .f32 0xFF800000#32
  let main_v6 : FVec F S2000000 .f32 := (fun x v => Host.reduce FloatOps.maximumf x v reducesTo_S2000000x16_S2000000_d1 h_S_) main_v5 main_cst_1
  let main_v7 : IVec S16 32 := iotaInDim S16 32 0
  let main_v8 : IVec S1x16 32 := broadcastInDim S1x16 ![1] bcast_S16_S1x16_1 main_v7
  let main_v9 : IVec S2000000x1 32 := broadcastInDim S2000000x1 ![0] bcast_S2000000_S2000000x1_0 main_arg1
  let main_v10 : IVec S2000000x16 32 := broadcastInDim S2000000x16 ![0, 1] bcast_S1x16_S2000000x16_0_1 main_v8
  let main_v11 : IVec S2000000x16 32 := broadcastInDim S2000000x16 ![0, 1] bcast_S2000000x1_S2000000x16_0_1 main_v9
  let main_v12 : IVec S2000000x16 1 := cmpi .ne main_v10 main_v11
  let main_v13 : FVec F S2000000x1 .f32 := broadcastInDim S2000000x1 ![0] bcast_S2000000_S2000000x1_0 main_v6
  let main_v14 : FVec F S2000000x16 .f32 := broadcastInDim S2000000x16 ![0, 1] bcast_S2000000x1_S2000000x16_0_1 main_v13
  let main_v15 : IVec S2000000x16 1 := cmpf .olt main_v5 main_v14
  let main_v16 : IVec S2000000x16 1 := ori main_v12 main_v15
  let main_v17 : IVec S2000000 32 := fn_argmax (F := F) main_v5
  let main_v18 : IVec S2000000 1 := cmpi .eq main_v17 main_arg1
  let main_v19 : IVec S2000000x1 1 := broadcastInDim S2000000x1 ![0] bcast_S2000000_S2000000x1_0 main_v18
  let main_v20 : IVec S2000000x16 1 := broadcastInDim S2000000x16 ![0, 1] bcast_S2000000x1_S2000000x16_0_1 main_v19
  fn_part1 (F := F) main_arg1 main_v6 main_v16 main_v20
-- ==== KernelIdeal.lean ====
abbrev S2000000x16 : Shape := ⟨2, ![2000000, 16]⟩
abbrev S2000000 : Shape := ⟨1, ![2000000]⟩
abbrev S16x2000000 : Shape := ⟨2, ![16, 2000000]⟩
abbrev S2x8x15625x128 : Shape := ⟨4, ![2, 8, 15625, 128]⟩
abbrev S2x15625x8x128 : Shape := ⟨4, ![2, 15625, 8, 128]⟩
abbrev S32000000 : Shape := ⟨1, ![32000000]⟩
abbrev S32x480 : Shape := ⟨2, ![32, 480]⟩
abbrev S49152 : Shape := ⟨1, ![49152]⟩
abbrev S3072 : Shape := ⟨1, ![3072]⟩
abbrev S480 : Shape := ⟨1, ![480]⟩
abbrev S_ : Shape := ⟨0, ![]⟩
abbrev S16 : Shape := ⟨1, ![16]⟩
abbrev S24576 : Shape := ⟨1, ![24576]⟩
abbrev S8192 : Shape := ⟨1, ![8192]⟩
abbrev S1024 : Shape := ⟨1, ![1024]⟩
abbrev S128 : Shape := ⟨1, ![128]⟩
abbrev S1x480 : Shape := ⟨2, ![1, 480]⟩
abbrev S3x10x16 : Shape := ⟨3, ![3, 10, 16]⟩
abbrev S3x10 : Shape := ⟨2, ![3, 10]⟩
abbrev S1x10 : Shape := ⟨2, ![1, 10]⟩
abbrev S10 : Shape := ⟨1, ![10]⟩
abbrev S1 : Shape := ⟨1, ![1]⟩

abbrev nBuf : Table → Nat
  | .hbm => 39
  | .local .scVector .vmem => 5
  | _ => 0

abbrev bufTy : (tb : Table) → Fin (nBuf tb) → BufTy
  | .hbm, ⟨0, _⟩ => ⟨S2000000x16, .f32⟩
  | .hbm, ⟨1, _⟩ => ⟨S2000000, .i32⟩
  | .hbm, ⟨2, _⟩ => ⟨S16x2000000, .f32⟩
  | .hbm, ⟨3, _⟩ => ⟨S2x8x15625x128, .f32⟩
  | .hbm, ⟨4, _⟩ => ⟨S2x15625x8x128, .f32⟩
  | .hbm, ⟨5, _⟩ => ⟨S32000000, .f32⟩
  | .hbm, ⟨6, _⟩ => ⟨S32x480, .f32⟩
  | .hbm, ⟨7, _⟩ => ⟨S_, .f32⟩
  | .hbm, ⟨8, _⟩ => ⟨S480, .f32⟩
  | .hbm, ⟨9, _⟩ => ⟨S3x10x16, .f32⟩
  | .hbm, ⟨10, _⟩ => ⟨S_, .f32⟩
  | .hbm, ⟨11, _⟩ => ⟨S3x10, .f32⟩
  | .hbm, ⟨12, _⟩ => ⟨S1x10, .f32⟩
  | .hbm, ⟨13, _⟩ => ⟨S10, .f32⟩
  | .hbm, ⟨14, _⟩ => ⟨S1x10, .f32⟩
  | .hbm, ⟨15, _⟩ => ⟨S10, .f32⟩
  | .hbm, ⟨16, _⟩ => ⟨S1x10, .f32⟩
  | .hbm, ⟨17, _⟩ => ⟨S10, .f32⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S10, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S10, .f32⟩
  | .hbm, ⟨30, _⟩ => ⟨S10, .i1⟩
  | .hbm, ⟨31, _⟩ => ⟨S10, .f32⟩
  | .hbm, ⟨32, _⟩ => ⟨S_, .f32⟩
  | .hbm, ⟨33, _⟩ => ⟨S_, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S1, .f32⟩
  | .local .scVector .vmem, ⟨0, _⟩ => ⟨S49152, .f32⟩
  | .local .scVector .vmem, ⟨1, _⟩ => ⟨S49152, .f32⟩
  | .local .scVector .vmem, ⟨2, _⟩ => ⟨S3072, .i32⟩
  | .local .scVector .vmem, ⟨3, _⟩ => ⟨S3072, .i32⟩
  | .local .scVector .vmem, ⟨4, _⟩ => ⟨S480, .f32⟩
  | _, _ => ⟨S2000000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v3_scv : Ref sig .scVector := ⟨.hbm, 5, rfl⟩
abbrev main_arg1_scv : Ref sig .scVector := ⟨.hbm, 1, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c1024_i32 : BitVec 32 := 1024#32
  let v67 : BitVec 32 := Scalar.muli v66 c1024_i32
  ![v67.toNat]
def k0_off2 (i : grid0.Coords) : Fin 1 → Nat :=
  let c16000000_i32 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c1024_i32_31 : BitVec 32 := 1024#32
  let v72 : BitVec 32 := Scalar.muli v66 c1024_i32_31
  let v73 : BitVec 32 := Scalar.addi c16000000_i32 v72
  ![v73.toNat]
def k0_off3 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c128_i32 : BitVec 32 := 128#32
  let v78 : BitVec 32 := Scalar.muli v66 c128_i32
  ![v78.toNat]
def k0_off4 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c24_i32 : BitVec 32 := 24#32
  let v83 : BitVec 32 := Scalar.addi v66 c24_i32
  let c1024_i32_35 : BitVec 32 := 1024#32
  let v84 : BitVec 32 := Scalar.muli v83 c1024_i32_35
  ![v84.toNat]
def k0_off5 (i : grid0.Coords) : Fin 1 → Nat :=
  let c16000000_i32_39 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c24_i32 : BitVec 32 := 24#32
  let v83 : BitVec 32 := Scalar.addi v66 c24_i32
  let c1024_i32_38 : BitVec 32 := 1024#32
  let v89 : BitVec 32 := Scalar.muli v83 c1024_i32_38
  let v90 : BitVec 32 := Scalar.addi c16000000_i32_39 v89
  ![v90.toNat]
def k0_off6 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c24_i32 : BitVec 32 := 24#32
  let v83 : BitVec 32 := Scalar.addi v66 c24_i32
  let c128_i32_42 : BitVec 32 := 128#32
  let v95 : BitVec 32 := Scalar.muli v83 c128_i32_42
  ![v95.toNat]
@[reducible] def k0_t1_loop : Scf.Loop 32 :=
  let c0_i32_46 : BitVec 32 := 0#32
  let c10_i32 : BitVec 32 := 10#32
  let v100 : BitVec 32 := Scalar.addi c0_i32_46 c10_i32
  let c1_i32 : BitVec 32 := 1#32
  ⟨c0_i32_46, v100, c1_i32⟩
def k0_off7 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c1024_i32_142 : BitVec 32 := 1024#32
  let v414 : BitVec 32 := Scalar.muli v413 c1024_i32_142
  ![v414.toNat]
def k0_off8 (i : grid0.Coords) (k0_t1 : Fin k0_t1_loop.trips) : Fin 1 → Nat :=
  let c16000000_i32_146 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c1024_i32_145 : BitVec 32 := 1024#32
  let v419 : BitVec 32 := Scalar.muli v413 c1024_i32_145
  let v420 : BitVec 32 := Scalar.addi c16000000_i32_146 v419
  ![v420.toNat]
def k0_off9 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c128_i32_149 : BitVec 32 := 128#32
  let v425 : BitVec 32 := Scalar.muli v413 c128_i32_149
  ![v425.toNat]
@[reducible] def k0_t2_loop : Scf.Loop 32 :=
  let c1_i32_216 : BitVec 32 := 1#32
  let c47_i32 : BitVec 32 := 47#32
  let v554 : BitVec 32 := Scalar.addi c1_i32_216 c47_i32
  let c1_i32_217 : BitVec 32 := 1#32
  ⟨c1_i32_216, v554, c1_i32_217⟩
def k0_off10 (k0_t2 : Fin k0_t2_loop.trips) (c0_i32_426 : BitVec 32) (c0_i32_427 : BitVec 32) : Fin 1 → Nat :=
  let c1_i32_216 : BitVec 32 := 1#32
  let c1_i32_217 : BitVec 32 := 1#32
  let arg19 : BitVec 32 := Scf.iv c1_i32_216 c1_i32_217 k0_t2
  let c1_i32_423 : BitVec 32 := 1#32
  let v1003 : BitVec 32 := Scalar.shrsi arg19 c1_i32_423
  let c1024_i32_424 : BitVec 32 := 1024#32
  let v1004 : BitVec 32 := Scalar.muli v1003 c1024_i32_424
  let c1_i32_425 : BitVec 32 := 1#32
  let v1005 : BitVec 32 := Scalar.andi arg19 c1_i32_425
  let c64_i32 : BitVec 32 := 64#32
  let v1006 : BitVec 32 := Scalar.muli v1005 c64_i32
  let v1007 : BitVec 32 := Scalar.addi v1004 v1006
  let v1008 : BitVec 32 := Scalar.addi v1007 c0_i32_426
  let v1009 : BitVec 32 := Scalar.addi v1008 c0_i32_427
  let v1010 : Index := Scalar.indexCast v1009
  ![v1010.toNat]
def k0_off11 (k0_t2 : Fin k0_t2_loop.trips) (c0_i32_426 : BitVec 32) (c0_i32_430 : BitVec 32) : Fin 1 → Nat :=
  let c24576_i32_429 : BitVec 32 := 24576#32
  let c1_i32_216 : BitVec 32 := 1#32
  let c1_i32_217 : BitVec 32 := 1#32
  let arg19 : BitVec 32 := Scf.iv c1_i32_216 c1_i32_217 k0_t2
  let c1_i32_423 : BitVec 32 := 1#32
  let v1003 : BitVec 32 := Scalar.shrsi arg19 c1_i32_423
  let c1024_i32_424 : BitVec 32 := 1024#32
  let v1004 : BitVec 32 := Scalar.muli v1003 c1024_i32_424
  let c1_i32_425 : BitVec 32 := 1#32
  let v1005 : BitVec 32 := Scalar.andi arg19 c1_i32_425
  let c64_i32 : BitVec 32 := 64#32
  let v1006 : BitVec 32 := Scalar.muli v1005 c64_i32
  let v1007 : BitVec 32 := Scalar.addi v1004 v1006
  let v1008 : BitVec 32 := Scalar.addi v1007 c0_i32_426
  let v1033 : BitVec 32 := Scalar.addi c24576_i32_429 v1008
  let v1034 : BitVec 32 := Scalar.addi v1033 c0_i32_430
  let v1035 : Index := Scalar.indexCast v1034
  ![v1035.toNat]
def k0_off12 (k0_t2 : Fin k0_t2_loop.trips) (c0_i32_537 : BitVec 32) : Fin 1 → Nat :=
  let c1_i32_216 : BitVec 32 := 1#32
  let c1_i32_217 : BitVec 32 := 1#32
  let arg19 : BitVec 32 := Scf.iv c1_i32_216 c1_i32_217 k0_t2
  let c1_i32_523 : BitVec 32 := 1#32
  let v1302 : BitVec 32 := Scalar.subi arg19 c1_i32_523
  let c64_i32_524 : BitVec 32 := 64#32
  let v1303 : BitVec 32 := Scalar.muli v1302 c64_i32_524
  let v1332 : BitVec 32 := Scalar.addi v1303 c0_i32_537
  let v1333 : Index := Scalar.indexCast v1332
  ![v1333.toNat]

def k0_chk1 (v1356 : IVec S16 32) : Prop :=
  (∀ a x, ((![v1356] : Fin 1 → IVec S16 32) a x).toNat < S49152.size a)
theorem k0_idx1_inb : ∀ (v1356 : IVec S16 32) (k0_hw1 : k0_chk1 v1356), ∀ a x, ((![v1356] : Fin 1 → IVec S16 32) a x).toNat < S49152.size a := fun v1356 k0_hw1 => k0_hw1

def k0_chk2 (v1370 : IVec S16 32) : Prop :=
  (∀ a x, ((![v1370] : Fin 1 → IVec S16 32) a x).toNat < S49152.size a)
theorem k0_idx2_inb : ∀ (v1370 : IVec S16 32) (k0_hw2 : k0_chk2 v1370), ∀ a x, ((![v1370] : Fin 1 → IVec S16 32) a x).toNat < S49152.size a := fun v1370 k0_hw2 => k0_hw2

def k0_chk3 (v1384 : IVec S16 32) : Prop :=
  (∀ a x, ((![v1384] : Fin 1 → IVec S16 32) a x).toNat < S49152.size a)
theorem k0_idx3_inb : ∀ (v1384 : IVec S16 32) (k0_hw3 : k0_chk3 v1384), ∀ a x, ((![v1384] : Fin 1 → IVec S16 32) a x).toNat < S49152.size a := fun v1384 k0_hw3 => k0_hw3

def k0_chk4 (v1398 : IVec S16 32) : Prop :=
  (∀ a x, ((![v1398] : Fin 1 → IVec S16 32) a x).toNat < S49152.size a)
theorem k0_idx4_inb : ∀ (v1398 : IVec S16 32) (k0_hw4 : k0_chk4 v1398), ∀ a x, ((![v1398] : Fin 1 → IVec S16 32) a x).toNat < S49152.size a := fun v1398 k0_hw4 => k0_hw4

def k0_chk5 (v1411 : IVec S16 32) : Prop :=
  (∀ a x, ((![v1411] : Fin 1 → IVec S16 32) a x).toNat < S480.size a)
theorem k0_idx5_inb : ∀ (v1411 : IVec S16 32) (k0_hw5 : k0_chk5 v1411), ∀ a x, ((![v1411] : Fin 1 → IVec S16 32) a x).toNat < S480.size a := fun v1411 k0_hw5 => k0_hw5

def k0_chk6 (v1413 : IVec S16 32) : Prop :=
  (∀ a x, ((![v1413] : Fin 1 → IVec S16 32) a x).toNat < S480.size a)
theorem k0_idx6_inb : ∀ (v1413 : IVec S16 32) (k0_hw6 : k0_chk6 v1413), ∀ a x, ((![v1413] : Fin 1 → IVec S16 32) a x).toNat < S480.size a := fun v1413 k0_hw6 => k0_hw6

def k0_chk7 (v1415 : IVec S16 32) : Prop :=
  (∀ a x, ((![v1415] : Fin 1 → IVec S16 32) a x).toNat < S480.size a)
theorem k0_idx7_inb : ∀ (v1415 : IVec S16 32) (k0_hw7 : k0_chk7 v1415), ∀ a x, ((![v1415] : Fin 1 → IVec S16 32) a x).toNat < S480.size a := fun v1415 k0_hw7 => k0_hw7

def k0_chk8 (v1427 : IVec S16 32) : Prop :=
  (∀ a x, ((![v1427] : Fin 1 → IVec S16 32) a x).toNat < S480.size a)
theorem k0_idx8_inb : ∀ (v1427 : IVec S16 32) (k0_hw8 : k0_chk8 v1427), ∀ a x, ((![v1427] : Fin 1 → IVec S16 32) a x).toNat < S480.size a := fun v1427 k0_hw8 => k0_hw8

def k0_chk9 (v1429 : IVec S16 32) : Prop :=
  (∀ a x, ((![v1429] : Fin 1 → IVec S16 32) a x).toNat < S480.size a)
theorem k0_idx9_inb : ∀ (v1429 : IVec S16 32) (k0_hw9 : k0_chk9 v1429), ∀ a x, ((![v1429] : Fin 1 → IVec S16 32) a x).toNat < S480.size a := fun v1429 k0_hw9 => k0_hw9

def k0_chk10 (v1431 : IVec S16 32) : Prop :=
  (∀ a x, ((![v1431] : Fin 1 → IVec S16 32) a x).toNat < S480.size a)
theorem k0_idx10_inb : ∀ (v1431 : IVec S16 32) (k0_hw10 : k0_chk10 v1431), ∀ a x, ((![v1431] : Fin 1 → IVec S16 32) a x).toNat < S480.size a := fun v1431 k0_hw10 => k0_hw10

def k0_chk11 (v1443 : IVec S16 32) : Prop :=
  (∀ a x, ((![v1443] : Fin 1 → IVec S16 32) a x).toNat < S480.size a)
theorem k0_idx11_inb : ∀ (v1443 : IVec S16 32) (k0_hw11 : k0_chk11 v1443), ∀ a x, ((![v1443] : Fin 1 → IVec S16 32) a x).toNat < S480.size a := fun v1443 k0_hw11 => k0_hw11

def k0_chk12 (v1445 : IVec S16 32) : Prop :=
  (∀ a x, ((![v1445] : Fin 1 → IVec S16 32) a x).toNat < S480.size a)
theorem k0_idx12_inb : ∀ (v1445 : IVec S16 32) (k0_hw12 : k0_chk12 v1445), ∀ a x, ((![v1445] : Fin 1 → IVec S16 32) a x).toNat < S480.size a := fun v1445 k0_hw12 => k0_hw12

def k0_chk13 (v1447 : IVec S16 32) : Prop :=
  (∀ a x, ((![v1447] : Fin 1 → IVec S16 32) a x).toNat < S480.size a)
theorem k0_idx13_inb : ∀ (v1447 : IVec S16 32) (k0_hw13 : k0_chk13 v1447), ∀ a x, ((![v1447] : Fin 1 → IVec S16 32) a x).toNat < S480.size a := fun v1447 k0_hw13 => k0_hw13

def k0_chk14 (v1459 : IVec S16 32) : Prop :=
  (∀ a x, ((![v1459] : Fin 1 → IVec S16 32) a x).toNat < S480.size a)
theorem k0_idx14_inb : ∀ (v1459 : IVec S16 32) (k0_hw14 : k0_chk14 v1459), ∀ a x, ((![v1459] : Fin 1 → IVec S16 32) a x).toNat < S480.size a := fun v1459 k0_hw14 => k0_hw14

def k0_chk15 (v1461 : IVec S16 32) : Prop :=
  (∀ a x, ((![v1461] : Fin 1 → IVec S16 32) a x).toNat < S480.size a)
theorem k0_idx15_inb : ∀ (v1461 : IVec S16 32) (k0_hw15 : k0_chk15 v1461), ∀ a x, ((![v1461] : Fin 1 → IVec S16 32) a x).toNat < S480.size a := fun v1461 k0_hw15 => k0_hw15

def k0_chk16 (v1463 : IVec S16 32) : Prop :=
  (∀ a x, ((![v1463] : Fin 1 → IVec S16 32) a x).toNat < S480.size a)
theorem k0_idx16_inb : ∀ (v1463 : IVec S16 32) (k0_hw16 : k0_chk16 v1463), ∀ a x, ((![v1463] : Fin 1 → IVec S16 32) a x).toNat < S480.size a := fun v1463 k0_hw16 => k0_hw16

def k0_chk17 (v599 : IVec S16 32) : Prop :=
  (∀ a x, ((![v599] : Fin 1 → IVec S16 32) a x).toNat < S49152.size a)
theorem k0_idx17_inb : ∀ (v599 : IVec S16 32) (k0_hw17 : k0_chk17 v599), ∀ a x, ((![v599] : Fin 1 → IVec S16 32) a x).toNat < S49152.size a := fun v599 k0_hw17 => k0_hw17

def k0_chk18 (v612 : IVec S16 32) : Prop :=
  (∀ a x, ((![v612] : Fin 1 → IVec S16 32) a x).toNat < S49152.size a)
theorem k0_idx18_inb : ∀ (v612 : IVec S16 32) (k0_hw18 : k0_chk18 v612), ∀ a x, ((![v612] : Fin 1 → IVec S16 32) a x).toNat < S49152.size a := fun v612 k0_hw18 => k0_hw18

def k0_chk19 (v625 : IVec S16 32) : Prop :=
  (∀ a x, ((![v625] : Fin 1 → IVec S16 32) a x).toNat < S49152.size a)
theorem k0_idx19_inb : ∀ (v625 : IVec S16 32) (k0_hw19 : k0_chk19 v625), ∀ a x, ((![v625] : Fin 1 → IVec S16 32) a x).toNat < S49152.size a := fun v625 k0_hw19 => k0_hw19

def k0_chk20 (v638 : IVec S16 32) : Prop :=
  (∀ a x, ((![v638] : Fin 1 → IVec S16 32) a x).toNat < S49152.size a)
theorem k0_idx20_inb : ∀ (v638 : IVec S16 32) (k0_hw20 : k0_chk20 v638), ∀ a x, ((![v638] : Fin 1 → IVec S16 32) a x).toNat < S49152.size a := fun v638 k0_hw20 => k0_hw20

def k0_chk21 (v651 : IVec S16 32) : Prop :=
  (∀ a x, ((![v651] : Fin 1 → IVec S16 32) a x).toNat < S480.size a)
theorem k0_idx21_inb : ∀ (v651 : IVec S16 32) (k0_hw21 : k0_chk21 v651), ∀ a x, ((![v651] : Fin 1 → IVec S16 32) a x).toNat < S480.size a := fun v651 k0_hw21 => k0_hw21

def k0_chk22 (v653 : IVec S16 32) : Prop :=
  (∀ a x, ((![v653] : Fin 1 → IVec S16 32) a x).toNat < S480.size a)
theorem k0_idx22_inb : ∀ (v653 : IVec S16 32) (k0_hw22 : k0_chk22 v653), ∀ a x, ((![v653] : Fin 1 → IVec S16 32) a x).toNat < S480.size a := fun v653 k0_hw22 => k0_hw22

def k0_chk23 (v655 : IVec S16 32) : Prop :=
  (∀ a x, ((![v655] : Fin 1 → IVec S16 32) a x).toNat < S480.size a)
theorem k0_idx23_inb : ∀ (v655 : IVec S16 32) (k0_hw23 : k0_chk23 v655), ∀ a x, ((![v655] : Fin 1 → IVec S16 32) a x).toNat < S480.size a := fun v655 k0_hw23 => k0_hw23

def k0_chk24 (v667 : IVec S16 32) : Prop :=
  (∀ a x, ((![v667] : Fin 1 → IVec S16 32) a x).toNat < S480.size a)
theorem k0_idx24_inb : ∀ (v667 : IVec S16 32) (k0_hw24 : k0_chk24 v667), ∀ a x, ((![v667] : Fin 1 → IVec S16 32) a x).toNat < S480.size a := fun v667 k0_hw24 => k0_hw24

def k0_chk25 (v669 : IVec S16 32) : Prop :=
  (∀ a x, ((![v669] : Fin 1 → IVec S16 32) a x).toNat < S480.size a)
theorem k0_idx25_inb : ∀ (v669 : IVec S16 32) (k0_hw25 : k0_chk25 v669), ∀ a x, ((![v669] : Fin 1 → IVec S16 32) a x).toNat < S480.size a := fun v669 k0_hw25 => k0_hw25

def k0_chk26 (v671 : IVec S16 32) : Prop :=
  (∀ a x, ((![v671] : Fin 1 → IVec S16 32) a x).toNat < S480.size a)
theorem k0_idx26_inb : ∀ (v671 : IVec S16 32) (k0_hw26 : k0_chk26 v671), ∀ a x, ((![v671] : Fin 1 → IVec S16 32) a x).toNat < S480.size a := fun v671 k0_hw26 => k0_hw26

def k0_chk27 (v683 : IVec S16 32) : Prop :=
  (∀ a x, ((![v683] : Fin 1 → IVec S16 32) a x).toNat < S480.size a)
theorem k0_idx27_inb : ∀ (v683 : IVec S16 32) (k0_hw27 : k0_chk27 v683), ∀ a x, ((![v683] : Fin 1 → IVec S16 32) a x).toNat < S480.size a := fun v683 k0_hw27 => k0_hw27

def k0_chk28 (v685 : IVec S16 32) : Prop :=
  (∀ a x, ((![v685] : Fin 1 → IVec S16 32) a x).toNat < S480.size a)
theorem k0_idx28_inb : ∀ (v685 : IVec S16 32) (k0_hw28 : k0_chk28 v685), ∀ a x, ((![v685] : Fin 1 → IVec S16 32) a x).toNat < S480.size a := fun v685 k0_hw28 => k0_hw28

def k0_chk29 (v687 : IVec S16 32) : Prop :=
  (∀ a x, ((![v687] : Fin 1 → IVec S16 32) a x).toNat < S480.size a)
theorem k0_idx29_inb : ∀ (v687 : IVec S16 32) (k0_hw29 : k0_chk29 v687), ∀ a x, ((![v687] : Fin 1 → IVec S16 32) a x).toNat < S480.size a := fun v687 k0_hw29 => k0_hw29

def k0_chk30 (v699 : IVec S16 32) : Prop :=
  (∀ a x, ((![v699] : Fin 1 → IVec S16 32) a x).toNat < S480.size a)
theorem k0_idx30_inb : ∀ (v699 : IVec S16 32) (k0_hw30 : k0_chk30 v699), ∀ a x, ((![v699] : Fin 1 → IVec S16 32) a x).toNat < S480.size a := fun v699 k0_hw30 => k0_hw30

def k0_chk31 (v701 : IVec S16 32) : Prop :=
  (∀ a x, ((![v701] : Fin 1 → IVec S16 32) a x).toNat < S480.size a)
theorem k0_idx31_inb : ∀ (v701 : IVec S16 32) (k0_hw31 : k0_chk31 v701), ∀ a x, ((![v701] : Fin 1 → IVec S16 32) a x).toNat < S480.size a := fun v701 k0_hw31 => k0_hw31

def k0_chk32 (v703 : IVec S16 32) : Prop :=
  (∀ a x, ((![v703] : Fin 1 → IVec S16 32) a x).toNat < S480.size a)
theorem k0_idx32_inb : ∀ (v703 : IVec S16 32) (k0_hw32 : k0_chk32 v703), ∀ a x, ((![v703] : Fin 1 → IVec S16 32) a x).toNat < S480.size a := fun v703 k0_hw32 => k0_hw32
def k0_cond1 (k0_t1 : Fin k0_t1_loop.trips) : BitVec 1 :=
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c2_i32_275 : BitVec 32 := 2#32
  let v704 : BitVec 32 := Scalar.addi v411 c2_i32_275
  let c20_i32 : BitVec 32 := 20#32
  let v705 : BitVec 1 := Scalar.cmpi .slt v704 c20_i32
  let v706 : BitVec 32 := Scalar.extui v705
  let c0_i32_276 : BitVec 32 := 0#32
  let v707 : BitVec 1 := Scalar.cmpi .ne v706 c0_i32_276
  v707

def k0_off13 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c48_i32 : BitVec 32 := 48#32
  let v1003 : BitVec 32 := Scalar.addi v413 c48_i32
  let c1024_i32_423 : BitVec 32 := 1024#32
  let v1004 : BitVec 32 := Scalar.muli v1003 c1024_i32_423
  ![v1004.toNat]
def k0_off14 (i : grid0.Coords) (k0_t1 : Fin k0_t1_loop.trips) : Fin 1 → Nat :=
  let c16000000_i32_427 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c48_i32 : BitVec 32 := 48#32
  let v1003 : BitVec 32 := Scalar.addi v413 c48_i32
  let c1024_i32_426 : BitVec 32 := 1024#32
  let v1009 : BitVec 32 := Scalar.muli v1003 c1024_i32_426
  let v1010 : BitVec 32 := Scalar.addi c16000000_i32_427 v1009
  ![v1010.toNat]
def k0_off15 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c48_i32 : BitVec 32 := 48#32
  let v1003 : BitVec 32 := Scalar.addi v413 c48_i32
  let c128_i32_430 : BitVec 32 := 128#32
  let v1015 : BitVec 32 := Scalar.muli v1003 c128_i32_430
  ![v1015.toNat]
def k0_off16 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c24_i32_277 : BitVec 32 := 24#32
  let v708 : BitVec 32 := Scalar.addi v413 c24_i32_277
  let c1024_i32_278 : BitVec 32 := 1024#32
  let v709 : BitVec 32 := Scalar.muli v708 c1024_i32_278
  ![v709.toNat]
def k0_off17 (i : grid0.Coords) (k0_t1 : Fin k0_t1_loop.trips) : Fin 1 → Nat :=
  let c16000000_i32_282 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c24_i32_277 : BitVec 32 := 24#32
  let v708 : BitVec 32 := Scalar.addi v413 c24_i32_277
  let c1024_i32_281 : BitVec 32 := 1024#32
  let v714 : BitVec 32 := Scalar.muli v708 c1024_i32_281
  let v715 : BitVec 32 := Scalar.addi c16000000_i32_282 v714
  ![v715.toNat]
def k0_off18 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c24_i32_277 : BitVec 32 := 24#32
  let v708 : BitVec 32 := Scalar.addi v413 c24_i32_277
  let c128_i32_285 : BitVec 32 := 128#32
  let v720 : BitVec 32 := Scalar.muli v708 c128_i32_285
  ![v720.toNat]
@[reducible] def k0_t3_loop : Scf.Loop 32 :=
  let c1_i32_352 : BitVec 32 := 1#32
  let c47_i32_353 : BitVec 32 := 47#32
  let v849 : BitVec 32 := Scalar.addi c1_i32_352 c47_i32_353
  let c1_i32_354 : BitVec 32 := 1#32
  ⟨c1_i32_352, v849, c1_i32_354⟩
def k0_off19 (k0_t3 : Fin k0_t3_loop.trips) (c0_i32_426 : BitVec 32) (c0_i32_427 : BitVec 32) : Fin 1 → Nat :=
  let c1_i32_352 : BitVec 32 := 1#32
  let c1_i32_354 : BitVec 32 := 1#32
  let arg19 : BitVec 32 := Scf.iv c1_i32_352 c1_i32_354 k0_t3
  let c1_i32_423 : BitVec 32 := 1#32
  let v1003 : BitVec 32 := Scalar.shrsi arg19 c1_i32_423
  let c1024_i32_424 : BitVec 32 := 1024#32
  let v1004 : BitVec 32 := Scalar.muli v1003 c1024_i32_424
  let c1_i32_425 : BitVec 32 := 1#32
  let v1005 : BitVec 32 := Scalar.andi arg19 c1_i32_425
  let c64_i32 : BitVec 32 := 64#32
  let v1006 : BitVec 32 := Scalar.muli v1005 c64_i32
  let v1007 : BitVec 32 := Scalar.addi v1004 v1006
  let v1008 : BitVec 32 := Scalar.addi v1007 c0_i32_426
  let v1009 : BitVec 32 := Scalar.addi v1008 c0_i32_427
  let v1010 : Index := Scalar.indexCast v1009
  ![v1010.toNat]
def k0_off20 (k0_t3 : Fin k0_t3_loop.trips) (c0_i32_426 : BitVec 32) (c0_i32_430 : BitVec 32) : Fin 1 → Nat :=
  let c24576_i32_429 : BitVec 32 := 24576#32
  let c1_i32_352 : BitVec 32 := 1#32
  let c1_i32_354 : BitVec 32 := 1#32
  let arg19 : BitVec 32 := Scf.iv c1_i32_352 c1_i32_354 k0_t3
  let c1_i32_423 : BitVec 32 := 1#32
  let v1003 : BitVec 32 := Scalar.shrsi arg19 c1_i32_423
  let c1024_i32_424 : BitVec 32 := 1024#32
  let v1004 : BitVec 32 := Scalar.muli v1003 c1024_i32_424
  let c1_i32_425 : BitVec 32 := 1#32
  let v1005 : BitVec 32 := Scalar.andi arg19 c1_i32_425
  let c64_i32 : BitVec 32 := 64#32
  let v1006 : BitVec 32 := Scalar.muli v1005 c64_i32
  let v1007 : BitVec 32 := Scalar.addi v1004 v1006
  let v1008 : BitVec 32 := Scalar.addi v1007 c0_i32_426
  let v1033 : BitVec 32 := Scalar.addi c24576_i32_429 v1008
  let v1034 : BitVec 32 := Scalar.addi v1033 c0_i32_430
  let v1035 : Index := Scalar.indexCast v1034
  ![v1035.toNat]
def k0_off21 (k0_t3 : Fin k0_t3_loop.trips) (c0_i32_537 : BitVec 32) : Fin 1 → Nat :=
  let c1_i32_352 : BitVec 32 := 1#32
  let c1_i32_354 : BitVec 32 := 1#32
  let arg19 : BitVec 32 := Scf.iv c1_i32_352 c1_i32_354 k0_t3
  let c1_i32_523 : BitVec 32 := 1#32
  let v1302 : BitVec 32 := Scalar.subi arg19 c1_i32_523
  let c64_i32_524 : BitVec 32 := 64#32
  let v1303 : BitVec 32 := Scalar.muli v1302 c64_i32_524
  let v1332 : BitVec 32 := Scalar.addi v1303 c0_i32_537
  let v1333 : Index := Scalar.indexCast v1332
  ![v1333.toNat]

def k0_chk33 (v1356 : IVec S16 32) : Prop :=
  (∀ a x, ((![v1356] : Fin 1 → IVec S16 32) a x).toNat < S49152.size a)
theorem k0_idx33_inb : ∀ (v1356 : IVec S16 32) (k0_hw33 : k0_chk33 v1356), ∀ a x, ((![v1356] : Fin 1 → IVec S16 32) a x).toNat < S49152.size a := fun v1356 k0_hw33 => k0_hw33

def k0_chk34 (v1370 : IVec S16 32) : Prop :=
  (∀ a x, ((![v1370] : Fin 1 → IVec S16 32) a x).toNat < S49152.size a)
theorem k0_idx34_inb : ∀ (v1370 : IVec S16 32) (k0_hw34 : k0_chk34 v1370), ∀ a x, ((![v1370] : Fin 1 → IVec S16 32) a x).toNat < S49152.size a := fun v1370 k0_hw34 => k0_hw34

def k0_chk35 (v1384 : IVec S16 32) : Prop :=
  (∀ a x, ((![v1384] : Fin 1 → IVec S16 32) a x).toNat < S49152.size a)
theorem k0_idx35_inb : ∀ (v1384 : IVec S16 32) (k0_hw35 : k0_chk35 v1384), ∀ a x, ((![v1384] : Fin 1 → IVec S16 32) a x).toNat < S49152.size a := fun v1384 k0_hw35 => k0_hw35

def k0_chk36 (v1398 : IVec S16 32) : Prop :=
  (∀ a x, ((![v1398] : Fin 1 → IVec S16 32) a x).toNat < S49152.size a)
theorem k0_idx36_inb : ∀ (v1398 : IVec S16 32) (k0_hw36 : k0_chk36 v1398), ∀ a x, ((![v1398] : Fin 1 → IVec S16 32) a x).toNat < S49152.size a := fun v1398 k0_hw36 => k0_hw36

def k0_chk37 (v1411 : IVec S16 32) : Prop :=
  (∀ a x, ((![v1411] : Fin 1 → IVec S16 32) a x).toNat < S480.size a)
theorem k0_idx37_inb : ∀ (v1411 : IVec S16 32) (k0_hw37 : k0_chk37 v1411), ∀ a x, ((![v1411] : Fin 1 → IVec S16 32) a x).toNat < S480.size a := fun v1411 k0_hw37 => k0_hw37

def k0_chk38 (v1413 : IVec S16 32) : Prop :=
  (∀ a x, ((![v1413] : Fin 1 → IVec S16 32) a x).toNat < S480.size a)
theorem k0_idx38_inb : ∀ (v1413 : IVec S16 32) (k0_hw38 : k0_chk38 v1413), ∀ a x, ((![v1413] : Fin 1 → IVec S16 32) a x).toNat < S480.size a := fun v1413 k0_hw38 => k0_hw38

def k0_chk39 (v1415 : IVec S16 32) : Prop :=
  (∀ a x, ((![v1415] : Fin 1 → IVec S16 32) a x).toNat < S480.size a)
theorem k0_idx39_inb : ∀ (v1415 : IVec S16 32) (k0_hw39 : k0_chk39 v1415), ∀ a x, ((![v1415] : Fin 1 → IVec S16 32) a x).toNat < S480.size a := fun v1415 k0_hw39 => k0_hw39

def k0_chk40 (v1427 : IVec S16 32) : Prop :=
  (∀ a x, ((![v1427] : Fin 1 → IVec S16 32) a x).toNat < S480.size a)
theorem k0_idx40_inb : ∀ (v1427 : IVec S16 32) (k0_hw40 : k0_chk40 v1427), ∀ a x, ((![v1427] : Fin 1 → IVec S16 32) a x).toNat < S480.size a := fun v1427 k0_hw40 => k0_hw40

def k0_chk41 (v1429 : IVec S16 32) : Prop :=
  (∀ a x, ((![v1429] : Fin 1 → IVec S16 32) a x).toNat < S480.size a)
theorem k0_idx41_inb : ∀ (v1429 : IVec S16 32) (k0_hw41 : k0_chk41 v1429), ∀ a x, ((![v1429] : Fin 1 → IVec S16 32) a x).toNat < S480.size a := fun v1429 k0_hw41 => k0_hw41

def k0_chk42 (v1431 : IVec S16 32) : Prop :=
  (∀ a x, ((![v1431] : Fin 1 → IVec S16 32) a x).toNat < S480.size a)
theorem k0_idx42_inb : ∀ (v1431 : IVec S16 32) (k0_hw42 : k0_chk42 v1431), ∀ a x, ((![v1431] : Fin 1 → IVec S16 32) a x).toNat < S480.size a := fun v1431 k0_hw42 => k0_hw42

def k0_chk43 (v1443 : IVec S16 32) : Prop :=
  (∀ a x, ((![v1443] : Fin 1 → IVec S16 32) a x).toNat < S480.size a)
theorem k0_idx43_inb : ∀ (v1443 : IVec S16 32) (k0_hw43 : k0_chk43 v1443), ∀ a x, ((![v1443] : Fin 1 → IVec S16 32) a x).toNat < S480.size a := fun v1443 k0_hw43 => k0_hw43

def k0_chk44 (v1445 : IVec S16 32) : Prop :=
  (∀ a x, ((![v1445] : Fin 1 → IVec S16 32) a x).toNat < S480.size a)
theorem k0_idx44_inb : ∀ (v1445 : IVec S16 32) (k0_hw44 : k0_chk44 v1445), ∀ a x, ((![v1445] : Fin 1 → IVec S16 32) a x).toNat < S480.size a := fun v1445 k0_hw44 => k0_hw44

def k0_chk45 (v1447 : IVec S16 32) : Prop :=
  (∀ a x, ((![v1447] : Fin 1 → IVec S16 32) a x).toNat < S480.size a)
theorem k0_idx45_inb : ∀ (v1447 : IVec S16 32) (k0_hw45 : k0_chk45 v1447), ∀ a x, ((![v1447] : Fin 1 → IVec S16 32) a x).toNat < S480.size a := fun v1447 k0_hw45 => k0_hw45

def k0_chk46 (v1459 : IVec S16 32) : Prop :=
  (∀ a x, ((![v1459] : Fin 1 → IVec S16 32) a x).toNat < S480.size a)
theorem k0_idx46_inb : ∀ (v1459 : IVec S16 32) (k0_hw46 : k0_chk46 v1459), ∀ a x, ((![v1459] : Fin 1 → IVec S16 32) a x).toNat < S480.size a := fun v1459 k0_hw46 => k0_hw46

def k0_chk47 (v1461 : IVec S16 32) : Prop :=
  (∀ a x, ((![v1461] : Fin 1 → IVec S16 32) a x).toNat < S480.size a)
theorem k0_idx47_inb : ∀ (v1461 : IVec S16 32) (k0_hw47 : k0_chk47 v1461), ∀ a x, ((![v1461] : Fin 1 → IVec S16 32) a x).toNat < S480.size a := fun v1461 k0_hw47 => k0_hw47

def k0_chk48 (v1463 : IVec S16 32) : Prop :=
  (∀ a x, ((![v1463] : Fin 1 → IVec S16 32) a x).toNat < S480.size a)
theorem k0_idx48_inb : ∀ (v1463 : IVec S16 32) (k0_hw48 : k0_chk48 v1463), ∀ a x, ((![v1463] : Fin 1 → IVec S16 32) a x).toNat < S480.size a := fun v1463 k0_hw48 => k0_hw48

def k0_chk49 (v894 : IVec S16 32) : Prop :=
  (∀ a x, ((![v894] : Fin 1 → IVec S16 32) a x).toNat < S49152.size a)
theorem k0_idx49_inb : ∀ (v894 : IVec S16 32) (k0_hw49 : k0_chk49 v894), ∀ a x, ((![v894] : Fin 1 → IVec S16 32) a x).toNat < S49152.size a := fun v894 k0_hw49 => k0_hw49

def k0_chk50 (v907 : IVec S16 32) : Prop :=
  (∀ a x, ((![v907] : Fin 1 → IVec S16 32) a x).toNat < S49152.size a)
theorem k0_idx50_inb : ∀ (v907 : IVec S16 32) (k0_hw50 : k0_chk50 v907), ∀ a x, ((![v907] : Fin 1 → IVec S16 32) a x).toNat < S49152.size a := fun v907 k0_hw50 => k0_hw50

def k0_chk51 (v920 : IVec S16 32) : Prop :=
  (∀ a x, ((![v920] : Fin 1 → IVec S16 32) a x).toNat < S49152.size a)
theorem k0_idx51_inb : ∀ (v920 : IVec S16 32) (k0_hw51 : k0_chk51 v920), ∀ a x, ((![v920] : Fin 1 → IVec S16 32) a x).toNat < S49152.size a := fun v920 k0_hw51 => k0_hw51

def k0_chk52 (v933 : IVec S16 32) : Prop :=
  (∀ a x, ((![v933] : Fin 1 → IVec S16 32) a x).toNat < S49152.size a)
theorem k0_idx52_inb : ∀ (v933 : IVec S16 32) (k0_hw52 : k0_chk52 v933), ∀ a x, ((![v933] : Fin 1 → IVec S16 32) a x).toNat < S49152.size a := fun v933 k0_hw52 => k0_hw52

def k0_chk53 (v946 : IVec S16 32) : Prop :=
  (∀ a x, ((![v946] : Fin 1 → IVec S16 32) a x).toNat < S480.size a)
theorem k0_idx53_inb : ∀ (v946 : IVec S16 32) (k0_hw53 : k0_chk53 v946), ∀ a x, ((![v946] : Fin 1 → IVec S16 32) a x).toNat < S480.size a := fun v946 k0_hw53 => k0_hw53

def k0_chk54 (v948 : IVec S16 32) : Prop :=
  (∀ a x, ((![v948] : Fin 1 → IVec S16 32) a x).toNat < S480.size a)
theorem k0_idx54_inb : ∀ (v948 : IVec S16 32) (k0_hw54 : k0_chk54 v948), ∀ a x, ((![v948] : Fin 1 → IVec S16 32) a x).toNat < S480.size a := fun v948 k0_hw54 => k0_hw54

def k0_chk55 (v950 : IVec S16 32) : Prop :=
  (∀ a x, ((![v950] : Fin 1 → IVec S16 32) a x).toNat < S480.size a)
theorem k0_idx55_inb : ∀ (v950 : IVec S16 32) (k0_hw55 : k0_chk55 v950), ∀ a x, ((![v950] : Fin 1 → IVec S16 32) a x).toNat < S480.size a := fun v950 k0_hw55 => k0_hw55

def k0_chk56 (v962 : IVec S16 32) : Prop :=
  (∀ a x, ((![v962] : Fin 1 → IVec S16 32) a x).toNat < S480.size a)
theorem k0_idx56_inb : ∀ (v962 : IVec S16 32) (k0_hw56 : k0_chk56 v962), ∀ a x, ((![v962] : Fin 1 → IVec S16 32) a x).toNat < S480.size a := fun v962 k0_hw56 => k0_hw56

def k0_chk57 (v964 : IVec S16 32) : Prop :=
  (∀ a x, ((![v964] : Fin 1 → IVec S16 32) a x).toNat < S480.size a)
theorem k0_idx57_inb : ∀ (v964 : IVec S16 32) (k0_hw57 : k0_chk57 v964), ∀ a x, ((![v964] : Fin 1 → IVec S16 32) a x).toNat < S480.size a := fun v964 k0_hw57 => k0_hw57

def k0_chk58 (v966 : IVec S16 32) : Prop :=
  (∀ a x, ((![v966] : Fin 1 → IVec S16 32) a x).toNat < S480.size a)
theorem k0_idx58_inb : ∀ (v966 : IVec S16 32) (k0_hw58 : k0_chk58 v966), ∀ a x, ((![v966] : Fin 1 → IVec S16 32) a x).toNat < S480.size a := fun v966 k0_hw58 => k0_hw58

def k0_chk59 (v978 : IVec S16 32) : Prop :=
  (∀ a x, ((![v978] : Fin 1 → IVec S16 32) a x).toNat < S480.size a)
theorem k0_idx59_inb : ∀ (v978 : IVec S16 32) (k0_hw59 : k0_chk59 v978), ∀ a x, ((![v978] : Fin 1 → IVec S16 32) a x).toNat < S480.size a := fun v978 k0_hw59 => k0_hw59

def k0_chk60 (v980 : IVec S16 32) : Prop :=
  (∀ a x, ((![v980] : Fin 1 → IVec S16 32) a x).toNat < S480.size a)
theorem k0_idx60_inb : ∀ (v980 : IVec S16 32) (k0_hw60 : k0_chk60 v980), ∀ a x, ((![v980] : Fin 1 → IVec S16 32) a x).toNat < S480.size a := fun v980 k0_hw60 => k0_hw60

def k0_chk61 (v982 : IVec S16 32) : Prop :=
  (∀ a x, ((![v982] : Fin 1 → IVec S16 32) a x).toNat < S480.size a)
theorem k0_idx61_inb : ∀ (v982 : IVec S16 32) (k0_hw61 : k0_chk61 v982), ∀ a x, ((![v982] : Fin 1 → IVec S16 32) a x).toNat < S480.size a := fun v982 k0_hw61 => k0_hw61

def k0_chk62 (v994 : IVec S16 32) : Prop :=
  (∀ a x, ((![v994] : Fin 1 → IVec S16 32) a x).toNat < S480.size a)
theorem k0_idx62_inb : ∀ (v994 : IVec S16 32) (k0_hw62 : k0_chk62 v994), ∀ a x, ((![v994] : Fin 1 → IVec S16 32) a x).toNat < S480.size a := fun v994 k0_hw62 => k0_hw62

def k0_chk63 (v996 : IVec S16 32) : Prop :=
  (∀ a x, ((![v996] : Fin 1 → IVec S16 32) a x).toNat < S480.size a)
theorem k0_idx63_inb : ∀ (v996 : IVec S16 32) (k0_hw63 : k0_chk63 v996), ∀ a x, ((![v996] : Fin 1 → IVec S16 32) a x).toNat < S480.size a := fun v996 k0_hw63 => k0_hw63

def k0_chk64 (v998 : IVec S16 32) : Prop :=
  (∀ a x, ((![v998] : Fin 1 → IVec S16 32) a x).toNat < S480.size a)
theorem k0_idx64_inb : ∀ (v998 : IVec S16 32) (k0_hw64 : k0_chk64 v998), ∀ a x, ((![v998] : Fin 1 → IVec S16 32) a x).toNat < S480.size a := fun v998 k0_hw64 => k0_hw64
def k0_cond2 (k0_t1 : Fin k0_t1_loop.trips) : BitVec 1 :=
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c3_i32_420 : BitVec 32 := 3#32
  let v999 : BitVec 32 := Scalar.addi v411 c3_i32_420
  let c20_i32_421 : BitVec 32 := 20#32
  let v1000 : BitVec 1 := Scalar.cmpi .slt v999 c20_i32_421
  let v1001 : BitVec 32 := Scalar.extui v1000
  let c0_i32_422 : BitVec 32 := 0#32
  let v1002 : BitVec 1 := Scalar.cmpi .ne v1001 c0_i32_422
  v1002

def k0_off22 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c72_i32 : BitVec 32 := 72#32
  let v1003 : BitVec 32 := Scalar.addi v413 c72_i32
  let c1024_i32_423 : BitVec 32 := 1024#32
  let v1004 : BitVec 32 := Scalar.muli v1003 c1024_i32_423
  ![v1004.toNat]
def k0_off23 (i : grid0.Coords) (k0_t1 : Fin k0_t1_loop.trips) : Fin 1 → Nat :=
  let c16000000_i32_427 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c72_i32 : BitVec 32 := 72#32
  let v1003 : BitVec 32 := Scalar.addi v413 c72_i32
  let c1024_i32_426 : BitVec 32 := 1024#32
  let v1009 : BitVec 32 := Scalar.muli v1003 c1024_i32_426
  let v1010 : BitVec 32 := Scalar.addi c16000000_i32_427 v1009
  ![v1010.toNat]
def k0_off24 (i : grid0.Coords) (k0_t1 : Fin k0_t1_loop.trips) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c2_i32_140 : BitVec 32 := 2#32
  let c0_i32_46 : BitVec 32 := 0#32
  let c1_i32 : BitVec 32 := 1#32
  let arg18 : BitVec 32 := Scf.iv c0_i32_46 c1_i32 k0_t1
  let v411 : BitVec 32 := Scalar.muli c2_i32_140 arg18
  let c24_i32_141 : BitVec 32 := 24#32
  let v412 : BitVec 32 := Scalar.muli v411 c24_i32_141
  let v413 : BitVec 32 := Scalar.addi v66 v412
  let c72_i32 : BitVec 32 := 72#32
  let v1003 : BitVec 32 := Scalar.addi v413 c72_i32
  let c128_i32_430 : BitVec 32 := 128#32
  let v1015 : BitVec 32 := Scalar.muli v1003 c128_i32_430
  ![v1015.toNat]
def k0_off25 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c480_i32 : BitVec 32 := 480#32
  let v101 : BitVec 32 := Scalar.addi v66 c480_i32
  let c1024_i32_48 : BitVec 32 := 1024#32
  let v102 : BitVec 32 := Scalar.muli v101 c1024_i32_48
  ![v102.toNat]
def k0_off26 (i : grid0.Coords) : Fin 1 → Nat :=
  let c16000000_i32_52 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c480_i32 : BitVec 32 := 480#32
  let v101 : BitVec 32 := Scalar.addi v66 c480_i32
  let c1024_i32_51 : BitVec 32 := 1024#32
  let v107 : BitVec 32 := Scalar.muli v101 c1024_i32_51
  let v108 : BitVec 32 := Scalar.addi c16000000_i32_52 v107
  ![v108.toNat]
def k0_off27 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c480_i32 : BitVec 32 := 480#32
  let v101 : BitVec 32 := Scalar.addi v66 c480_i32
  let c128_i32_55 : BitVec 32 := 128#32
  let v113 : BitVec 32 := Scalar.muli v101 c128_i32_55
  ![v113.toNat]
@[reducible] def k0_t4_loop : Scf.Loop 32 :=
  let c1_i32_84 : BitVec 32 := 1#32
  let c15_i32 : BitVec 32 := 15#32
  let v258 : BitVec 32 := Scalar.addi c1_i32_84 c15_i32
  let c1_i32_85 : BitVec 32 := 1#32
  ⟨c1_i32_84, v258, c1_i32_85⟩
def k0_off28 (k0_t4 : Fin k0_t4_loop.trips) (c0_i32_143 : BitVec 32) (c0_i32_144 : BitVec 32) : Fin 1 → Nat :=
  let c1_i32_84 : BitVec 32 := 1#32
  let c1_i32_85 : BitVec 32 := 1#32
  let arg18 : BitVec 32 := Scf.iv c1_i32_84 c1_i32_85 k0_t4
  let c1_i32_140 : BitVec 32 := 1#32
  let v411 : BitVec 32 := Scalar.shrsi arg18 c1_i32_140
  let c1024_i32_141 : BitVec 32 := 1024#32
  let v412 : BitVec 32 := Scalar.muli v411 c1024_i32_141
  let c1_i32_142 : BitVec 32 := 1#32
  let v413 : BitVec 32 := Scalar.andi arg18 c1_i32_142
  let c64_i32 : BitVec 32 := 64#32
  let v414 : BitVec 32 := Scalar.muli v413 c64_i32
  let v415 : BitVec 32 := Scalar.addi v412 v414
  let v416 : BitVec 32 := Scalar.addi v415 c0_i32_143
  let v417 : BitVec 32 := Scalar.addi v416 c0_i32_144
  let v418 : Index := Scalar.indexCast v417
  ![v418.toNat]
def k0_off29 (k0_t4 : Fin k0_t4_loop.trips) (c0_i32_143 : BitVec 32) (c0_i32_147 : BitVec 32) : Fin 1 → Nat :=
  let c24576_i32_146 : BitVec 32 := 24576#32
  let c1_i32_84 : BitVec 32 := 1#32
  let c1_i32_85 : BitVec 32 := 1#32
  let arg18 : BitVec 32 := Scf.iv c1_i32_84 c1_i32_85 k0_t4
  let c1_i32_140 : BitVec 32 := 1#32
  let v411 : BitVec 32 := Scalar.shrsi arg18 c1_i32_140
  let c1024_i32_141 : BitVec 32 := 1024#32
  let v412 : BitVec 32 := Scalar.muli v411 c1024_i32_141
  let c1_i32_142 : BitVec 32 := 1#32
  let v413 : BitVec 32 := Scalar.andi arg18 c1_i32_142
  let c64_i32 : BitVec 32 := 64#32
  let v414 : BitVec 32 := Scalar.muli v413 c64_i32
  let v415 : BitVec 32 := Scalar.addi v412 v414
  let v416 : BitVec 32 := Scalar.addi v415 c0_i32_143
  let v441 : BitVec 32 := Scalar.addi c24576_i32_146 v416
  let v442 : BitVec 32 := Scalar.addi v441 c0_i32_147
  let v443 : Index := Scalar.indexCast v442
  ![v443.toNat]
def k0_off30 (k0_t4 : Fin k0_t4_loop.trips) (c0_i32_254 : BitVec 32) : Fin 1 → Nat :=
  let c1_i32_84 : BitVec 32 := 1#32
  let c1_i32_85 : BitVec 32 := 1#32
  let arg18 : BitVec 32 := Scf.iv c1_i32_84 c1_i32_85 k0_t4
  let c1_i32_240 : BitVec 32 := 1#32
  let v710 : BitVec 32 := Scalar.subi arg18 c1_i32_240
  let c64_i32_241 : BitVec 32 := 64#32
  let v711 : BitVec 32 := Scalar.muli v710 c64_i32_241
  let v740 : BitVec 32 := Scalar.addi v711 c0_i32_254
  let v741 : Index := Scalar.indexCast v740
  ![v741.toNat]

def k0_chk65 (v764 : IVec S16 32) : Prop :=
  (∀ a x, ((![v764] : Fin 1 → IVec S16 32) a x).toNat < S49152.size a)
theorem k0_idx65_inb : ∀ (v764 : IVec S16 32) (k0_hw65 : k0_chk65 v764), ∀ a x, ((![v764] : Fin 1 → IVec S16 32) a x).toNat < S49152.size a := fun v764 k0_hw65 => k0_hw65

def k0_chk66 (v778 : IVec S16 32) : Prop :=
  (∀ a x, ((![v778] : Fin 1 → IVec S16 32) a x).toNat < S49152.size a)
theorem k0_idx66_inb : ∀ (v778 : IVec S16 32) (k0_hw66 : k0_chk66 v778), ∀ a x, ((![v778] : Fin 1 → IVec S16 32) a x).toNat < S49152.size a := fun v778 k0_hw66 => k0_hw66

def k0_chk67 (v792 : IVec S16 32) : Prop :=
  (∀ a x, ((![v792] : Fin 1 → IVec S16 32) a x).toNat < S49152.size a)
theorem k0_idx67_inb : ∀ (v792 : IVec S16 32) (k0_hw67 : k0_chk67 v792), ∀ a x, ((![v792] : Fin 1 → IVec S16 32) a x).toNat < S49152.size a := fun v792 k0_hw67 => k0_hw67

def k0_chk68 (v806 : IVec S16 32) : Prop :=
  (∀ a x, ((![v806] : Fin 1 → IVec S16 32) a x).toNat < S49152.size a)
theorem k0_idx68_inb : ∀ (v806 : IVec S16 32) (k0_hw68 : k0_chk68 v806), ∀ a x, ((![v806] : Fin 1 → IVec S16 32) a x).toNat < S49152.size a := fun v806 k0_hw68 => k0_hw68

def k0_chk69 (v819 : IVec S16 32) : Prop :=
  (∀ a x, ((![v819] : Fin 1 → IVec S16 32) a x).toNat < S480.size a)
theorem k0_idx69_inb : ∀ (v819 : IVec S16 32) (k0_hw69 : k0_chk69 v819), ∀ a x, ((![v819] : Fin 1 → IVec S16 32) a x).toNat < S480.size a := fun v819 k0_hw69 => k0_hw69

def k0_chk70 (v821 : IVec S16 32) : Prop :=
  (∀ a x, ((![v821] : Fin 1 → IVec S16 32) a x).toNat < S480.size a)
theorem k0_idx70_inb : ∀ (v821 : IVec S16 32) (k0_hw70 : k0_chk70 v821), ∀ a x, ((![v821] : Fin 1 → IVec S16 32) a x).toNat < S480.size a := fun v821 k0_hw70 => k0_hw70

def k0_chk71 (v823 : IVec S16 32) : Prop :=
  (∀ a x, ((![v823] : Fin 1 → IVec S16 32) a x).toNat < S480.size a)
theorem k0_idx71_inb : ∀ (v823 : IVec S16 32) (k0_hw71 : k0_chk71 v823), ∀ a x, ((![v823] : Fin 1 → IVec S16 32) a x).toNat < S480.size a := fun v823 k0_hw71 => k0_hw71

def k0_chk72 (v835 : IVec S16 32) : Prop :=
  (∀ a x, ((![v835] : Fin 1 → IVec S16 32) a x).toNat < S480.size a)
theorem k0_idx72_inb : ∀ (v835 : IVec S16 32) (k0_hw72 : k0_chk72 v835), ∀ a x, ((![v835] : Fin 1 → IVec S16 32) a x).toNat < S480.size a := fun v835 k0_hw72 => k0_hw72

def k0_chk73 (v837 : IVec S16 32) : Prop :=
  (∀ a x, ((![v837] : Fin 1 → IVec S16 32) a x).toNat < S480.size a)
theorem k0_idx73_inb : ∀ (v837 : IVec S16 32) (k0_hw73 : k0_chk73 v837), ∀ a x, ((![v837] : Fin 1 → IVec S16 32) a x).toNat < S480.size a := fun v837 k0_hw73 => k0_hw73

def k0_chk74 (v839 : IVec S16 32) : Prop :=
  (∀ a x, ((![v839] : Fin 1 → IVec S16 32) a x).toNat < S480.size a)
theorem k0_idx74_inb : ∀ (v839 : IVec S16 32) (k0_hw74 : k0_chk74 v839), ∀ a x, ((![v839] : Fin 1 → IVec S16 32) a x).toNat < S480.size a := fun v839 k0_hw74 => k0_hw74

def k0_chk75 (v851 : IVec S16 32) : Prop :=
  (∀ a x, ((![v851] : Fin 1 → IVec S16 32) a x).toNat < S480.size a)
theorem k0_idx75_inb : ∀ (v851 : IVec S16 32) (k0_hw75 : k0_chk75 v851), ∀ a x, ((![v851] : Fin 1 → IVec S16 32) a x).toNat < S480.size a := fun v851 k0_hw75 => k0_hw75

def k0_chk76 (v853 : IVec S16 32) : Prop :=
  (∀ a x, ((![v853] : Fin 1 → IVec S16 32) a x).toNat < S480.size a)
theorem k0_idx76_inb : ∀ (v853 : IVec S16 32) (k0_hw76 : k0_chk76 v853), ∀ a x, ((![v853] : Fin 1 → IVec S16 32) a x).toNat < S480.size a := fun v853 k0_hw76 => k0_hw76

def k0_chk77 (v855 : IVec S16 32) : Prop :=
  (∀ a x, ((![v855] : Fin 1 → IVec S16 32) a x).toNat < S480.size a)
theorem k0_idx77_inb : ∀ (v855 : IVec S16 32) (k0_hw77 : k0_chk77 v855), ∀ a x, ((![v855] : Fin 1 → IVec S16 32) a x).toNat < S480.size a := fun v855 k0_hw77 => k0_hw77

def k0_chk78 (v867 : IVec S16 32) : Prop :=
  (∀ a x, ((![v867] : Fin 1 → IVec S16 32) a x).toNat < S480.size a)
theorem k0_idx78_inb : ∀ (v867 : IVec S16 32) (k0_hw78 : k0_chk78 v867), ∀ a x, ((![v867] : Fin 1 → IVec S16 32) a x).toNat < S480.size a := fun v867 k0_hw78 => k0_hw78

def k0_chk79 (v869 : IVec S16 32) : Prop :=
  (∀ a x, ((![v869] : Fin 1 → IVec S16 32) a x).toNat < S480.size a)
theorem k0_idx79_inb : ∀ (v869 : IVec S16 32) (k0_hw79 : k0_chk79 v869), ∀ a x, ((![v869] : Fin 1 → IVec S16 32) a x).toNat < S480.size a := fun v869 k0_hw79 => k0_hw79

def k0_chk80 (v871 : IVec S16 32) : Prop :=
  (∀ a x, ((![v871] : Fin 1 → IVec S16 32) a x).toNat < S480.size a)
theorem k0_idx80_inb : ∀ (v871 : IVec S16 32) (k0_hw80 : k0_chk80 v871), ∀ a x, ((![v871] : Fin 1 → IVec S16 32) a x).toNat < S480.size a := fun v871 k0_hw80 => k0_hw80

def k0_chk81 (v303 : IVec S16 32) : Prop :=
  (∀ a x, ((![v303] : Fin 1 → IVec S16 32) a x).toNat < S49152.size a)
theorem k0_idx81_inb : ∀ (v303 : IVec S16 32) (k0_hw81 : k0_chk81 v303), ∀ a x, ((![v303] : Fin 1 → IVec S16 32) a x).toNat < S49152.size a := fun v303 k0_hw81 => k0_hw81

def k0_chk82 (v316 : IVec S16 32) : Prop :=
  (∀ a x, ((![v316] : Fin 1 → IVec S16 32) a x).toNat < S49152.size a)
theorem k0_idx82_inb : ∀ (v316 : IVec S16 32) (k0_hw82 : k0_chk82 v316), ∀ a x, ((![v316] : Fin 1 → IVec S16 32) a x).toNat < S49152.size a := fun v316 k0_hw82 => k0_hw82

def k0_chk83 (v329 : IVec S16 32) : Prop :=
  (∀ a x, ((![v329] : Fin 1 → IVec S16 32) a x).toNat < S49152.size a)
theorem k0_idx83_inb : ∀ (v329 : IVec S16 32) (k0_hw83 : k0_chk83 v329), ∀ a x, ((![v329] : Fin 1 → IVec S16 32) a x).toNat < S49152.size a := fun v329 k0_hw83 => k0_hw83

def k0_chk84 (v342 : IVec S16 32) : Prop :=
  (∀ a x, ((![v342] : Fin 1 → IVec S16 32) a x).toNat < S49152.size a)
theorem k0_idx84_inb : ∀ (v342 : IVec S16 32) (k0_hw84 : k0_chk84 v342), ∀ a x, ((![v342] : Fin 1 → IVec S16 32) a x).toNat < S49152.size a := fun v342 k0_hw84 => k0_hw84

def k0_chk85 (v355 : IVec S16 32) : Prop :=
  (∀ a x, ((![v355] : Fin 1 → IVec S16 32) a x).toNat < S480.size a)
theorem k0_idx85_inb : ∀ (v355 : IVec S16 32) (k0_hw85 : k0_chk85 v355), ∀ a x, ((![v355] : Fin 1 → IVec S16 32) a x).toNat < S480.size a := fun v355 k0_hw85 => k0_hw85

def k0_chk86 (v357 : IVec S16 32) : Prop :=
  (∀ a x, ((![v357] : Fin 1 → IVec S16 32) a x).toNat < S480.size a)
theorem k0_idx86_inb : ∀ (v357 : IVec S16 32) (k0_hw86 : k0_chk86 v357), ∀ a x, ((![v357] : Fin 1 → IVec S16 32) a x).toNat < S480.size a := fun v357 k0_hw86 => k0_hw86

def k0_chk87 (v359 : IVec S16 32) : Prop :=
  (∀ a x, ((![v359] : Fin 1 → IVec S16 32) a x).toNat < S480.size a)
theorem k0_idx87_inb : ∀ (v359 : IVec S16 32) (k0_hw87 : k0_chk87 v359), ∀ a x, ((![v359] : Fin 1 → IVec S16 32) a x).toNat < S480.size a := fun v359 k0_hw87 => k0_hw87

def k0_chk88 (v371 : IVec S16 32) : Prop :=
  (∀ a x, ((![v371] : Fin 1 → IVec S16 32) a x).toNat < S480.size a)
theorem k0_idx88_inb : ∀ (v371 : IVec S16 32) (k0_hw88 : k0_chk88 v371), ∀ a x, ((![v371] : Fin 1 → IVec S16 32) a x).toNat < S480.size a := fun v371 k0_hw88 => k0_hw88

def k0_chk89 (v373 : IVec S16 32) : Prop :=
  (∀ a x, ((![v373] : Fin 1 → IVec S16 32) a x).toNat < S480.size a)
theorem k0_idx89_inb : ∀ (v373 : IVec S16 32) (k0_hw89 : k0_chk89 v373), ∀ a x, ((![v373] : Fin 1 → IVec S16 32) a x).toNat < S480.size a := fun v373 k0_hw89 => k0_hw89

def k0_chk90 (v375 : IVec S16 32) : Prop :=
  (∀ a x, ((![v375] : Fin 1 → IVec S16 32) a x).toNat < S480.size a)
theorem k0_idx90_inb : ∀ (v375 : IVec S16 32) (k0_hw90 : k0_chk90 v375), ∀ a x, ((![v375] : Fin 1 → IVec S16 32) a x).toNat < S480.size a := fun v375 k0_hw90 => k0_hw90

def k0_chk91 (v387 : IVec S16 32) : Prop :=
  (∀ a x, ((![v387] : Fin 1 → IVec S16 32) a x).toNat < S480.size a)
theorem k0_idx91_inb : ∀ (v387 : IVec S16 32) (k0_hw91 : k0_chk91 v387), ∀ a x, ((![v387] : Fin 1 → IVec S16 32) a x).toNat < S480.size a := fun v387 k0_hw91 => k0_hw91

def k0_chk92 (v389 : IVec S16 32) : Prop :=
  (∀ a x, ((![v389] : Fin 1 → IVec S16 32) a x).toNat < S480.size a)
theorem k0_idx92_inb : ∀ (v389 : IVec S16 32) (k0_hw92 : k0_chk92 v389), ∀ a x, ((![v389] : Fin 1 → IVec S16 32) a x).toNat < S480.size a := fun v389 k0_hw92 => k0_hw92

def k0_chk93 (v391 : IVec S16 32) : Prop :=
  (∀ a x, ((![v391] : Fin 1 → IVec S16 32) a x).toNat < S480.size a)
theorem k0_idx93_inb : ∀ (v391 : IVec S16 32) (k0_hw93 : k0_chk93 v391), ∀ a x, ((![v391] : Fin 1 → IVec S16 32) a x).toNat < S480.size a := fun v391 k0_hw93 => k0_hw93

def k0_chk94 (v403 : IVec S16 32) : Prop :=
  (∀ a x, ((![v403] : Fin 1 → IVec S16 32) a x).toNat < S480.size a)
theorem k0_idx94_inb : ∀ (v403 : IVec S16 32) (k0_hw94 : k0_chk94 v403), ∀ a x, ((![v403] : Fin 1 → IVec S16 32) a x).toNat < S480.size a := fun v403 k0_hw94 => k0_hw94

def k0_chk95 (v405 : IVec S16 32) : Prop :=
  (∀ a x, ((![v405] : Fin 1 → IVec S16 32) a x).toNat < S480.size a)
theorem k0_idx95_inb : ∀ (v405 : IVec S16 32) (k0_hw95 : k0_chk95 v405), ∀ a x, ((![v405] : Fin 1 → IVec S16 32) a x).toNat < S480.size a := fun v405 k0_hw95 => k0_hw95

def k0_chk96 (v407 : IVec S16 32) : Prop :=
  (∀ a x, ((![v407] : Fin 1 → IVec S16 32) a x).toNat < S480.size a)
theorem k0_idx96_inb : ∀ (v407 : IVec S16 32) (k0_hw96 : k0_chk96 v407), ∀ a x, ((![v407] : Fin 1 → IVec S16 32) a x).toNat < S480.size a := fun v407 k0_hw96 => k0_hw96
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32_138 : BitVec 32 := 9#32
  let v408 : BitVec 1 := Scalar.cmpi .slt v1 c9_i32_138
  let v409 : BitVec 32 := Scalar.extui v408
  let c0_i32_139 : BitVec 32 := 0#32
  let v410 : BitVec 1 := Scalar.cmpi .ne v409 c0_i32_139
  v410

def k0_off31 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c488_i32_140 : BitVec 32 := 488#32
  let v411 : BitVec 32 := Scalar.addi v66 c488_i32_140
  let c1024_i32_141 : BitVec 32 := 1024#32
  let v412 : BitVec 32 := Scalar.muli v411 c1024_i32_141
  ![v412.toNat]
def k0_off32 (i : grid0.Coords) : Fin 1 → Nat :=
  let c16000000_i32_145 : BitVec 32 := 16000000#32
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c488_i32_140 : BitVec 32 := 488#32
  let v411 : BitVec 32 := Scalar.addi v66 c488_i32_140
  let c1024_i32_144 : BitVec 32 := 1024#32
  let v417 : BitVec 32 := Scalar.muli v411 c1024_i32_144
  let v418 : BitVec 32 := Scalar.addi c16000000_i32_145 v417
  ![v418.toNat]
def k0_off33 (i : grid0.Coords) : Fin 1 → Nat :=
  let c488_i32 : BitVec 32 := 488#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v64 : BitVec 32 := Scalar.muli c488_i32 v1
  let c9_i32 : BitVec 32 := 9#32
  let v65 : BitVec 32 := Scalar.minsi v1 c9_i32
  let v66 : BitVec 32 := Scalar.addi v64 v65
  let c488_i32_140 : BitVec 32 := 488#32
  let v411 : BitVec 32 := Scalar.addi v66 c488_i32_140
  let c128_i32_148 : BitVec 32 := 128#32
  let v423 : BitVec 32 := Scalar.muli v411 c128_i32_148
  ![v423.toNat]
def k0_off34 (c0_i32_229 : BitVec 32) (c0_i32_230 : BitVec 32) : Fin 1 → Nat :=
  let c1_i32_225 : BitVec 32 := 1#32
  let c1_i32_226 : BitVec 32 := 1#32
  let v568 : BitVec 32 := Scalar.shrsi c1_i32_225 c1_i32_226
  let c1024_i32_227 : BitVec 32 := 1024#32
  let v569 : BitVec 32 := Scalar.muli v568 c1024_i32_227
  let c1_i32_228 : BitVec 32 := 1#32
  let v570 : BitVec 32 := Scalar.andi c1_i32_225 c1_i32_228
  let c64_i32 : BitVec 32 := 64#32
  let v571 : BitVec 32 := Scalar.muli v570 c64_i32
  let v572 : BitVec 32 := Scalar.addi v569 v571
  let v573 : BitVec 32 := Scalar.addi v572 c0_i32_229
  let v574 : BitVec 32 := Scalar.addi v573 c0_i32_230
  let v575 : Index := Scalar.indexCast v574
  ![v575.toNat]
def k0_off35 (c0_i32_229 : BitVec 32) (c0_i32_233 : BitVec 32) : Fin 1 → Nat :=
  let c24576_i32_232 : BitVec 32 := 24576#32
  let c1_i32_225 : BitVec 32 := 1#32
  let c1_i32_226 : BitVec 32 := 1#32
  let v568 : BitVec 32 := Scalar.shrsi c1_i32_225 c1_i32_226
  let c1024_i32_227 : BitVec 32 := 1024#32
  let v569 : BitVec 32 := Scalar.muli v568 c1024_i32_227
  let c1_i32_228 : BitVec 32 := 1#32
  let v570 : BitVec 32 := Scalar.andi c1_i32_225 c1_i32_228
  let c64_i32 : BitVec 32 := 64#32
  let v571 : BitVec 32 := Scalar.muli v570 c64_i32
  let v572 : BitVec 32 := Scalar.addi v569 v571
  let v573 : BitVec 32 := Scalar.addi v572 c0_i32_229
  let v598 : BitVec 32 := Scalar.addi c24576_i32_232 v573
  let v599 : BitVec 32 := Scalar.addi v598 c0_i32_233
  let v600 : Index := Scalar.indexCast v599
  ![v600.toNat]
def k0_off36 (c0_i32_340 : BitVec 32) : Fin 1 → Nat :=
  let c1_i32_225 : BitVec 32 := 1#32
  let c1_i32_326 : BitVec 32 := 1#32
  let v867 : BitVec 32 := Scalar.subi c1_i32_225 c1_i32_326
  let c64_i32_327 : BitVec 32 := 64#32
  let v868 : BitVec 32 := Scalar.muli v867 c64_i32_327
  let v897 : BitVec 32 := Scalar.addi v868 c0_i32_340
  let v898 : Index := Scalar.indexCast v897
  ![v898.toNat]

def k0_chk97 (i : grid0.Coords) (v921 : IVec S16 32) : Prop :=
  (∀ (k0_h3 : k0_cond3 i = 1#1), ∀ a x, ((![v921] : Fin 1 → IVec S16 32) a x).toNat < S49152.size a)
theorem k0_idx97_inb : ∀ (i : grid0.Coords) (v921 : IVec S16 32) (k0_hw97 : k0_chk97 i v921), ∀ (k0_h3 : k0_cond3 i = 1#1), ∀ a x, ((![v921] : Fin 1 → IVec S16 32) a x).toNat < S49152.size a := fun i v921 k0_hw97 k0_h3 => k0_hw97 k0_h3

def k0_chk98 (i : grid0.Coords) (v935 : IVec S16 32) : Prop :=
  (∀ (k0_h3 : k0_cond3 i = 1#1), ∀ a x, ((![v935] : Fin 1 → IVec S16 32) a x).toNat < S49152.size a)
theorem k0_idx98_inb : ∀ (i : grid0.Coords) (v935 : IVec S16 32) (k0_hw98 : k0_chk98 i v935), ∀ (k0_h3 : k0_cond3 i = 1#1), ∀ a x, ((![v935] : Fin 1 → IVec S16 32) a x).toNat < S49152.size a := fun i v935 k0_hw98 k0_h3 => k0_hw98 k0_h3

def k0_chk99 (i : grid0.Coords) (v949 : IVec S16 32) : Prop :=
  (∀ (k0_h3 : k0_cond3 i = 1#1), ∀ a x, ((![v949] : Fin 1 → IVec S16 32) a x).toNat < S49152.size a)
theorem k0_idx99_inb : ∀ (i : grid0.Coords) (v949 : IVec S16 32) (k0_hw99 : k0_chk99 i v949), ∀ (k0_h3 : k0_cond3 i = 1#1), ∀ a x, ((![v949] : Fin 1 → IVec S16 32) a x).toNat < S49152.size a := fun i v949 k0_hw99 k0_h3 => k0_hw99 k0_h3

def k0_chk100 (i : grid0.Coords) (v963 : IVec S16 32) : Prop :=
  (∀ (k0_h3 : k0_cond3 i = 1#1), ∀ a x, ((![v963] : Fin 1 → IVec S16 32) a x).toNat < S49152.size a)
theorem k0_idx100_inb : ∀ (i : grid0.Coords) (v963 : IVec S16 32) (k0_hw100 : k0_chk100 i v963), ∀ (k0_h3 : k0_cond3 i = 1#1), ∀ a x, ((![v963] : Fin 1 → IVec S16 32) a x).toNat < S49152.size a := fun i v963 k0_hw100 k0_h3 => k0_hw100 k0_h3

def k0_chk101 (i : grid0.Coords) (v976 : IVec S16 32) : Prop :=
  (∀ (k0_h3 : k0_cond3 i = 1#1), ∀ a x, ((![v976] : Fin 1 → IVec S16 32) a x).toNat < S480.size a)
theorem k0_idx101_inb : ∀ (i : grid0.Coords) (v976 : IVec S16 32) (k0_hw101 : k0_chk101 i v976), ∀ (k0_h3 : k0_cond3 i = 1#1), ∀ a x, ((![v976] : Fin 1 → IVec S16 32) a x).toNat < S480.size a := fun i v976 k0_hw101 k0_h3 => k0_hw101 k0_h3

def k0_chk102 (i : grid0.Coords) (v978 : IVec S16 32) : Prop :=
  (∀ (k0_h3 : k0_cond3 i = 1#1), ∀ a x, ((![v978] : Fin 1 → IVec S16 32) a x).toNat < S480.size a)
theorem k0_idx102_inb : ∀ (i : grid0.Coords) (v978 : IVec S16 32) (k0_hw102 : k0_chk102 i v978), ∀ (k0_h3 : k0_cond3 i = 1#1), ∀ a x, ((![v978] : Fin 1 → IVec S16 32) a x).toNat < S480.size a := fun i v978 k0_hw102 k0_h3 => k0_hw102 k0_h3

def k0_chk103 (i : grid0.Coords) (v980 : IVec S16 32) : Prop :=
  (∀ (k0_h3 : k0_cond3 i = 1#1), ∀ a x, ((![v980] : Fin 1 → IVec S16 32) a x).toNat < S480.size a)
theorem k0_idx103_inb : ∀ (i : grid0.Coords) (v980 : IVec S16 32) (k0_hw103 : k0_chk103 i v980), ∀ (k0_h3 : k0_cond3 i = 1#1), ∀ a x, ((![v980] : Fin 1 → IVec S16 32) a x).toNat < S480.size a := fun i v980 k0_hw103 k0_h3 => k0_hw103 k0_h3

def k0_chk104 (i : grid0.Coords) (v992 : IVec S16 32) : Prop :=
  (∀ (k0_h3 : k0_cond3 i = 1#1), ∀ a x, ((![v992] : Fin 1 → IVec S16 32) a x).toNat < S480.size a)
theorem k0_idx104_inb : ∀ (i : grid0.Coords) (v992 : IVec S16 32) (k0_hw104 : k0_chk104 i v992), ∀ (k0_h3 : k0_cond3 i = 1#1), ∀ a x, ((![v992] : Fin 1 → IVec S16 32) a x).toNat < S480.size a := fun i v992 k0_hw104 k0_h3 => k0_hw104 k0_h3

def k0_chk105 (i : grid0.Coords) (v994 : IVec S16 32) : Prop :=
  (∀ (k0_h3 : k0_cond3 i = 1#1), ∀ a x, ((![v994] : Fin 1 → IVec S16 32) a x).toNat < S480.size a)
theorem k0_idx105_inb : ∀ (i : grid0.Coords) (v994 : IVec S16 32) (k0_hw105 : k0_chk105 i v994), ∀ (k0_h3 : k0_cond3 i = 1#1), ∀ a x, ((![v994] : Fin 1 → IVec S16 32) a x).toNat < S480.size a := fun i v994 k0_hw105 k0_h3 => k0_hw105 k0_h3

def k0_chk106 (i : grid0.Coords) (v996 : IVec S16 32) : Prop :=
  (∀ (k0_h3 : k0_cond3 i = 1#1), ∀ a x, ((![v996] : Fin 1 → IVec S16 32) a x).toNat < S480.size a)
theorem k0_idx106_inb : ∀ (i : grid0.Coords) (v996 : IVec S16 32) (k0_hw106 : k0_chk106 i v996), ∀ (k0_h3 : k0_cond3 i = 1#1), ∀ a x, ((![v996] : Fin 1 → IVec S16 32) a x).toNat < S480.size a := fun i v996 k0_hw106 k0_h3 => k0_hw106 k0_h3

def k0_chk107 (i : grid0.Coords) (v1008 : IVec S16 32) : Prop :=
  (∀ (k0_h3 : k0_cond3 i = 1#1), ∀ a x, ((![v1008] : Fin 1 → IVec S16 32) a x).toNat < S480.size a)
theorem k0_idx107_inb : ∀ (i : grid0.Coords) (v1008 : IVec S16 32) (k0_hw107 : k0_chk107 i v1008), ∀ (k0_h3 : k0_cond3 i = 1#1), ∀ a x, ((![v1008] : Fin 1 → IVec S16 32) a x).toNat < S480.size a := fun i v1008 k0_hw107 k0_h3 => k0_hw107 k0_h3

def k0_chk108 (i : grid0.Coords) (v1010 : IVec S16 32) : Prop :=
  (∀ (k0_h3 : k0_cond3 i = 1#1), ∀ a x, ((![v1010] : Fin 1 → IVec S16 32) a x).toNat < S480.size a)
theorem k0_idx108_inb : ∀ (i : grid0.Coords) (v1010 : IVec S16 32) (k0_hw108 : k0_chk108 i v1010), ∀ (k0_h3 : k0_cond3 i = 1#1), ∀ a x, ((![v1010] : Fin 1 → IVec S16 32) a x).toNat < S480.size a := fun i v1010 k0_hw108 k0_h3 => k0_hw108 k0_h3

def k0_chk109 (i : grid0.Coords) (v1012 : IVec S16 32) : Prop :=
  (∀ (k0_h3 : k0_cond3 i = 1#1), ∀ a x, ((![v1012] : Fin 1 → IVec S16 32) a x).toNat < S480.size a)
theorem k0_idx109_inb : ∀ (i : grid0.Coords) (v1012 : IVec S16 32) (k0_hw109 : k0_chk109 i v1012), ∀ (k0_h3 : k0_cond3 i = 1#1), ∀ a x, ((![v1012] : Fin 1 → IVec S16 32) a x).toNat < S480.size a := fun i v1012 k0_hw109 k0_h3 => k0_hw109 k0_h3

def k0_chk110 (i : grid0.Coords) (v1024 : IVec S16 32) : Prop :=
  (∀ (k0_h3 : k0_cond3 i = 1#1), ∀ a x, ((![v1024] : Fin 1 → IVec S16 32) a x).toNat < S480.size a)
theorem k0_idx110_inb : ∀ (i : grid0.Coords) (v1024 : IVec S16 32) (k0_hw110 : k0_chk110 i v1024), ∀ (k0_h3 : k0_cond3 i = 1#1), ∀ a x, ((![v1024] : Fin 1 → IVec S16 32) a x).toNat < S480.size a := fun i v1024 k0_hw110 k0_h3 => k0_hw110 k0_h3

def k0_chk111 (i : grid0.Coords) (v1026 : IVec S16 32) : Prop :=
  (∀ (k0_h3 : k0_cond3 i = 1#1), ∀ a x, ((![v1026] : Fin 1 → IVec S16 32) a x).toNat < S480.size a)
theorem k0_idx111_inb : ∀ (i : grid0.Coords) (v1026 : IVec S16 32) (k0_hw111 : k0_chk111 i v1026), ∀ (k0_h3 : k0_cond3 i = 1#1), ∀ a x, ((![v1026] : Fin 1 → IVec S16 32) a x).toNat < S480.size a := fun i v1026 k0_hw111 k0_h3 => k0_hw111 k0_h3

def k0_chk112 (i : grid0.Coords) (v1028 : IVec S16 32) : Prop :=
  (∀ (k0_h3 : k0_cond3 i = 1#1), ∀ a x, ((![v1028] : Fin 1 → IVec S16 32) a x).toNat < S480.size a)
theorem k0_idx112_inb : ∀ (i : grid0.Coords) (v1028 : IVec S16 32) (k0_hw112 : k0_chk112 i v1028), ∀ (k0_h3 : k0_cond3 i = 1#1), ∀ a x, ((![v1028] : Fin 1 → IVec S16 32) a x).toNat < S480.size a := fun i v1028 k0_hw112 k0_h3 => k0_hw112 k0_h3

def k0_chk113 (i : grid0.Coords) (v1072 : IVec S16 32) : Prop :=
  (∀ (k0_h3 : k0_cond3 i = 1#1), ∀ a x, ((![v1072] : Fin 1 → IVec S16 32) a x).toNat < S49152.size a)
theorem k0_idx113_inb : ∀ (i : grid0.Coords) (v1072 : IVec S16 32) (k0_hw113 : k0_chk113 i v1072), ∀ (k0_h3 : k0_cond3 i = 1#1), ∀ a x, ((![v1072] : Fin 1 → IVec S16 32) a x).toNat < S49152.size a := fun i v1072 k0_hw113 k0_h3 => k0_hw113 k0_h3

def k0_chk114 (i : grid0.Coords) (v1085 : IVec S16 32) : Prop :=
  (∀ (k0_h3 : k0_cond3 i = 1#1), ∀ a x, ((![v1085] : Fin 1 → IVec S16 32) a x).toNat < S49152.size a)
theorem k0_idx114_inb : ∀ (i : grid0.Coords) (v1085 : IVec S16 32) (k0_hw114 : k0_chk114 i v1085), ∀ (k0_h3 : k0_cond3 i = 1#1), ∀ a x, ((![v1085] : Fin 1 → IVec S16 32) a x).toNat < S49152.size a := fun i v1085 k0_hw114 k0_h3 => k0_hw114 k0_h3

def k0_chk115 (i : grid0.Coords) (v1098 : IVec S16 32) : Prop :=
  (∀ (k0_h3 : k0_cond3 i = 1#1), ∀ a x, ((![v1098] : Fin 1 → IVec S16 32) a x).toNat < S49152.size a)
theorem k0_idx115_inb : ∀ (i : grid0.Coords) (v1098 : IVec S16 32) (k0_hw115 : k0_chk115 i v1098), ∀ (k0_h3 : k0_cond3 i = 1#1), ∀ a x, ((![v1098] : Fin 1 → IVec S16 32) a x).toNat < S49152.size a := fun i v1098 k0_hw115 k0_h3 => k0_hw115 k0_h3

def k0_chk116 (i : grid0.Coords) (v1111 : IVec S16 32) : Prop :=
  (∀ (k0_h3 : k0_cond3 i = 1#1), ∀ a x, ((![v1111] : Fin 1 → IVec S16 32) a x).toNat < S49152.size a)
theorem k0_idx116_inb : ∀ (i : grid0.Coords) (v1111 : IVec S16 32) (k0_hw116 : k0_chk116 i v1111), ∀ (k0_h3 : k0_cond3 i = 1#1), ∀ a x, ((![v1111] : Fin 1 → IVec S16 32) a x).toNat < S49152.size a := fun i v1111 k0_hw116 k0_h3 => k0_hw116 k0_h3

def k0_chk117 (i : grid0.Coords) (v1124 : IVec S16 32) : Prop :=
  (∀ (k0_h3 : k0_cond3 i = 1#1), ∀ a x, ((![v1124] : Fin 1 → IVec S16 32) a x).toNat < S480.size a)
theorem k0_idx117_inb : ∀ (i : grid0.Coords) (v1124 : IVec S16 32) (k0_hw117 : k0_chk117 i v1124), ∀ (k0_h3 : k0_cond3 i = 1#1), ∀ a x, ((![v1124] : Fin 1 → IVec S16 32) a x).toNat < S480.size a := fun i v1124 k0_hw117 k0_h3 => k0_hw117 k0_h3

def k0_chk118 (i : grid0.Coords) (v1126 : IVec S16 32) : Prop :=
  (∀ (k0_h3 : k0_cond3 i = 1#1), ∀ a x, ((![v1126] : Fin 1 → IVec S16 32) a x).toNat < S480.size a)
theorem k0_idx118_inb : ∀ (i : grid0.Coords) (v1126 : IVec S16 32) (k0_hw118 : k0_chk118 i v1126), ∀ (k0_h3 : k0_cond3 i = 1#1), ∀ a x, ((![v1126] : Fin 1 → IVec S16 32) a x).toNat < S480.size a := fun i v1126 k0_hw118 k0_h3 => k0_hw118 k0_h3

def k0_chk119 (i : grid0.Coords) (v1128 : IVec S16 32) : Prop :=
  (∀ (k0_h3 : k0_cond3 i = 1#1), ∀ a x, ((![v1128] : Fin 1 → IVec S16 32) a x).toNat < S480.size a)
theorem k0_idx119_inb : ∀ (i : grid0.Coords) (v1128 : IVec S16 32) (k0_hw119 : k0_chk119 i v1128), ∀ (k0_h3 : k0_cond3 i = 1#1), ∀ a x, ((![v1128] : Fin 1 → IVec S16 32) a x).toNat < S480.size a := fun i v1128 k0_hw119 k0_h3 => k0_hw119 k0_h3

def k0_chk120 (i : grid0.Coords) (v1140 : IVec S16 32) : Prop :=
  (∀ (k0_h3 : k0_cond3 i = 1#1), ∀ a x, ((![v1140] : Fin 1 → IVec S16 32) a x).toNat < S480.size a)
theorem k0_idx120_inb : ∀ (i : grid0.Coords) (v1140 : IVec S16 32) (k0_hw120 : k0_chk120 i v1140), ∀ (k0_h3 : k0_cond3 i = 1#1), ∀ a x, ((![v1140] : Fin 1 → IVec S16 32) a x).toNat < S480.size a := fun i v1140 k0_hw120 k0_h3 => k0_hw120 k0_h3

def k0_chk121 (i : grid0.Coords) (v1142 : IVec S16 32) : Prop :=
  (∀ (k0_h3 : k0_cond3 i = 1#1), ∀ a x, ((![v1142] : Fin 1 → IVec S16 32) a x).toNat < S480.size a)
theorem k0_idx121_inb : ∀ (i : grid0.Coords) (v1142 : IVec S16 32) (k0_hw121 : k0_chk121 i v1142), ∀ (k0_h3 : k0_cond3 i = 1#1), ∀ a x, ((![v1142] : Fin 1 → IVec S16 32) a x).toNat < S480.size a := fun i v1142 k0_hw121 k0_h3 => k0_hw121 k0_h3

def k0_chk122 (i : grid0.Coords) (v1144 : IVec S16 32) : Prop :=
  (∀ (k0_h3 : k0_cond3 i = 1#1), ∀ a x, ((![v1144] : Fin 1 → IVec S16 32) a x).toNat < S480.size a)
theorem k0_idx122_inb : ∀ (i : grid0.Coords) (v1144 : IVec S16 32) (k0_hw122 : k0_chk122 i v1144), ∀ (k0_h3 : k0_cond3 i = 1#1), ∀ a x, ((![v1144] : Fin 1 → IVec S16 32) a x).toNat < S480.size a := fun i v1144 k0_hw122 k0_h3 => k0_hw122 k0_h3

def k0_chk123 (i : grid0.Coords) (v1156 : IVec S16 32) : Prop :=
  (∀ (k0_h3 : k0_cond3 i = 1#1), ∀ a x, ((![v1156] : Fin 1 → IVec S16 32) a x).toNat < S480.size a)
theorem k0_idx123_inb : ∀ (i : grid0.Coords) (v1156 : IVec S16 32) (k0_hw123 : k0_chk123 i v1156), ∀ (k0_h3 : k0_cond3 i = 1#1), ∀ a x, ((![v1156] : Fin 1 → IVec S16 32) a x).toNat < S480.size a := fun i v1156 k0_hw123 k0_h3 => k0_hw123 k0_h3

def k0_chk124 (i : grid0.Coords) (v1158 : IVec S16 32) : Prop :=
  (∀ (k0_h3 : k0_cond3 i = 1#1), ∀ a x, ((![v1158] : Fin 1 → IVec S16 32) a x).toNat < S480.size a)
theorem k0_idx124_inb : ∀ (i : grid0.Coords) (v1158 : IVec S16 32) (k0_hw124 : k0_chk124 i v1158), ∀ (k0_h3 : k0_cond3 i = 1#1), ∀ a x, ((![v1158] : Fin 1 → IVec S16 32) a x).toNat < S480.size a := fun i v1158 k0_hw124 k0_h3 => k0_hw124 k0_h3

def k0_chk125 (i : grid0.Coords) (v1160 : IVec S16 32) : Prop :=
  (∀ (k0_h3 : k0_cond3 i = 1#1), ∀ a x, ((![v1160] : Fin 1 → IVec S16 32) a x).toNat < S480.size a)
theorem k0_idx125_inb : ∀ (i : grid0.Coords) (v1160 : IVec S16 32) (k0_hw125 : k0_chk125 i v1160), ∀ (k0_h3 : k0_cond3 i = 1#1), ∀ a x, ((![v1160] : Fin 1 → IVec S16 32) a x).toNat < S480.size a := fun i v1160 k0_hw125 k0_h3 => k0_hw125 k0_h3

def k0_chk126 (i : grid0.Coords) (v1172 : IVec S16 32) : Prop :=
  (∀ (k0_h3 : k0_cond3 i = 1#1), ∀ a x, ((![v1172] : Fin 1 → IVec S16 32) a x).toNat < S480.size a)
theorem k0_idx126_inb : ∀ (i : grid0.Coords) (v1172 : IVec S16 32) (k0_hw126 : k0_chk126 i v1172), ∀ (k0_h3 : k0_cond3 i = 1#1), ∀ a x, ((![v1172] : Fin 1 → IVec S16 32) a x).toNat < S480.size a := fun i v1172 k0_hw126 k0_h3 => k0_hw126 k0_h3

def k0_chk127 (i : grid0.Coords) (v1174 : IVec S16 32) : Prop :=
  (∀ (k0_h3 : k0_cond3 i = 1#1), ∀ a x, ((![v1174] : Fin 1 → IVec S16 32) a x).toNat < S480.size a)
theorem k0_idx127_inb : ∀ (i : grid0.Coords) (v1174 : IVec S16 32) (k0_hw127 : k0_chk127 i v1174), ∀ (k0_h3 : k0_cond3 i = 1#1), ∀ a x, ((![v1174] : Fin 1 → IVec S16 32) a x).toNat < S480.size a := fun i v1174 k0_hw127 k0_h3 => k0_hw127 k0_h3

def k0_chk128 (i : grid0.Coords) (v1176 : IVec S16 32) : Prop :=
  (∀ (k0_h3 : k0_cond3 i = 1#1), ∀ a x, ((![v1176] : Fin 1 → IVec S16 32) a x).toNat < S480.size a)
theorem k0_idx128_inb : ∀ (i : grid0.Coords) (v1176 : IVec S16 32) (k0_hw128 : k0_chk128 i v1176), ∀ (k0_h3 : k0_cond3 i = 1#1), ∀ a x, ((![v1176] : Fin 1 → IVec S16 32) a x).toNat < S480.size a := fun i v1176 k0_hw128 k0_h3 => k0_hw128 k0_h3
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_140_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2000000x16 : Shape := ⟨2, ![2000000, 16]⟩
abbrev S2000000 : Shape := ⟨1, ![2000000]⟩
abbrev S_ : Shape := ⟨0, ![]⟩
abbrev S1 : Shape := ⟨1, ![1]⟩

abbrev nBuf : Space → Nat
  | .hbm => 381
  | .vmem => 0
  | .smem => 0
  | _ => 0

abbrev hbmTy0_0 (i : Nat) : BufTy := match i % 128 with
  | 0 => ⟨S2000000x16, .f32⟩
  | 1 => ⟨S2000000, .i32⟩
  | 2 => ⟨S2000000x16, .f32⟩
  | 3 => ⟨S2000000x16, .f32⟩
  | 4 => ⟨S_, .f32⟩
  | 5 => ⟨S2000000x16, .f32⟩
  | 6 => ⟨S2000000x16, .f32⟩
  | 7 => ⟨S_, .f32⟩
  | 8 => ⟨S2000000x16, .f32⟩
  | 9 => ⟨S2000000x16, .f32⟩
  | 10 => ⟨S_, .f32⟩
  | 11 => ⟨S2000000, .f32⟩
  | 12 => ⟨S2000000x16, .i32⟩
  | 13 => ⟨S_, .f32⟩
  | 14 => ⟨S_, .i32⟩
  | 15 => ⟨S2000000, .f32⟩
  | 16 => ⟨S2000000, .i32⟩
  | 17 => ⟨S2000000, .i1⟩
  | 18 => ⟨S2000000, .f32⟩
  | 19 => ⟨S_, .f32⟩
  | 20 => ⟨S1, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S2000000, .f32⟩
  | 28 => ⟨S2000000, .i1⟩
  | 29 => ⟨S2000000, .f32⟩
  | 30 => ⟨S2000000, .i1⟩
  | 31 => ⟨S2000000, .i1⟩
  | 32 => ⟨S2000000, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S2000000, .f32⟩
  | 40 => ⟨S_, .f32⟩
  | 41 => ⟨S_, .f32⟩
  | 42 => ⟨S_, .f32⟩
  | 43 => ⟨S2000000, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S1, .f32⟩
  | 56 => ⟨S1, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S2000000, .f32⟩
  | 64 => ⟨S2000000, .i1⟩
  | 65 => ⟨S2000000, .f32⟩
  | 66 => ⟨S2000000, .i1⟩
  | 67 => ⟨S2000000, .i1⟩
  | 68 => ⟨S2000000, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S2000000, .f32⟩
  | 76 => ⟨S_, .f32⟩
  | 77 => ⟨S_, .f32⟩
  | 78 => ⟨S_, .f32⟩
  | 79 => ⟨S2000000, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .i1⟩
  | 88 => ⟨S_, .f32⟩
  | 89 => ⟨S_, .f32⟩
  | 90 => ⟨S_, .f32⟩
  | 91 => ⟨S1, .f32⟩
  | 92 => ⟨S1, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S2000000, .f32⟩
  | 100 => ⟨S2000000, .i1⟩
  | 101 => ⟨S2000000, .f32⟩
  | 102 => ⟨S2000000, .i1⟩
  | 103 => ⟨S2000000, .i1⟩
  | 104 => ⟨S2000000, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S2000000, .f32⟩
  | 112 => ⟨S_, .f32⟩
  | 113 => ⟨S_, .f32⟩
  | 114 => ⟨S_, .f32⟩
  | 115 => ⟨S2000000, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i1⟩
  | 124 => ⟨S_, .f32⟩
  | 125 => ⟨S_, .f32⟩
  | 126 => ⟨S_, .f32⟩
  | 127 => ⟨S1, .f32⟩
  | _ => ⟨S2000000x16, .f32⟩

abbrev hbmTy0_1 (i : Nat) : BufTy := match i % 128 with
  | 0 => ⟨S1, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S2000000, .f32⟩
  | 8 => ⟨S2000000, .i1⟩
  | 9 => ⟨S2000000, .f32⟩
  | 10 => ⟨S2000000, .i1⟩
  | 11 => ⟨S2000000, .i1⟩
  | 12 => ⟨S2000000, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S2000000, .f32⟩
  | 20 => ⟨S_, .f32⟩
  | 21 => ⟨S_, .f32⟩
  | 22 => ⟨S_, .f32⟩
  | 23 => ⟨S2000000, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .i1⟩
  | 32 => ⟨S_, .f32⟩
  | 33 => ⟨S_, .f32⟩
  | 34 => ⟨S_, .f32⟩
  | 35 => ⟨S1, .f32⟩
  | 36 => ⟨S1, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S2000000, .f32⟩
  | 44 => ⟨S2000000, .i1⟩
  | 45 => ⟨S2000000, .f32⟩
  | 46 => ⟨S2000000, .i1⟩
  | 47 => ⟨S2000000, .i1⟩
  | 48 => ⟨S2000000, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S2000000, .f32⟩
  | 56 => ⟨S_, .f32⟩
  | 57 => ⟨S_, .f32⟩
  | 58 => ⟨S_, .f32⟩
  | 59 => ⟨S2000000, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .i1⟩
  | 68 => ⟨S_, .f32⟩
  | 69 => ⟨S_, .f32⟩
  | 70 => ⟨S_, .f32⟩
  | 71 => ⟨S1, .f32⟩
  | 72 => ⟨S1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S2000000, .f32⟩
  | 80 => ⟨S2000000, .i1⟩
  | 81 => ⟨S2000000, .f32⟩
  | 82 => ⟨S2000000, .i1⟩
  | 83 => ⟨S2000000, .i1⟩
  | 84 => ⟨S2000000, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S2000000, .f32⟩
  | 92 => ⟨S_, .f32⟩
  | 93 => ⟨S_, .f32⟩
  | 94 => ⟨S_, .f32⟩
  | 95 => ⟨S2000000, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S1, .f32⟩
  | 108 => ⟨S1, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S2000000, .f32⟩
  | 116 => ⟨S2000000, .i1⟩
  | 117 => ⟨S2000000, .f32⟩
  | 118 => ⟨S2000000, .i1⟩
  | 119 => ⟨S2000000, .i1⟩
  | 120 => ⟨S2000000, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S2000000, .f32⟩
  | _ => ⟨S2000000x16, .f32⟩

abbrev hbmTy0_2 (i : Nat) : BufTy := match i % 128 with
  | 0 => ⟨S_, .f32⟩
  | 1 => ⟨S_, .f32⟩
  | 2 => ⟨S_, .f32⟩
  | 3 => ⟨S2000000, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .i1⟩
  | 12 => ⟨S_, .f32⟩
  | 13 => ⟨S_, .f32⟩
  | 14 => ⟨S_, .f32⟩
  | 15 => ⟨S1, .f32⟩
  | 16 => ⟨S1, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S2000000, .f32⟩
  | 24 => ⟨S2000000, .i1⟩
  | 25 => ⟨S2000000, .f32⟩
  | 26 => ⟨S2000000, .i1⟩
  | 27 => ⟨S2000000, .i1⟩
  | 28 => ⟨S2000000, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S2000000, .f32⟩
  | 36 => ⟨S_, .f32⟩
  | 37 => ⟨S_, .f32⟩
  | 38 => ⟨S_, .f32⟩
  | 39 => ⟨S2000000, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S1, .f32⟩
  | 52 => ⟨S1, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S2000000, .f32⟩
  | 60 => ⟨S2000000, .i1⟩
  | 61 => ⟨S2000000, .f32⟩
  | 62 => ⟨S2000000, .i1⟩
  | 63 => ⟨S2000000, .i1⟩
  | 64 => ⟨S2000000, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S2000000, .f32⟩
  | 72 => ⟨S_, .f32⟩
  | 73 => ⟨S_, .f32⟩
  | 74 => ⟨S_, .f32⟩
  | 75 => ⟨S2000000, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .i1⟩
  | 84 => ⟨S_, .f32⟩
  | 85 => ⟨S_, .f32⟩
  | 86 => ⟨S_, .f32⟩
  | 87 => ⟨S1, .f32⟩
  | 88 => ⟨S1, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S2000000, .f32⟩
  | 96 => ⟨S2000000, .i1⟩
  | 97 => ⟨S2000000, .f32⟩
  | 98 => ⟨S2000000, .i1⟩
  | 99 => ⟨S2000000, .i1⟩
  | 100 => ⟨S2000000, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S2000000, .f32⟩
  | 108 => ⟨S_, .f32⟩
  | 109 => ⟨S_, .f32⟩
  | 110 => ⟨S_, .f32⟩
  | 111 => ⟨S2000000, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S1, .f32⟩
  | 124 => ⟨S1, .f32⟩
  | _ => ⟨S2000000x16, .f32⟩

abbrev hbmTy (i : Nat) : BufTy := match i / 128 with
  | 0 => hbmTy0_0 i
  | 1 => hbmTy0_1 i
  | 2 => hbmTy0_2 i
  | _ => ⟨S2000000x16, .f32⟩

abbrev bufTy : (tb : Table) → Fin (tcTables nBuf tb) → BufTy
  | .hbm, ⟨i, _⟩ => hbmTy i
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_cst_4 : Ref sig .tc := ⟨.hbm, 22, rfl⟩
abbrev main_v11 : Ref sig .tc := ⟨.hbm, 23, rfl⟩
abbrev main_cst_5 : Ref sig .tc := ⟨.hbm, 24, rfl⟩
abbrev main_cst_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_v22 : Ref sig .tc := ⟨.hbm, 39, rfl⟩
abbrev main_cst_10 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_11 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_12 : Ref sig .tc := ⟨.hbm, 50, rfl⟩
abbrev main_v31 : Ref sig .tc := ⟨.hbm, 51, rfl⟩
abbrev main_cst_13 : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_14 : Ref sig .tc := ⟨.hbm, 57, rfl⟩
abbrev main_cst_15 : Ref sig .tc := ⟨.hbm, 58, rfl⟩
abbrev main_v35 : Ref sig .tc := ⟨.hbm, 59, rfl⟩
abbrev main_cst_16 : Ref sig .tc := ⟨.hbm, 60, rfl⟩
abbrev main_cst_17 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_18 : Ref sig .tc := ⟨.hbm, 69, rfl⟩
abbrev main_v43 : Ref sig .tc := ⟨.hbm, 70, rfl⟩
abbrev main_cst_19 : Ref sig .tc := ⟨.hbm, 71, rfl⟩
abbrev main_v44 : Ref sig .tc := ⟨.hbm, 72, rfl⟩
abbrev main_cst_20 : Ref sig .tc := ⟨.hbm, 73, rfl⟩
abbrev main_v45 : Ref sig .tc := ⟨.hbm, 74, rfl⟩
abbrev main_v46 : Ref sig .tc := ⟨.hbm, 75, rfl⟩
abbrev main_cst_21 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_22 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_23 : Ref sig .tc := ⟨.hbm, 86, rfl⟩
abbrev main_v55 : Ref sig .tc := ⟨.hbm, 87, rfl⟩
abbrev main_cst_24 : Ref sig .tc := ⟨.hbm, 88, rfl⟩
abbrev main_call2_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_25 : Ref sig .tc := ⟨.hbm, 93, rfl⟩
abbrev main_cst_26 : Ref sig .tc := ⟨.hbm, 94, rfl⟩
abbrev main_v59 : Ref sig .tc := ⟨.hbm, 95, rfl⟩
abbrev main_cst_27 : Ref sig .tc := ⟨.hbm, 96, rfl⟩
abbrev main_cst_28 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_29 : Ref sig .tc := ⟨.hbm, 105, rfl⟩
abbrev main_v67 : Ref sig .tc := ⟨.hbm, 106, rfl⟩
abbrev main_cst_30 : Ref sig .tc := ⟨.hbm, 107, rfl⟩
abbrev main_v68 : Ref sig .tc := ⟨.hbm, 108, rfl⟩
abbrev main_cst_31 : Ref sig .tc := ⟨.hbm, 109, rfl⟩
abbrev main_v69 : Ref sig .tc := ⟨.hbm, 110, rfl⟩
abbrev main_v70 : Ref sig .tc := ⟨.hbm, 111, rfl⟩
abbrev main_cst_32 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_33 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_34 : Ref sig .tc := ⟨.hbm, 122, rfl⟩
abbrev main_v79 : Ref sig .tc := ⟨.hbm, 123, rfl⟩
abbrev main_cst_35 : Ref sig .tc := ⟨.hbm, 124, rfl⟩
abbrev main_call3_v0 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_36 : Ref sig .tc := ⟨.hbm, 129, rfl⟩
abbrev main_cst_37 : Ref sig .tc := ⟨.hbm, 130, rfl⟩
abbrev main_v83 : Ref sig .tc := ⟨.hbm, 131, rfl⟩
abbrev main_cst_38 : Ref sig .tc := ⟨.hbm, 132, rfl⟩
abbrev main_cst_39 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_40 : Ref sig .tc := ⟨.hbm, 141, rfl⟩
abbrev main_v91 : Ref sig .tc := ⟨.hbm, 142, rfl⟩
abbrev main_cst_41 : Ref sig .tc := ⟨.hbm, 143, rfl⟩
abbrev main_v92 : Ref sig .tc := ⟨.hbm, 144, rfl⟩
abbrev main_cst_42 : Ref sig .tc := ⟨.hbm, 145, rfl⟩
abbrev main_v93 : Ref sig .tc := ⟨.hbm, 146, rfl⟩
abbrev main_v94 : Ref sig .tc := ⟨.hbm, 147, rfl⟩
abbrev main_cst_43 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_44 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_45 : Ref sig .tc := ⟨.hbm, 158, rfl⟩
abbrev main_v103 : Ref sig .tc := ⟨.hbm, 159, rfl⟩
abbrev main_cst_46 : Ref sig .tc := ⟨.hbm, 160, rfl⟩
abbrev main_call4_v0 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_47 : Ref sig .tc := ⟨.hbm, 165, rfl⟩
abbrev main_cst_48 : Ref sig .tc := ⟨.hbm, 166, rfl⟩
abbrev main_v107 : Ref sig .tc := ⟨.hbm, 167, rfl⟩
abbrev main_cst_49 : Ref sig .tc := ⟨.hbm, 168, rfl⟩
abbrev main_cst_50 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_51 : Ref sig .tc := ⟨.hbm, 177, rfl⟩
abbrev main_v115 : Ref sig .tc := ⟨.hbm, 178, rfl⟩
abbrev main_cst_52 : Ref sig .tc := ⟨.hbm, 179, rfl⟩
abbrev main_v116 : Ref sig .tc := ⟨.hbm, 180, rfl⟩
abbrev main_cst_53 : Ref sig .tc := ⟨.hbm, 181, rfl⟩
abbrev main_v117 : Ref sig .tc := ⟨.hbm, 182, rfl⟩
abbrev main_v118 : Ref sig .tc := ⟨.hbm, 183, rfl⟩
abbrev main_cst_54 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_55 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_56 : Ref sig .tc := ⟨.hbm, 194, rfl⟩
abbrev main_v127 : Ref sig .tc := ⟨.hbm, 195, rfl⟩
abbrev main_cst_57 : Ref sig .tc := ⟨.hbm, 196, rfl⟩
abbrev main_call5_v0 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_58 : Ref sig .tc := ⟨.hbm, 201, rfl⟩
abbrev main_cst_59 : Ref sig .tc := ⟨.hbm, 202, rfl⟩
abbrev main_v131 : Ref sig .tc := ⟨.hbm, 203, rfl⟩
abbrev main_cst_60 : Ref sig .tc := ⟨.hbm, 204, rfl⟩
abbrev main_cst_61 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_cst_62 : Ref sig .tc := ⟨.hbm, 213, rfl⟩
abbrev main_v139 : Ref sig .tc := ⟨.hbm, 214, rfl⟩
abbrev main_cst_63 : Ref sig .tc := ⟨.hbm, 215, rfl⟩
abbrev main_v140 : Ref sig .tc := ⟨.hbm, 216, rfl⟩
abbrev main_cst_64 : Ref sig .tc := ⟨.hbm, 217, rfl⟩
abbrev main_v141 : Ref sig .tc := ⟨.hbm, 218, rfl⟩
abbrev main_v142 : Ref sig .tc := ⟨.hbm, 219, rfl⟩
abbrev main_cst_65 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_cst_66 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_cst_67 : Ref sig .tc := ⟨.hbm, 230, rfl⟩
abbrev main_v151 : Ref sig .tc := ⟨.hbm, 231, rfl⟩
abbrev main_cst_68 : Ref sig .tc := ⟨.hbm, 232, rfl⟩
abbrev main_call6_v0 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_cst_69 : Ref sig .tc := ⟨.hbm, 237, rfl⟩
abbrev main_cst_70 : Ref sig .tc := ⟨.hbm, 238, rfl⟩
abbrev main_v155 : Ref sig .tc := ⟨.hbm, 239, rfl⟩
abbrev main_cst_71 : Ref sig .tc := ⟨.hbm, 240, rfl⟩
abbrev main_cst_72 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_cst_73 : Ref sig .tc := ⟨.hbm, 249, rfl⟩
abbrev main_v163 : Ref sig .tc := ⟨.hbm, 250, rfl⟩
abbrev main_cst_74 : Ref sig .tc := ⟨.hbm, 251, rfl⟩
abbrev main_v164 : Ref sig .tc := ⟨.hbm, 252, rfl⟩
abbrev main_cst_75 : Ref sig .tc := ⟨.hbm, 253, rfl⟩
abbrev main_v165 : Ref sig .tc := ⟨.hbm, 254, rfl⟩
abbrev main_v166 : Ref sig .tc := ⟨.hbm, 255, rfl⟩
abbrev main_cst_76 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_cst_77 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_cst_78 : Ref sig .tc := ⟨.hbm, 266, rfl⟩
abbrev main_v175 : Ref sig .tc := ⟨.hbm, 267, rfl⟩
abbrev main_cst_79 : Ref sig .tc := ⟨.hbm, 268, rfl⟩
abbrev main_call7_v0 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_cst_80 : Ref sig .tc := ⟨.hbm, 273, rfl⟩
abbrev main_cst_81 : Ref sig .tc := ⟨.hbm, 274, rfl⟩
abbrev main_v179 : Ref sig .tc := ⟨.hbm, 275, rfl⟩
abbrev main_cst_82 : Ref sig .tc := ⟨.hbm, 276, rfl⟩
abbrev main_cst_83 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_cst_84 : Ref sig .tc := ⟨.hbm, 285, rfl⟩
abbrev main_v187 : Ref sig .tc := ⟨.hbm, 286, rfl⟩
abbrev main_cst_85 : Ref sig .tc := ⟨.hbm, 287, rfl⟩
abbrev main_v188 : Ref sig .tc := ⟨.hbm, 288, rfl⟩
abbrev main_cst_86 : Ref sig .tc := ⟨.hbm, 289, rfl⟩
abbrev main_v189 : Ref sig .tc := ⟨.hbm, 290, rfl⟩
abbrev main_v190 : Ref sig .tc := ⟨.hbm, 291, rfl⟩
abbrev main_cst_87 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_cst_88 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_cst_89 : Ref sig .tc := ⟨.hbm, 302, rfl⟩
abbrev main_v199 : Ref sig .tc := ⟨.hbm, 303, rfl⟩
abbrev main_cst_90 : Ref sig .tc := ⟨.hbm, 304, rfl⟩
abbrev main_call8_v0 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_cst_91 : Ref sig .tc := ⟨.hbm, 309, rfl⟩
abbrev main_cst_92 : Ref sig .tc := ⟨.hbm, 310, rfl⟩
abbrev main_v203 : Ref sig .tc := ⟨.hbm, 311, rfl⟩
abbrev main_cst_93 : Ref sig .tc := ⟨.hbm, 312, rfl⟩
abbrev main_cst_94 : Ref sig .tc := ⟨.hbm, 313, rfl⟩
abbrev main_v204 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_cst_95 : Ref sig .tc := ⟨.hbm, 321, rfl⟩
abbrev main_v211 : Ref sig .tc := ⟨.hbm, 322, rfl⟩
abbrev main_cst_96 : Ref sig .tc := ⟨.hbm, 323, rfl⟩
abbrev main_v212 : Ref sig .tc := ⟨.hbm, 324, rfl⟩
abbrev main_cst_97 : Ref sig .tc := ⟨.hbm, 325, rfl⟩
abbrev main_v213 : Ref sig .tc := ⟨.hbm, 326, rfl⟩
abbrev main_v214 : Ref sig .tc := ⟨.hbm, 327, rfl⟩
abbrev main_cst_98 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_cst_99 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_cst_100 : Ref sig .tc := ⟨.hbm, 338, rfl⟩
abbrev main_v223 : Ref sig .tc := ⟨.hbm, 339, rfl⟩
abbrev main_cst_101 : Ref sig .tc := ⟨.hbm, 340, rfl⟩
abbrev main_call9_v0 : Ref sig .tc := ⟨.hbm, 341, rfl⟩
abbrev main_v224 : Ref sig .tc := ⟨.hbm, 342, rfl⟩
abbrev main_v225 : Ref sig .tc := ⟨.hbm, 343, rfl⟩
abbrev main_v226 : Ref sig .tc := ⟨.hbm, 344, rfl⟩
abbrev main_cst_102 : Ref sig .tc := ⟨.hbm, 345, rfl⟩
abbrev main_cst_103 : Ref sig .tc := ⟨.hbm, 346, rfl⟩
abbrev main_v227 : Ref sig .tc := ⟨.hbm, 347, rfl⟩
abbrev main_cst_104 : Ref sig .tc := ⟨.hbm, 348, rfl⟩
abbrev main_cst_105 : Ref sig .tc := ⟨.hbm, 349, rfl⟩
abbrev main_v228 : Ref sig .tc := ⟨.hbm, 350, rfl⟩
abbrev main_v229 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_cst_106 : Ref sig .tc := ⟨.hbm, 357, rfl⟩
abbrev main_v235 : Ref sig .tc := ⟨.hbm, 358, rfl⟩
abbrev main_cst_107 : Ref sig .tc := ⟨.hbm, 359, rfl⟩
abbrev main_v236 : Ref sig .tc := ⟨.hbm, 360, rfl⟩
abbrev main_cst_108 : Ref sig .tc := ⟨.hbm, 361, rfl⟩
abbrev main_v237 : Ref sig .tc := ⟨.hbm, 362, rfl⟩
abbrev main_v238 : Ref sig .tc := ⟨.hbm, 363, rfl⟩
abbrev main_cst_109 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_cst_110 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_cst_111 : Ref sig .tc := ⟨.hbm, 374, rfl⟩
abbrev main_v247 : Ref sig .tc := ⟨.hbm, 375, rfl⟩
abbrev main_cst_112 : Ref sig .tc := ⟨.hbm, 376, rfl⟩
abbrev main_call10_v0 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩

abbrev nD : Nat := 1
abbrev τ : Topo := Topo.v7x

variable {F : FTy → Type} [FloatOps F]
-- ==== Proof.Ece.Clean.lean ====
/-
  The kernel's half-block step, written once. A tile works through half-blocks of 64 rows. For each it takes the
  maximum of every row's sixteen logits (`maxHalf`), and one half-block later it turns the maxima into confidences,
  looks the labels' logits up and adds into the tile's accumulator (`finish`). The printed body spells these
  operations out at every place they stand; the theorems of Text.lean say that each such place is one of these.
-/
module

public import proofs.«01_k».proof.Proof.Gen.KernelIdeal
public import proofs.«01_k».proof.Proof.Gen.KernelIdeal.Skeleton

@[expose] public section

noncomputable section

namespace Cert.Proof.Ece

open Cert.KernelIdeal Cert.KernelIdeal.Gen
open Idealize.ShloMosaic Idealize.SL.Sem
open Idealize.ShloMosaic.SparseCore (S V T)

variable {F : FTy → Type} [FloatOps F]

/-- The programs of the tile at grid coordinates `i`. -/
abbrev TileProg (F : FTy → Type) (i : grid0.Coords) (α : Type) : Type 1 :=
  Prog (TpuEff nD τ sig (Elt F) Λ₀ (.scVector ((i 0).castLE hcore0) ((i 1).castLE hsub0))) α

/-- A word of offsets at which sixteen entries lie inside a row of `n`. -/
structure Off (n : Nat) where
  o : Fin 1 → Nat
  inb : ∀ a, o a + S16.size a ≤ (⟨1, ![n]⟩ : Shape).size a

/-- The side condition of an indexed access to a row of `n` entries, as the program states it. -/
structure Chk (n : Nat) where
  C : IVec S16 32 → Prop
  dec : ∀ v, Decidable (C v)
  inb : ∀ v, C v → ∀ a x, ((![v] : Fin 1 → IVec S16 32) a x).toNat < (⟨1, ![n]⟩ : Shape).size a
  ok : ∀ v, (∀ x, (v x).toNat < n) → C v

variable {i : grid0.Coords}

abbrev ldF (m : Memref sig .scVector .vmem S49152 .f32) (r : Off 49152) : TileProg F i (Vec F S16 .f32) :=
  Prog.lift (.load m (Rect.unit (s := S49152) r.o S16.size r.inb).toLoadRect (View.loadsAt_vmem h_S16))

abbrev ldI (m : Memref sig .scVector .vmem S3072 .i32) (r : Off 3072) : TileProg F i (Vec F S16 .i32) :=
  Prog.lift (.load m (Rect.unit (s := S3072) r.o S16.size r.inb).toLoadRect (View.loadsAt_vmem h_S16))

/-- The maxima of sixteen rows: one load per class, the maximum of the sixteen. -/
def maxG (m : Memref sig .scVector .vmem S49152 .f32) (r : Fin 2 → Fin 8 → Off 49152) : TileProg F i (FVec F S16 .f32) := do
  let a0 ← ldF m (r 0 0)
  let a1 ← ldF m (r 0 1)
  let a2 ← ldF m (r 0 2)
  let a3 ← ldF m (r 0 3)
  let a4 ← ldF m (r 0 4)
  let a5 ← ldF m (r 0 5)
  let a6 ← ldF m (r 0 6)
  let a7 ← ldF m (r 0 7)
  let a8 ← ldF m (r 1 0)
  let a9 ← ldF m (r 1 1)
  let a10 ← ldF m (r 1 2)
  let a11 ← ldF m (r 1 3)
  let a12 ← ldF m (r 1 4)
  let a13 ← ldF m (r 1 5)
  let a14 ← ldF m (r 1 6)
  let a15 ← ldF m (r 1 7)
  pure (maximumf (maximumf (maximumf (maximumf a0 a1) (maximumf a2 a3)) (maximumf (maximumf a4 a5) (maximumf a6 a7)))
    (maximumf (maximumf (maximumf a8 a9) (maximumf a10 a11)) (maximumf (maximumf a12 a13) (maximumf a14 a15))))

abbrev Four (F : FTy → Type) : Type := FVec F S16 .f32 × FVec F S16 .f32 × FVec F S16 .f32 × FVec F S16 .f32

/-- The maxima of a half-block's 64 rows. -/
def maxHalf (m : Memref sig .scVector .vmem S49152 .f32) (r : Fin 4 → Fin 2 → Fin 8 → Off 49152) : TileProg F i (Four F) := do
  let m0 ← maxG m (r 0)
  let m1 ← maxG m (r 1)
  let m2 ← maxG m (r 2)
  let m3 ← maxG m (r 3)
  pure (m0, m1, m2, m3)

/-- The confidences of sixteen rows whose maxima are `m`. -/
def confOf (m : FVec F S16 .f32) : FVec F S16 .f32 :=
  divf (broadcast S16 (Scalar.ofBits .f32 0x3F800000#32))
    (addf (broadcast S16 (Scalar.ofBits .f32 0x3F800000#32)) (exp (subf (broadcast S16 (Scalar.ofBits .f32 0x00000000#32)) m)))

/-- Where the labels' logits of sixteen rows lie in a buffer whose rows start at `b`. -/
def labIdx (lane : IVec S16 32) (b : BitVec 32) (l : IVec S16 32) : IVec S16 32 :=
  addi (addi (addi (broadcast S16 b) lane) (muli (shrsi l (broadcast S16 3#32)) (broadcast S16 24576#32)))
    (muli (andi l (broadcast S16 7#32)) (broadcast S16 128#32))

/-- Where the count of the rows' bins lies in the accumulator. -/
def binIdx (lane : IVec S16 32) (conf : FVec F S16 .f32) : IVec S16 32 :=
  addi (muli (minsi (fptosi 32 (mulf conf (broadcast S16 (Scalar.ofBits .f32 0x41200000#32)))) (broadcast S16 9#32)) (broadcast S16 16#32)) lane

/-- One where the label's logit is the row's maximum, zero elsewhere. -/
def hitOf (m x : FVec F S16 .f32) : FVec F S16 .f32 :=
  select (cmpf .oeq x m) (broadcast S16 (Scalar.ofBits .f32 0x3F800000#32)) (broadcast S16 (Scalar.ofBits .f32 0x00000000#32))

/-- The labels' logits of sixteen rows. -/
def gath (m : Memref sig .scVector .vmem S49152 .f32) (K : Chk 49152) (v : IVec S16 32) : TileProg F i (FVec F S16 .f32) := do
  have h : K.C v := (← Prog.lift (TpuEff.assume (K.C v) (K.dec v))).down
  let x : Vec F S16 .f32 ← SparseCore.vectorLoadIdx m ![v] (K.inb v h) (View.loads_vmem h_S49152)
  pure x

/-- One indexed addition into the accumulator. -/
def scat (acc : Memref sig .scVector .vmem S480 .f32) (K : Chk 480) (v : IVec S16 32) (w : FVec F S16 .f32) : TileProg F i PUnit := do
  have h : K.C v := (← Prog.lift (TpuEff.assume (K.C v) (K.dec v))).down
  SparseCore.vectorStoreIdx acc ![v] w (fun _ => 1#1) true (K.inb v h) (View.stores_vmem_bits_univ h_S480 rfl)

/-- The three additions of sixteen rows: one into the count, the confidence, the hit. -/
def scat3 (acc : Memref sig .scVector .vmem S480 .f32) (K : Fin 3 → Chk 480) (lane : IVec S16 32) (ones m x : FVec F S16 .f32) :
    TileProg F i PUnit := do
  scat acc (K 0) (binIdx lane (confOf m)) ones
  scat acc (K 1) (addi (binIdx lane (confOf m)) (broadcast S16 160#32)) (confOf m)
  scat acc (K 2) (addi (binIdx lane (confOf m)) (broadcast S16 320#32)) (hitOf m x)

/-- The second step of a half-block, from its maxima. -/
def finish (m : Memref sig .scVector .vmem S49152 .f32) (lb : Memref sig .scVector .vmem S3072 .i32) (acc : Memref sig .scVector .vmem S480 .f32)
    (lane : IVec S16 32) (ones : FVec F S16 .f32) (ol : Fin 4 → Off 3072) (b : Fin 4 → BitVec 32) (G : Fin 4 → Chk 49152) (K : Fin 4 → Fin 3 → Chk 480)
    (ms : Four F) : TileProg F i PUnit := do
  let l0 ← ldI lb (ol 0)
  let l1 ← ldI lb (ol 1)
  let l2 ← ldI lb (ol 2)
  let l3 ← ldI lb (ol 3)
  let x0 ← gath m (G 0) (labIdx lane (b 0) l0)
  let x1 ← gath m (G 1) (labIdx lane (b 1) l1)
  let x2 ← gath m (G 2) (labIdx lane (b 2) l2)
  let x3 ← gath m (G 3) (labIdx lane (b 3) l3)
  scat3 acc (K 0) lane ones ms.1 x0
  scat3 acc (K 1) lane ones ms.2.1 x1
  scat3 acc (K 2) lane ones ms.2.2.1 x2
  scat3 acc (K 3) lane ones ms.2.2.2 x3

/-- A trip of the pipelined loop: the next half-block's maxima, then the last one's second step. -/
def trip (m : Memref sig .scVector .vmem S49152 .f32) (lb : Memref sig .scVector .vmem S3072 .i32) (acc : Memref sig .scVector .vmem S480 .f32)
    (lane : IVec S16 32) (ones : FVec F S16 .f32) (r : Fin 4 → Fin 2 → Fin 8 → Off 49152) (ol : Fin 4 → Off 3072) (b : Fin 4 → BitVec 32)
    (G : Fin 4 → Chk 49152) (K : Fin 4 → Fin 3 → Chk 480) (ms : Four F) : TileProg F i (Four F) := do
  let ms' ← maxHalf m r
  finish m lb acc lane ones ol b G K ms
  pure ms'

end Cert.Proof.Ece

end
-- ==== Proof.Ece.Sites.lean ====
/-
  The places of the printed body: which offsets each compute step reads at, and which side condition each indexed
  access states. One family of definitions per place; they differ only in the names the printed body gives them.
-/
module

public import proofs.«01_k».proof.Proof.Ece.Clean

@[expose] public section

noncomputable section

namespace Cert.Proof.Ece

open Cert.KernelIdeal Cert.KernelIdeal.Gen
open Idealize.ShloMosaic Idealize.SL.Sem

variable {F : FTy → Type} [FloatOps F]

/-- An indexed access's side condition, from the bound of every lane. -/
theorem chk_ok {n : Nat} (v : IVec S16 32) (h : ∀ x, (v x).toNat < n) :
    ∀ a x, ((![v] : Fin 1 → IVec S16 32) a x).toNat < (⟨1, ![n]⟩ : Shape).size a := by
  intro a x; fin_cases a; exact h x

/-- The first half-block's offsets in a buffer: group `t` of sixteen rows, half `h` of the classes, class `c`. -/
def rP (t : Fin 4) (h : Fin 2) (c : Fin 8) : Off 49152 :=
  ⟨![16 * t.val + 128 * c.val + 24576 * h.val], by intro a; fin_cases a; show 16 * t.val + 128 * c.val + 24576 * h.val + 16 ≤ 49152; omega⟩

/-- A last half-block's labels: they start at `n`. -/
def oF (n : Nat) (hn : n + 64 ≤ 3072) (t : Fin 4) : Off 3072 :=
  ⟨![n + 16 * t.val], by intro a; fin_cases a; show n + 16 * t.val + 16 ≤ 3072; omega⟩

/-- A last half-block's row bases: they start at `n`. -/
def bF (n : Nat) (t : Fin 4) : BitVec 32 := BitVec.ofNat 32 (n + 16 * t.val)

/-- The row bases of a trip: those of the half-block before the one it reads. -/
def bB (j : BitVec 32) (t : Fin 4) : BitVec 32 :=
  Scalar.addi (Scalar.addi (Scalar.muli (Scalar.shrsi (Scalar.subi j 1#32) 1#32) 1024#32) (Scalar.muli (Scalar.andi (Scalar.subi j 1#32) 1#32) 64#32))
    (BitVec.ofNat 32 (16 * t.val))

/-- The offsets of a trip of loop 2. -/
def r2 (k : Fin k0_t2_loop.trips) (t : Fin 4) (h : Fin 2) (c : Fin 8) : Off 49152 :=
  match h with
  | 0 => ⟨k0_off10 k (BitVec.ofNat 32 (16 * t.val)) (BitVec.ofNat 32 (128 * c.val)), k0_off10_inb k t c⟩
  | 1 => ⟨k0_off11 k (BitVec.ofNat 32 (16 * t.val)) (BitVec.ofNat 32 (128 * c.val)), k0_off11_inb k t c⟩

/-- The labels' offsets of a trip of loop 2. -/
def ol2 (k : Fin k0_t2_loop.trips) (t : Fin 4) : Off 3072 := ⟨k0_off12 k (BitVec.ofNat 32 (16 * t.val)), k0_off12_inb k t⟩

/-- The offsets of a trip of loop 3. -/
def r3 (k : Fin k0_t3_loop.trips) (t : Fin 4) (h : Fin 2) (c : Fin 8) : Off 49152 :=
  match h with
  | 0 => ⟨k0_off19 k (BitVec.ofNat 32 (16 * t.val)) (BitVec.ofNat 32 (128 * c.val)), k0_off19_inb k t c⟩
  | 1 => ⟨k0_off20 k (BitVec.ofNat 32 (16 * t.val)) (BitVec.ofNat 32 (128 * c.val)), k0_off20_inb k t c⟩

/-- The labels' offsets of a trip of loop 3. -/
def ol3 (k : Fin k0_t3_loop.trips) (t : Fin 4) : Off 3072 := ⟨k0_off21 k (BitVec.ofNat 32 (16 * t.val)), k0_off21_inb k t⟩

/-- The offsets of a trip of loop 4. -/
def r4 (k : Fin k0_t4_loop.trips) (t : Fin 4) (h : Fin 2) (c : Fin 8) : Off 49152 :=
  match h with
  | 0 => ⟨k0_off28 k (BitVec.ofNat 32 (16 * t.val)) (BitVec.ofNat 32 (128 * c.val)), k0_off28_inb k t c⟩
  | 1 => ⟨k0_off29 k (BitVec.ofNat 32 (16 * t.val)) (BitVec.ofNat 32 (128 * c.val)), k0_off29_inb k t c⟩

/-- The labels' offsets of a trip of loop 4. -/
def ol4 (k : Fin k0_t4_loop.trips) (t : Fin 4) : Off 3072 := ⟨k0_off30 k (BitVec.ofNat 32 (16 * t.val)), k0_off30_inb k t⟩

/-- The offsets of the extra block's one trip. -/
def rX (i : grid0.Coords) (h3 : k0_cond3 i = 1#1) (t : Fin 4) (h : Fin 2) (c : Fin 8) : Off 49152 :=
  match h with
  | 0 => ⟨k0_off34 (BitVec.ofNat 32 (16 * t.val)) (BitVec.ofNat 32 (128 * c.val)), k0_off34_inb i h3 t c⟩
  | 1 => ⟨k0_off35 (BitVec.ofNat 32 (16 * t.val)) (BitVec.ofNat 32 (128 * c.val)), k0_off35_inb i h3 t c⟩

/-- The labels' offsets of the extra block's one trip. -/
def olX (i : grid0.Coords) (h3 : k0_cond3 i = 1#1) (t : Fin 4) : Off 3072 := ⟨k0_off36 (BitVec.ofNat 32 (16 * t.val)), k0_off36_inb i h3 t⟩

/-- The side conditions of the label lookups of place 0. -/
def G0 (t : Fin 4) : Chk 49152 :=
  match t with
  | 0 => ⟨k0_chk1, k0_chk1.dec, k0_idx1_inb, chk_ok⟩
  | 1 => ⟨k0_chk2, k0_chk2.dec, k0_idx2_inb, chk_ok⟩
  | 2 => ⟨k0_chk3, k0_chk3.dec, k0_idx3_inb, chk_ok⟩
  | 3 => ⟨k0_chk4, k0_chk4.dec, k0_idx4_inb, chk_ok⟩

/-- The side conditions of the accumulations of place 0. -/
def K0 (t : Fin 4) (q : Fin 3) : Chk 480 :=
  match t, q with
  | 0, 0 => ⟨k0_chk5, k0_chk5.dec, k0_idx5_inb, chk_ok⟩
  | 0, 1 => ⟨k0_chk6, k0_chk6.dec, k0_idx6_inb, chk_ok⟩
  | 0, 2 => ⟨k0_chk7, k0_chk7.dec, k0_idx7_inb, chk_ok⟩
  | 1, 0 => ⟨k0_chk8, k0_chk8.dec, k0_idx8_inb, chk_ok⟩
  | 1, 1 => ⟨k0_chk9, k0_chk9.dec, k0_idx9_inb, chk_ok⟩
  | 1, 2 => ⟨k0_chk10, k0_chk10.dec, k0_idx10_inb, chk_ok⟩
  | 2, 0 => ⟨k0_chk11, k0_chk11.dec, k0_idx11_inb, chk_ok⟩
  | 2, 1 => ⟨k0_chk12, k0_chk12.dec, k0_idx12_inb, chk_ok⟩
  | 2, 2 => ⟨k0_chk13, k0_chk13.dec, k0_idx13_inb, chk_ok⟩
  | 3, 0 => ⟨k0_chk14, k0_chk14.dec, k0_idx14_inb, chk_ok⟩
  | 3, 1 => ⟨k0_chk15, k0_chk15.dec, k0_idx15_inb, chk_ok⟩
  | 3, 2 => ⟨k0_chk16, k0_chk16.dec, k0_idx16_inb, chk_ok⟩

/-- The side conditions of the label lookups of place 1. -/
def G1 (t : Fin 4) : Chk 49152 :=
  match t with
  | 0 => ⟨k0_chk17, k0_chk17.dec, k0_idx17_inb, chk_ok⟩
  | 1 => ⟨k0_chk18, k0_chk18.dec, k0_idx18_inb, chk_ok⟩
  | 2 => ⟨k0_chk19, k0_chk19.dec, k0_idx19_inb, chk_ok⟩
  | 3 => ⟨k0_chk20, k0_chk20.dec, k0_idx20_inb, chk_ok⟩

/-- The side conditions of the accumulations of place 1. -/
def K1 (t : Fin 4) (q : Fin 3) : Chk 480 :=
  match t, q with
  | 0, 0 => ⟨k0_chk21, k0_chk21.dec, k0_idx21_inb, chk_ok⟩
  | 0, 1 => ⟨k0_chk22, k0_chk22.dec, k0_idx22_inb, chk_ok⟩
  | 0, 2 => ⟨k0_chk23, k0_chk23.dec, k0_idx23_inb, chk_ok⟩
  | 1, 0 => ⟨k0_chk24, k0_chk24.dec, k0_idx24_inb, chk_ok⟩
  | 1, 1 => ⟨k0_chk25, k0_chk25.dec, k0_idx25_inb, chk_ok⟩
  | 1, 2 => ⟨k0_chk26, k0_chk26.dec, k0_idx26_inb, chk_ok⟩
  | 2, 0 => ⟨k0_chk27, k0_chk27.dec, k0_idx27_inb, chk_ok⟩
  | 2, 1 => ⟨k0_chk28, k0_chk28.dec, k0_idx28_inb, chk_ok⟩
  | 2, 2 => ⟨k0_chk29, k0_chk29.dec, k0_idx29_inb, chk_ok⟩
  | 3, 0 => ⟨k0_chk30, k0_chk30.dec, k0_idx30_inb, chk_ok⟩
  | 3, 1 => ⟨k0_chk31, k0_chk31.dec, k0_idx31_inb, chk_ok⟩
  | 3, 2 => ⟨k0_chk32, k0_chk32.dec, k0_idx32_inb, chk_ok⟩

/-- The side conditions of the label lookups of place 2. -/
def G2 (t : Fin 4) : Chk 49152 :=
  match t with
  | 0 => ⟨k0_chk33, k0_chk33.dec, k0_idx33_inb, chk_ok⟩
  | 1 => ⟨k0_chk34, k0_chk34.dec, k0_idx34_inb, chk_ok⟩
  | 2 => ⟨k0_chk35, k0_chk35.dec, k0_idx35_inb, chk_ok⟩
  | 3 => ⟨k0_chk36, k0_chk36.dec, k0_idx36_inb, chk_ok⟩

/-- The side conditions of the accumulations of place 2. -/
def K2 (t : Fin 4) (q : Fin 3) : Chk 480 :=
  match t, q with
  | 0, 0 => ⟨k0_chk37, k0_chk37.dec, k0_idx37_inb, chk_ok⟩
  | 0, 1 => ⟨k0_chk38, k0_chk38.dec, k0_idx38_inb, chk_ok⟩
  | 0, 2 => ⟨k0_chk39, k0_chk39.dec, k0_idx39_inb, chk_ok⟩
  | 1, 0 => ⟨k0_chk40, k0_chk40.dec, k0_idx40_inb, chk_ok⟩
  | 1, 1 => ⟨k0_chk41, k0_chk41.dec, k0_idx41_inb, chk_ok⟩
  | 1, 2 => ⟨k0_chk42, k0_chk42.dec, k0_idx42_inb, chk_ok⟩
  | 2, 0 => ⟨k0_chk43, k0_chk43.dec, k0_idx43_inb, chk_ok⟩
  | 2, 1 => ⟨k0_chk44, k0_chk44.dec, k0_idx44_inb, chk_ok⟩
  | 2, 2 => ⟨k0_chk45, k0_chk45.dec, k0_idx45_inb, chk_ok⟩
  | 3, 0 => ⟨k0_chk46, k0_chk46.dec, k0_idx46_inb, chk_ok⟩
  | 3, 1 => ⟨k0_chk47, k0_chk47.dec, k0_idx47_inb, chk_ok⟩
  | 3, 2 => ⟨k0_chk48, k0_chk48.dec, k0_idx48_inb, chk_ok⟩

/-- The side conditions of the label lookups of place 3. -/
def G3 (t : Fin 4) : Chk 49152 :=
  match t with
  | 0 => ⟨k0_chk49, k0_chk49.dec, k0_idx49_inb, chk_ok⟩
  | 1 => ⟨k0_chk50, k0_chk50.dec, k0_idx50_inb, chk_ok⟩
  | 2 => ⟨k0_chk51, k0_chk51.dec, k0_idx51_inb, chk_ok⟩
  | 3 => ⟨k0_chk52, k0_chk52.dec, k0_idx52_inb, chk_ok⟩

/-- The side conditions of the accumulations of place 3. -/
def K3 (t : Fin 4) (q : Fin 3) : Chk 480 :=
  match t, q with
  | 0, 0 => ⟨k0_chk53, k0_chk53.dec, k0_idx53_inb, chk_ok⟩
  | 0, 1 => ⟨k0_chk54, k0_chk54.dec, k0_idx54_inb, chk_ok⟩
  | 0, 2 => ⟨k0_chk55, k0_chk55.dec, k0_idx55_inb, chk_ok⟩
  | 1, 0 => ⟨k0_chk56, k0_chk56.dec, k0_idx56_inb, chk_ok⟩
  | 1, 1 => ⟨k0_chk57, k0_chk57.dec, k0_idx57_inb, chk_ok⟩
  | 1, 2 => ⟨k0_chk58, k0_chk58.dec, k0_idx58_inb, chk_ok⟩
  | 2, 0 => ⟨k0_chk59, k0_chk59.dec, k0_idx59_inb, chk_ok⟩
  | 2, 1 => ⟨k0_chk60, k0_chk60.dec, k0_idx60_inb, chk_ok⟩
  | 2, 2 => ⟨k0_chk61, k0_chk61.dec, k0_idx61_inb, chk_ok⟩
  | 3, 0 => ⟨k0_chk62, k0_chk62.dec, k0_idx62_inb, chk_ok⟩
  | 3, 1 => ⟨k0_chk63, k0_chk63.dec, k0_idx63_inb, chk_ok⟩
  | 3, 2 => ⟨k0_chk64, k0_chk64.dec, k0_idx64_inb, chk_ok⟩

/-- The side conditions of the label lookups of place 4. -/
def G4 (t : Fin 4) : Chk 49152 :=
  match t with
  | 0 => ⟨k0_chk65, k0_chk65.dec, k0_idx65_inb, chk_ok⟩
  | 1 => ⟨k0_chk66, k0_chk66.dec, k0_idx66_inb, chk_ok⟩
  | 2 => ⟨k0_chk67, k0_chk67.dec, k0_idx67_inb, chk_ok⟩
  | 3 => ⟨k0_chk68, k0_chk68.dec, k0_idx68_inb, chk_ok⟩

/-- The side conditions of the accumulations of place 4. -/
def K4 (t : Fin 4) (q : Fin 3) : Chk 480 :=
  match t, q with
  | 0, 0 => ⟨k0_chk69, k0_chk69.dec, k0_idx69_inb, chk_ok⟩
  | 0, 1 => ⟨k0_chk70, k0_chk70.dec, k0_idx70_inb, chk_ok⟩
  | 0, 2 => ⟨k0_chk71, k0_chk71.dec, k0_idx71_inb, chk_ok⟩
  | 1, 0 => ⟨k0_chk72, k0_chk72.dec, k0_idx72_inb, chk_ok⟩
  | 1, 1 => ⟨k0_chk73, k0_chk73.dec, k0_idx73_inb, chk_ok⟩
  | 1, 2 => ⟨k0_chk74, k0_chk74.dec, k0_idx74_inb, chk_ok⟩
  | 2, 0 => ⟨k0_chk75, k0_chk75.dec, k0_idx75_inb, chk_ok⟩
  | 2, 1 => ⟨k0_chk76, k0_chk76.dec, k0_idx76_inb, chk_ok⟩
  | 2, 2 => ⟨k0_chk77, k0_chk77.dec, k0_idx77_inb, chk_ok⟩
  | 3, 0 => ⟨k0_chk78, k0_chk78.dec, k0_idx78_inb, chk_ok⟩
  | 3, 1 => ⟨k0_chk79, k0_chk79.dec, k0_idx79_inb, chk_ok⟩
  | 3, 2 => ⟨k0_chk80, k0_chk80.dec, k0_idx80_inb, chk_ok⟩

/-- The side conditions of the label lookups of place 5. -/
def G5 (t : Fin 4) : Chk 49152 :=
  match t with
  | 0 => ⟨k0_chk81, k0_chk81.dec, k0_idx81_inb, chk_ok⟩
  | 1 => ⟨k0_chk82, k0_chk82.dec, k0_idx82_inb, chk_ok⟩
  | 2 => ⟨k0_chk83, k0_chk83.dec, k0_idx83_inb, chk_ok⟩
  | 3 => ⟨k0_chk84, k0_chk84.dec, k0_idx84_inb, chk_ok⟩

/-- The side conditions of the accumulations of place 5. -/
def K5 (t : Fin 4) (q : Fin 3) : Chk 480 :=
  match t, q with
  | 0, 0 => ⟨k0_chk85, k0_chk85.dec, k0_idx85_inb, chk_ok⟩
  | 0, 1 => ⟨k0_chk86, k0_chk86.dec, k0_idx86_inb, chk_ok⟩
  | 0, 2 => ⟨k0_chk87, k0_chk87.dec, k0_idx87_inb, chk_ok⟩
  | 1, 0 => ⟨k0_chk88, k0_chk88.dec, k0_idx88_inb, chk_ok⟩
  | 1, 1 => ⟨k0_chk89, k0_chk89.dec, k0_idx89_inb, chk_ok⟩
  | 1, 2 => ⟨k0_chk90, k0_chk90.dec, k0_idx90_inb, chk_ok⟩
  | 2, 0 => ⟨k0_chk91, k0_chk91.dec, k0_idx91_inb, chk_ok⟩
  | 2, 1 => ⟨k0_chk92, k0_chk92.dec, k0_idx92_inb, chk_ok⟩
  | 2, 2 => ⟨k0_chk93, k0_chk93.dec, k0_idx93_inb, chk_ok⟩
  | 3, 0 => ⟨k0_chk94, k0_chk94.dec, k0_idx94_inb, chk_ok⟩
  | 3, 1 => ⟨k0_chk95, k0_chk95.dec, k0_idx95_inb, chk_ok⟩
  | 3, 2 => ⟨k0_chk96, k0_chk96.dec, k0_idx96_inb, chk_ok⟩

/-- The side conditions of the label lookups of place 6. -/
def G6 (i : grid0.Coords) (h3 : k0_cond3 i = 1#1) (t : Fin 4) : Chk 49152 :=
  match t with
  | 0 => ⟨k0_chk97 i, k0_chk97.dec i, fun v h => k0_idx97_inb i v h h3, fun v h _ => chk_ok v h⟩
  | 1 => ⟨k0_chk98 i, k0_chk98.dec i, fun v h => k0_idx98_inb i v h h3, fun v h _ => chk_ok v h⟩
  | 2 => ⟨k0_chk99 i, k0_chk99.dec i, fun v h => k0_idx99_inb i v h h3, fun v h _ => chk_ok v h⟩
  | 3 => ⟨k0_chk100 i, k0_chk100.dec i, fun v h => k0_idx100_inb i v h h3, fun v h _ => chk_ok v h⟩

/-- The side conditions of the accumulations of place 6. -/
def K6 (i : grid0.Coords) (h3 : k0_cond3 i = 1#1) (t : Fin 4) (q : Fin 3) : Chk 480 :=
  match t, q with
  | 0, 0 => ⟨k0_chk101 i, k0_chk101.dec i, fun v h => k0_idx101_inb i v h h3, fun v h _ => chk_ok v h⟩
  | 0, 1 => ⟨k0_chk102 i, k0_chk102.dec i, fun v h => k0_idx102_inb i v h h3, fun v h _ => chk_ok v h⟩
  | 0, 2 => ⟨k0_chk103 i, k0_chk103.dec i, fun v h => k0_idx103_inb i v h h3, fun v h _ => chk_ok v h⟩
  | 1, 0 => ⟨k0_chk104 i, k0_chk104.dec i, fun v h => k0_idx104_inb i v h h3, fun v h _ => chk_ok v h⟩
  | 1, 1 => ⟨k0_chk105 i, k0_chk105.dec i, fun v h => k0_idx105_inb i v h h3, fun v h _ => chk_ok v h⟩
  | 1, 2 => ⟨k0_chk106 i, k0_chk106.dec i, fun v h => k0_idx106_inb i v h h3, fun v h _ => chk_ok v h⟩
  | 2, 0 => ⟨k0_chk107 i, k0_chk107.dec i, fun v h => k0_idx107_inb i v h h3, fun v h _ => chk_ok v h⟩
  | 2, 1 => ⟨k0_chk108 i, k0_chk108.dec i, fun v h => k0_idx108_inb i v h h3, fun v h _ => chk_ok v h⟩
  | 2, 2 => ⟨k0_chk109 i, k0_chk109.dec i, fun v h => k0_idx109_inb i v h h3, fun v h _ => chk_ok v h⟩
  | 3, 0 => ⟨k0_chk110 i, k0_chk110.dec i, fun v h => k0_idx110_inb i v h h3, fun v h _ => chk_ok v h⟩
  | 3, 1 => ⟨k0_chk111 i, k0_chk111.dec i, fun v h => k0_idx111_inb i v h h3, fun v h _ => chk_ok v h⟩
  | 3, 2 => ⟨k0_chk112 i, k0_chk112.dec i, fun v h => k0_idx112_inb i v h h3, fun v h _ => chk_ok v h⟩

/-- The side conditions of the label lookups of place 7. -/
def G7 (i : grid0.Coords) (h3 : k0_cond3 i = 1#1) (t : Fin 4) : Chk 49152 :=
  match t with
  | 0 => ⟨k0_chk113 i, k0_chk113.dec i, fun v h => k0_idx113_inb i v h h3, fun v h _ => chk_ok v h⟩
  | 1 => ⟨k0_chk114 i, k0_chk114.dec i, fun v h => k0_idx114_inb i v h h3, fun v h _ => chk_ok v h⟩
  | 2 => ⟨k0_chk115 i, k0_chk115.dec i, fun v h => k0_idx115_inb i v h h3, fun v h _ => chk_ok v h⟩
  | 3 => ⟨k0_chk116 i, k0_chk116.dec i, fun v h => k0_idx116_inb i v h h3, fun v h _ => chk_ok v h⟩

/-- The side conditions of the accumulations of place 7. -/
def K7 (i : grid0.Coords) (h3 : k0_cond3 i = 1#1) (t : Fin 4) (q : Fin 3) : Chk 480 :=
  match t, q with
  | 0, 0 => ⟨k0_chk117 i, k0_chk117.dec i, fun v h => k0_idx117_inb i v h h3, fun v h _ => chk_ok v h⟩
  | 0, 1 => ⟨k0_chk118 i, k0_chk118.dec i, fun v h => k0_idx118_inb i v h h3, fun v h _ => chk_ok v h⟩
  | 0, 2 => ⟨k0_chk119 i, k0_chk119.dec i, fun v h => k0_idx119_inb i v h h3, fun v h _ => chk_ok v h⟩
  | 1, 0 => ⟨k0_chk120 i, k0_chk120.dec i, fun v h => k0_idx120_inb i v h h3, fun v h _ => chk_ok v h⟩
  | 1, 1 => ⟨k0_chk121 i, k0_chk121.dec i, fun v h => k0_idx121_inb i v h h3, fun v h _ => chk_ok v h⟩
  | 1, 2 => ⟨k0_chk122 i, k0_chk122.dec i, fun v h => k0_idx122_inb i v h h3, fun v h _ => chk_ok v h⟩
  | 2, 0 => ⟨k0_chk123 i, k0_chk123.dec i, fun v h => k0_idx123_inb i v h h3, fun v h _ => chk_ok v h⟩
  | 2, 1 => ⟨k0_chk124 i, k0_chk124.dec i, fun v h => k0_idx124_inb i v h h3, fun v h _ => chk_ok v h⟩
  | 2, 2 => ⟨k0_chk125 i, k0_chk125.dec i, fun v h => k0_idx125_inb i v h h3, fun v h _ => chk_ok v h⟩
  | 3, 0 => ⟨k0_chk126 i, k0_chk126.dec i, fun v h => k0_idx126_inb i v h h3, fun v h _ => chk_ok v h⟩
  | 3, 1 => ⟨k0_chk127 i, k0_chk127.dec i, fun v h => k0_idx127_inb i v h h3, fun v h _ => chk_ok v h⟩
  | 3, 2 => ⟨k0_chk128 i, k0_chk128.dec i, fun v h => k0_idx128_inb i v h h3, fun v h _ => chk_ok v h⟩

/-- A chunk's steps: the first half-block's maxima, a trip for each further half-block, the last one's second step. -/
def chunkF {i : grid0.Coords} (L : Scf.Loop 32) (ok : L.OK)
    (m : Memref sig .scVector .vmem S49152 .f32) (lb : Memref sig .scVector .vmem S3072 .i32) (acc : Memref sig .scVector .vmem S480 .f32)
    (lane : IVec S16 32) (ones : FVec F S16 .f32)
    (r : Fin L.trips → Fin 4 → Fin 2 → Fin 8 → Off 49152) (ol : Fin L.trips → Fin 4 → Off 3072) (b : Fin L.trips → Fin 4 → BitVec 32)
    (G : Fin 4 → Chk 49152) (K : Fin 4 → Fin 3 → Chk 480)
    (olF : Fin 4 → Off 3072) (b' : Fin 4 → BitVec 32) (G' : Fin 4 → Chk 49152) (K' : Fin 4 → Fin 3 → Chk 480) : TileProg F i PUnit := do
  let ms ← maxHalf m rP
  let ms' ← Scf.Loop.for L ok ms (fun k ms => trip m lb acc lane ones (r k) (ol k) (b k) G K ms)
  finish m lb acc lane ones olF b' G' K' ms'

/-- A chunk of two half-blocks, its one trip written out. -/
def chunkX {i : grid0.Coords} (m : Memref sig .scVector .vmem S49152 .f32) (lb : Memref sig .scVector .vmem S3072 .i32) (acc : Memref sig .scVector .vmem S480 .f32)
    (lane : IVec S16 32) (ones : FVec F S16 .f32)
    (r : Fin 4 → Fin 2 → Fin 8 → Off 49152) (ol : Fin 4 → Off 3072) (b : Fin 4 → BitVec 32) (G : Fin 4 → Chk 49152) (K : Fin 4 → Fin 3 → Chk 480)
    (olF : Fin 4 → Off 3072) (b' : Fin 4 → BitVec 32) (G' : Fin 4 → Chk 49152) (K' : Fin 4 → Fin 3 → Chk 480) : TileProg F i PUnit := do
  let ms ← maxHalf m rP
  let ms' ← trip m lb acc lane ones r ol b G K ms
  finish m lb acc lane ones olF b' G' K' ms'

/-- The lanes' numbers. -/
abbrev lanes : IVec S16 32 := iota .scVector S16 32 [0] iota_S16_d0_w32_scVector

/-- Sixteen ones. -/
abbrev ones16 : FVec F S16 .f32 := broadcast S16 (Scalar.ofBits .f32 0x3F800000#32)

/-- Sixteen zeros. -/
abbrev zeros16 : FVec F S16 .f32 := broadcast S16 (Scalar.ofBits .f32 0x00000000#32)

end Cert.Proof.Ece

end
-- ==== Proof.Ece.Pipe.lean ====
/-
  The kernel's copies, written once, and the whole of a tile's program over them: two slots of buffers, each filled
  by two copies of logits and one of labels, worked through in turn.
-/
module

public import proofs.«01_k».proof.Proof.Ece.Sites

@[expose] public section

noncomputable section

namespace Cert.Proof.Ece

open Cert.KernelIdeal Cert.KernelIdeal.Gen
open Idealize.ShloMosaic Idealize.SL.Sem

variable {F : FTy → Type} [FloatOps F]

/-- A window of `n` entries of a row of `N`. -/
structure Win (N n : Nat) where
  o : Fin 1 → Nat
  inb : ∀ a, o a + (⟨1, ![n]⟩ : Shape).size a ≤ (⟨1, ![N]⟩ : Shape).size a

/-- The window of `n` entries at `p`. -/
abbrev winAt (N n p : Nat) (h : p + n ≤ N) : Win N n := ⟨![p], by intro a; fin_cases a; exact h⟩

variable {i : grid0.Coords}

abbrev winF {sp : Space} {N n : Nat} (m : Memref sig .scVector sp ⟨1, ![N]⟩ .f32) (w : Win N n) : Memref sig .scVector sp ⟨1, ![n]⟩ .f32 :=
  m.slice (Rect.unit (s := ⟨1, ![N]⟩) w.o (⟨1, ![n]⟩ : Shape).size w.inb) (fun _ => rfl)

abbrev winI {sp : Space} {N n : Nat} (m : Memref sig .scVector sp ⟨1, ![N]⟩ .i32) (w : Win N n) : Memref sig .scVector sp ⟨1, ![n]⟩ .i32 :=
  m.slice (Rect.unit (s := ⟨1, ![N]⟩) w.o (⟨1, ![n]⟩ : Shape).size w.inb) (fun _ => rfl)

/-- Start a copy of logits. -/
abbrev cpF {n : Nat} (src : Memref sig .scVector .hbm S32000000 .f32) (w : Win 32000000 n) (dst : Memref sig .scVector .vmem S49152 .f32) (d : Win 49152 n)
    (sem : DmaSems sig S_) : TileProg F i PUnit :=
  Prog.lift (.enqueueDma (winF src w) (.here (winF dst d)) (.dma sem.sem) (View.wordExact_bits rfl) (View.wordExact_bits rfl) ⟨Or.inl rfl, trivial⟩)

/-- Start a copy of labels. -/
abbrev cpI {n : Nat} (src : Memref sig .scVector .hbm S2000000 .i32) (w : Win 2000000 n) (dst : Memref sig .scVector .vmem S3072 .i32) (d : Win 3072 n)
    (sem : DmaSems sig S_) : TileProg F i PUnit :=
  Prog.lift (.enqueueDma (winI src w) (.here (winI dst d)) (.dma sem.sem) (View.wordExact_bits rfl) (View.wordExact_bits rfl) ⟨Or.inl rfl, trivial⟩)

/-- Wait for a copy of logits. -/
abbrev wtF {n : Nat} (src : Memref sig .scVector .hbm S32000000 .f32) (w : Win 32000000 n) (dst : Memref sig .scVector .vmem S49152 .f32) (d : Win 49152 n)
    (sem : DmaSems sig S_) : TileProg F i PUnit :=
  Prog.lift (.waitDma2 sem.sem (winF src w) (winF dst d) (View.wordExact_bits rfl) (View.wordExact_bits rfl))

/-- Wait for a copy of labels. -/
abbrev wtI {n : Nat} (src : Memref sig .scVector .hbm S2000000 .i32) (w : Win 2000000 n) (dst : Memref sig .scVector .vmem S3072 .i32) (d : Win 3072 n)
    (sem : DmaSems sig S_) : TileProg F i PUnit :=
  Prog.lift (.waitDma2 sem.sem (winI src w) (winI dst d) (View.wordExact_bits rfl) (View.wordExact_bits rfl))

/-- Start a chunk's three copies: the two halves of its logits and its labels. -/
def start {n l : Nat} (hn : 24576 + n ≤ 49152) (hl : 0 + l ≤ 3072)
    (flat : Memref sig .scVector .hbm S32000000 .f32) (lab : Memref sig .scVector .hbm S2000000 .i32)
    (m : Memref sig .scVector .vmem S49152 .f32) (lb : Memref sig .scVector .vmem S3072 .i32) (sem lsem : DmaSems sig S_)
    (a b : Win 32000000 n) (c : Win 2000000 l) : TileProg F i PUnit := do
  cpF flat a m (winAt 49152 n 0 (by omega)) sem
  cpF flat b m (winAt 49152 n 24576 hn) sem
  cpI lab c lb (winAt 3072 l 0 hl) lsem

/-- Wait for a chunk's three copies. -/
def await {n l : Nat} (hn : 24576 + n ≤ 49152) (hl : 0 + l ≤ 3072)
    (flat : Memref sig .scVector .hbm S32000000 .f32) (lab : Memref sig .scVector .hbm S2000000 .i32)
    (m : Memref sig .scVector .vmem S49152 .f32) (lb : Memref sig .scVector .vmem S3072 .i32) (sem lsem : DmaSems sig S_)
    (a b : Win 32000000 n) (c : Win 2000000 l) : TileProg F i PUnit := do
  wtF flat a m (winAt 49152 n 0 (by omega)) sem
  wtF flat b m (winAt 49152 n 24576 hn) sem
  wtI lab c lb (winAt 3072 l 0 hl) lsem

/-- A whole chunk's program on slot 0. -/
def chunk0 (m : Memref sig .scVector .vmem S49152 .f32) (lb : Memref sig .scVector .vmem S3072 .i32) (acc : Memref sig .scVector .vmem S480 .f32)
    (lane : IVec S16 32) (ones : FVec F S16 .f32) : TileProg F i PUnit :=
  chunkF k0_t2_loop k0_t2_ok m lb acc lane ones r2 ol2 (fun k => bB (Scf.iv 1#32 1#32 k.val)) G0 K0 (oF 3008 (by omega)) (bF 23616) G1 K1

/-- A whole chunk's program on slot 1. -/
def chunk1 (m : Memref sig .scVector .vmem S49152 .f32) (lb : Memref sig .scVector .vmem S3072 .i32) (acc : Memref sig .scVector .vmem S480 .f32)
    (lane : IVec S16 32) (ones : FVec F S16 .f32) : TileProg F i PUnit :=
  chunkF k0_t3_loop k0_t3_ok m lb acc lane ones r3 ol3 (fun k => bB (Scf.iv 1#32 1#32 k.val)) G2 K2 (oF 3008 (by omega)) (bF 23616) G3 K3

/-- The short chunk's program. -/
def chunkT (m : Memref sig .scVector .vmem S49152 .f32) (lb : Memref sig .scVector .vmem S3072 .i32) (acc : Memref sig .scVector .vmem S480 .f32)
    (lane : IVec S16 32) (ones : FVec F S16 .f32) : TileProg F i PUnit :=
  chunkF k0_t4_loop k0_t4_ok m lb acc lane ones r4 ol4 (fun k => bB (Scf.iv 1#32 1#32 k.val)) G4 K4 (oF 960 (by omega)) (bF 7232) G5 K5

/-- The extra block's program. -/
def chunkE (h3 : k0_cond3 i = 1#1) (m : Memref sig .scVector .vmem S49152 .f32) (lb : Memref sig .scVector .vmem S3072 .i32) (acc : Memref sig .scVector .vmem S480 .f32)
    (lane : IVec S16 32) (ones : FVec F S16 .f32) : TileProg F i PUnit :=
  chunkX m lb acc lane ones (rX i h3) (olX i h3) (bB 1#32) (G6 i h3) (K6 i h3) (oF 64 (by omega)) (bF 64) (G7 i h3) (K7 i h3)

/-- Slot 0 started again, while chunks are left. -/
def refill0 (flat : Memref sig .scVector .hbm S32000000 .f32) (lab : Memref sig .scVector .hbm S2000000 .i32)
    (m : Memref sig .scVector .vmem S49152 .f32) (lb : Memref sig .scVector .vmem S3072 .i32) (sem lsem : DmaSems sig S_) (k : Fin k0_t1_loop.trips) : TileProg F i PUnit :=
  if h : k0_cond1 k = 1#1 then
    start (n := 24576) (l := 3072) (by omega) (by omega) flat lab m lb sem lsem ⟨k0_off13 i k, k0_off13_inb i k h⟩ ⟨k0_off14 i k, k0_off14_inb i k h⟩ ⟨k0_off15 i k, k0_off15_inb i k h⟩
  else pure ⟨⟩

/-- Slot 1 started again, while chunks are left. -/
def refill1 (flat : Memref sig .scVector .hbm S32000000 .f32) (lab : Memref sig .scVector .hbm S2000000 .i32)
    (m : Memref sig .scVector .vmem S49152 .f32) (lb : Memref sig .scVector .vmem S3072 .i32) (sem lsem : DmaSems sig S_) (k : Fin k0_t1_loop.trips) : TileProg F i PUnit :=
  if h : k0_cond2 k = 1#1 then
    start (n := 24576) (l := 3072) (by omega) (by omega) flat lab m lb sem lsem ⟨k0_off22 i k, k0_off22_inb i k h⟩ ⟨k0_off23 i k, k0_off23_inb i k h⟩ ⟨k0_off24 i k, k0_off24_inb i k h⟩
  else pure ⟨⟩

/-- A trip of the double-buffered loop: a chunk on each slot, each slot refilled for two chunks on. -/
def pair (flat : Memref sig .scVector .hbm S32000000 .f32) (lab : Memref sig .scVector .hbm S2000000 .i32)
    (m0 m1 : Memref sig .scVector .vmem S49152 .f32) (l0 l1 : Memref sig .scVector .vmem S3072 .i32) (acc : Memref sig .scVector .vmem S480 .f32)
    (s0 s1 t0 t1 : DmaSems sig S_) (lane : IVec S16 32) (ones : FVec F S16 .f32) (k : Fin k0_t1_loop.trips) : TileProg F i PUnit := do
  await (n := 24576) (l := 3072) (by omega) (by omega) flat lab m0 l0 s0 t0 ⟨k0_off7 i k, k0_off7_inb i k⟩ ⟨k0_off8 i k, k0_off8_inb i k⟩ ⟨k0_off9 i k, k0_off9_inb i k⟩
  chunk0 m0 l0 acc lane ones
  refill0 flat lab m0 l0 s0 t0 k
  await (n := 24576) (l := 3072) (by omega) (by omega) flat lab m1 l1 s1 t1 ⟨k0_off16 i k, k0_off16_inb i k⟩ ⟨k0_off17 i k, k0_off17_inb i k⟩ ⟨k0_off18 i k, k0_off18_inb i k⟩
  chunk1 m1 l1 acc lane ones
  refill1 flat lab m1 l1 s1 t1 k

/-- Zero the last `n` sixteens of the accumulator, from the `k`-th on. -/
def zeroFrom (acc : Memref sig .scVector .vmem S480 .f32) : (n k : Nat) → k + n = 30 → TileProg F i PUnit
  | 0, _, _ => pure ⟨⟩
  | n + 1, k, h => do
    let _x : Vec F S16 .f32 ← Prog.lift (.load acc (Rect.unit (s := S480) ![16 * k] S16.size (by intro a; fin_cases a; show 16 * k + 16 ≤ 480; omega)).toLoadRect (View.loadsAt_vmem h_S16))
    Prog.lift (.store acc (Rect.unit (s := S480) ![16 * k] S16.size (by intro a; fin_cases a; show 16 * k + 16 ≤ 480; omega)) zeros16 Finset.univ (View.stores_vmem_bits_univ h_S16 rfl) (.inl rfl))
    zeroFrom acc n (k + 1) (by omega)

/-- The tile's row of the result. -/
abbrev rowOf (out : Memref sig .scVector .hbm S32x480 .f32) : Memref sig .scVector .hbm S480 .f32 :=
  (out.slice (Rect.unit (s := S32x480) (k0_off37 i) S1x480.size (k0_off37_inb i)) (fun _ => rfl)).squeeze S480 squeezes_S1x480_S480

/-- The extra block: its copies started and waited for, and worked through. -/
def extra (flat : Memref sig .scVector .hbm S32000000 .f32) (lab : Memref sig .scVector .hbm S2000000 .i32)
    (m : Memref sig .scVector .vmem S49152 .f32) (lb : Memref sig .scVector .vmem S3072 .i32) (acc : Memref sig .scVector .vmem S480 .f32)
    (sem lsem : DmaSems sig S_) (lane : IVec S16 32) (ones : FVec F S16 .f32) (h : k0_cond3 i = 1#1) : TileProg F i PUnit := do
  start (n := 1024) (l := 128) (by omega) (by omega) flat lab m lb sem lsem ⟨k0_off31 i, k0_off31_inb i h⟩ ⟨k0_off32 i, k0_off32_inb i h⟩ ⟨k0_off33 i, k0_off33_inb i h⟩
  await (n := 1024) (l := 128) (by omega) (by omega) flat lab m lb sem lsem ⟨k0_off31 i, k0_off31_inb i h⟩ ⟨k0_off32 i, k0_off32_inb i h⟩ ⟨k0_off33 i, k0_off33_inb i h⟩
  chunkE h m lb acc lane ones

/-- The whole program of a tile. -/
def tile (flat : Memref sig .scVector .hbm S32000000 .f32) (lab : Memref sig .scVector .hbm S2000000 .i32) (out : Memref sig .scVector .hbm S32x480 .f32)
    (m0 m1 : Memref sig .scVector .vmem S49152 .f32) (l0 l1 : Memref sig .scVector .vmem S3072 .i32) (acc : Memref sig .scVector .vmem S480 .f32) (hacc : acc.IsWhole)
    (s0 s1 t0 t1 s2 t2 s3 t3 so : DmaSems sig S_) : TileProg F i PUnit := do
  zeroFrom acc 30 0 rfl
  start (n := 24576) (l := 3072) (by omega) (by omega) flat lab m0 l0 s0 t0 ⟨k0_off1 i, k0_off1_inb i⟩ ⟨k0_off2 i, k0_off2_inb i⟩ ⟨k0_off3 i, k0_off3_inb i⟩
  start (n := 24576) (l := 3072) (by omega) (by omega) flat lab m1 l1 s1 t1 ⟨k0_off4 i, k0_off4_inb i⟩ ⟨k0_off5 i, k0_off5_inb i⟩ ⟨k0_off6 i, k0_off6_inb i⟩
  let _r : PUnit ← Scf.Loop.for k0_t1_loop k0_t1_ok ⟨⟩ (fun k _ => pair flat lab m0 m1 l0 l1 acc s0 s1 t0 t1 lanes ones16 k)
  start (n := 8192) (l := 1024) (by omega) (by omega) flat lab m0 l0 s2 t2 ⟨k0_off25 i, k0_off25_inb i⟩ ⟨k0_off26 i, k0_off26_inb i⟩ ⟨k0_off27 i, k0_off27_inb i⟩
  await (n := 8192) (l := 1024) (by omega) (by omega) flat lab m0 l0 s2 t2 ⟨k0_off25 i, k0_off25_inb i⟩ ⟨k0_off26 i, k0_off26_inb i⟩ ⟨k0_off27 i, k0_off27_inb i⟩
  chunkT m0 l0 acc lanes ones16
  if h : k0_cond3 i = 1#1 then extra flat lab m1 l1 acc s3 t3 lanes ones16 h
  else pure ⟨⟩
  Prog.lift (.enqueueDma acc (.here (rowOf (i := i) out)) (.dma so.sem) hacc.wordExact ((View.wordExact_bits rfl).reshape _ _) ⟨Or.inl rfl, trivial⟩)
  Prog.lift (.waitDma2 so.sem acc (rowOf (i := i) out) hacc.wordExact ((View.wordExact_bits rfl).reshape _ _))
  pure ⟨⟩

end Cert.Proof.Ece

end
-- ==== Proof.Ece.Peel.lean ====
/-
  Comparing two programs operation by operation.
-/
module

public import proofs.«01_k».proof.Proof.Ece.Clean

@[expose] public section

namespace Cert.Proof.Ece

open Idealize.ShloMosaic Idealize.SL.Sem

/-- Two programs that begin with the same operation agree when what follows does. -/
theorem peel {E : Type → Type} {α β : Type} {e : E β} {k k' : β → Prog E α} (h : ∀ x, k x = k' x) : Prog.op e k = Prog.op e k' :=
  congrArg _ (funext h)

theorem progBind {E : Type → Type} {α β : Type} (p : Prog E α) (k : α → Prog E β) : p >>= k = Prog.bind p k := rfl
theorem progPure {E : Type → Type} {α : Type} (a : α) : (Pure.pure a : Prog E α) = Prog.ret a := rfl

/-- Two loops with the same trips agree. -/
theorem peelFor {E : Type → Type} {w : ℕ} {L : Scf.Loop w} {ok : L.OK} {σ : Type} {u : σ} {b b' : Fin L.trips → σ → Prog E σ} (h : ∀ k u, b k u = b' k u) :
    Scf.Loop.for L ok u b = Scf.Loop.for L ok u b' :=
  congrArg _ (funext fun k => funext fun u => h k u)

/-- A step of two programs, three deep in the first and two deep in the second. -/
theorem peel32 {E : Type → Type} {α β γ δ : Type} {text text' : Prog E δ} {X X' : Prog E α} {P : α → Prog E β} {R₁ : β → Prog E γ} {R₂ : γ → Prog E δ}
    {β' : Type} {P' : α → Prog E β'} {R' : β' → Prog E δ}
    (e : text = ((X.bind P).bind R₁).bind R₂) (e' : text' = (X'.bind P').bind R') (hX : X = X') (h : ∀ r, ((P r).bind R₁).bind R₂ = (P' r).bind R') : text = text' := by
  subst e; subst e'; subst hX
  simp only [← progBind, bind_assoc] at h ⊢
  exact congrArg _ (funext h)

/-- Two deep in the first and two deep in the second. -/
theorem peel22 {E : Type → Type} {α β δ : Type} {text text' : Prog E δ} {X X' : Prog E α} {P : α → Prog E β} {R₁ : β → Prog E δ}
    {β' : Type} {P' : α → Prog E β'} {R' : β' → Prog E δ}
    (e : text = (X.bind P).bind R₁) (e' : text' = (X'.bind P').bind R') (hX : X = X') (h : ∀ r, (P r).bind R₁ = (P' r).bind R') : text = text' := by
  subst e; subst e'; subst hX
  simp only [← progBind, bind_assoc] at h ⊢
  exact congrArg _ (funext h)

/-- Two deep in the first and one deep in the second. -/
theorem peel21 {E : Type → Type} {α β δ : Type} {text text' : Prog E δ} {X X' : Prog E α} {P : α → Prog E β} {R₁ : β → Prog E δ} {R' : α → Prog E δ}
    (e : text = (X.bind P).bind R₁) (e' : text' = X'.bind R') (hX : X = X') (h : ∀ r, (P r).bind R₁ = R' r) : text = text' := by
  subst e; subst e'; subst hX
  simp only [← progBind, bind_assoc] at h ⊢
  exact congrArg _ (funext h)

end Cert.Proof.Ece

end
-- ==== Proof.Ece.Text2.lean ====
/-
  Loop 2 of the printed body: its trip is the trip of Clean.lean at the loop's offsets.
-/
module

public import proofs.«01_k».proof.Proof.Ece.Sites

public import proofs.«01_k».proof.Proof.Ece.Peel

@[expose] public section

noncomputable section

namespace Cert.Proof.Ece

open Cert.KernelIdeal Cert.KernelIdeal.Gen
open Idealize.ShloMosaic Idealize.SL.Sem

variable {F : FTy → Type} [FloatOps F]

set_option maxRecDepth 65536 in
set_option maxHeartbeats 4000000 in
theorem t2_eq (i : grid0.Coords) (arg2 : Memref sig .scVector .hbm S32000000 .f32) (harg2 : arg2.IsWhole) (arg3 : Memref sig .scVector .hbm S2000000 .i32) (harg3 : arg3.IsWhole) (arg4 : Memref sig .scVector .hbm S32x480 .f32) (harg4 : arg4.IsWhole) (arg5 : Memref sig .scVector .vmem S49152 .f32) (harg5 : arg5.IsWhole) (arg6 : Memref sig .scVector .vmem S49152 .f32) (harg6 : arg6.IsWhole) (arg7 : Memref sig .scVector .vmem S3072 .i32) (harg7 : arg7.IsWhole) (arg8 : Memref sig .scVector .vmem S3072 .i32) (harg8 : arg8.IsWhole) (arg9 : Memref sig .scVector .vmem S480 .f32) (harg9 : arg9.IsWhole) (arg10 arg11 arg12 arg13 arg14 arg15 arg16 arg17 v411_r0 : DmaSems sig S_)
    (v2 : IVec S16 32) (v3 : FVec F S16 .f32) (v460 : FVec F S16 .f32) (v491 : FVec F S16 .f32) (v522 : FVec F S16 .f32) (v523 : Vec F S16 .f32) (v524 : Vec F S16 .f32) (k : Fin k0_t2_loop.trips) (ms : Four F) :
    k0_t2_body i arg2 harg2 arg3 harg3 arg4 harg4 arg5 harg5 arg6 harg6 arg7 harg7 arg8 harg8 arg9 harg9 arg10 arg11 arg12 arg13 arg14 arg15 arg16 arg17 v411_r0 v2 v3 v460 v491 v522 v523 v524 k ms
      = trip arg5 arg7 arg9 v2 v3 (r2 k) (ol2 k) (bB (Scf.iv 1#32 1#32 k.val)) G0 K0 ms := by
  iterate 112 (refine peel (fun _ => ?_))
  rfl

end Cert.Proof.Ece

end
-- ==== Proof.Ece.Text3.lean ====
/-
  Loop 3 of the printed body: its trip is the trip of Clean.lean at the loop's offsets.
-/
module

public import proofs.«01_k».proof.Proof.Ece.Sites

public import proofs.«01_k».proof.Proof.Ece.Peel

@[expose] public section

noncomputable section

namespace Cert.Proof.Ece

open Cert.KernelIdeal Cert.KernelIdeal.Gen
open Idealize.ShloMosaic Idealize.SL.Sem

variable {F : FTy → Type} [FloatOps F]

set_option maxRecDepth 65536 in
set_option maxHeartbeats 4000000 in
theorem t3_eq (i : grid0.Coords) (arg2 : Memref sig .scVector .hbm S32000000 .f32) (harg2 : arg2.IsWhole) (arg3 : Memref sig .scVector .hbm S2000000 .i32) (harg3 : arg3.IsWhole) (arg4 : Memref sig .scVector .hbm S32x480 .f32) (harg4 : arg4.IsWhole) (arg5 : Memref sig .scVector .vmem S49152 .f32) (harg5 : arg5.IsWhole) (arg6 : Memref sig .scVector .vmem S49152 .f32) (harg6 : arg6.IsWhole) (arg7 : Memref sig .scVector .vmem S3072 .i32) (harg7 : arg7.IsWhole) (arg8 : Memref sig .scVector .vmem S3072 .i32) (harg8 : arg8.IsWhole) (arg9 : Memref sig .scVector .vmem S480 .f32) (harg9 : arg9.IsWhole) (arg10 arg11 arg12 arg13 arg14 arg15 arg16 arg17 v411_r0 : DmaSems sig S_)
    (v2 : IVec S16 32) (v3 : FVec F S16 .f32) (v755 : FVec F S16 .f32) (v786 : FVec F S16 .f32) (v817 : FVec F S16 .f32) (v818 : Vec F S16 .f32) (v819 : Vec F S16 .f32) (v820 : Vec F S16 .f32) (v821 : Vec F S16 .f32) (v822 : Vec F S16 .f32) (k : Fin k0_t3_loop.trips) (ms : Four F) :
    k0_t3_body i arg2 harg2 arg3 harg3 arg4 harg4 arg5 harg5 arg6 harg6 arg7 harg7 arg8 harg8 arg9 harg9 arg10 arg11 arg12 arg13 arg14 arg15 arg16 arg17 v411_r0 v2 v3 v755 v786 v817 v818 v819 v820 v821 v822 k ms
      = trip arg6 arg8 arg9 v2 v3 (r3 k) (ol3 k) (bB (Scf.iv 1#32 1#32 k.val)) G2 K2 ms := by
  iterate 112 (refine peel (fun _ => ?_))
  rfl

end Cert.Proof.Ece

end
-- ==== Proof.Ece.TextPair.lean ====
/-
  A trip of the double-buffered loop: the printed body is `pair`.
-/
module

public import proofs.«01_k».proof.Proof.Ece.Pipe
public import proofs.«01_k».proof.Proof.Ece.Text2
public import proofs.«01_k».proof.Proof.Ece.Text3

@[expose] public section

noncomputable section

namespace Cert.Proof.Ece

open Cert.KernelIdeal Cert.KernelIdeal.Gen
open Idealize.ShloMosaic Idealize.SL.Sem

variable {F : FTy → Type} [FloatOps F]

set_option maxRecDepth 65536 in
set_option maxHeartbeats 8000000 in
theorem t1_eq (i : grid0.Coords) (arg2 : Memref sig .scVector .hbm S32000000 .f32) (harg2 : arg2.IsWhole) (arg3 : Memref sig .scVector .hbm S2000000 .i32) (harg3 : arg3.IsWhole) (arg4 : Memref sig .scVector .hbm S32x480 .f32) (harg4 : arg4.IsWhole) (arg5 : Memref sig .scVector .vmem S49152 .f32) (harg5 : arg5.IsWhole) (arg6 : Memref sig .scVector .vmem S49152 .f32) (harg6 : arg6.IsWhole) (arg7 : Memref sig .scVector .vmem S3072 .i32) (harg7 : arg7.IsWhole) (arg8 : Memref sig .scVector .vmem S3072 .i32) (harg8 : arg8.IsWhole) (arg9 : Memref sig .scVector .vmem S480 .f32) (harg9 : arg9.IsWhole) (arg10 arg11 arg12 arg13 arg14 arg15 arg16 arg17 v411_r0 : DmaSems sig S_)
    (v2 : IVec S16 32) (v3 : FVec F S16 .f32) (v66 : BitVec 32) (k : Fin k0_t1_loop.trips) (u : PUnit) :
    k0_t1_body i arg2 harg2 arg3 harg3 arg4 harg4 arg5 harg5 arg6 harg6 arg7 harg7 arg8 harg8 arg9 harg9 arg10 arg11 arg12 arg13 arg14 arg15 arg16 arg17 v411_r0 v2 v3 v66 k u
      = pair arg2 arg3 arg5 arg6 arg7 arg8 arg9 arg10 arg11 arg12 arg13 v2 v3 k := by
  iterate 67 (refine peel (fun _ => ?_))
  dsimp only [progBind, progPure, Prog.bind]
  refine peel32 rfl rfl (peelFor fun k ms => t2_eq i arg2 harg2 arg3 harg3 arg4 harg4 arg5 harg5 arg6 harg6 arg7 harg7 arg8 harg8 arg9 harg9 arg10 arg11 arg12 arg13 arg14 arg15 arg16 arg17 v411_r0 v2 v3 ms.1 ms.1 ms.1 ms.1 ms.1 k ms) (fun r => ?_)
  iterate 48 (refine peel (fun _ => ?_))
  dsimp only [progBind, progPure, Prog.bind, refill0]
  by_cases h1 : k0_cond1 k = 1#1
  · simp only [dif_pos h1]
    iterate 70 (refine peel (fun _ => ?_))
    dsimp only [progBind, progPure, Prog.bind]
    refine peel32 rfl rfl (peelFor fun k ms => t3_eq i arg2 harg2 arg3 harg3 arg4 harg4 arg5 harg5 arg6 harg6 arg7 harg7 arg8 harg8 arg9 harg9 arg10 arg11 arg12 arg13 arg14 arg15 arg16 arg17 v411_r0 v2 v3 ms.1 ms.1 ms.1 ms.1 ms.1 ms.1 ms.1 ms.1 k ms) (fun r => ?_)
    iterate 48 (refine peel (fun _ => ?_))
    rfl
  · simp only [dif_neg h1]
    iterate 67 (refine peel (fun _ => ?_))
    dsimp only [progBind, progPure, Prog.bind]
    refine peel32 rfl rfl (peelFor fun k ms => t3_eq i arg2 harg2 arg3 harg3 arg4 harg4 arg5 harg5 arg6 harg6 arg7 harg7 arg8 harg8 arg9 harg9 arg10 arg11 arg12 arg13 arg14 arg15 arg16 arg17 v411_r0 v2 v3 ms.1 ms.1 ms.1 ms.1 ms.1 ms.1 ms.1 ms.1 k ms) (fun r => ?_)
    iterate 48 (refine peel (fun _ => ?_))
    rfl

end Cert.Proof.Ece

end
-- ==== Proof.Ece.Text4.lean ====
/-
  Loop 4 of the printed body: its trip is the trip of Clean.lean at the loop's offsets.
-/
module

public import proofs.«01_k».proof.Proof.Ece.Sites

public import proofs.«01_k».proof.Proof.Ece.Peel

@[expose] public section

noncomputable section

namespace Cert.Proof.Ece

open Cert.KernelIdeal Cert.KernelIdeal.Gen
open Idealize.ShloMosaic Idealize.SL.Sem

variable {F : FTy → Type} [FloatOps F]

set_option maxRecDepth 65536 in
set_option maxHeartbeats 4000000 in
theorem t4_eq (i : grid0.Coords) (arg2 : Memref sig .scVector .hbm S32000000 .f32) (harg2 : arg2.IsWhole) (arg3 : Memref sig .scVector .hbm S2000000 .i32) (harg3 : arg3.IsWhole) (arg4 : Memref sig .scVector .hbm S32x480 .f32) (harg4 : arg4.IsWhole) (arg5 : Memref sig .scVector .vmem S49152 .f32) (harg5 : arg5.IsWhole) (arg6 : Memref sig .scVector .vmem S49152 .f32) (harg6 : arg6.IsWhole) (arg7 : Memref sig .scVector .vmem S3072 .i32) (harg7 : arg7.IsWhole) (arg8 : Memref sig .scVector .vmem S3072 .i32) (harg8 : arg8.IsWhole) (arg9 : Memref sig .scVector .vmem S480 .f32) (harg9 : arg9.IsWhole) (arg10 arg11 arg12 arg13 arg14 arg15 arg16 arg17 v411_r0 : DmaSems sig S_)
    (v2 : IVec S16 32) (v3 : FVec F S16 .f32) (v164 : FVec F S16 .f32) (v195 : FVec F S16 .f32) (v226 : FVec F S16 .f32) (v257 : FVec F S16 .f32) (c1 c15 : BitVec 32) (k : Fin k0_t4_loop.trips) (ms : Four F) :
    k0_t4_body i arg2 harg2 arg3 harg3 arg4 harg4 arg5 harg5 arg6 harg6 arg7 harg7 arg8 harg8 arg9 harg9 arg10 arg11 arg12 arg13 arg14 arg15 arg16 arg17 v411_r0 v2 v3 v164 v195 v226 v257 c1 c15 k ms
      = trip arg5 arg7 arg9 v2 v3 (r4 k) (ol4 k) (bB (Scf.iv c1 1#32 k.val)) G4 K4 ms := by
  iterate 112 (refine peel (fun _ => ?_))
  rfl

end Cert.Proof.Ece

end
-- ==== Proof.Ece.TextMain.lean ====
/-
  The tile's whole program: the printed body is `tile`.
-/
module

public import proofs.«01_k».proof.Proof.Ece.TextPair
public import proofs.«01_k».proof.Proof.Ece.Text4

@[expose] public section

noncomputable section

namespace Cert.Proof.Ece

open Cert.KernelIdeal Cert.KernelIdeal.Gen
open Idealize.ShloMosaic Idealize.SL.Sem

variable {F : FTy → Type} [FloatOps F]

set_option maxRecDepth 65536 in
set_option maxHeartbeats 8000000 in
/-- The printed body of the kernel is `tile`. -/
theorem tile_eq (i : grid0.Coords) (arg2 : Memref sig .scVector .hbm S32000000 .f32) (harg2 : arg2.IsWhole) (arg3 : Memref sig .scVector .hbm S2000000 .i32) (harg3 : arg3.IsWhole) (arg4 : Memref sig .scVector .hbm S32x480 .f32) (harg4 : arg4.IsWhole) (arg5 : Memref sig .scVector .vmem S49152 .f32) (harg5 : arg5.IsWhole) (arg6 : Memref sig .scVector .vmem S49152 .f32) (harg6 : arg6.IsWhole) (arg7 : Memref sig .scVector .vmem S3072 .i32) (harg7 : arg7.IsWhole) (arg8 : Memref sig .scVector .vmem S3072 .i32) (harg8 : arg8.IsWhole) (arg9 : Memref sig .scVector .vmem S480 .f32) (harg9 : arg9.IsWhole) (arg10 arg11 arg12 arg13 arg14 arg15 arg16 arg17 v411_r0 : DmaSems sig S_) :
    cc0_ece_k (F := F) i arg2 harg2 arg3 harg3 arg4 harg4 arg5 harg5 arg6 harg6 arg7 harg7 arg8 harg8 arg9 harg9 arg10 arg11 arg12 arg13 arg14 arg15 arg16 arg17 v411_r0 = tile (F := F) (i := i) arg2 arg3 arg4 arg5 arg6 arg7 arg8 arg9 harg9 arg10 arg11 arg12 arg13 arg14 arg15 arg16 arg17 v411_r0 := by
  iterate 66 (refine peel (fun _ => ?_))
  dsimp only [progBind, progPure, Prog.bind]
  refine peel21 rfl rfl (peelFor fun k u => t1_eq (F := F) i arg2 harg2 arg3 harg3 arg4 harg4 arg5 harg5 arg6 harg6 arg7 harg7 arg8 harg8 arg9 harg9 arg10 arg11 arg12 arg13 arg14 arg15 arg16 arg17 v411_r0 lanes (ones16 (F := F)) _ k u) (fun _ => ?_)
  iterate 70 (refine peel (fun _ => ?_))
  dsimp only [progBind, progPure, Prog.bind]
  refine peel22 rfl rfl (peelFor fun k ms => t4_eq (F := F) i arg2 harg2 arg3 harg3 arg4 harg4 arg5 harg5 arg6 harg6 arg7 harg7 arg8 harg8 arg9 harg9 arg10 arg11 arg12 arg13 arg14 arg15 arg16 arg17 v411_r0 lanes (ones16 (F := F)) ms.1 ms.1 ms.1 ms.1 1#32 15#32 k ms) (fun r => ?_)
  iterate 48 (refine peel (fun _ => ?_))
  dsimp only [progBind, progPure, Prog.bind]
  by_cases h3 : k0_cond3 i = 1#1
  · simp only [dif_pos h3]
    iterate 230 (refine peel (fun _ => ?_))
    rfl
  · simp only [dif_neg h3]

end Cert.Proof.Ece

end
-- ==== Proof.Ece.Setup.lean ====
/-
  The program as the launch theorem sees it, and the tile's thread: the names the later modules share.
-/
module

public import proofs.«01_k».proof.Proof.Ece.Pipe
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.PureOps.Ideal
public import Idealize.ShloMosaic.Lib.Tactic

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

abbrev ΛP : Labels := Pipeline.Sig Λ₀ (Fin 0) fun p => (pcfgs (F := Ideal) p).Adm
abbrev K : SparseCore.Cfg τ sig ΛP 1 := sc (F := Ideal)
abbrev D : Defs nD τ sig (Elt Ideal) ΛP := Pipeline.defs pcfgs defs₀
abbrev 𝒱₀ : Variants := Variants.none
abbrev 𝒱 : Variants := 𝒱₀.lift
abbrev v₀ : 𝒱.V := Sum.inl none

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

/-- The resources of the program at the extended reals. -/
abbrev MM : Type := MT nD τ sig (HIx 1) (Elt Ideal) ℕ UU ℕ

abbrev EH : Emb UH MM := embL

/-- The thread of the tile at grid coordinates `i`. -/
abbrev thr (d : Dev nD) (i : grid0.Coords) : Thread nD τ := V d ((i 0).castLE hcore0) ((i 1).castLE hsub0)

/-- The weakest precondition of a tile's program. -/
abbrev wpT (d : Dev nD) (i : grid0.Coords) {α : Type} (p : TileProg Ideal i α) (Q : α → sProp MM) : sProp MM :=
  wp frame (wpE (defs₀ (F := Ideal)) 𝒱₀ (thr d i) none) Set.univ p Q

end Cert.Proof.Ece

end
-- ==== Proof.Ece.Vals.lean ====
/-
  What the steps compute, as functions of the buffers' contents: the maximum of a row's sixteen logits, its confidence,
  its bin, and what the row adds to an entry of the accumulator.
-/
module

public import proofs.«01_k».proof.Proof.Ece.Setup

@[expose] public section

noncomputable section

namespace Cert.Proof.Ece

open Cert.KernelIdeal Cert.KernelIdeal.Gen
open Idealize.ShloMosaic Idealize.SL.Sem

/-- Entry `n` of a row of `N`. -/
def at1 {N : ℕ} [NeZero N] {α : Type} (A : (⟨1, ![N]⟩ : Shape).Idx → α) (n : ℕ) : α :=
  A fun a => ⟨n % N, by rw [Subsingleton.elim a 0]; exact Nat.mod_lt _ (NeZero.pos N)⟩

theorem at1_idx {N : ℕ} [NeZero N] {α : Type} (A : (⟨1, ![N]⟩ : Shape).Idx → α) (x : (⟨1, ![N]⟩ : Shape).Idx) : A x = at1 A (x 0).val := by
  unfold at1; congr 1; funext a; apply Fin.ext
  rw [Subsingleton.elim a 0]
  exact (Nat.mod_eq_of_lt (x 0).isLt).symm

instance : NeZero 49152 := ⟨by decide⟩
instance : NeZero 3072 := ⟨by decide⟩
instance : NeZero 480 := ⟨by decide⟩
instance : NeZero 16 := ⟨by decide⟩

/-- The maximum of the sixteen logits of the row at `p` of a buffer. -/
def mx (A : Vec Ideal S49152 .f32) (p : ℕ) : EReal :=
  let a (h c : ℕ) : EReal := at1 (N := 49152) A (p + 128 * c + 24576 * h)
  max (max (max (max (a 0 0) (a 0 1)) (max (a 0 2) (a 0 3))) (max (max (a 0 4) (a 0 5)) (max (a 0 6) (a 0 7))))
    (max (max (max (a 1 0) (a 1 1)) (max (a 1 2) (a 1 3))) (max (max (a 1 4) (a 1 5)) (max (a 1 6) (a 1 7))))

/-- The maxima of the sixteen rows at `p` on. -/
def mxv (A : Vec Ideal S49152 .f32) (p : ℕ) : FVec Ideal S16 .f32 := fun x => mx A (p + (x 0).val)

/-- The confidence of a row with maximum `m`. -/
def confE (m : EReal) : EReal := Ideal.div 1 (1 + Ideal.exp (0 - m))

/-- The bin of a confidence. -/
def binN (c : EReal) : ℕ := (IntOp.minsi (Ideal.fptosi 32 (c * 10)) 9#32).toNat

/-- What a row of maximum `m` and label's logit `x` adds to entry `j` of the accumulator. -/
def gcell (m x : EReal) (j : ℕ) : EReal :=
  if j / 16 % 10 = binN (confE m) then (if j < 160 then 1 else if j < 320 then confE m else if x = m then 1 else 0) else 0

/-- Where the logit of class `l` lies from the start of a row. -/
def labOff (l : ℕ) : ℕ := l / 8 * 24576 + l % 8 * 128

/-- What the row at `p` of a buffer, its label at `q`, adds to entry `j`. -/
def gc (A : Vec Ideal S49152 .f32) (B : Vec Ideal S3072 .i32) (p q j : ℕ) : EReal :=
  gcell (mx A p) (at1 (N := 49152) A (p + labOff (at1 (N := 3072) B q).toNat)) j

theorem exp_nonneg (x : EReal) : 0 ≤ Ideal.exp x := by
  induction x using EReal.rec with
  | bot => simp
  | top => simp
  | coe r => rw [Ideal.exp_coe]; exact_mod_cast (Real.exp_pos r).le

theorem confE_nonneg (m : EReal) : 0 ≤ confE m := by
  have h : 0 ≤ 1 + Ideal.exp (0 - m) := add_nonneg zero_le_one (exp_nonneg _)
  unfold confE Ideal.div
  split
  · simp
  · exact mul_nonneg zero_le_one (EReal.inv_nonneg_of_nonneg h)

theorem toInt_top (lo hi : ℤ) : Ideal.toIntClamped lo hi ⊤ = hi := rfl
theorem toInt_coe (lo hi : ℤ) (r : ℝ) : Ideal.toIntClamped lo hi (r : EReal) = max lo (min hi (if 0 ≤ r then ⌊r⌋ else ⌈r⌉)) := rfl

theorem binN_lt {c : EReal} (hc : 0 ≤ c) : binN c < 10 := by
  have key : ∀ i : ℤ, 0 ≤ i → i ≤ 2147483647 → (IntOp.minsi (BitVec.ofInt 32 i) 9#32).toNat < 10 := by
    intro i h1 h2
    unfold IntOp.minsi
    have e : (BitVec.ofInt 32 i).toInt = i := by
      rw [BitVec.toInt_ofInt]; simp [Int.bmod]; omega
    rw [BitVec.slt_eq_decide, e]
    split
    · rename_i h
      have : i < 9 := by simpa using h
      rw [BitVec.toNat_ofInt]; omega
    · decide
  unfold binN Ideal.fptosi
  apply key
  · induction c using EReal.rec with
    | bot => simp at hc
    | top => rw [EReal.top_mul_of_pos (by norm_num)]; rw [toInt_top]; norm_num
    | coe r =>
      have h0 : (0 : ℝ) ≤ r := by exact_mod_cast hc
      have e : (r : EReal) * 10 = ((r * 10 : ℝ) : EReal) := by push_cast; rfl
      rw [e]
      have : 0 ≤ r * 10 := by positivity
      rw [toInt_coe, if_pos this]
      have := Int.floor_nonneg.mpr this
      omega
  · induction c using EReal.rec with
    | bot => simp at hc
    | top => rw [EReal.top_mul_of_pos (by norm_num)]; rw [toInt_top]; norm_num
    | coe r =>
      have e : (r : EReal) * 10 = ((r * 10 : ℝ) : EReal) := by push_cast; rfl
      rw [e]
      rw [toInt_coe]
      omega

end Cert.Proof.Ece

end
-- ==== Proof.Ece.Steps.lean ====
/-
  The compute steps run: what each leaves in the buffers and hands on, from the buffers' contents.
-/
module

public import proofs.«01_k».proof.Proof.Ece.Vals

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) {i : grid0.Coords} {α : Type} {Q : α → sProp MM}

/-- A memref owned whole at contents `A`. -/
abbrev own {sp : Space} {s : Shape} {e : EltTy} (i : grid0.Coords) (m : Memref sig .scVector sp s e) (A : Vec Ideal s e) : sProp MM :=
  owns (thr d i) m fullShare A

/-- Sixteen entries of a buffer from `p` on. -/
def rd {N : ℕ} [NeZero N] {e : EltTy} (A : Vec Ideal ⟨1, ![N]⟩ e) (p : ℕ) : Vec Ideal S16 e := fun x => at1 (N := N) A (p + (x 0).val)

theorem readAt_rd {N : ℕ} [NeZero N] {e : EltTy} (m : Memref sig .scVector .vmem ⟨1, ![N]⟩ e) (f : m.view.ty.Contents (Elt Ideal)) (o : Fin 1 → ℕ)
    (h : ∀ a, o a + S16.size a ≤ (⟨1, ![N]⟩ : Shape).size a) (p : ℕ) (hp : o 0 = p) :
    m.view.readAt (Elt Ideal) (Rect.unit (s := ⟨1, ![N]⟩) o S16.size h).toLoadRect f = rd (m.view.read (Elt Ideal) f) p := by
  funext x
  rw [View.readAt_apply, at1_idx (m.view.read (Elt Ideal) f)]
  unfold rd
  congr 1
  rw [LoadRect.idx_apply]
  show o 0 + 1 * (x 0).val = _
  rw [hp, one_mul]

theorem wp_ld {N : ℕ} [NeZero N] {e : EltTy} (m : Memref sig .scVector .vmem ⟨1, ![N]⟩ e) (A : Vec Ideal ⟨1, ![N]⟩ e) (o : Fin 1 → ℕ)
    (h : ∀ a, o a + S16.size a ≤ (⟨1, ![N]⟩ : Shape).size a) (hl : m.view.LoadsAt (Rect.unit (s := ⟨1, ![N]⟩) o S16.size h).toLoadRect) (p : ℕ) (hp : o 0 = p)
    (k : Vec Ideal S16 e → TileProg Ideal i α) :
    own d i m A ⊢ iprop((own d i m A -∗ wpT d i (k (rd A p)) Q)
      -∗ wpT d i (Prog.lift (.load m (Rect.unit (s := ⟨1, ![N]⟩) o S16.size h).toLoadRect hl) >>= k) Q) := by
  unfold own owns
  iintro ⟨%f, %hf, H⟩ Hk
  simp only [Prog.lift, Prog.bind_op, Prog.bind_ret]
  iapply (wp_load 𝒱₀ (thr d i) none Set.univ (m := m) (View.setOn_subset_set _ _)) $$ H
  iintro H
  rw [readAt_rd m f o h p hp, hf]
  iapply Hk
  iexists f; isplitr
  · ipureintro; exact hf
  · iexact H

theorem wp_maxG (m : Memref sig .scVector .vmem S49152 .f32) (A : Vec Ideal S49152 .f32) (r : Fin 2 → Fin 8 → Off 49152) (p : ℕ)
    (hr : ∀ h c, (r h c).o 0 = p + 128 * c.val + 24576 * h.val) (k : FVec Ideal S16 .f32 → TileProg Ideal i α) :
    own d i m A ⊢ iprop((own d i m A -∗ wpT d i (k (mxv A p)) Q) -∗ wpT d i (maxG m r >>= k) Q) := by
  have e (h : Fin 2) (c : Fin 8) (k : Vec Ideal S16 .f32 → TileProg Ideal i α) :=
    wp_ld d (i := i) (Q := Q) m A (r h c).o (r h c).inb (View.loadsAt_vmem h_S16) _ (hr h c) k
  unfold maxG
  simp only [bind_assoc, pure_bind]
  iintro H Hk
  iapply (e 0 0) $$ H; iintro H
  iapply (e 0 1) $$ H; iintro H
  iapply (e 0 2) $$ H; iintro H
  iapply (e 0 3) $$ H; iintro H
  iapply (e 0 4) $$ H; iintro H
  iapply (e 0 5) $$ H; iintro H
  iapply (e 0 6) $$ H; iintro H
  iapply (e 0 7) $$ H; iintro H
  iapply (e 1 0) $$ H; iintro H
  iapply (e 1 1) $$ H; iintro H
  iapply (e 1 2) $$ H; iintro H
  iapply (e 1 3) $$ H; iintro H
  iapply (e 1 4) $$ H; iintro H
  iapply (e 1 5) $$ H; iintro H
  iapply (e 1 6) $$ H; iintro H
  iapply (e 1 7) $$ H; iintro H
  ihave Hw := Hk $$ H
  have hm : mxv A p = maximumf (F := Ideal) (s := S16) (φ := .f32) (maximumf (maximumf (maximumf (rd A (p + 128 * (0 : Fin 8).val + 24576 * (0 : Fin 2).val)) (rd A (p + 128 * (1 : Fin 8).val + 24576 * (0 : Fin 2).val))) (maximumf (rd A (p + 128 * (2 : Fin 8).val + 24576 * (0 : Fin 2).val)) (rd A (p + 128 * (3 : Fin 8).val + 24576 * (0 : Fin 2).val))))
        (maximumf (maximumf (rd A (p + 128 * (4 : Fin 8).val + 24576 * (0 : Fin 2).val)) (rd A (p + 128 * (5 : Fin 8).val + 24576 * (0 : Fin 2).val))) (maximumf (rd A (p + 128 * (6 : Fin 8).val + 24576 * (0 : Fin 2).val)) (rd A (p + 128 * (7 : Fin 8).val + 24576 * (0 : Fin 2).val)))))
      (maximumf (maximumf (maximumf (rd A (p + 128 * (0 : Fin 8).val + 24576 * (1 : Fin 2).val)) (rd A (p + 128 * (1 : Fin 8).val + 24576 * (1 : Fin 2).val))) (maximumf (rd A (p + 128 * (2 : Fin 8).val + 24576 * (1 : Fin 2).val)) (rd A (p + 128 * (3 : Fin 8).val + 24576 * (1 : Fin 2).val))))
        (maximumf (maximumf (rd A (p + 128 * (4 : Fin 8).val + 24576 * (1 : Fin 2).val)) (rd A (p + 128 * (5 : Fin 8).val + 24576 * (1 : Fin 2).val))) (maximumf (rd A (p + 128 * (6 : Fin 8).val + 24576 * (1 : Fin 2).val)) (rd A (p + 128 * (7 : Fin 8).val + 24576 * (1 : Fin 2).val))))) := by
    funext x
    unfold mxv mx rd
    simp only [maximumf, Ideal.maximumf_def]
    have c (a b c : ℕ) : a + (x 0).val + b + c = a + b + c + (x 0).val := by omega
    simp only [c]
    rfl
  rw [← hm]
  iexact Hw

end Cert.Proof.Ece

end
-- ==== Proof.Ece.Scat.lean ====
/-
  The indexed steps run: the label lookup, and the three indexed additions of sixteen rows.
-/
module

public import proofs.«01_k».proof.Proof.Ece.Steps

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) {i : grid0.Coords} {α : Type} {Q : α → sProp MM}

/-! ### The values -/

theorem lanes_nat (x : S16.Idx) : (lanes x).toNat = (x 0).val := by
  have : (x 0).val < 16 := (x 0).isLt
  show (BitVec.ofNat 32 _).toNat = _
  simp [BitVec.toNat_ofNat]
  omega

theorem labIdx_nat (b : BitVec 32) (l : IVec S16 32) (p : ℕ) (hb : b.toNat = p) (hp : p + 16 ≤ 24576) (x : S16.Idx) (hl : (l x).toNat < 16) :
    (labIdx lanes b l x).toNat = p + (x 0).val + labOff (l x).toNat := by
  have hx : (x 0).val < 16 := (x 0).isLt
  have e : labIdx lanes b l x = b + lanes x + IntOp.shrsi .vector (l x) 3#32 * 24576#32 + (l x &&& 7#32) * 128#32 := rfl
  rw [e]
  have hk : ∀ k : Fin 16, (IntOp.shrsi .vector (BitVec.ofNat 32 k.val) 3#32 * 24576#32).toNat + ((BitVec.ofNat 32 k.val &&& 7#32) * 128#32).toNat = labOff k.val
      ∧ (IntOp.shrsi .vector (BitVec.ofNat 32 k.val) 3#32 * 24576#32).toNat ≤ 24576 ∧ ((BitVec.ofNat 32 k.val &&& 7#32) * 128#32).toNat ≤ 896 := by decide +kernel
  have h := hk ⟨(l x).toNat, hl⟩
  rw [show BitVec.ofNat 32 (l x).toNat = l x from by simp] at h
  have hn := lanes_nat x
  simp only [BitVec.toNat_add, hn, hb]
  obtain ⟨h1, h2, h3⟩ := h
  change _ = labOff (l x).toNat at h1
  generalize (x 0).val = X at *
  omega

theorem labOff_lt {l : ℕ} (h : l < 16) : labOff l ≤ 24576 + 896 := by unfold labOff; omega

theorem one_bits : (Scalar.ofBits .f32 0x3F800000#32 : Ideal .f32) = 1 := by
  show Ideal.ofBits .f32 0x3F800000#32 = 1
  simp [Ideal.ofBits, Ideal.ieee, -EReal.coe_mul]; norm_num
theorem zero_bits : (Scalar.ofBits .f32 0x00000000#32 : Ideal .f32) = 0 := by
  show Ideal.ofBits .f32 0x00000000#32 = 0
  simp [Ideal.ofBits, Ideal.ieee]
theorem ten_bits : (Scalar.ofBits .f32 0x41200000#32 : Ideal .f32) = 10 := by
  show Ideal.ofBits .f32 0x41200000#32 = 10
  simp [Ideal.ofBits, Ideal.ieee, -EReal.coe_mul]; norm_num; rfl

theorem confOf_apply (m : FVec Ideal S16 .f32) (x : S16.Idx) : confOf m x = confE (m x) := by
  show Ideal.div (Scalar.ofBits .f32 0x3F800000#32 : Ideal .f32) ((Scalar.ofBits .f32 0x3F800000#32 : Ideal .f32)
    + Ideal.exp ((Scalar.ofBits .f32 0x00000000#32 : Ideal .f32) - m x)) = _
  rw [one_bits, zero_bits]
  rfl

theorem binIdx_nat (m : FVec Ideal S16 .f32) (x : S16.Idx) :
    (binIdx lanes (confOf m) x).toNat = 16 * binN (confE (m x)) + (x 0).val := by
  have hx : (x 0).val < 16 := (x 0).isLt
  have hb := binN_lt (confE_nonneg (m x))
  have e : binIdx lanes (confOf m) x
      = IntOp.minsi (Ideal.fptosi 32 (confOf m x * (Scalar.ofBits .f32 0x41200000#32 : Ideal .f32))) 9#32 * 16#32 + lanes x := rfl
  rw [e, ten_bits, confOf_apply, BitVec.toNat_add, BitVec.toNat_mul, lanes_nat]
  unfold binN at hb ⊢
  have h16 : (16#32).toNat = 16 := rfl
  rw [h16]
  omega

theorem binIdx_add_nat (m : FVec Ideal S16 .f32) (x : S16.Idx) (c : BitVec 32) (n : ℕ) (hc : c.toNat = n) (hn : n ≤ 320) :
    (addi (binIdx lanes (confOf m)) (broadcast S16 c) x).toNat = n + 16 * binN (confE (m x)) + (x 0).val := by
  have hx : (x 0).val < 16 := (x 0).isLt
  have hb := binN_lt (confE_nonneg (m x))
  show (binIdx lanes (confOf m) x + c).toNat = _
  rw [BitVec.toNat_add, binIdx_nat, hc]
  omega

theorem hitOf_apply (m x : FVec Ideal S16 .f32) (j : S16.Idx) : hitOf m x j = if x j = m j then 1 else 0 := by
  show (if Ideal.cmp .oeq (x j) (m j) = 1 then (Scalar.ofBits .f32 0x3F800000#32 : Ideal .f32) else (Scalar.ofBits .f32 0x00000000#32 : Ideal .f32)) = _
  rw [one_bits, zero_bits]
  simp [Ideal.cmp]
  by_cases h : x j = m j <;> simp [h]

/-! ### The steps -/

/-- The lane an accumulator's entry belongs to. -/
def laneAt (j : ℕ) : S16.Idx := fun a => ⟨j % 16, by rw [Subsingleton.elim a 0]; exact Nat.mod_lt _ (by norm_num)⟩

theorem laneAt_val (j : ℕ) : (laneAt j 0).val = j % 16 := rfl

/-- Lane `k` of sixteen. -/
abbrev ln (k : Fin ((![16] : Fin 1 → ℕ) 0)) : (⟨1, ![16]⟩ : Shape).Idx := Shape.ofLane k

theorem fold_scat (v : IVec ⟨1, ![16]⟩ 32) (w : Vec Ideal ⟨1, ![16]⟩ .f32) (hv : ∀ x, (v x).toNat % 16 = (x 0).val)
    (step : Vec Ideal S480 .f32 → Fin ((![16] : Fin 1 → ℕ) 0) → Vec Ideal S480 .f32)
    (hs : ∀ g k j, step g k j = if (v (ln k)).toNat = (j 0).val then (g j + w (ln k) : EReal) else g j)
    (j : S480.Idx) (L : List (Fin ((![16] : Fin 1 → ℕ) 0))) (hL : L.Nodup) (f : Vec Ideal S480 .f32) :
    L.foldl step f j
    = f j + if laneAt (j 0).val 0 ∈ L ∧ (v (laneAt (j 0).val)).toNat = (j 0).val then w (laneAt (j 0).val) else (0 : EReal) := by
  induction L generalizing f with
  | nil => rw [if_neg (fun h => List.not_mem_nil h.1)]; exact (add_zero (M := EReal) _).symm
  | cons k L ih =>
    have hk : k ∉ L := (List.nodup_cons.mp hL).1
    rw [List.foldl_cons, ih (List.nodup_cons.mp hL).2, hs]
    have h0 : ((ln k) 0).val = k.val := rfl
    by_cases hj : (j 0).val % 16 = k.val
    · have e1 : laneAt (j 0).val 0 = k := Fin.ext hj
      have e2 : laneAt (j 0).val = ln k := by
        funext a; apply Fin.ext; rw [Subsingleton.elim a 0]; exact hj
      rw [e1, e2]
      by_cases hc : (v (ln k)).toNat = (j 0).val
      · rw [if_pos hc, if_neg (fun h => hk (And.left h)), if_pos ⟨List.mem_cons_self, hc⟩]
        exact add_zero (M := EReal) _
      · rw [if_neg hc, if_neg (fun h => hk (And.left h)), if_neg (fun h => hc (And.right h))]
    · have e1 : laneAt (j 0).val 0 ≠ k := fun e => hj (congrArg Fin.val e)
      have e2 : ¬ (v (ln k)).toNat = (j 0).val := by
        intro e; apply hj; rw [← e, hv]; exact h0
      rw [if_neg e2]
      congr 1
      have e4 : (laneAt (j 0).val 0 ∈ k :: L) ↔ laneAt (j 0).val 0 ∈ L := by
        rw [List.mem_cons]; exact ⟨fun h => h.resolve_left e1, Or.inr⟩
      simp only [e4]

theorem storeIdx_lanes (v : IVec ⟨1, ![16]⟩ 32) (w : Vec Ideal ⟨1, ![16]⟩ .f32) (h : ∀ a x, ((![v] : Fin 1 → IVec ⟨1, ![16]⟩ 32) a x).toNat < S480.size a)
    (hv : ∀ x, (v x).toNat % 16 = (x 0).val) (f : Vec Ideal S480 .f32) (j : S480.Idx) :
    storeIdx (F := Ideal) (s := S480) (e := .f32) f ![v] w (fun _ => 1#1) true h j = f j + if (v (laneAt (j 0).val)).toNat = (j 0).val then w (laneAt (j 0).val) else (0 : EReal) := by
  unfold storeIdx
  refine (fold_scat v w hv _ ?_ j (List.finRange _) (List.nodup_finRange _) f).trans ?_
  · intro g k j
    have key : (∀ a, (j a).val = (idxAt (s := S480) ![v] h (ln k) a).val) ↔ (v (ln k)).toNat = (j 0).val := by
      constructor
      · intro h'; exact (h' 0).symm
      · intro h' a; rw [Subsingleton.elim a 0]; exact h'.symm
    by_cases hc : (v (ln k)).toNat = (j 0).val
    · have e3 : idxAt (s := S480) ![v] h (ln k) = j := by
        funext a; apply Fin.ext; exact ((key.mpr hc) a).symm
      rw [if_pos hc]
      refine (if_pos (key.mpr hc)).trans ?_
      show (g (idxAt (s := S480) ![v] h (ln k)) + w (ln k) : EReal) = _
      rw [e3]
    · rw [if_neg hc]
      exact if_neg (fun hh => hc (key.mp hh))
  · simp only [List.mem_finRange, _root_.true_and]

theorem set_acc {sp : Space} {s : Shape} {e : EltTy} (m : Memref sig .scVector sp s e) : (m.access (.whole s)).set = m.view.set := by
  rw [View.set_slice, Rect.set_whole]; rfl

theorem read_acc {sp : Space} {s : Shape} {e : EltTy} (m : Memref sig .scVector sp s e) (f : m.view.ty.Contents (Elt Ideal)) :
    (m.access (.whole s)).read (Elt Ideal) f = m.view.read (Elt Ideal) f := by
  funext x
  show m.view.read (Elt Ideal) f ((Rect.whole s).emb x) = _
  rw [Rect.emb_whole_apply]

theorem read_write_acc {sp : Space} {s : Shape} {e : EltTy} (m : Memref sig .scVector sp s e) (f : m.view.ty.Contents (Elt Ideal)) (w : Vec Ideal s e) :
    m.view.read (Elt Ideal) ((m.access (.whole s)).write (Elt Ideal) f w Finset.univ) = w := by
  rw [← read_acc]
  exact View.read_write_univ (v := m.access (.whole s)) f w

theorem wp_gath (m : Memref sig .scVector .vmem S49152 .f32) (A : Vec Ideal S49152 .f32) (K : Chk 49152) (v : IVec S16 32)
    (hv : ∀ x, (v x).toNat < 49152) (k : FVec Ideal S16 .f32 → TileProg Ideal i α) :
    own d i m A ⊢ iprop((own d i m A -∗ wpT d i (k fun x => at1 (N := 49152) A (v x).toNat) Q) -∗ wpT d i (gath m K v >>= k) Q) := by
  unfold gath own owns
  simp only [Prog.lift, Prog.bind_op, Prog.bind_ret, Prog.pure_eq_ret, bind_assoc]
  iintro ⟨%f, %hf, H⟩ Hk
  unfold wpT
  rw [wp_assume_of _ _ _ _ (K.ok v hv)]
  iapply (SparseCore.wp_vectorLoadIdx 𝒱₀ (thr d i) none Set.univ (base := m) (set_acc m).subset) $$ H
  iintro H
  rw [read_acc, hf]
  have e : loadIdx (F := Ideal) (s := S49152) (e := .f32) A ![v] (K.inb v (K.ok v hv)) = fun x => at1 (N := 49152) A (v x).toNat := by
    funext x
    show A _ = _
    rw [at1_idx A]
    rfl
  rw [e]
  iapply Hk
  iexists f; isplitr
  · ipureintro; exact hf
  · iexact H

theorem wp_scat (acc : Memref sig .scVector .vmem S480 .f32) (A : Vec Ideal S480 .f32) (K : Chk 480) (v : IVec S16 32) (w : FVec Ideal S16 .f32)
    (hv : ∀ x, (v x).toNat < 480) (hl : ∀ x, (v x).toNat % 16 = (x 0).val) (k : PUnit → TileProg Ideal i α) :
    own d i acc A ⊢ iprop((own d i acc (fun j => A j + if (v (laneAt (j 0).val)).toNat = (j 0).val then w (laneAt (j 0).val) else (0 : EReal)) -∗ wpT d i (k ⟨⟩) Q)
      -∗ wpT d i (scat acc K v w >>= k) Q) := by
  unfold scat own owns
  simp only [Prog.lift, Prog.bind_op, Prog.bind_ret, Prog.pure_eq_ret, bind_assoc]
  iintro ⟨%f, %hf, H⟩ Hk
  unfold wpT
  rw [wp_assume_of _ _ _ _ (K.ok v hv)]
  rw [← set_acc acc]
  iapply (SparseCore.wp_vectorStoreIdx 𝒱₀ (thr d i) none Set.univ (base := acc)) $$ H
  iintro H
  iapply Hk
  iexists _; isplitr
  rotate_left
  · iexact H
  · ipureintro
    rw [read_write_acc, read_acc, hf]
    funext j
    exact storeIdx_lanes v w _ hl A j

theorem wp_scat3 (acc : Memref sig .scVector .vmem S480 .f32) (A : Vec Ideal S480 .f32) (K : Fin 3 → Chk 480) (m x : FVec Ideal S16 .f32)
    (k : PUnit → TileProg Ideal i α) :
    own d i acc A ⊢ iprop((own d i acc (fun j => A j + gcell (m (laneAt (j 0).val)) (x (laneAt (j 0).val)) (j 0).val) -∗ wpT d i (k ⟨⟩) Q)
      -∗ wpT d i (scat3 acc K lanes ones16 m x >>= k) Q) := by
  unfold scat3
  simp only [bind_assoc]
  have hb (y : S16.Idx) := binN_lt (confE_nonneg (m y))
  have hy (y : S16.Idx) : (y 0).val < 16 := (y 0).isLt
  have h0 := binIdx_nat m
  have h1 (y : S16.Idx) := binIdx_add_nat m y 160#32 160 rfl (by omega)
  have h2 (y : S16.Idx) := binIdx_add_nat m y 320#32 320 rfl (by omega)
  iintro H Hk
  iapply (wp_scat d acc A (K 0) (binIdx lanes (confOf m)) ones16 (by intro y; rw [h0]; have := hb y; have := hy y; omega)
    (by intro y; rw [h0]; have := hy y; omega)) $$ H
  iintro H
  iapply (wp_scat d acc _ (K 1) (addi (binIdx lanes (confOf m)) (broadcast S16 160#32)) (confOf m) (by intro y; rw [h1]; have := hb y; have := hy y; omega)
    (by intro y; rw [h1]; have := hy y; omega)) $$ H
  iintro H
  iapply (wp_scat d acc _ (K 2) (addi (binIdx lanes (confOf m)) (broadcast S16 320#32)) (hitOf m x) (by intro y; rw [h2]; have := hb y; have := hy y; omega)
    (by intro y; rw [h2]; have := hy y; omega)) $$ H
  iintro H
  iapply Hk
  have e : (fun j : S480.Idx => A j + gcell (m (laneAt (j 0).val)) (x (laneAt (j 0).val)) (j 0).val)
      = fun j => ((A j + if (binIdx lanes (confOf m) (laneAt (j 0).val)).toNat = (j 0).val then (ones16 : FVec Ideal S16 .f32) (laneAt (j 0).val) else (0 : EReal))
        + if (addi (binIdx lanes (confOf m)) (broadcast S16 160#32) (laneAt (j 0).val)).toNat = (j 0).val then confOf m (laneAt (j 0).val) else (0 : EReal))
        + if (addi (binIdx lanes (confOf m)) (broadcast S16 320#32) (laneAt (j 0).val)).toNat = (j 0).val then hitOf m x (laneAt (j 0).val) else (0 : EReal) := by
    funext j
    have hj : (j 0).val < 480 := (j 0).isLt
    rw [h0, h1, h2, confOf_apply, hitOf_apply, laneAt_val, show (ones16 : FVec Ideal S16 .f32) (laneAt (j 0).val) = (1 : EReal) from one_bits, gcell]
    have hb' := hb (laneAt (j 0).val)
    generalize binN (confE (m (laneAt (j 0).val))) = b at *
    generalize (j 0).val = n at *
    by_cases hn : n / 16 % 10 = b
    · rw [if_pos hn]
      by_cases c1 : n < 160
      · rw [if_pos c1, if_pos (by omega), if_neg (by omega), if_neg (by omega), add_zero, add_zero]
      · rw [if_neg c1]
        by_cases c2 : n < 320
        · rw [if_pos c2, if_neg (by omega), if_pos (by omega), if_neg (by omega), add_zero, add_zero]
        · have f0 : ¬ 16 * b + n % 16 = n := by omega
          have f1 : ¬ 160 + 16 * b + n % 16 = n := by omega
          have f2 : 320 + 16 * b + n % 16 = n := by omega
          rw [if_neg c2, if_neg f0, if_neg f1, if_pos f2, add_zero, add_zero]
    · rw [if_neg hn, if_neg (by omega), if_neg (by omega), if_neg (by omega), add_zero, add_zero, add_zero]
  rw [e]
  iexact H

/-- What a group of sixteen rows from `p` of a buffer, their labels from `q`, adds to the accumulator. -/
def addG (A : Vec Ideal S49152 .f32) (B : Vec Ideal S3072 .i32) (p q : ℕ) : Vec Ideal S480 .f32 :=
  fun j => gc A B (p + (j 0).val % 16) (q + (j 0).val % 16) (j 0).val

/-- An accumulator with a group added. -/
def plus (C D : Vec Ideal S480 .f32) : Vec Ideal S480 .f32 := fun j => (C j + D j : EReal)

/-- The four maxima of a half-block from `p` on. -/
def mx4 (A : Vec Ideal S49152 .f32) (p : ℕ) : Four Ideal := (mxv A p, mxv A (p + 16), mxv A (p + 32), mxv A (p + 48))

theorem wp_maxHalf (m : Memref sig .scVector .vmem S49152 .f32) (A : Vec Ideal S49152 .f32) (r : Fin 4 → Fin 2 → Fin 8 → Off 49152) (p : ℕ)
    (hr : ∀ t h c, (r t h c).o 0 = p + 16 * t.val + 128 * c.val + 24576 * h.val) (k : Four Ideal → TileProg Ideal i α) :
    own d i m A ⊢ iprop((own d i m A -∗ wpT d i (k (mx4 A p)) Q) -∗ wpT d i (maxHalf m r >>= k) Q) := by
  unfold maxHalf
  simp only [bind_assoc, pure_bind]
  iintro H Hk
  iapply (wp_maxG d m A (r 0) _ (hr 0)) $$ H; iintro H
  iapply (wp_maxG d m A (r 1) _ (hr 1)) $$ H; iintro H
  iapply (wp_maxG d m A (r 2) _ (hr 2)) $$ H; iintro H
  iapply (wp_maxG d m A (r 3) _ (hr 3)) $$ H; iintro H
  ihave Hw := Hk $$ H
  iexact Hw

/-- What a half-block adds: its rows from `p` of the buffer, their labels from `q`. -/
def addH (A : Vec Ideal S49152 .f32) (B : Vec Ideal S3072 .i32) (p q : ℕ) : Vec Ideal S480 .f32 :=
  plus (plus (plus (addG A B p q) (addG A B (p + 16) (q + 16))) (addG A B (p + 32) (q + 32))) (addG A B (p + 48) (q + 48))

theorem wp_finish (m : Memref sig .scVector .vmem S49152 .f32) (lb : Memref sig .scVector .vmem S3072 .i32) (acc : Memref sig .scVector .vmem S480 .f32)
    (A : Vec Ideal S49152 .f32) (B : Vec Ideal S3072 .i32) (C : Vec Ideal S480 .f32) (p q : ℕ)
    (hB : ∀ n, n < q + 64 → (at1 (N := 3072) B n).toNat < 16)
    (ol : Fin 4 → Off 3072) (b : Fin 4 → BitVec 32) (G : Fin 4 → Chk 49152) (K : Fin 4 → Fin 3 → Chk 480) (hp : p + 64 ≤ 23680)
    (ho : ∀ t, (ol t).o 0 = q + 16 * t.val) (hb : ∀ t, (b t).toNat = p + 16 * t.val) (k : PUnit → TileProg Ideal i α) :
    iprop(own d i m A ∗ own d i lb B ∗ own d i acc C)
      ⊢ iprop((iprop(own d i m A ∗ own d i lb B ∗ own d i acc (plus C (addH A B p q))) -∗ wpT d i (k ⟨⟩) Q)
        -∗ wpT d i (finish m lb acc lanes ones16 ol b G K (mx4 A p) >>= k) Q) := by
  have hx (x : S16.Idx) : (x 0).val < 16 := (x 0).isLt
  have hB' (t : Fin 4) (x : S16.Idx) : (rd (N := 3072) B (q + 16 * t.val) x).toNat < 16 := hB _ (by have := hx x; have := t.isLt; omega)
  have hi (t : Fin 4) (x : S16.Idx) := labIdx_nat (b t) (rd (N := 3072) B (q + 16 * t.val)) (p + 16 * t.val) (hb t) (by omega) x (hB' t x)
  have hv (t : Fin 4) (x : S16.Idx) : (labIdx lanes (b t) (rd (N := 3072) B (q + 16 * t.val)) x).toNat < 49152 := by
    rw [hi]; have := labOff_lt (hB' t x); have := hx x; omega
  have eG (C : Vec Ideal S480 .f32) (t : Fin 4) : (fun j : S480.Idx => C j + gcell (mxv A (p + 16 * t.val) (laneAt (j 0).val))
      (at1 (N := 49152) A (labIdx lanes (b t) (rd (N := 3072) B (q + 16 * t.val)) (laneAt (j 0).val)).toNat) (j 0).val)
      = plus C (addG A B (p + 16 * t.val) (q + 16 * t.val)) := by
    funext j
    rw [hi]
    rfl
  unfold finish
  simp only [bind_assoc]
  iintro ⟨Hm, Hl, Ha⟩ Hk
  iapply (wp_ld d lb B (ol 0).o (ol 0).inb (View.loadsAt_vmem h_S16) _ (ho 0)) $$ Hl; iintro Hl
  iapply (wp_ld d lb B (ol 1).o (ol 1).inb (View.loadsAt_vmem h_S16) _ (ho 1)) $$ Hl; iintro Hl
  iapply (wp_ld d lb B (ol 2).o (ol 2).inb (View.loadsAt_vmem h_S16) _ (ho 2)) $$ Hl; iintro Hl
  iapply (wp_ld d lb B (ol 3).o (ol 3).inb (View.loadsAt_vmem h_S16) _ (ho 3)) $$ Hl; iintro Hl
  iapply (wp_gath d m A (G 0) _ (hv 0)) $$ Hm; iintro Hm
  iapply (wp_gath d m A (G 1) _ (hv 1)) $$ Hm; iintro Hm
  iapply (wp_gath d m A (G 2) _ (hv 2)) $$ Hm; iintro Hm
  iapply (wp_gath d m A (G 3) _ (hv 3)) $$ Hm; iintro Hm
  iapply (wp_scat3 d acc C (K 0)) $$ Ha; iintro Ha
  iapply (wp_scat3 d acc _ (K 1)) $$ Ha; iintro Ha
  iapply (wp_scat3 d acc _ (K 2)) $$ Ha; iintro Ha
  iapply (wp_scat3 d acc _ (K 3)) $$ Ha; iintro Ha
  iapply Hk
  have e : plus C (addH A B p q) = plus (plus (plus (plus C (addG A B p q)) (addG A B (p + 16) (q + 16))) (addG A B (p + 32) (q + 32))) (addG A B (p + 48) (q + 48)) := by
    funext j; unfold addH plus; simp only [add_assoc]
  rw [e]
  have e0 := eG C 0
  have e1 := eG (plus C (addG A B p q)) 1
  have e2 := eG (plus (plus C (addG A B p q)) (addG A B (p + 16) (q + 16))) 2
  have e3 := eG (plus (plus (plus C (addG A B p q)) (addG A B (p + 16) (q + 16))) (addG A B (p + 32) (q + 32))) 3
  have e0' : plus C (addG A B p q) = plus C (addG A B (p + 16 * (0 : Fin 4).val) (q + 16 * (0 : Fin 4).val)) := rfl
  isplitl [Hm]; · iexact Hm
  isplitl [Hl]; · iexact Hl
  have ef : (plus (plus (plus (plus C (addG A B p q)) (addG A B (p + 16) (q + 16))) (addG A B (p + 32) (q + 32))) (addG A B (p + 48) (q + 48))) = _ := e3.symm.trans (by
    rw [show plus (plus (plus C (addG A B p q)) (addG A B (p + 16) (q + 16))) (addG A B (p + 32) (q + 32)) = _ from e2.symm,
      show plus (plus C (addG A B p q)) (addG A B (p + 16) (q + 16)) = _ from e1.symm, show plus C (addG A B p q) = _ from e0.symm])
  rw [ef]
  iexact Ha

end Cert.Proof.Ece

end
-- ==== Proof.Ece.Chunks.lean ====
/-
  A chunk's steps run: the accumulator gains every row of the chunk.
-/
module

public import proofs.«01_k».proof.Proof.Ece.Scat
public import Idealize.ShloMosaic.Lib.Scf

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) {i : grid0.Coords} {α : Type} {Q : α → sProp MM}

/-- Where half-block `n` of a chunk starts in the buffer. -/
def hp (n : ℕ) : ℕ := n / 2 * 1024 + n % 2 * 64

/-- An accumulator with the first `n` half-blocks of a chunk added. -/
def accH (A : Vec Ideal S49152 .f32) (B : Vec Ideal S3072 .i32) (C : Vec Ideal S480 .f32) : ℕ → Vec Ideal S480 .f32
  | 0 => C
  | n + 1 => plus (accH A B C n) (addH A B (hp n) (64 * n))

/-- A buffer, its labels and the accumulator. -/
abbrev three (i : grid0.Coords) (m : Memref sig .scVector .vmem S49152 .f32) (lb : Memref sig .scVector .vmem S3072 .i32) (acc : Memref sig .scVector .vmem S480 .f32)
    (A : Vec Ideal S49152 .f32) (B : Vec Ideal S3072 .i32) (C : Vec Ideal S480 .f32) : sProp MM := iprop(own d i m A ∗ own d i lb B ∗ own d i acc C)

section
variable (m : Memref sig .scVector .vmem S49152 .f32) (lb : Memref sig .scVector .vmem S3072 .i32) (acc : Memref sig .scVector .vmem S480 .f32)
  (A : Vec Ideal S49152 .f32) (B : Vec Ideal S3072 .i32) (C : Vec Ideal S480 .f32)

theorem wp_trip (n : ℕ) (hn : n ≤ 47) (hB : ∀ p, p < 64 * n + 64 → (at1 (N := 3072) B p).toNat < 16) (r : Fin 4 → Fin 2 → Fin 8 → Off 49152)
    (ol : Fin 4 → Off 3072) (b : Fin 4 → BitVec 32) (G : Fin 4 → Chk 49152) (K : Fin 4 → Fin 3 → Chk 480)
    (hr : ∀ t h c, (r t h c).o 0 = hp (n + 1) + 16 * t.val + 128 * c.val + 24576 * h.val)
    (ho : ∀ t, (ol t).o 0 = 64 * n + 16 * t.val) (hb : ∀ t, (b t).toNat = hp n + 16 * t.val) (k : Four Ideal → TileProg Ideal i α) :
    three d i m lb acc A B (accH A B C n)
      ⊢ iprop((three d i m lb acc A B (accH A B C (n + 1)) -∗ wpT d i (k (mx4 A (hp (n + 1)))) Q)
        -∗ wpT d i (trip m lb acc lanes ones16 r ol b G K (mx4 A (hp n)) >>= k) Q) := by
  unfold trip
  simp only [bind_assoc, pure_bind]
  iintro ⟨Hm, H⟩ Hk
  iapply (wp_maxHalf d m A r (hp (n + 1)) hr) $$ Hm; iintro Hm
  have hpn : hp n + 64 ≤ 23680 := by unfold hp; omega
  iapply (wp_finish d m lb acc A B (accH A B C n) (hp n) (64 * n) hB ol b G K hpn ho hb) $$ [Hm H]
  · isplitl [Hm]
    · iexact Hm
    · iexact H
  iintro H
  iapply Hk
  iexact H

theorem wp_chunkF (L : Scf.Loop 32) (ok : L.OK) (n : ℕ) (hL : L.trips = n) (hT : n ≤ 47)
    (hB : ∀ p, p < 64 * n + 64 → (at1 (N := 3072) B p).toNat < 16)
    (r : Fin L.trips → Fin 4 → Fin 2 → Fin 8 → Off 49152) (ol : Fin L.trips → Fin 4 → Off 3072) (b : Fin L.trips → Fin 4 → BitVec 32)
    (G : Fin 4 → Chk 49152) (K : Fin 4 → Fin 3 → Chk 480)
    (olF : Fin 4 → Off 3072) (b' : Fin 4 → BitVec 32) (G' : Fin 4 → Chk 49152) (K' : Fin 4 → Fin 3 → Chk 480)
    (hr : ∀ k t h c, (r k t h c).o 0 = hp (k.val + 1) + 16 * t.val + 128 * c.val + 24576 * h.val)
    (ho : ∀ k t, (ol k t).o 0 = 64 * k.val + 16 * t.val) (hb : ∀ k t, (b k t).toNat = hp k.val + 16 * t.val)
    (ho' : ∀ t, (olF t).o 0 = 64 * n + 16 * t.val) (hb' : ∀ t, (b' t).toNat = hp n + 16 * t.val) (k : PUnit → TileProg Ideal i α) :
    three d i m lb acc A B C
      ⊢ iprop((three d i m lb acc A B (accH A B C (n + 1)) -∗ wpT d i (k ⟨⟩) Q)
        -∗ wpT d i (chunkF L ok m lb acc lanes ones16 r ol b G K olF b' G' K' >>= k) Q) := by
  subst hL
  unfold chunkF
  simp only [bind_assoc, pure_bind]
  iintro ⟨Hm, H⟩ Hk
  iapply (wp_maxHalf d m A rP 0 (by intro t h c; show 16 * t.val + 128 * c.val + 24576 * h.val = _; omega)) $$ Hm; iintro Hm
  have hbody (j : Fin L.trips) (ms : Four Ideal) :
      (iprop(⌜ms = mx4 A (hp j.val)⌝ ∗ three d i m lb acc A B (accH A B C j.val)) : sProp MM)
        ⊢ wpT d i (trip (F := Ideal) m lb acc lanes ones16 (r j) (ol j) (b j) G K ms)
          (fun ms => iprop(⌜ms = mx4 A (hp (j.val + 1))⌝ ∗ three d i m lb acc A B (accH A B C (j.val + 1)))) := by
    iintro ⟨%hm, H⟩
    subst hm
    have e := wp_trip d (i := i) (Q := fun ms => iprop(⌜ms = mx4 A (hp (j.val + 1))⌝ ∗ three d i m lb acc A B (accH A B C (j.val + 1)))) m lb acc A B C j.val (by have := j.isLt; omega)
      (fun p hp => hB p (by have := j.isLt; omega)) (r j) (ol j) (b j) G K (hr j) (ho j) (hb j) pure
    rw [bind_pure] at e
    iapply e $$ H
    iintro H
    unfold wpT
    rw [show (pure (mx4 A (hp (j.val + 1))) : TileProg Ideal i (Four Ideal)) = .ret _ from rfl]
    rw [wp_ret]
    imodintro
    isplitr
    · ipureintro; trivial
    · iexact H
  iapply (Scf.wp_for_bind frame (wpE (defs₀ (F := Ideal)) 𝒱₀ (thr d i) none) Set.univ L.lb L.ub L.st ok (mx4 A 0)
    (fun k ms => trip m lb acc lanes ones16 (r k) (ol k) (b k) G K ms)
    (fun n ms => iprop(⌜ms = mx4 A (hp n)⌝ ∗ three d i m lb acc A B (accH A B C n))) hbody) $$ [Hm H]
  · isplitr
    · ipureintro; rfl
    · isplitl [Hm]
      · iexact Hm
      · iexact H
  iintro %ms ⟨%hm, H⟩
  subst hm
  have hpn : hp L.trips + 64 ≤ 23680 := by unfold hp; omega
  iapply (wp_finish d m lb acc A B (accH A B C L.trips) (hp L.trips) (64 * L.trips) hB olF b' G' K' hpn ho' hb') $$ H
  iintro H
  iapply Hk
  iexact H

theorem wp_chunkX (hB : ∀ p, p < 128 → (at1 (N := 3072) B p).toNat < 16) (r : Fin 4 → Fin 2 → Fin 8 → Off 49152)
    (ol : Fin 4 → Off 3072) (b : Fin 4 → BitVec 32) (G : Fin 4 → Chk 49152) (K : Fin 4 → Fin 3 → Chk 480)
    (olF : Fin 4 → Off 3072) (b' : Fin 4 → BitVec 32) (G' : Fin 4 → Chk 49152) (K' : Fin 4 → Fin 3 → Chk 480)
    (hr : ∀ t h c, (r t h c).o 0 = 64 + 16 * t.val + 128 * c.val + 24576 * h.val)
    (ho : ∀ t, (ol t).o 0 = 16 * t.val) (hb : ∀ t, (b t).toNat = 16 * t.val)
    (ho' : ∀ t, (olF t).o 0 = 64 + 16 * t.val) (hb' : ∀ t, (b' t).toNat = 64 + 16 * t.val) (k : PUnit → TileProg Ideal i α) :
    three d i m lb acc A B C
      ⊢ iprop((three d i m lb acc A B (accH A B C 2) -∗ wpT d i (k ⟨⟩) Q)
        -∗ wpT d i (chunkX m lb acc lanes ones16 r ol b G K olF b' G' K' >>= k) Q) := by
  unfold chunkX
  simp only [bind_assoc, pure_bind]
  iintro ⟨Hm, H⟩ Hk
  iapply (wp_maxHalf d m A rP 0 (by intro t h c; show 16 * t.val + 128 * c.val + 24576 * h.val = _; omega)) $$ Hm; iintro Hm
  iapply (wp_trip d m lb acc A B C 0 (by omega) (fun p hp => hB p (by omega)) r ol b G K hr (fun t => (ho t).trans (by omega)) (fun t => (hb t).trans (by show _ = 0 + _; omega))) $$ [Hm H]
  · isplitl [Hm]
    · iexact Hm
    · iexact H
  iintro H
  iapply (wp_finish d m lb acc A B (accH A B C 1) 64 64 (fun p hp => hB p (by omega)) olF b' G' K' (by omega) ho' hb') $$ H
  iintro H
  iapply Hk
  iexact H

end

/-! ### The kernel's chunks -/

theorem off10_0 : ∀ k t c, k0_off10 k (BitVec.ofNat 32 (16 * (t : Fin 4).val)) (BitVec.ofNat 32 (128 * (c : Fin 8).val)) 0 = hp (k.val + 1) + 16 * t.val + 128 * c.val := by
  decide +kernel
theorem off11_0 : ∀ k t c, k0_off11 k (BitVec.ofNat 32 (16 * (t : Fin 4).val)) (BitVec.ofNat 32 (128 * (c : Fin 8).val)) 0 = hp (k.val + 1) + 16 * t.val + 128 * c.val + 24576 := by
  decide +kernel
theorem off19_0 : ∀ k t c, k0_off19 k (BitVec.ofNat 32 (16 * (t : Fin 4).val)) (BitVec.ofNat 32 (128 * (c : Fin 8).val)) 0 = hp (k.val + 1) + 16 * t.val + 128 * c.val := by
  decide +kernel
theorem off20_0 : ∀ k t c, k0_off20 k (BitVec.ofNat 32 (16 * (t : Fin 4).val)) (BitVec.ofNat 32 (128 * (c : Fin 8).val)) 0 = hp (k.val + 1) + 16 * t.val + 128 * c.val + 24576 := by
  decide +kernel
theorem off28_0 : ∀ k t c, k0_off28 k (BitVec.ofNat 32 (16 * (t : Fin 4).val)) (BitVec.ofNat 32 (128 * (c : Fin 8).val)) 0 = hp (k.val + 1) + 16 * t.val + 128 * c.val := by
  decide +kernel
theorem off29_0 : ∀ k t c, k0_off29 k (BitVec.ofNat 32 (16 * (t : Fin 4).val)) (BitVec.ofNat 32 (128 * (c : Fin 8).val)) 0 = hp (k.val + 1) + 16 * t.val + 128 * c.val + 24576 := by
  decide +kernel
theorem off34_0 : ∀ t c, k0_off34 (BitVec.ofNat 32 (16 * (t : Fin 4).val)) (BitVec.ofNat 32 (128 * (c : Fin 8).val)) 0 = 64 + 16 * t.val + 128 * c.val := by
  decide +kernel
theorem off35_0 : ∀ t c, k0_off35 (BitVec.ofNat 32 (16 * (t : Fin 4).val)) (BitVec.ofNat 32 (128 * (c : Fin 8).val)) 0 = 64 + 16 * t.val + 128 * c.val + 24576 := by
  decide +kernel
theorem off12_0 : ∀ k t, k0_off12 k (BitVec.ofNat 32 (16 * (t : Fin 4).val)) 0 = 64 * k.val + 16 * t.val := by decide +kernel
theorem off21_0 : ∀ k t, k0_off21 k (BitVec.ofNat 32 (16 * (t : Fin 4).val)) 0 = 64 * k.val + 16 * t.val := by decide +kernel
theorem off30_0 : ∀ k t, k0_off30 k (BitVec.ofNat 32 (16 * (t : Fin 4).val)) 0 = 64 * k.val + 16 * t.val := by decide +kernel
theorem off36_0 : ∀ t, k0_off36 (BitVec.ofNat 32 (16 * (t : Fin 4).val)) 0 = 16 * t.val := by decide +kernel
theorem bB_nat : ∀ (k : Fin 47) (t : Fin 4), (bB (Scf.iv 1#32 1#32 k.val) t).toNat = hp k.val + 16 * t.val := by decide +kernel

theorem trips2 : k0_t2_loop.trips = 47 := by decide +kernel
theorem trips3 : k0_t3_loop.trips = 47 := by decide +kernel
theorem trips4 : k0_t4_loop.trips = 15 := by decide +kernel

section
variable (m : Memref sig .scVector .vmem S49152 .f32) (lb : Memref sig .scVector .vmem S3072 .i32) (acc : Memref sig .scVector .vmem S480 .f32)
  (A : Vec Ideal S49152 .f32) (B : Vec Ideal S3072 .i32) (C : Vec Ideal S480 .f32) (k : PUnit → TileProg Ideal i α)

theorem wp_chunk0 (hB : ∀ p, p < 3072 → (at1 (N := 3072) B p).toNat < 16) : three d i m lb acc A B C
      ⊢ iprop((three d i m lb acc A B (accH A B C 48) -∗ wpT d i (k ⟨⟩) Q) -∗ wpT d i (chunk0 m lb acc lanes ones16 >>= k) Q) := by
  have e := wp_chunkF d (i := i) (Q := Q) m lb acc A B C k0_t2_loop k0_t2_ok 47 trips2 (by omega) hB r2 ol2 (fun k => bB (Scf.iv 1#32 1#32 k.val)) G0 K0 (oF 3008 (by omega)) (bF 23616) G1 K1
    (by
      intro k t h c
      fin_cases h
      · exact (off10_0 k t c).trans (by simp)
      · exact (off11_0 k t c).trans (by simp))
    (fun k t => off12_0 k t) (fun k t => bB_nat ⟨k.val, lt_of_lt_of_eq k.isLt trips2⟩ t)
    (by intro t; rfl) (by intro t; fin_cases t <;> rfl) k
  exact e

theorem wp_chunk1 (hB : ∀ p, p < 3072 → (at1 (N := 3072) B p).toNat < 16) : three d i m lb acc A B C
      ⊢ iprop((three d i m lb acc A B (accH A B C 48) -∗ wpT d i (k ⟨⟩) Q) -∗ wpT d i (chunk1 m lb acc lanes ones16 >>= k) Q) := by
  have e := wp_chunkF d (i := i) (Q := Q) m lb acc A B C k0_t3_loop k0_t3_ok 47 trips3 (by omega) hB r3 ol3 (fun k => bB (Scf.iv 1#32 1#32 k.val)) G2 K2 (oF 3008 (by omega)) (bF 23616) G3 K3
    (by
      intro k t h c
      fin_cases h
      · exact (off19_0 k t c).trans (by simp)
      · exact (off20_0 k t c).trans (by simp))
    (fun k t => off21_0 k t) (fun k t => bB_nat ⟨k.val, lt_of_lt_of_eq k.isLt trips3⟩ t)
    (by intro t; rfl) (by intro t; fin_cases t <;> rfl) k
  exact e

theorem wp_chunkT (hB : ∀ p, p < 1024 → (at1 (N := 3072) B p).toNat < 16) : three d i m lb acc A B C
      ⊢ iprop((three d i m lb acc A B (accH A B C 16) -∗ wpT d i (k ⟨⟩) Q) -∗ wpT d i (chunkT m lb acc lanes ones16 >>= k) Q) := by
  have e := wp_chunkF d (i := i) (Q := Q) m lb acc A B C k0_t4_loop k0_t4_ok 15 trips4 (by omega) hB r4 ol4 (fun k => bB (Scf.iv 1#32 1#32 k.val)) G4 K4 (oF 960 (by omega)) (bF 7232) G5 K5
    (by
      intro k t h c
      fin_cases h
      · exact (off28_0 k t c).trans (by simp)
      · exact (off29_0 k t c).trans (by simp))
    (fun k t => off30_0 k t) (fun k t => bB_nat ⟨k.val, (lt_of_lt_of_eq k.isLt trips4).trans (by omega)⟩ t)
    (by intro t; rfl) (by intro t; fin_cases t <;> rfl) k
  exact e

theorem wp_chunkE (hB : ∀ p, p < 128 → (at1 (N := 3072) B p).toNat < 16) (h3 : k0_cond3 i = 1#1) : three d i m lb acc A B C
      ⊢ iprop((three d i m lb acc A B (accH A B C 2) -∗ wpT d i (k ⟨⟩) Q) -∗ wpT d i (chunkE h3 m lb acc lanes ones16 >>= k) Q) :=
  wp_chunkX d (i := i) (Q := Q) m lb acc A B C hB (rX i h3) (olX i h3) (bB 1#32) (G6 i h3) (K6 i h3) (oF 64 (by omega)) (bF 64) (G7 i h3) (K7 i h3)
    (by
      intro t h c
      fin_cases h
      · exact (off34_0 t c).trans (by simp)
      · exact (off35_0 t c).trans (by simp))
    (fun t => off36_0 t) (by intro t; fin_cases t <;> rfl) (by intro t; rfl) (by intro t; fin_cases t <;> rfl) k

end

end Cert.Proof.Ece

end
-- ==== Proof.Ece.Copy.lean ====
/-
  The copies run: a chunk's copies started, in flight, and waited for.
-/
module

public import proofs.«01_k».proof.Proof.Ece.Chunks
public import Idealize.ShloMosaic.Lib.Writes

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) (i : grid0.Coords) {α : Type} {Q : α → sProp MM}

abbrev EC : UEmb Counters MM := countersEmb (U := UU)

/-- The raw contents of a memref's buffer. -/
abbrev Raw {sp : Space} {s : Shape} {e : EltTy} (m : Memref sig .scVector sp s e) : Type := Buf (Elt Ideal) (m.view.loc (thr d i))

/-- A memref's elements held at share `q` with raw contents `f`. -/
abbrev pts {sp : Space} {s : Shape} {e : EltTy} (m : Memref sig .scVector sp s e) (q : PosShare TreeShare) (f : Raw d i m) : sProp MM :=
  (m.view.loc (thr d i) ↦[m.view.set]{q} f)

/-- A window of a memref. -/
abbrev win {sp : Space} {N n : ℕ} {e : EltTy} (m : Memref sig .scVector sp ⟨1, ![N]⟩ e) (w : Win N n) : Memref sig .scVector sp ⟨1, ![n]⟩ e :=
  m.slice (Rect.unit (s := ⟨1, ![N]⟩) w.o (⟨1, ![n]⟩ : Shape).size w.inb) (fun _ => rfl)

/-- What a copy delivers: its destination rewritten, its source's share back. -/
def land {sp sp' : Space} {s : Shape} {e : EltTy} (src : Memref sig .scVector sp s e) (dst : Memref sig .scVector sp' s e)
    (q : PosShare TreeShare) (fs : Raw d i src) (fd : Raw d i dst) : sProp MM :=
  iprop((dst.view.loc (thr d i) ↦[dst.view.set]{fullShare} (dst.view.write (Elt Ideal) fd (src.view.read (Elt Ideal) fs) Finset.univ))
    ∗ (src.view.loc (thr d i) ↦[src.view.set]{q} fs))

instance land_storable {sp sp' : Space} {s : Shape} {e : EltTy} (src : Memref sig .scVector sp s e) (dst : Memref sig .scVector sp' s e)
    (q : PosShare TreeShare) (fs : Raw d i src) (fd : Raw d i dst) : Storable (upEmb : UEmb _ MM) (land d i src dst q fs fd) := by
  unfold land; infer_instance

/-- The elements of a memref outside a window of it. -/
abbrev rest {sp : Space} {N n : ℕ} {e : EltTy} (m : Memref sig .scVector sp ⟨1, ![N]⟩ e) (w : Win N n) (q : PosShare TreeShare) (f : Raw d i m) : sProp MM :=
  (m.view.loc (thr d i) ↦[m.view.set \ (win m w).view.set]{q} f)

theorem win_subset {sp : Space} {N n : ℕ} {e : EltTy} (m : Memref sig .scVector sp ⟨1, ![N]⟩ e) (w : Win N n) : (win m w).view.set ⊆ m.view.set :=
  View.set_slice_subset _ _

theorem split_win {sp : Space} {N n : ℕ} {e : EltTy} (m : Memref sig .scVector sp ⟨1, ![N]⟩ e) (w : Win N n) (q : PosShare TreeShare) (f : Raw d i m) :
    pts d i m q f ⊣⊢ iprop(pts d i (win m w) q f ∗ rest d i m w q f) :=
  pointsTo_split_subset (win_subset m w)

theorem split_share {sp : Space} {s : Shape} {e : EltTy} (m : Memref sig .scVector sp s e) (q : PosShare TreeShare) (f : Raw d i m) :
    pts d i m q f ⊣⊢ iprop(pts d i m q.left f ∗ pts d i m q.right f) :=
  pointsTo_share (PosShare.mem_left_op_right _)

/-- The waits of a tile so far: those it began with and its own copies'; nothing it owes bars a wait. -/
def ow (O : CellTallies nD τ sig (HIx 1)) (W₀ : Waits sig (HIx 1)) : sProp MM :=
  iprop(∃ W, ⌜∀ p ∈ W, p ∈ W₀ ∨ p.2 = none⌝ ∗ Transfers.MayWaits (thr d i) none O ∗ owes (thr d i) O W)

/-! ### Reading a buffer after its copies -/

theorem win_disj {sp : Space} {N n n' : ℕ} {e : EltTy} (m : Memref sig .scVector sp ⟨1, ![N]⟩ e) (w : Win N n) (w' : Win N n') (h : w.o 0 + n ≤ w'.o 0) :
    Disjoint (win m w).view.set (win m w').view.set := by
  rw [Finset.disjoint_left]
  intro x hx hx'
  obtain ⟨y, -, rfl⟩ := Finset.mem_map.mp hx
  obtain ⟨y', -, e⟩ := Finset.mem_map.mp hx'
  have e' := m.view.emb.injective e
  have e2 := congrArg (fun z => (z 0).val) e'
  have h1 : (y 0).val < n := (y 0).isLt
  change w'.o 0 + 1 * (y' 0).val = w.o 0 + 1 * (y 0).val at e2
  omega

theorem at1_lt {N : ℕ} [NeZero N] {α : Type} (A : (⟨1, ![N]⟩ : Shape).Idx → α) (x : (⟨1, ![N]⟩ : Shape).Idx) (p : ℕ) (h : (x 0).val = p) : at1 A p = A x := by
  rw [at1_idx A x, h]

/-- Entry `p` of a window is the memref's entry `p` further on. -/
theorem read_win {sp : Space} {N n : ℕ} [NeZero N] {e : EltTy} (m : Memref sig .scVector sp ⟨1, ![N]⟩ e) (w : Win N n) (f : Raw d i m)
    (y : (⟨1, ![n]⟩ : Shape).Idx) : (win m w).view.read (Elt Ideal) f y = at1 (N := N) (m.view.read (Elt Ideal) f) (w.o 0 + (y 0).val) := by
  refine Eq.trans ?_ (at1_lt (N := N) (m.view.read (Elt Ideal) f) ((Rect.unit (s := ⟨1, ![N]⟩) w.o (⟨1, ![n]⟩ : Shape).size w.inb).emb y) _ ?_).symm
  · rfl
  show w.o 0 + 1 * (y 0).val = _
  omega

/-- Inside a written window the memref reads what was written; -/
theorem read_write_in {sp : Space} {N n : ℕ} [NeZero N] {e : EltTy} (m : Memref sig .scVector sp ⟨1, ![N]⟩ e) (w : Win N n) (f : Raw d i m)
    (X : Vec Ideal ⟨1, ![n]⟩ e) (p : ℕ) (hp : p < n) :
    at1 (N := N) (m.view.read (Elt Ideal) ((win m w).view.write (Elt Ideal) f X Finset.univ)) (w.o 0 + p) = X (fun a => ⟨p, by rw [Subsingleton.elim a 0]; exact hp⟩) := by
  rw [at1_lt _ ((Rect.unit (s := ⟨1, ![N]⟩) w.o (⟨1, ![n]⟩ : Shape).size w.inb).emb (fun a => ⟨p, by rw [Subsingleton.elim a 0]; exact hp⟩)) _
    (by show w.o 0 + 1 * p = _; omega)]
  exact View.read_slice_write_emb (v := m.view) (Rect.unit (s := ⟨1, ![N]⟩) w.o (⟨1, ![n]⟩ : Shape).size w.inb) f X (Finset.mem_univ _)

/-- outside it, what it held. -/
theorem read_write_out {sp : Space} {N n : ℕ} [NeZero N] {e : EltTy} (m : Memref sig .scVector sp ⟨1, ![N]⟩ e) (w : Win N n) (f : Raw d i m)
    (X : Vec Ideal ⟨1, ![n]⟩ e) (p : ℕ) (hN : p < N) (hp : p < w.o 0 ∨ w.o 0 + n ≤ p) :
    at1 (N := N) (m.view.read (Elt Ideal) ((win m w).view.write (Elt Ideal) f X Finset.univ)) p = at1 (N := N) (m.view.read (Elt Ideal) f) p := by
  unfold at1
  refine View.read_slice_write_of_not_mem (v := m.view) (Rect.unit (s := ⟨1, ![N]⟩) w.o (⟨1, ![n]⟩ : Shape).size w.inb) f X _ ?_
  intro h
  obtain ⟨y, -, e⟩ := Finset.mem_map.mp h
  have e2 := congrArg (fun z => (z 0).val) e
  have h1 : (y 0).val < n := (y 0).isLt
  change w.o 0 + 1 * (y 0).val = p % N at e2
  rw [Nat.mod_eq_of_lt hN] at e2
  omega

theorem fits {n : ℕ} (hn : 24576 + n ≤ 49152) : 0 + n ≤ 49152 := by omega
abbrev w0 {n : ℕ} (hn : 24576 + n ≤ 49152) : Win 49152 n := winAt 49152 n 0 (fits hn)
abbrev w1 {n : ℕ} (hn : 24576 + n ≤ 49152) : Win 49152 n := winAt 49152 n 24576 hn

/-- Inside a written window a buffer is what was written, whatever it held. -/
theorem write_same {sp : Space} {s : Shape} {e : EltTy} (v : Memref sig .scVector sp s e) (f g : Raw d i v) (X : Vec Ideal s e)
    (x) (hx : x ∈ v.view.set) : v.view.write (Elt Ideal) f X Finset.univ x = v.view.write (Elt Ideal) g X Finset.univ x := by
  obtain ⟨y, -, rfl⟩ := Finset.mem_map.mp hx
  rw [View.write_emb_of_mem _ _ (Finset.mem_univ _), View.write_emb_of_mem _ _ (Finset.mem_univ _)]

/-- Outside the window it is what it was. -/
theorem write_other {sp : Space} {s : Shape} {e : EltTy} (v : Memref sig .scVector sp s e) (f : Raw d i v) (X : Vec Ideal s e)
    (x) (hx : x ∉ v.view.set) : v.view.write (Elt Ideal) f X Finset.univ x = f x :=
  View.write_of_not_mem _ _ _ (by rw [View.setOn_univ]; exact hx)

section Logits

variable {n : ℕ} (hn0 : 0 < n) (hn : 24576 + n ≤ 49152)
  (flat : Memref sig .scVector .hbm S32000000 .f32) (m : Memref sig .scVector .vmem S49152 .f32) (sem : DmaSems sig S_) (a b : Win 32000000 n)
  (q : PosShare TreeShare) (fs : Raw d i flat)

/-- The two halves' deliveries. -/
def land2 (fd : Raw d i m) : Fin 2 → sProp MM
  | 0 => land d i (win flat a) (win m (w0 hn)) q.left fs fd
  | 1 => land d i (win flat b) (win m (w1 hn)) q.right fs fd

instance land2_storable (fd : Raw d i m) (t : Fin 2) : Storable (upEmb : UEmb _ MM) (land2 d i hn flat m a b q fs fd t) := by
  fin_cases t <;> (simp only [land2]; infer_instance)

/-- Both deliveries. -/
theorem land2_all (fd : Raw d i m) : bigSep Finset.univ (land2 d i hn flat m a b q fs fd)
    ⊢ iprop((pts d i (win m (w0 hn)) fullShare ((win m (w0 hn)).view.write (Elt Ideal) fd ((win flat a).view.read (Elt Ideal) fs) Finset.univ) ∗ pts d i (win flat a) q.left fs)
      ∗ (pts d i (win m (w1 hn)) fullShare ((win m (w1 hn)).view.write (Elt Ideal) fd ((win flat b).view.read (Elt Ideal) fs) Finset.univ) ∗ pts d i (win flat b) q.right fs)) := by
  rw [bigSep_fin_two]
  exact .rfl

/-- What a copy of a half counts. -/
abbrev cr {n : ℕ} (hn : 24576 + n ≤ 49152) (m : Memref sig .scVector .vmem S49152 .f32) : ℕ := (win m (w0 hn)).view.dmaCredit

/-- A chunk's logits in flight. -/
def flightF : sProp MM :=
  iprop(∃ fd : Raw d i m, Transfers.Batch EC (thr d i) (.dma sem.sem) none (cr hn m) (land2 d i hn flat m a b q fs fd) 2 0
    ∗ (m.view.loc (thr d i) ↦[(m.view.set \ (win m (w0 hn)).view.set) \ (win m (w1 hn)).view.set]{fullShare} fd)
    ∗ rest d i flat a q.left fs ∗ rest d i flat b q.right fs)

include hn0 in
theorem wp_startF (A : Vec Ideal S49152 .f32) (k : PUnit → TileProg Ideal i α) :
    iprop(own d i m A ∗ pts d i flat q fs ∗ semVal (thr d i, .dma sem.sem) 0)
      ⊢ iprop((flightF d i hn flat m sem a b q fs -∗ wpT d i (k ⟨⟩) Q)
        -∗ wpT d i (cpF flat a m (winAt 49152 n 0 (fits hn)) sem >>= fun _ => cpF flat b m (winAt 49152 n 24576 hn) sem >>= k) Q) := by
  unfold own owns
  iintro ⟨⟨%fd, %hf, Hm⟩, Hs, Hv⟩ Hk
  have hsub : (win m (w1 hn)).view.set ⊆ m.view.set \ (win m (w0 hn)).view.set := by
    intro x hx
    rw [Finset.mem_sdiff]
    exact ⟨win_subset _ _ hx, fun h => Finset.disjoint_left.mp (win_disj m (w0 hn) (w1 hn) (by show 0 + n ≤ 24576; omega)) h hx⟩
  ihave Hm := (split_win d i m (w0 hn) fullShare fd).1 $$ Hm
  icases Hm with ⟨Hm0, Hm⟩
  ihave Hm := (pointsTo_split_subset (q := fullShare) (f := fd) hsub).1 $$ Hm
  icases Hm with ⟨Hm1, Hm⟩
  ihave Hs := (split_share d i flat q fs).1 $$ Hs
  icases Hs with ⟨Hsa, Hsb⟩
  ihave Hsa := (split_win d i flat a q.left fs).1 $$ Hsa
  icases Hsa with ⟨Hsa, Hra⟩
  ihave Hsb := (split_win d i flat b q.right fs).1 $$ Hsb
  icases Hsb with ⟨Hsb, Hrb⟩
  unfold wpT
  simp only [Prog.lift, Prog.bind_op, Prog.bind_ret]
  imod (Transfers.batch_alloc' EC (thr d i) none (cr hn m) (land2 d i hn flat m a b q fs fd) (sm := .dma sem.sem) (E := Set.univ)) $$ Hv with HB
  iapply (Transfers.wp_dmaBatch EC 𝒱₀ (thr d i) none (src := win flat a) (dst := win m (w0 hn)) none (cr hn m) rfl subset_rfl
    (D := land2 d i hn flat m a b q fs fd) (j := 0) (u := 0) (by decide) (by omega) (by exact .rfl)) $$ [Hsa Hm0 HB]
  · isplitl [Hsa]; · iexact Hsa
    isplitl [Hm0]; · iexact Hm0
    iexact HB
  iintro HB
  iapply (Transfers.wp_dmaBatch EC 𝒱₀ (thr d i) none (src := win flat b) (dst := win m (w1 hn)) none (cr hn m) rfl subset_rfl
    (D := land2 d i hn flat m a b q fs fd) (j := 1) (u := 0) (by decide) (by omega) (by exact .rfl)) $$ [Hsb Hm1 HB]
  · isplitl [Hsb]; · iexact Hsb
    isplitl [Hm1]; · iexact Hm1
    iexact HB
  iintro HB
  iapply Hk
  unfold flightF
  iexists fd
  isplitl [HB]; · iexact HB
  isplitl [Hm]; · iexact Hm
  isplitl [Hra]; · iexact Hra
  iexact Hrb

/-- A buffer holding the logits of a chunk: each half's window from its place in the flat array. -/
def HasF (A : Vec Ideal S49152 .f32) : Prop :=
  ∀ p, p < n → at1 (N := 49152) A p = at1 (N := 32000000) (flat.view.read (Elt Ideal) fs) (a.o 0 + p)
    ∧ at1 (N := 49152) A (24576 + p) = at1 (N := 32000000) (flat.view.read (Elt Ideal) fs) (b.o 0 + p)

include hn0 in
theorem wp_awaitF (O : CellTallies nD τ sig (HIx 1)) (W₀ : Waits sig (HIx 1)) (k : PUnit → TileProg Ideal i α) :
    iprop(flightF d i hn flat m sem a b q fs ∗ ow d i O W₀)
      ⊢ iprop((iprop(∃ A, ⌜HasF d i flat a b fs A⌝ ∗ own d i m A ∗ pts d i flat q fs ∗ semVal (thr d i, .dma sem.sem) 0 ∗ ow d i O W₀) -∗ wpT d i (k ⟨⟩) Q)
        -∗ wpT d i (wtF flat a m (winAt 49152 n 0 (fits hn)) sem >>= fun _ => wtF flat b m (winAt 49152 n 24576 hn) sem >>= k) Q) := by
  have hcr : 0 < cr hn m := View.dmaCredit_pos _ (Shape.numel_pos fun a => by rw [Subsingleton.elim a 0]; exact hn0)
  unfold flightF ow
  iintro ⟨⟨%fd, HB, Hm, Hra, Hrb⟩, ⟨%W, %hW, #Hmw, HO⟩⟩ Hk
  unfold wpT
  simp only [Prog.lift, Prog.bind_op, Prog.bind_ret]
  iapply (Transfers.wp_waitBatchO EC 𝒱₀ (thr d i) none (srcw := win flat a) (dstw := win m (w0 hn)) none (N := cr hn m) rfl
    (D := land2 d i hn flat m a b q fs fd) (u := 0) (by omega) (O := O) (W := W)) $$ [HB HO]
  · isplitl [HB]; · iexact HB
    isplitl [HO]; · iexact HO
    iapply (Transfers.MayWaits.elim (.dma sem.sem)); iexact Hmw
  iintro ⟨HB, HO⟩
  iapply (Transfers.wp_waitBatchLastO EC 𝒱₀ (thr d i) none (srcw := win flat b) (dstw := win m (w1 hn)) none (N := cr hn m) rfl hcr
    (D := land2 d i hn flat m a b q fs fd) (u := 0 + cr hn m) (by omega) (O := O) (W := insert (SemLoc.dma sem.sem, none) W)) $$ [HB HO]
  · isplitl [HB]; · iexact HB
    isplitl [HO]; · iexact HO
    iapply (Transfers.MayWaits.elim (.dma sem.sem)); iexact Hmw
  iintro ⟨HD, Hv, HO⟩
  iapply Hk
  ihave HD := (land2_all d i hn flat m a b q fs fd) $$ HD
  icases HD with ⟨⟨H0, Ha⟩, H1, Hb⟩
  have hdis := win_disj m (w0 hn) (w1 hn) (by show 0 + n ≤ 24576; omega)
  have hsub : (win m (w1 hn)).view.set ⊆ m.view.set \ (win m (w0 hn)).view.set := by
    intro x hx
    rw [Finset.mem_sdiff]
    exact ⟨win_subset _ _ hx, fun h => Finset.disjoint_left.mp hdis h hx⟩
  generalize hX : (win flat a).view.read (Elt Ideal) fs = X
  generalize hY : (win flat b).view.read (Elt Ideal) fs = Y
  let f0 : Raw d i m := (win m (w0 hn)).view.write (Elt Ideal) fd X Finset.univ
  let g : Raw d i m := (win m (w1 hn)).view.write (Elt Ideal) f0 Y Finset.univ
  ihave H0 := (BIBase.Entails.of_eq (pointsTo_congr (g := g) (q := fullShare) (fun x hx =>
    ((write_other d i (win m (w1 hn)) f0 Y x (fun h => Finset.disjoint_left.mp hdis hx h)).symm)))) $$ H0
  ihave H1 := (BIBase.Entails.of_eq (pointsTo_congr (g := g) (q := fullShare) (fun x hx => write_same d i (win m (w1 hn)) fd f0 Y x hx))) $$ H1
  ihave Hm := (BIBase.Entails.of_eq (pointsTo_congr (g := g) (q := fullShare) (fun x hx => by
    rw [Finset.mem_sdiff, Finset.mem_sdiff] at hx
    exact ((write_other d i (win m (w1 hn)) f0 Y x hx.2).trans (write_other d i (win m (w0 hn)) fd X x hx.1.2)).symm))) $$ Hm
  ihave Hm := (pointsTo_split_subset (q := fullShare) (f := g) hsub).2 $$ [H1 Hm]
  · isplitl [H1]; · iexact H1
    iexact Hm
  ihave Hm := (split_win d i m (w0 hn) fullShare g).2 $$ [H0 Hm]
  · isplitl [H0]; · iexact H0
    iexact Hm
  ihave Ha := (split_win d i flat a q.left fs).2 $$ [Ha Hra]
  · isplitl [Ha]; · iexact Ha
    iexact Hra
  ihave Hb := (split_win d i flat b q.right fs).2 $$ [Hb Hrb]
  · isplitl [Hb]; · iexact Hb
    iexact Hrb
  ihave Hs := (split_share d i flat q fs).2 $$ [Ha Hb]
  · isplitl [Ha]; · iexact Ha
    iexact Hb
  iexists (m.view.read (Elt Ideal) g)
  isplitr
  · ipureintro
    intro p hp
    constructor
    · have h1 := read_write_out d i m (w1 hn) f0 Y p (by omega) (.inl (by show p < 24576; omega))
      have h0 := read_write_in d i m (w0 hn) fd X p hp
      rw [show (w0 hn).o 0 + p = p from Nat.zero_add p] at h0
      rw [h1, h0, ← hX, read_win]
    · have h1 := read_write_in d i m (w1 hn) f0 Y p hp
      rw [show (w1 hn).o 0 + p = 24576 + p from rfl] at h1
      rw [h1, ← hY, read_win]
  isplitl [Hm]
  · unfold own owns
    iexists g
    isplitr; · ipureintro; rfl
    iexact Hm
  isplitl [Hs]; · iexact Hs
  isplitl [Hv]; · iexact Hv
  iexists (insert (SemLoc.dma sem.sem, none) (insert (SemLoc.dma sem.sem, none) W))
  isplitr
  · ipureintro
    intro p hp
    rcases Finset.mem_insert.mp hp with rfl | hp
    · exact .inr rfl
    rcases Finset.mem_insert.mp hp with rfl | hp
    · exact .inr rfl
    exact hW p hp
  isplitr; · iexact Hmw
  iexact HO

end Logits

section Labels

variable {l : ℕ} (hl0 : 0 < l) (hl : 0 + l ≤ 3072)
  (lab : Memref sig .scVector .hbm S2000000 .i32) (lb : Memref sig .scVector .vmem S3072 .i32) (lsem : DmaSems sig S_) (c : Win 2000000 l)
  (q : PosShare TreeShare) (fl : Raw d i lab)

abbrev wl {l : ℕ} (hl : 0 + l ≤ 3072) : Win 3072 l := winAt 3072 l 0 hl

/-- The labels' delivery. -/
def land1 (fd : Raw d i lb) : Fin 1 → sProp MM := fun _ => land d i (win lab c) (win lb (wl hl)) q fl fd

instance land1_storable (fd : Raw d i lb) (t : Fin 1) : Storable (upEmb : UEmb _ MM) (land1 d i hl lab lb c q fl fd t) := by
  unfold land1; infer_instance

/-- Its one delivery. -/
theorem land1_all (fd : Raw d i lb) : bigSep Finset.univ (land1 d i hl lab lb c q fl fd)
    ⊢ iprop(pts d i (win lb (wl hl)) fullShare ((win lb (wl hl)).view.write (Elt Ideal) fd ((win lab c).view.read (Elt Ideal) fl) Finset.univ) ∗ pts d i (win lab c) q fl) := by
  rw [bigSep_univ_of_subsingleton (0 : Fin 1)]
  exact .rfl

abbrev crl {l : ℕ} (hl : 0 + l ≤ 3072) (lb : Memref sig .scVector .vmem S3072 .i32) : ℕ := (win lb (wl hl)).view.dmaCredit

/-- A chunk's labels in flight. -/
def flightI : sProp MM :=
  iprop(∃ fd : Raw d i lb, Transfers.Batch EC (thr d i) (.dma lsem.sem) none (crl hl lb) (land1 d i hl lab lb c q fl fd) 1 0
    ∗ rest d i lb (wl hl) fullShare fd ∗ rest d i lab c q fl)

include hl0 in
theorem wp_startI (B : Vec Ideal S3072 .i32) (k : PUnit → TileProg Ideal i α) :
    iprop(own d i lb B ∗ pts d i lab q fl ∗ semVal (thr d i, .dma lsem.sem) 0)
      ⊢ iprop((flightI d i hl lab lb lsem c q fl -∗ wpT d i (k ⟨⟩) Q)
        -∗ wpT d i (cpI lab c lb (winAt 3072 l 0 hl) lsem >>= k) Q) := by
  unfold own owns
  iintro ⟨⟨%fd, %hf, Hm⟩, Hs, Hv⟩ Hk
  ihave Hm := (split_win d i lb (wl hl) fullShare fd).1 $$ Hm
  icases Hm with ⟨Hm0, Hm⟩
  ihave Hs := (split_win d i lab c q fl).1 $$ Hs
  icases Hs with ⟨Hs, Hr⟩
  unfold wpT
  simp only [Prog.lift, Prog.bind_op, Prog.bind_ret]
  imod (Transfers.batch_alloc' EC (thr d i) none (crl hl lb) (land1 d i hl lab lb c q fl fd) (sm := .dma lsem.sem) (E := Set.univ)) $$ Hv with HB
  iapply (Transfers.wp_dmaBatch EC 𝒱₀ (thr d i) none (src := win lab c) (dst := win lb (wl hl)) none (crl hl lb) rfl subset_rfl
    (D := land1 d i hl lab lb c q fl fd) (j := 0) (u := 0) (by decide) (by omega) (by exact .rfl)) $$ [Hs Hm0 HB]
  · isplitl [Hs]; · iexact Hs
    isplitl [Hm0]; · iexact Hm0
    iexact HB
  iintro HB
  iapply Hk
  unfold flightI
  iexists fd
  isplitl [HB]; · iexact HB
  isplitl [Hm]; · iexact Hm
  iexact Hr

/-- A buffer holding the labels of a chunk. -/
def HasI (B : Vec Ideal S3072 .i32) : Prop :=
  ∀ p, p < l → at1 (N := 3072) B p = at1 (N := 2000000) (lab.view.read (Elt Ideal) fl) (c.o 0 + p)

include hl0 in
theorem wp_awaitI (O : CellTallies nD τ sig (HIx 1)) (W₀ : Waits sig (HIx 1)) (k : PUnit → TileProg Ideal i α) :
    iprop(flightI d i hl lab lb lsem c q fl ∗ ow d i O W₀)
      ⊢ iprop((iprop(∃ B, ⌜HasI d i lab c fl B⌝ ∗ own d i lb B ∗ pts d i lab q fl ∗ semVal (thr d i, .dma lsem.sem) 0 ∗ ow d i O W₀) -∗ wpT d i (k ⟨⟩) Q)
        -∗ wpT d i (wtI lab c lb (winAt 3072 l 0 hl) lsem >>= k) Q) := by
  have hcr : 0 < crl hl lb := View.dmaCredit_pos _ (Shape.numel_pos fun a => by rw [Subsingleton.elim a 0]; exact hl0)
  unfold flightI ow
  iintro ⟨⟨%fd, HB, Hm, Hr⟩, ⟨%W, %hW, #Hmw, HO⟩⟩ Hk
  unfold wpT
  simp only [Prog.lift, Prog.bind_op, Prog.bind_ret]
  iapply (Transfers.wp_waitBatchLastO EC 𝒱₀ (thr d i) none (srcw := win lab c) (dstw := win lb (wl hl)) none (N := crl hl lb) rfl hcr
    (D := land1 d i hl lab lb c q fl fd) (u := 0) (by omega) (O := O) (W := W)) $$ [HB HO]
  · isplitl [HB]; · iexact HB
    isplitl [HO]; · iexact HO
    iapply (Transfers.MayWaits.elim (.dma lsem.sem)); iexact Hmw
  iintro ⟨HD, Hv, HO⟩
  iapply Hk
  ihave HD := (land1_all d i hl lab lb c q fl fd) $$ HD
  icases HD with ⟨H0, Hs⟩
  generalize hX : (win lab c).view.read (Elt Ideal) fl = X
  let g : Raw d i lb := (win lb (wl hl)).view.write (Elt Ideal) fd X Finset.univ
  ihave Hm := (BIBase.Entails.of_eq (pointsTo_congr (g := g) (q := fullShare) (fun x hx =>
    (write_other d i (win lb (wl hl)) fd X x (Finset.mem_sdiff.mp hx).2).symm))) $$ Hm
  ihave Hm := (split_win d i lb (wl hl) fullShare g).2 $$ [H0 Hm]
  · isplitl [H0]; · iexact H0
    iexact Hm
  ihave Hs := (split_win d i lab c q fl).2 $$ [Hs Hr]
  · isplitl [Hs]; · iexact Hs
    iexact Hr
  iexists (lb.view.read (Elt Ideal) g)
  isplitr
  · ipureintro
    intro p hp
    have h0 := read_write_in d i lb (wl hl) fd X p hp
    rw [show (wl hl).o 0 + p = p from Nat.zero_add p] at h0
    rw [h0, ← hX, read_win]
  isplitl [Hm]
  · unfold own owns
    iexists g
    isplitr; · ipureintro; rfl
    iexact Hm
  isplitl [Hs]; · iexact Hs
  isplitl [Hv]; · iexact Hv
  iexists (insert (SemLoc.dma lsem.sem, none) W)
  isplitr
  · ipureintro
    intro p hp
    rcases Finset.mem_insert.mp hp with rfl | hp
    · exact .inr rfl
    exact hW p hp
  isplitr; · iexact Hmw
  iexact HO

end Labels

section Both

variable {n l : ℕ} (hn0 : 0 < n) (hl0 : 0 < l) (hn : 24576 + n ≤ 49152) (hl : 0 + l ≤ 3072)
  (flat : Memref sig .scVector .hbm S32000000 .f32) (lab : Memref sig .scVector .hbm S2000000 .i32)
  (m : Memref sig .scVector .vmem S49152 .f32) (lb : Memref sig .scVector .vmem S3072 .i32) (sem lsem : DmaSems sig S_)
  (a b : Win 32000000 n) (c : Win 2000000 l) (q q' : PosShare TreeShare) (fs : Raw d i flat) (fl : Raw d i lab)

/-- A slot at rest: its buffers, its shares of the sources, its two semaphores at zero. -/
def idle : sProp MM :=
  iprop(∃ A B, own d i m A ∗ own d i lb B ∗ pts d i flat q fs ∗ pts d i lab q' fl ∗ semVal (thr d i, .dma sem.sem) 0 ∗ semVal (thr d i, .dma lsem.sem) 0)

/-- A slot with a chunk in flight. -/
def busy : sProp MM := iprop(flightF d i hn flat m sem a b q fs ∗ flightI d i hl lab lb lsem c q' fl)

/-- A slot whose chunk has arrived. -/
def full : sProp MM :=
  iprop(∃ A B, ⌜HasF d i flat a b fs A ∧ HasI d i lab c fl B⌝ ∗ own d i m A ∗ own d i lb B ∗ pts d i flat q fs ∗ pts d i lab q' fl
    ∗ semVal (thr d i, .dma sem.sem) 0 ∗ semVal (thr d i, .dma lsem.sem) 0)

include hn0 hl0 in
theorem wp_start (k : PUnit → TileProg Ideal i α) :
    idle d i flat lab m lb sem lsem q q' fs fl
      ⊢ iprop((busy d i hn hl flat lab m lb sem lsem a b c q q' fs fl -∗ wpT d i (k ⟨⟩) Q)
        -∗ wpT d i (start hn hl flat lab m lb sem lsem a b c >>= k) Q) := by
  unfold idle busy
  iintro ⟨%A, %B, Hm, Hl, Hf, Hb, Hv, Hw⟩ Hk
  unfold start
  simp only [bind_assoc]
  iapply (wp_startF d i hn0 hn flat m sem a b q fs A) $$ [Hm Hf Hv]
  · isplitl [Hm]; · iexact Hm
    isplitl [Hf]; · iexact Hf
    iexact Hv
  iintro HF
  iapply (wp_startI d i hl0 hl lab lb lsem c q' fl B) $$ [Hl Hb Hw]
  · isplitl [Hl]; · iexact Hl
    isplitl [Hb]; · iexact Hb
    iexact Hw
  iintro HI
  iapply Hk
  isplitl [HF]; · iexact HF
  iexact HI

include hn0 hl0 in
theorem wp_await (O : CellTallies nD τ sig (HIx 1)) (W₀ : Waits sig (HIx 1)) (k : PUnit → TileProg Ideal i α) :
    iprop(busy d i hn hl flat lab m lb sem lsem a b c q q' fs fl ∗ ow d i O W₀)
      ⊢ iprop((iprop(full d i flat lab m lb sem lsem a b c q q' fs fl ∗ ow d i O W₀) -∗ wpT d i (k ⟨⟩) Q)
        -∗ wpT d i (await hn hl flat lab m lb sem lsem a b c >>= k) Q) := by
  unfold full busy
  iintro ⟨⟨HF, HI⟩, Ho⟩ Hk
  unfold await
  simp only [bind_assoc]
  iapply (wp_awaitF d i hn0 hn flat m sem a b q fs O W₀) $$ [HF Ho]
  · isplitl [HF]; · iexact HF
    iexact Ho
  iintro ⟨%A, %hA, Hm, Hf, Hv, Ho⟩
  iapply (wp_awaitI d i hl0 hl lab lb lsem c q' fl O W₀) $$ [HI Ho]
  · isplitl [HI]; · iexact HI
    iexact Ho
  iintro ⟨%B, %hB, Hl, Hb, Hw, Ho⟩
  iapply Hk
  isplitr [Ho]
  · iexists A; iexists B
    isplitr; · ipureintro; exact ⟨hA, hB⟩
    isplitl [Hm]; · iexact Hm
    isplitl [Hl]; · iexact Hl
    isplitl [Hf]; · iexact Hf
    isplitl [Hb]; · iexact Hb
    isplitl [Hv]; · iexact Hv
    iexact Hw
  iexact Ho

end Both

end Cert.Proof.Ece

end
-- ==== Proof.Ece.Acc.lean ====
/-
  What an accumulator holds: sums over the rows, group by group.
-/
module

public import proofs.«01_k».proof.Proof.Ece.Copy

@[expose] public section

noncomputable section

namespace Cert.Proof.Ece

open Cert.KernelIdeal Cert.KernelIdeal.Gen
open Idealize.ShloMosaic

/-- The flat array and the labels, as the tiles read them. -/
abbrev Flat : Type := Vec Ideal S32000000 .f32
abbrev Labs : Type := Vec Ideal S2000000 .i32

/-- Where class 0 of row `r` lies in the flat array. -/
def fpos (r : ℕ) : ℕ := r / 128 * 1024 + r % 128

/-- The largest logit of row `r`. -/
def mxR (Fl : Flat) (r : ℕ) : EReal :=
  let a (h c : ℕ) : EReal := at1 (N := 32000000) Fl (fpos r + 128 * c + 16000000 * h)
  max (max (max (max (a 0 0) (a 0 1)) (max (a 0 2) (a 0 3))) (max (max (a 0 4) (a 0 5)) (max (a 0 6) (a 0 7))))
    (max (max (max (a 1 0) (a 1 1)) (max (a 1 2) (a 1 3))) (max (max (a 1 4) (a 1 5)) (max (a 1 6) (a 1 7))))

/-- The logit of class `l` of row `r`. -/
def clR (Fl : Flat) (r l : ℕ) : EReal := at1 (N := 32000000) Fl (fpos r + l / 8 * 16000000 + l % 8 * 128)

/-- The label of row `r`. -/
def lbR (La : Labs) (r : ℕ) : ℕ := BitVec.toNat (at1 (N := 2000000) La r)

/-- What row `r` adds to entry `j`. -/
def cellR (Fl : Flat) (La : Labs) (r j : ℕ) : EReal := gcell (mxR Fl r) (clR Fl r (lbR La r)) j

/-- An accumulator after the groups from `n₀` to `n₁`. -/
def accT (Fl : Flat) (La : Labs) (n₀ n₁ : ℕ) : Vec Ideal S480 .f32 :=
  fun j => ∑ G ∈ Finset.Ico n₀ n₁, cellR Fl La (16 * G + (j 0).val % 16) (j 0).val

/-- A chunk of `nb` blocks from block `b` on, in a buffer. -/
structure Holds (Fl : Flat) (La : Labs) (b nb : ℕ) (A : Vec Ideal S49152 .f32) (B : Vec Ideal S3072 .i32) : Prop where
  lo : ∀ p, p < 1024 * nb → at1 (N := 49152) A p = at1 (N := 32000000) Fl (1024 * b + p)
  hi : ∀ p, p < 1024 * nb → at1 (N := 49152) A (24576 + p) = at1 (N := 32000000) Fl (1024 * b + 16000000 + p)
  lb : ∀ p, p < 128 * nb → at1 (N := 3072) B p = at1 (N := 2000000) La (128 * b + p)

variable {Fl : Flat} {La : Labs} {b nb : ℕ} {A : Vec Ideal S49152 .f32} {B : Vec Ideal S3072 .i32}

/-- Row `t` of the chunk adds what the row of the whole adds. -/
theorem gc_row (H : Holds Fl La b nb A B) (hLa : ∀ r, lbR La r < 16) (t p j : ℕ) (ht : t < 128 * nb) (hp : p = t / 128 * 1024 + t % 128) :
    gc A B p t j = cellR Fl La (128 * b + t) j := by
  have hpos : fpos (128 * b + t) = 1024 * b + p := by unfold fpos; omega
  have hl : (at1 (N := 3072) B t) = at1 (N := 2000000) La (128 * b + t) := H.lb t ht
  have h0 : ∀ c, c < 8 → at1 (N := 49152) A (p + 128 * c + 24576 * 0) = at1 (N := 32000000) Fl (fpos (128 * b + t) + 128 * c + 16000000 * 0) := by
    intro c hc
    rw [show p + 128 * c + 24576 * 0 = p + 128 * c by omega, H.lo _ (by omega), hpos]
    congr 1; omega
  have h1 : ∀ c, c < 8 → at1 (N := 49152) A (p + 128 * c + 24576 * 1) = at1 (N := 32000000) Fl (fpos (128 * b + t) + 128 * c + 16000000 * 1) := by
    intro c hc
    rw [show p + 128 * c + 24576 * 1 = 24576 + (p + 128 * c) by omega, H.hi _ (by omega), hpos]
    congr 1; omega
  have hm : mx A p = mxR Fl (128 * b + t) := by
    unfold mx mxR
    simp only
    rw [h0 0 (by omega), h0 1 (by omega), h0 2 (by omega), h0 3 (by omega), h0 4 (by omega), h0 5 (by omega), h0 6 (by omega), h0 7 (by omega),
      h1 0 (by omega), h1 1 (by omega), h1 2 (by omega), h1 3 (by omega), h1 4 (by omega), h1 5 (by omega), h1 6 (by omega), h1 7 (by omega)]
  unfold gc cellR
  rw [hm, hl]
  have hlt := hLa (128 * b + t)
  unfold lbR at hlt
  congr 1
  unfold clR lbR
  generalize BitVec.toNat (at1 (N := 2000000) La (128 * b + t)) = l at hlt ⊢
  unfold labOff
  rcases Nat.lt_or_ge l 8 with h | h
  · have := h0 (l % 8) (by omega)
    rw [show p + (l / 8 * 24576 + l % 8 * 128) = p + 128 * (l % 8) + 24576 * 0 by omega, this]
    congr 1; omega
  · have := h1 (l % 8) (by omega)
    rw [show p + (l / 8 * 24576 + l % 8 * 128) = p + 128 * (l % 8) + 24576 * 1 by omega, this]
    congr 1; omega

theorem accT_succ (n₀ n : ℕ) (h : n₀ ≤ n) (j : S480.Idx) :
    accT Fl La n₀ (n + 1) j = (accT Fl La n₀ n j + cellR Fl La (16 * n + (j 0).val % 16) (j 0).val : EReal) :=
  Finset.sum_Ico_succ_top h _

/-- Half-block `n` of the chunk adds its four groups. -/
theorem accT_half (H : Holds Fl La b nb A B) (hLa : ∀ r, lbR La r < 16) (n₀ n : ℕ) (h0 : n₀ ≤ 8 * b) (hn : n < 2 * nb) :
    plus (accT Fl La n₀ (8 * b + 4 * n)) (addH A B (hp n) (64 * n)) = accT Fl La n₀ (8 * b + 4 * (n + 1)) := by
  funext j
  have hg : ∀ g, g < 4 → gc A B (hp n + 16 * g + (j 0).val % 16) (64 * n + 16 * g + (j 0).val % 16) (j 0).val
      = cellR Fl La (16 * (8 * b + 4 * n + g) + (j 0).val % 16) (j 0).val := by
    intro g hg
    rw [gc_row H hLa (64 * n + 16 * g + (j 0).val % 16) _ _ (by omega) (by unfold hp; omega)]
    congr 1; omega
  rw [show 8 * b + 4 * (n + 1) = 8 * b + 4 * n + 3 + 1 by omega, accT_succ _ _ (by omega), accT_succ _ _ (by omega), accT_succ _ _ (by omega), accT_succ _ _ (by omega)]
  have e0 := hg 0 (by omega)
  have e1 := hg 1 (by omega)
  have e2 := hg 2 (by omega)
  have e3 := hg 3 (by omega)
  simp only [Nat.mul_zero, Nat.add_zero, Nat.mul_one] at e0 e1
  rw [show 16 * 2 = 32 from rfl] at e2
  rw [show 16 * 3 = 48 from rfl] at e3
  rw [← e0, ← e1, ← e2, ← e3]
  unfold plus addH plus addG
  simp only [add_assoc]

/-- A whole chunk adds all its groups. -/
theorem accT_chunk (H : Holds Fl La b nb A B) (hLa : ∀ r, lbR La r < 16) (n₀ : ℕ) (h0 : n₀ ≤ 8 * b) (n : ℕ) (hn : n ≤ 2 * nb) :
    accH A B (accT Fl La n₀ (8 * b)) n = accT Fl La n₀ (8 * b + 4 * n) := by
  induction n with
  | zero => rfl
  | succ n ih =>
    show plus (accH A B (accT Fl La n₀ (8 * b)) n) (addH A B (hp n) (64 * n)) = _
    rw [ih (by omega)]
    exact accT_half H hLa n₀ n h0 (by omega)

theorem Holds.labels (H : Holds Fl La b nb A B) (hLa : ∀ r, lbR La r < 16) (p : ℕ) (hp : p < 128 * nb) : (at1 (N := 3072) B p).toNat < 16 := by
  rw [H.lb p hp]; exact hLa _

end Cert.Proof.Ece

end
-- ==== Proof.Ece.Slot.lean ====
/-
  The slots: a chunk started, waited for and worked through; the accumulator zeroed; the row copied out.
-/
module

public import proofs.«01_k».proof.Proof.Ece.Acc

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) (i : grid0.Coords) {α : Type} {Q : α → sProp MM}

/-! ### Zeroing -/

theorem zeros_apply (x : S16.Idx) : (zeros16 (F := Ideal)) x = (0 : EReal) := zero_bits

/-- A store over a whole rectangle of the accumulator. -/
theorem wp_st (acc : Memref sig .scVector .vmem S480 .f32) (r : Rect S480) (w : r.shape.Idx → Elt Ideal .f32)
    (hx : (acc.access r : View sig .scVector _ _ _).Stores Finset.univ) (hm) (k : PUnit → TileProg Ideal i α) (f : Raw d i acc) :
    (acc.view.loc (thr d i) ↦[acc.view.set]{fullShare} f)
      ⊢ iprop(((acc.view.loc (thr d i) ↦[acc.view.set]{fullShare} (acc.access r).write (Elt Ideal) f w Finset.univ) -∗ wpT d i (k ⟨⟩) Q)
        -∗ wpT d i (.op (.store acc r w Finset.univ hx hm) k) Q) :=
  wp_store 𝒱₀ (thr d i) none Set.univ (m := acc) (r := r) (View.set_slice_subset _ _)

theorem wp_zeroFrom (acc : Memref sig .scVector .vmem S480 .f32) (n k : ℕ) (h : k + n = 30) (A : Vec Ideal S480 .f32)
    (hA : ∀ p, p < 16 * k → at1 (N := 480) A p = (0 : EReal)) (kk : PUnit → TileProg Ideal i α) :
    own d i acc A ⊢ iprop((own d i acc (fun _ => (0 : EReal)) -∗ wpT d i (kk ⟨⟩) Q) -∗ wpT d i (zeroFrom acc n k h >>= kk) Q) := by
  induction n generalizing k A with
  | zero =>
    have e : A = fun _ => (0 : EReal) := by
      funext x
      rw [at1_idx A x]
      have := (x 0).isLt
      exact hA _ (by have h2 : (x 0).val < 480 := (x 0).isLt; omega)
    rw [e]
    iintro H Hk
    unfold zeroFrom
    rw [pure_bind]
    iapply Hk; iexact H
  | succ n ih =>
    have hk : 16 * k + 16 ≤ 480 := by omega
    unfold zeroFrom
    simp only [bind_assoc]
    iintro H Hk
    iapply (wp_ld d (i := i) (Q := Q) acc A ![16 * k] _ _ (16 * k) rfl _) $$ H
    iintro H
    unfold own owns
    icases H with ⟨%f, %hf, H⟩
    simp only [Prog.lift, Prog.bind_op, Prog.bind_ret]
    iapply (wp_st d i (Q := Q) acc _ _ _ _ _ f) $$ H
    iintro H
    let w : Win 480 16 := winAt 480 16 (16 * k) hk
    let g : Raw d i acc := (win acc w).view.write (Elt Ideal) f (zeros16 (F := Ideal)) Finset.univ
    iapply (ih (k + 1) _ (acc.view.read (Elt Ideal) g) ?_) $$ [H]
    · intro p hp
      rcases Nat.lt_or_ge p (16 * k) with h1 | h1
      · have := read_write_out (N := 480) (n := 16) d i acc w f (zeros16 (F := Ideal)) p (by omega) (.inl h1)
        exact this.trans (by rw [hf]; exact hA p h1)
      · have := read_write_in (N := 480) (n := 16) d i acc w f (zeros16 (F := Ideal)) (p - 16 * k) (by omega)
        rw [show w.o 0 + (p - 16 * k) = p by show 16 * k + (p - 16 * k) = p; omega] at this
        exact this.trans (zeros_apply _)
    · unfold own owns
      iexists g
      isplitr
      · ipureintro; rfl
      · iexact H
    · iexact Hk

/-! ### The row's copy out -/

section Out

variable (acc : Memref sig .scVector .vmem S480 .f32) (out : Memref sig .scVector .hbm S32x480 .f32)

/-- The row's delivery. -/
def landO (fs : Raw d i acc) (fd : Raw d i (rowOf (i := i) out)) : Fin 1 → sProp MM := fun _ =>
  iprop(pts d i (rowOf (i := i) out) fullShare ((rowOf (i := i) out).view.write (Elt Ideal) fd (acc.view.read (Elt Ideal) fs) Finset.univ)
    ∗ pts d i acc fullShare fs)

instance landO_storable (fs : Raw d i acc) (fd : Raw d i (rowOf (i := i) out)) (t : Fin 1) :
    Storable (upEmb : UEmb _ MM) (landO d i acc out fs fd t) := by
  unfold landO pts; infer_instance

theorem landO_all (fs : Raw d i acc) (fd : Raw d i (rowOf (i := i) out)) : bigSep Finset.univ (landO d i acc out fs fd)
    ⊢ iprop(pts d i (rowOf (i := i) out) fullShare ((rowOf (i := i) out).view.write (Elt Ideal) fd (acc.view.read (Elt Ideal) fs) Finset.univ)
    ∗ pts d i acc fullShare fs) := by
  rw [bigSep_univ_of_subsingleton (0 : Fin 1)]
  exact .rfl

abbrev crO : ℕ := (rowOf (i := i) out).view.dmaCredit

theorem wp_out (hacc : acc.IsWhole) (so : DmaSems sig S_)
    (C R : Vec Ideal S480 .f32) (O : CellTallies nD τ sig (HIx 1)) (W₀ : Waits sig (HIx 1)) (k : PUnit → TileProg Ideal i α) :
    iprop(own d i acc C ∗ own d i (rowOf (i := i) out) R ∗ semVal (thr d i, .dma so.sem) 0 ∗ ow d i O W₀)
      ⊢ iprop((iprop(own d i acc C ∗ own d i (rowOf (i := i) out) C ∗ semVal (thr d i, .dma so.sem) 0 ∗ ow d i O W₀) -∗ wpT d i (k ⟨⟩) Q)
        -∗ wpT d i (Prog.lift (.enqueueDma acc (.here (rowOf (i := i) out)) (.dma so.sem) hacc.wordExact ((View.wordExact_bits rfl).reshape _ _) ⟨Or.inl rfl, trivial⟩)
          >>= fun _ => Prog.lift (.waitDma2 so.sem acc (rowOf (i := i) out) hacc.wordExact ((View.wordExact_bits rfl).reshape _ _))
          >>= k) Q) := by
  have hcr : 0 < crO i out := View.dmaCredit_pos _ (by decide)
  unfold own owns ow
  iintro ⟨⟨%fs, %hfs, Hs⟩, ⟨%fd, %hfd, Hd⟩, Hv, ⟨%W, %hW, #Hmw, HO⟩⟩ Hk
  unfold wpT
  simp only [Prog.lift, Prog.bind_op, Prog.bind_ret]
  imod (Transfers.batch_alloc' EC (thr d i) none (crO i out) (landO d i acc out fs fd) (sm := .dma so.sem) (E := Set.univ)) $$ Hv with HB
  iapply (Transfers.wp_dmaBatch EC 𝒱₀ (thr d i) none (src := acc) (dst := rowOf (i := i) out) none (crO i out) rfl subset_rfl
    (D := landO d i acc out fs fd) (j := 0) (u := 0) (by decide) (by omega) (by exact .rfl)) $$ [Hs Hd HB]
  · isplitl [Hs]; · iexact Hs
    isplitl [Hd]; · iexact Hd
    iexact HB
  iintro HB
  iapply (Transfers.wp_waitBatchLastO EC 𝒱₀ (thr d i) none (srcw := acc) (dstw := rowOf (i := i) out) none (N := crO i out) rfl hcr
    (D := landO d i acc out fs fd) (u := 0) (by omega) (O := O) (W := W)) $$ [HB HO]
  · isplitl [HB]; · iexact HB
    isplitl [HO]; · iexact HO
    iapply (Transfers.MayWaits.elim (.dma so.sem)); iexact Hmw
  iintro ⟨HD, Hv, HO⟩
  iapply Hk
  ihave HD := (landO_all d i acc out fs fd) $$ HD
  icases HD with ⟨H0, Hs⟩
  isplitl [Hs]
  · iexists fs
    isplitr; · ipureintro; exact hfs
    iexact Hs
  isplitl [H0]
  · iexists _
    isplitr
    · ipureintro
      exact (View.read_write_univ (v := (rowOf (i := i) out).view) fd _).trans hfs
    iexact H0
  isplitl [Hv]; · iexact Hv
  iexists (insert (SemLoc.dma so.sem, none) W)
  isplitr
  · ipureintro
    intro p hp
    rcases Finset.mem_insert.mp hp with rfl | hp
    · exact .inr rfl
    exact hW p hp
  isplitr; · iexact Hmw
  iexact HO

end Out

end Cert.Proof.Ece

end
-- ==== Proof.Ece.Body.lean ====
/-
  A tile's whole program: from zeroed accumulator to the row written, with the value it leaves.
-/
module

public import proofs.«01_k».proof.Proof.Ece.Slot

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) (i : grid0.Coords) {α : Type} {Q : α → sProp MM}

/-- The first block of the tile. -/
def b0 (i : grid0.Coords) : ℕ := 976 * (i 1).val + 488 * (i 0).val + min (2 * (i 1).val + (i 0).val) 9

/-- The block after the tile's last. -/
def bE (i : grid0.Coords) : ℕ := b0 i + 488 + (if 2 * (i 1).val + (i 0).val < 9 then 1 else 0)

theorem cond1_iff : ∀ k, k0_cond1 k = 1#1 ↔ k.val < 9 := by decide +kernel
theorem cond2_iff : ∀ k, k0_cond2 k = 1#1 ↔ k.val < 9 := by decide +kernel
theorem cond3_iff : ∀ i, k0_cond3 i = 1#1 ↔ 2 * (i 1).val + (i 0).val < 9 := by decide +kernel
theorem trips1 : k0_t1_loop.trips = 10 := by decide +kernel

theorem Win.same {N n : ℕ} {a b : Win N n} (h : a.o 0 = b.o 0) : a = b := by
  obtain ⟨o, ho⟩ := a
  obtain ⟨o', ho'⟩ := b
  have : o = o' := by funext x; rw [Subsingleton.elim x 0]; exact h
  subst this; rfl

/-- The windows of the chunk that begins at block `t`. -/
structure At {n l : ℕ} (a b : Win 32000000 n) (c : Win 2000000 l) (t : ℕ) : Prop where
  a : a.o 0 = 1024 * t
  b : b.o 0 = 1024 * t + 16000000
  c : c.o 0 = 128 * t

section

variable (flat : Memref sig .scVector .hbm S32000000 .f32) (lab : Memref sig .scVector .hbm S2000000 .i32)
  (q q' : PosShare TreeShare) (fs : Raw d i flat) (fl : Raw d i lab)

/-- The flat logits as they stand. -/
abbrev FlOf : Flat := flat.view.read (Elt Ideal) fs
/-- The labels as they stand. -/
abbrev LaOf : Labs := lab.view.read (Elt Ideal) fl

section

variable {n l : ℕ} (hn : 24576 + n ≤ 49152) (hl : 0 + l ≤ 3072)
  (m : Memref sig .scVector .vmem S49152 .f32) (lb : Memref sig .scVector .vmem S3072 .i32) (sem lsem : DmaSems sig S_)

/-- A slot with the chunk that begins at block `t` in flight. -/
def slotBusy (t : ℕ) : sProp MM :=
  iprop(∃ a b c, ⌜At a b c t⌝ ∗ busy d i (n := n) (l := l) hn hl flat lab m lb sem lsem a b c q q' fs fl)

theorem wpS_start (hn0 : 0 < n) (hl0 : 0 < l) (a b : Win 32000000 n) (c : Win 2000000 l) (t : ℕ) (hA : At a b c t) (k : PUnit → TileProg Ideal i α) :
    idle d i flat lab m lb sem lsem q q' fs fl
      ⊢ iprop((slotBusy d i flat lab q q' fs fl hn hl m lb sem lsem t -∗ wpT d i (k ⟨⟩) Q)
        -∗ wpT d i (start hn hl flat lab m lb sem lsem a b c >>= k) Q) := by
  iintro H Hk
  iapply (wp_start d i hn0 hl0 hn hl flat lab m lb sem lsem a b c q q' fs fl k) $$ H
  iintro H
  iapply Hk
  unfold slotBusy
  iexists a; iexists b; iexists c
  isplitr; · ipureintro; exact hA
  iexact H

theorem wp_slot (nb : ℕ) (hnb : 0 < nb) (en : n = 1024 * nb) (el : l = 128 * nb)
    (acc : Memref sig .scVector .vmem S480 .f32) (hLa : ∀ r, lbR (LaOf d i lab fl) r < 16) (n₀ t : ℕ) (h0 : n₀ ≤ 8 * t)
    (a b : Win 32000000 n) (c : Win 2000000 l) (hA : At a b c t)
    (O : CellTallies nD τ sig (HIx 1)) (W₀ : Waits sig (HIx 1)) (prog : TileProg Ideal i PUnit)
    (hprog : ∀ (A : Vec Ideal S49152 .f32) (B : Vec Ideal S3072 .i32) (C : Vec Ideal S480 .f32) (k : PUnit → TileProg Ideal i α),
      (∀ p, p < 128 * nb → (at1 (N := 3072) B p).toNat < 16) → three d i m lb acc A B C
      ⊢ iprop((three d i m lb acc A B (accH A B C (2 * nb)) -∗ wpT d i (k ⟨⟩) Q) -∗ wpT d i (prog >>= k) Q))
    (k : PUnit → TileProg Ideal i α) :
    iprop(slotBusy d i flat lab q q' fs fl hn hl m lb sem lsem t ∗ ow d i O W₀ ∗ own d i acc (accT (FlOf d i flat fs) (LaOf d i lab fl) n₀ (8 * t)))
      ⊢ iprop((iprop(idle d i flat lab m lb sem lsem q q' fs fl ∗ ow d i O W₀ ∗ own d i acc (accT (FlOf d i flat fs) (LaOf d i lab fl) n₀ (8 * (t + nb)))) -∗ wpT d i (k ⟨⟩) Q)
        -∗ wpT d i (await hn hl flat lab m lb sem lsem a b c >>= fun _ => prog >>= k) Q) := by
  subst en el
  unfold slotBusy
  iintro ⟨⟨%a', %b', %c', %hA', Hb⟩, Ho, Hc⟩ Hk
  obtain rfl : a' = a := Win.same (hA'.a.trans hA.a.symm)
  obtain rfl : b' = b := Win.same (hA'.b.trans hA.b.symm)
  obtain rfl : c' = c := Win.same (hA'.c.trans hA.c.symm)
  iapply (wp_await d i (by omega) (by omega) hn hl flat lab m lb sem lsem a' b' c' q q' fs fl O W₀ (fun _ => prog >>= k)) $$ [Hb Ho]
  · isplitl [Hb]; · iexact Hb
    iexact Ho
  unfold full
  iintro ⟨⟨%A, %B, %hAB, Hm, Hl, Hf, Hb, Hv, Hw⟩, Ho⟩
  have H : Holds (FlOf d i flat fs) (LaOf d i lab fl) t nb A B := by
    refine ⟨fun p hp => ?_, fun p hp => ?_, fun p hp => ?_⟩
    · rw [← hA.a]; exact (hAB.1 p hp).1
    · rw [← hA.b]; exact (hAB.1 p hp).2
    · rw [← hA.c]; exact hAB.2 p hp
  iapply (hprog A B (accT (FlOf d i flat fs) (LaOf d i lab fl) n₀ (8 * t)) k (H.labels hLa)) $$ [Hm Hl Hc]
  · unfold three
    isplitl [Hm]; · iexact Hm
    isplitl [Hl]; · iexact Hl
    iexact Hc
  rw [accT_chunk H hLa n₀ h0 (2 * nb) le_rfl, show 8 * t + 4 * (2 * nb) = 8 * (t + nb) by omega]
  unfold three
  iintro ⟨Hm, Hl, Hc⟩
  iapply Hk
  isplitr [Ho Hc]
  · unfold idle
    iexists A; iexists B
    isplitl [Hm]; · iexact Hm
    isplitl [Hl]; · iexact Hl
    isplitl [Hf]; · iexact Hf
    isplitl [Hb]; · iexact Hb
    isplitl [Hv]; · iexact Hv
    iexact Hw
  isplitl [Ho]; · iexact Ho
  iexact Hc

end

/-- A whole chunk's slot between two trips: in flight while chunks are left. -/
def slotAt (m : Memref sig .scVector .vmem S49152 .f32) (lb : Memref sig .scVector .vmem S3072 .i32) (sem lsem : DmaSems sig S_) (k t : ℕ) : sProp MM :=
  if k < 10 then slotBusy d i flat lab q q' fs fl (n := 24576) (l := 3072) (by omega) (by omega) m lb sem lsem t
  else idle d i flat lab m lb sem lsem q q' fs fl

theorem at7 (k) : At (n := 24576) (l := 3072) ⟨k0_off7 i k, k0_off7_inb i k⟩ ⟨k0_off8 i k, k0_off8_inb i k⟩ ⟨k0_off9 i k, k0_off9_inb i k⟩ (b0 i + 48 * k.val) := by
  constructor
  · show k0_off7 i k 0 = _; rw [k0_off7_eq]; show _ + _ = _; unfold b0; omega
  · show k0_off8 i k 0 = _; rw [k0_off8_eq]; show _ + _ = _; unfold b0; omega
  · show k0_off9 i k 0 = _; rw [k0_off9_eq]; show _ + _ = _; unfold b0; omega

theorem at13 (k) (h : k0_cond1 k = 1#1) : At (n := 24576) (l := 3072) ⟨k0_off13 i k, k0_off13_inb i k h⟩ ⟨k0_off14 i k, k0_off14_inb i k h⟩ ⟨k0_off15 i k, k0_off15_inb i k h⟩ (b0 i + 48 * (k.val + 1)) := by
  constructor
  · show k0_off13 i k 0 = _; rw [k0_off13_eq]; show _ + _ = _; unfold b0; omega
  · show k0_off14 i k 0 = _; rw [k0_off14_eq]; show _ + _ = _; unfold b0; omega
  · show k0_off15 i k 0 = _; rw [k0_off15_eq]; show _ + _ = _; unfold b0; omega

theorem at16 (k) : At (n := 24576) (l := 3072) ⟨k0_off16 i k, k0_off16_inb i k⟩ ⟨k0_off17 i k, k0_off17_inb i k⟩ ⟨k0_off18 i k, k0_off18_inb i k⟩ (b0 i + 48 * k.val + 24) := by
  constructor
  · show k0_off16 i k 0 = _; rw [k0_off16_eq]; show _ + _ = _; unfold b0; omega
  · show k0_off17 i k 0 = _; rw [k0_off17_eq]; show _ + _ = _; unfold b0; omega
  · show k0_off18 i k 0 = _; rw [k0_off18_eq]; show _ + _ = _; unfold b0; omega

theorem at22 (k) (h : k0_cond2 k = 1#1) : At (n := 24576) (l := 3072) ⟨k0_off22 i k, k0_off22_inb i k h⟩ ⟨k0_off23 i k, k0_off23_inb i k h⟩ ⟨k0_off24 i k, k0_off24_inb i k h⟩ (b0 i + 48 * (k.val + 1) + 24) := by
  constructor
  · show k0_off22 i k 0 = _; rw [k0_off22_eq]; show _ + _ = _; unfold b0; omega
  · show k0_off23 i k 0 = _; rw [k0_off23_eq]; show _ + _ = _; unfold b0; omega
  · show k0_off24 i k 0 = _; rw [k0_off24_eq]; show _ + _ = _; unfold b0; omega

theorem at1_  : At (n := 24576) (l := 3072) ⟨k0_off1 i, k0_off1_inb i⟩ ⟨k0_off2 i, k0_off2_inb i⟩ ⟨k0_off3 i, k0_off3_inb i⟩ (b0 i) := by
  constructor
  · show k0_off1 i 0 = _; rw [k0_off1_eq]; show _ + _ = _; unfold b0; omega
  · show k0_off2 i 0 = _; rw [k0_off2_eq]; show _ + _ = _; unfold b0; omega
  · show k0_off3 i 0 = _; rw [k0_off3_eq]; show _ + _ = _; unfold b0; omega

theorem at4  : At (n := 24576) (l := 3072) ⟨k0_off4 i, k0_off4_inb i⟩ ⟨k0_off5 i, k0_off5_inb i⟩ ⟨k0_off6 i, k0_off6_inb i⟩ (b0 i + 24) := by
  constructor
  · show k0_off4 i 0 = _; rw [k0_off4_eq]; show _ + _ = _; unfold b0; omega
  · show k0_off5 i 0 = _; rw [k0_off5_eq]; show _ + _ = _; unfold b0; omega
  · show k0_off6 i 0 = _; rw [k0_off6_eq]; show _ + _ = _; unfold b0; omega

theorem at25  : At (n := 8192) (l := 1024) ⟨k0_off25 i, k0_off25_inb i⟩ ⟨k0_off26 i, k0_off26_inb i⟩ ⟨k0_off27 i, k0_off27_inb i⟩ (b0 i + 480) := by
  constructor
  · show k0_off25 i 0 = _; rw [k0_off25_eq]; show _ + _ = _; unfold b0; omega
  · show k0_off26 i 0 = _; rw [k0_off26_eq]; show _ + _ = _; unfold b0; omega
  · show k0_off27 i 0 = _; rw [k0_off27_eq]; show _ + _ = _; unfold b0; omega

theorem at31 (h : k0_cond3 i = 1#1) : At (n := 1024) (l := 128) ⟨k0_off31 i, k0_off31_inb i h⟩ ⟨k0_off32 i, k0_off32_inb i h⟩ ⟨k0_off33 i, k0_off33_inb i h⟩ (b0 i + 488) := by
  constructor
  · show k0_off31 i 0 = _; rw [k0_off31_eq]; show _ + _ = _; unfold b0; omega
  · show k0_off32 i 0 = _; rw [k0_off32_eq]; show _ + _ = _; unfold b0; omega
  · show k0_off33 i 0 = _; rw [k0_off33_eq]; show _ + _ = _; unfold b0; omega

section

variable (m : Memref sig .scVector .vmem S49152 .f32) (lb : Memref sig .scVector .vmem S3072 .i32) (sem lsem : DmaSems sig S_)

theorem wp_refill0 (kk : Fin k0_t1_loop.trips) (k : PUnit → TileProg Ideal i α) :
    idle d i flat lab m lb sem lsem q q' fs fl
      ⊢ iprop((slotAt d i flat lab q q' fs fl m lb sem lsem (kk.val + 1) (b0 i + 48 * (kk.val + 1)) -∗ wpT d i (k ⟨⟩) Q)
        -∗ wpT d i (refill0 flat lab m lb sem lsem kk >>= k) Q) := by
  have hk := lt_of_lt_of_eq kk.isLt trips1
  unfold refill0 slotAt
  by_cases h : k0_cond1 kk = 1#1
  · rw [dif_pos h, if_pos (by have := (cond1_iff kk).1 h; omega)]
    exact wpS_start d i flat lab q q' fs fl _ _ m lb sem lsem (by decide) (by decide) _ _ _ _ (at13 i kk h) k
  · rw [dif_neg h, if_neg (by have := mt (cond1_iff kk).2 h; omega), pure_bind]
    iintro H Hk
    iapply Hk; iexact H

theorem wp_refill1 (kk : Fin k0_t1_loop.trips) (k : PUnit → TileProg Ideal i α) :
    idle d i flat lab m lb sem lsem q q' fs fl
      ⊢ iprop((slotAt d i flat lab q q' fs fl m lb sem lsem (kk.val + 1) (b0 i + 48 * (kk.val + 1) + 24) -∗ wpT d i (k ⟨⟩) Q)
        -∗ wpT d i (refill1 flat lab m lb sem lsem kk >>= k) Q) := by
  have hk := lt_of_lt_of_eq kk.isLt trips1
  unfold refill1 slotAt
  by_cases h : k0_cond2 kk = 1#1
  · rw [dif_pos h, if_pos (by have := (cond2_iff kk).1 h; omega)]
    exact wpS_start d i flat lab q q' fs fl _ _ m lb sem lsem (by decide) (by decide) _ _ _ _ (at22 i kk h) k
  · rw [dif_neg h, if_neg (by have := mt (cond2_iff kk).2 h; omega), pure_bind]
    iintro H Hk
    iapply Hk; iexact H

end

section

variable (m0 m1 : Memref sig .scVector .vmem S49152 .f32) (l0 l1 : Memref sig .scVector .vmem S3072 .i32) (acc : Memref sig .scVector .vmem S480 .f32)
  (s0 s1 t0 t1 : DmaSems sig S_)

/-- Between two trips of the double-buffered loop. -/
def pairI (O : CellTallies nD τ sig (HIx 1)) (W₀ : Waits sig (HIx 1)) (k : ℕ) : sProp MM :=
  iprop(slotAt d i flat lab q.left q'.left fs fl m0 l0 s0 t0 k (b0 i + 48 * k)
    ∗ slotAt d i flat lab q.right q'.right fs fl m1 l1 s1 t1 k (b0 i + 48 * k + 24)
    ∗ ow d i O W₀ ∗ own d i acc (accT (FlOf d i flat fs) (LaOf d i lab fl) (8 * b0 i) (8 * (b0 i + 48 * k))))

theorem wp_pair (hLa : ∀ r, lbR (LaOf d i lab fl) r < 16) (O : CellTallies nD τ sig (HIx 1)) (W₀ : Waits sig (HIx 1)) (kk : Fin k0_t1_loop.trips)
    (k : PUnit → TileProg Ideal i α) :
    pairI d i flat lab q q' fs fl m0 m1 l0 l1 acc s0 s1 t0 t1 O W₀ kk.val
      ⊢ iprop((pairI d i flat lab q q' fs fl m0 m1 l0 l1 acc s0 s1 t0 t1 O W₀ (kk.val + 1) -∗ wpT d i (k ⟨⟩) Q)
        -∗ wpT d i (pair flat lab m0 m1 l0 l1 acc s0 s1 t0 t1 lanes ones16 kk >>= k) Q) := by
  have hk := lt_of_lt_of_eq kk.isLt trips1
  unfold pairI
  rw [show slotAt d i flat lab q.left q'.left fs fl m0 l0 s0 t0 kk.val (b0 i + 48 * kk.val) = _ from if_pos hk,
    show slotAt d i flat lab q.right q'.right fs fl m1 l1 s1 t1 kk.val (b0 i + 48 * kk.val + 24) = _ from if_pos hk]
  iintro ⟨H0, H1, Ho, Hc⟩ Hk
  unfold pair
  simp only [bind_assoc]
  iapply (wp_slot d i flat lab q.left q'.left fs fl _ _ m0 l0 s0 t0 24 (by decide) rfl rfl acc hLa (8 * b0 i) (b0 i + 48 * kk.val) (by omega)
    _ _ _ (at7 i kk) O W₀ (chunk0 m0 l0 acc lanes ones16) (fun A B C k hB => wp_chunk0 d m0 l0 acc A B C k hB) _) $$ [H0 Ho Hc]
  · isplitl [H0]; · iexact H0
    isplitl [Ho]; · iexact Ho
    iexact Hc
  iintro ⟨H0, Ho, Hc⟩
  iapply (wp_refill0 d i flat lab q.left q'.left fs fl m0 l0 s0 t0 kk) $$ H0
  iintro H0
  iapply (wp_slot d i flat lab q.right q'.right fs fl _ _ m1 l1 s1 t1 24 (by decide) rfl rfl acc hLa (8 * b0 i) (b0 i + 48 * kk.val + 24) (by omega)
    _ _ _ (at16 i kk) O W₀ (chunk1 m1 l1 acc lanes ones16) (fun A B C k hB => wp_chunk1 d m1 l1 acc A B C k hB) _) $$ [H1 Ho Hc]
  · isplitl [H1]; · iexact H1
    isplitl [Ho]; · iexact Ho
    iexact Hc
  iintro ⟨H1, Ho, Hc⟩
  iapply (wp_refill1 d i flat lab q.right q'.right fs fl m1 l1 s1 t1 kk) $$ H1
  iintro H1
  iapply Hk
  isplitl [H0]; · iexact H0
  isplitl [H1]; · iexact H1
  isplitl [Ho]; · iexact Ho
  rw [show b0 i + 48 * kk.val + 24 + 24 = b0 i + 48 * (kk.val + 1) by omega]
  iexact Hc

end

section

variable (m0 m1 : Memref sig .scVector .vmem S49152 .f32) (l0 l1 : Memref sig .scVector .vmem S3072 .i32) (acc : Memref sig .scVector .vmem S480 .f32)
  (s0 s1 t0 t1 s2 t2 s3 t3 so : DmaSems sig S_) (out : Memref sig .scVector .hbm S32x480 .f32)

/-- A slot's buffers and shares with one pair of semaphores, taken with another. -/
theorem idle_swap (m : Memref sig .scVector .vmem S49152 .f32) (lb : Memref sig .scVector .vmem S3072 .i32) (s t s' t' : DmaSems sig S_) :
    iprop(idle d i flat lab m lb s t q q' fs fl ∗ semVal (thr d i, .dma s'.sem) 0 ∗ semVal (thr d i, .dma t'.sem) 0)
      ⊢ iprop(idle d i flat lab m lb s' t' q q' fs fl ∗ semVal (thr d i, .dma s.sem) 0 ∗ semVal (thr d i, .dma t.sem) 0) := by
  unfold idle
  iintro ⟨⟨%A, %B, Hm, Hl, Hf, Hb, Hv, Hw⟩, Hv', Hw'⟩
  isplitr [Hv Hw]
  · iexists A; iexists B
    isplitl [Hm]; · iexact Hm
    isplitl [Hl]; · iexact Hl
    isplitl [Hf]; · iexact Hf
    isplitl [Hb]; · iexact Hb
    isplitl [Hv']; · iexact Hv'
    iexact Hw'
  isplitl [Hv]; · iexact Hv
  iexact Hw

/-- What a tile holds: its buffers, its row, its shares of the sources, its semaphores at zero. -/
def tileRes (C R : Vec Ideal S480 .f32) (O : CellTallies nD τ sig (HIx 1)) (W₀ : Waits sig (HIx 1)) : sProp MM :=
  iprop(idle d i flat lab m0 l0 s0 t0 q.left q'.left fs fl ∗ idle d i flat lab m1 l1 s1 t1 q.right q'.right fs fl
    ∗ semVal (thr d i, .dma s2.sem) 0 ∗ semVal (thr d i, .dma t2.sem) 0 ∗ semVal (thr d i, .dma s3.sem) 0 ∗ semVal (thr d i, .dma t3.sem) 0
    ∗ semVal (thr d i, .dma so.sem) 0 ∗ own d i acc C ∗ own d i (rowOf (i := i) out) R ∗ ow d i O W₀)

/-- What the tile writes. -/
abbrev rowVal : Vec Ideal S480 .f32 := accT (FlOf d i flat fs) (LaOf d i lab fl) (8 * b0 i) (8 * bE i)

theorem wp_extra (hLa : ∀ r, lbR (LaOf d i lab fl) r < 16) (h : k0_cond3 i = 1#1) (O : CellTallies nD τ sig (HIx 1)) (W₀ : Waits sig (HIx 1))
    (k : PUnit → TileProg Ideal i α) :
    iprop(idle d i flat lab m1 l1 s3 t3 q q' fs fl ∗ ow d i O W₀ ∗ own d i acc (accT (FlOf d i flat fs) (LaOf d i lab fl) (8 * b0 i) (8 * (b0 i + 488))))
      ⊢ iprop((iprop(idle d i flat lab m1 l1 s3 t3 q q' fs fl ∗ ow d i O W₀ ∗ own d i acc (accT (FlOf d i flat fs) (LaOf d i lab fl) (8 * b0 i) (8 * (b0 i + 488 + 1)))) -∗ wpT d i (k ⟨⟩) Q)
        -∗ wpT d i (extra flat lab m1 l1 acc s3 t3 lanes ones16 h >>= k) Q) := by
  iintro ⟨H0, Ho, Hc⟩ Hk
  unfold extra
  simp only [bind_assoc]
  iapply (wpS_start d i flat lab q q' fs fl _ _ m1 l1 s3 t3 (by decide) (by decide) _ _ _ _ (at31 i h)) $$ H0
  iintro H0
  iapply (wp_slot d i flat lab q q' fs fl _ _ m1 l1 s3 t3 1 (by decide) rfl rfl acc hLa (8 * b0 i) (b0 i + 488) (by omega)
    _ _ _ (at31 i h) O W₀ (chunkE h m1 l1 acc lanes ones16) (fun A B C k hB => wp_chunkE d m1 l1 acc A B C k hB h) _) $$ [H0 Ho Hc]
  · isplitl [H0]; · iexact H0
    isplitl [Ho]; · iexact Ho
    iexact Hc
  iexact Hk

end

end

end Cert.Proof.Ece

end
-- ==== Proof.Ece.Tile.lean ====
/-
  A tile's whole program, with the value it leaves in its row.
-/
module

public import proofs.«01_k».proof.Proof.Ece.Body

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable (d : Dev nD) (i : grid0.Coords)
  (flat : Memref sig .scVector .hbm S32000000 .f32) (lab : Memref sig .scVector .hbm S2000000 .i32)
  (q q' : PosShare TreeShare) (fs : Raw d i flat) (fl : Raw d i lab)
  (m0 m1 : Memref sig .scVector .vmem S49152 .f32) (l0 l1 : Memref sig .scVector .vmem S3072 .i32) (acc : Memref sig .scVector .vmem S480 .f32)
  (s0 s1 t0 t1 s2 t2 s3 t3 so : DmaSems sig S_) (out : Memref sig .scVector .hbm S32x480 .f32)

theorem accT_self (Fl : Flat) (La : Labs) (n : ℕ) : accT Fl La n n = fun _ => (0 : EReal) := by
  funext j; unfold accT; rw [Finset.Ico_self, Finset.sum_empty]

set_option maxHeartbeats 2000000 in
theorem wp_tile (hacc : acc.IsWhole) (hLa : ∀ r, lbR (LaOf d i lab fl) r < 16) (C R : Vec Ideal S480 .f32)
    (O : CellTallies nD τ sig (HIx 1)) (W₀ : Waits sig (HIx 1)) :
    tileRes d i flat lab q q' fs fl m0 m1 l0 l1 acc s0 s1 t0 t1 s2 t2 s3 t3 so out C R O W₀
      ⊢ wpT d i (tile flat lab out m0 m1 l0 l1 acc hacc s0 s1 t0 t1 s2 t2 s3 t3 so)
        (fun _ => tileRes d i flat lab q q' fs fl m0 m1 l0 l1 acc s0 s1 t0 t1 s2 t2 s3 t3 so out (rowVal d i flat lab fs fl) (rowVal d i flat lab fs fl) O W₀) := by
  unfold tileRes
  iintro ⟨H0, H1, V2, U2, V3, U3, Vo, Hc, Hr, Ho⟩
  unfold tile
  iapply (wp_zeroFrom d i acc 30 0 rfl C (fun p hp => absurd hp (by omega))) $$ Hc
  iintro Hc
  rw [← accT_self (FlOf d i flat fs) (LaOf d i lab fl) (8 * b0 i)]
  iapply (wpS_start d i flat lab q.left q'.left fs fl _ _ m0 l0 s0 t0 (by decide) (by decide) _ _ _ _ (at1_ i)) $$ H0
  iintro H0
  iapply (wpS_start d i flat lab q.right q'.right fs fl _ _ m1 l1 s1 t1 (by decide) (by decide) _ _ _ _ (at4 i)) $$ H1
  iintro H1
  have hbody : ∀ (k : Fin k0_t1_loop.trips) (u : PUnit), pairI d i flat lab q q' fs fl m0 m1 l0 l1 acc s0 s1 t0 t1 O W₀ k.val
      ⊢ wpT d i (pair flat lab m0 m1 l0 l1 acc s0 s1 t0 t1 lanes ones16 k) (fun _ : PUnit => pairI d i flat lab q q' fs fl m0 m1 l0 l1 acc s0 s1 t0 t1 O W₀ (k.val + 1)) := by
    intro k u
    have e := wp_pair (α := PUnit) (Q := fun _ => pairI d i flat lab q q' fs fl m0 m1 l0 l1 acc s0 s1 t0 t1 O W₀ (k.val + 1))
      d i flat lab q q' fs fl m0 m1 l0 l1 acc s0 s1 t0 t1 hLa O W₀ k pure
    rw [bind_pure] at e
    iintro H
    iapply e $$ H
    iintro H
    unfold wpT
    rw [show (pure PUnit.unit : TileProg Ideal i PUnit) = .ret _ from rfl]
    rw [wp_ret]
    imodintro
    iexact H
  iapply (Scf.wp_for_bind frame (wpE (defs₀ (F := Ideal)) 𝒱₀ (thr d i) none) Set.univ k0_t1_loop.lb k0_t1_loop.ub k0_t1_loop.st k0_t1_ok (⟨⟩ : PUnit)
    (fun k _ => pair flat lab m0 m1 l0 l1 acc s0 s1 t0 t1 lanes ones16 k)
    (fun n _ => pairI d i flat lab q q' fs fl m0 m1 l0 l1 acc s0 s1 t0 t1 O W₀ n) hbody) $$ [H0 H1 Ho Hc]
  · unfold pairI
    rw [show slotAt d i flat lab q.left q'.left fs fl m0 l0 s0 t0 0 (b0 i + 48 * 0) = _ from if_pos (by decide),
      show slotAt d i flat lab q.right q'.right fs fl m1 l1 s1 t1 0 (b0 i + 48 * 0 + 24) = _ from if_pos (by decide)]
    isplitl [H0]; · iexact H0
    isplitl [H1]; · iexact H1
    isplitl [Ho]; · iexact Ho
    iexact Hc
  iintro %u H
  rw [show Scf.trips k0_t1_loop.lb k0_t1_loop.ub k0_t1_loop.st = 10 from trips1]
  unfold pairI
  rw [show slotAt d i flat lab q.left q'.left fs fl m0 l0 s0 t0 10 (b0 i + 48 * 10) = _ from if_neg (by decide),
      show slotAt d i flat lab q.right q'.right fs fl m1 l1 s1 t1 10 (b0 i + 48 * 10 + 24) = _ from if_neg (by decide)]
  icases H with ⟨H0, H1, Ho, Hc⟩
  ihave H0 := (idle_swap d i flat lab q.left q'.left fs fl m0 l0 s0 t0 s2 t2) $$ [H0 V2 U2]
  · isplitl [H0]; · iexact H0
    isplitl [V2]; · iexact V2
    iexact U2
  icases H0 with ⟨H0, V0, U0⟩
  iapply (wpS_start d i flat lab q.left q'.left fs fl _ _ m0 l0 s2 t2 (by decide) (by decide) _ _ _ _ (at25 i)) $$ H0
  iintro H0
  iapply (wp_slot d i flat lab q.left q'.left fs fl _ _ m0 l0 s2 t2 8 (by decide) rfl rfl acc hLa (8 * b0 i) (b0 i + 480) (by omega)
    _ _ _ (at25 i) O W₀ (chunkT m0 l0 acc lanes ones16) (fun A B C k hB => wp_chunkT d m0 l0 acc A B C k hB) _) $$ [H0 Ho Hc]
  · isplitl [H0]; · iexact H0
    isplitl [Ho]; · iexact Ho
    iexact Hc
  iintro ⟨H0, Ho, Hc⟩
  ihave H0 := (idle_swap d i flat lab q.left q'.left fs fl m0 l0 s2 t2 s0 t0) $$ [H0 V0 U0]
  · isplitl [H0]; · iexact H0
    isplitl [V0]; · iexact V0
    iexact U0
  icases H0 with ⟨H0, V2, U2⟩
  have hout : ∀ C : Vec Ideal S480 .f32, iprop(own d i acc C ∗ own d i (rowOf (i := i) out) R ∗ semVal (thr d i, .dma so.sem) 0 ∗ ow d i O W₀)
      ⊢ iprop((iprop(own d i acc C ∗ own d i (rowOf (i := i) out) C ∗ semVal (thr d i, .dma so.sem) 0 ∗ ow d i O W₀) -∗ wpT d i (.ret PUnit.unit : TileProg Ideal i PUnit)
          (fun _ => tileRes d i flat lab q q' fs fl m0 m1 l0 l1 acc s0 s1 t0 t1 s2 t2 s3 t3 so out (rowVal d i flat lab fs fl) (rowVal d i flat lab fs fl) O W₀))
        -∗ wpT d i (do
          Prog.lift (.enqueueDma acc (.here (rowOf (i := i) out)) (.dma so.sem) hacc.wordExact ((View.wordExact_bits rfl).reshape _ _) ⟨Or.inl rfl, trivial⟩)
          Prog.lift (.waitDma2 so.sem acc (rowOf (i := i) out) hacc.wordExact ((View.wordExact_bits rfl).reshape _ _))
          (pure PUnit.unit : TileProg Ideal i PUnit)) (fun _ => tileRes d i flat lab q q' fs fl m0 m1 l0 l1 acc s0 s1 t0 t1 s2 t2 s3 t3 so out (rowVal d i flat lab fs fl) (rowVal d i flat lab fs fl) O W₀)) :=
    fun C => wp_out d i acc out hacc so C R O W₀ (fun _ => .ret PUnit.unit)
  by_cases h : k0_cond3 i = 1#1
  · have hE : bE i = b0 i + 488 + 1 := by unfold bE; rw [if_pos ((cond3_iff i).1 h)]
    simp only [dif_pos h]
    ihave H1 := (idle_swap d i flat lab q.right q'.right fs fl m1 l1 s1 t1 s3 t3) $$ [H1 V3 U3]
    · isplitl [H1]; · iexact H1
      isplitl [V3]; · iexact V3
      iexact U3
    icases H1 with ⟨H1, V1, U1⟩
    iapply (wp_extra d i flat lab q.right q'.right fs fl m1 l1 acc s3 t3 hLa h O W₀) $$ [H1 Ho Hc]
    · isplitl [H1]; · iexact H1
      isplitl [Ho]; · iexact Ho
      iexact Hc
    rw [← hE]
    iintro ⟨H1, Ho, Hc⟩
    ihave H1 := (idle_swap d i flat lab q.right q'.right fs fl m1 l1 s3 t3 s1 t1) $$ [H1 V1 U1]
    · isplitl [H1]; · iexact H1
      isplitl [V1]; · iexact V1
      iexact U1
    icases H1 with ⟨H1, V3, U3⟩
    iapply (hout _) $$ [Hc Hr Vo Ho]
    · isplitl [Hc]; · iexact Hc
      isplitl [Hr]; · iexact Hr
      isplitl [Vo]; · iexact Vo
      iexact Ho
    iintro ⟨Hc, Hr, Vo, Ho⟩
    unfold wpT
    rw [wp_ret]
    imodintro
    unfold tileRes
    isplitl [H0]; · iexact H0
    isplitl [H1]; · iexact H1
    isplitl [V2]; · iexact V2
    isplitl [U2]; · iexact U2
    isplitl [V3]; · iexact V3
    isplitl [U3]; · iexact U3
    isplitl [Vo]; · iexact Vo
    isplitl [Hc]; · iexact Hc
    isplitl [Hr]; · iexact Hr
    iexact Ho
  · have hE : bE i = b0 i + 480 + 8 := by unfold bE; rw [if_neg (mt (cond3_iff i).2 h)]
    simp only [dif_neg h, pure_bind]
    rw [← hE]
    iapply (hout _) $$ [Hc Hr Vo Ho]
    · isplitl [Hc]; · iexact Hc
      isplitl [Hr]; · iexact Hr
      isplitl [Vo]; · iexact Vo
      iexact Ho
    iintro ⟨Hc, Hr, Vo, Ho⟩
    unfold wpT
    rw [wp_ret]
    imodintro
    unfold tileRes
    isplitl [H0]; · iexact H0
    isplitl [H1]; · iexact H1
    isplitl [V2]; · iexact V2
    isplitl [U2]; · iexact U2
    isplitl [V3]; · iexact V3
    isplitl [U3]; · iexact U3
    isplitl [Vo]; · iexact Vo
    isplitl [Hc]; · iexact Hc
    isplitl [Hr]; · iexact Hr
    iexact Ho

end Cert.Proof.Ece

end
-- ==== Proof.Ece.Task.lean ====
/-
  One tile's task: what it is handed, what it gives back, and the row of the result it leaves.
-/
module

public import proofs.«01_k».proof.Proof.Ece.TextMain
public import proofs.«01_k».proof.Proof.Ece.Tile

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

/-! ### The arrays and the rows -/

abbrev fLoc (d : Dev nD) : Loc nD τ sig := (SparseCore.T d : Thread nD τ).loc main_v3
abbrev lLoc (d : Dev nD) : Loc nD τ sig := (SparseCore.T d : Thread nD τ).loc main_arg1
abbrev oLoc (d : Dev nD) : Loc nD τ sig := (SparseCore.T d : Thread nD τ).loc main_v4

abbrev fV : Memref sig .scVector .hbm S32000000 .f32 := Memref.whole main_v3_scv
abbrev lV : Memref sig .scVector .hbm S2000000 .i32 := Memref.whole main_arg1_scv
abbrev oV : Memref sig .scVector .hbm S32x480 .f32 := Memref.whole main_v4_scv

theorem hdiv : 32 ∣ S32x480.size 0 := ⟨1, rfl⟩

/-- Row `w` of the result. -/
abbrev rowSet (w : Fin 32) : Finset S32x480.Idx := (Rect.part (s := S32x480) (a₀ := 0) hdiv w).set

theorem rows_disjoint {w w' : Fin 32} (h : w ≠ w') : Disjoint (rowSet w) (rowSet w') := Rect.part_disjoint hdiv h

theorem rows_cover : (Finset.univ : Finset (Fin 32)).biUnion rowSet = Finset.univ := Rect.biUnion_part hdiv

/-- The tile's number. -/
def wid (i : grid0.Coords) : Fin 32 := ⟨2 * (i 1).val + (i 0).val, by
  have h0 : (i 0).val < 2 := (i 0).isLt
  have h1 : (i 1).val < 16 := (i 1).isLt
  omega⟩

/-- The first block of tile `w`, and the one after its last. -/
def B0 (w : ℕ) : ℕ := 488 * w + min w 9
def BE (w : ℕ) : ℕ := B0 w + 488 + (if w < 9 then 1 else 0)

theorem b0_eq (i : grid0.Coords) : b0 i = B0 (wid i).val := by
  show 976 * (i 1).val + 488 * (i 0).val + min (2 * (i 1).val + (i 0).val) 9 = 488 * (2 * (i 1).val + (i 0).val) + min (2 * (i 1).val + (i 0).val) 9
  omega

theorem bE_eq (i : grid0.Coords) : bE i = BE (wid i).val := by
  unfold bE BE; rw [b0_eq]; rfl

/-- What the tiles leave in the result, from the flat array and the labels. -/
def Gout (Fl : Flat) (La : Labs) : Vec Ideal S32x480 .f32 :=
  fun x => ∑ G ∈ Finset.Ico (8 * B0 (x 0).val) (8 * BE (x 0).val), cellR Fl La (16 * G + (x 1).val % 16) (x 1).val

theorem emb_row (i : grid0.Coords) (y : S480.Idx) :
    ((((rowOf (i := i) oV).view.emb y : S32x480.Idx) 0).val = (wid i).val) ∧ (((rowOf (i := i) oV).view.emb y : S32x480.Idx) 1).val = (y 0).val := by
  have hz : (S1x480.rowMajor (Shape.reshapeEquiv squeezes_S1x480_S480.numel_eq y)).val = (S480.rowMajor y).val :=
    Shape.rowMajor_reshapeEquiv _ y
  set z : S1x480.Idx := Shape.reshapeEquiv squeezes_S1x480_S480.numel_eq y with hzd
  have e2 : (S1x480.rowMajor z).val = (z 0).val * 480 + (z 1).val := Shape.rowMajor_val_two z
  have e1 : (S480.rowMajor y).val = (y 0).val := Shape.rowMajor_val_one y
  have h0 : (z 0).val < 1 := (z 0).isLt
  have ho : ∀ a, (((rowOf (i := i) oV).view.emb y : S32x480.Idx) a).val = k0_off37 i a + 1 * (z a).val := fun a => rfl
  constructor
  · rw [ho, k0_off37_eq]
    show 2 * (i 1).val + (i 0).val + 1 * (z 0).val = 2 * (i 1).val + (i 0).val
    omega
  · rw [ho, k0_off37_eq]
    show 0 + 1 * (z 1).val = (y 0).val
    omega

theorem rect_row (i : grid0.Coords) : Rect.unit (s := S32x480) (k0_off37 i) S1x480.size (k0_off37_inb i) = Rect.part (s := S32x480) (a₀ := 0) hdiv (wid i) := by
  unfold Rect.part Rect.block
  congr 1 <;> funext a
  · rw [k0_off37_eq]
    match a with
    | 0 => simp [Shape.partIx, Shape.partSize, wid]
    | 1 => simp [Shape.partIx, Shape.partSize]
  · match a with
    | 0 => simp [Shape.partSize]
    | 1 => simp [Shape.partSize]

theorem set_row (i : grid0.Coords) : (rowOf (i := i) oV).view.set = rowSet (wid i) := by
  show (((oV : Memref sig .scVector .hbm S32x480 .f32).view.slice (Rect.unit (s := S32x480) (k0_off37 i) S1x480.size (k0_off37_inb i))).reshape S480 squeezes_S1x480_S480.numel_eq).set = _
  rw [View.set_reshape]
  show ((View.whole main_v4_scv).slice (Rect.unit (s := S32x480) (k0_off37 i) S1x480.size (k0_off37_inb i))).set = _
  rw [View.set_slice, rect_row]
  exact Finset.map_refl

section
variable (d : Dev nD) (i : grid0.Coords)

theorem pts_row (q : PosShare TreeShare) (f : Buf (Elt Ideal) (oLoc d)) :
    (pts d i (rowOf (i := i) oV) q f : sProp MM) = (oLoc d ↦[rowSet (wid i)]{q} f) := by
  unfold pts
  rw [set_row]

theorem pts_f (q : PosShare TreeShare) (f : Buf (Elt Ideal) (fLoc d)) : (pts d i fV q f : sProp MM) = (fLoc d ↦{q} f) := by
  unfold pts
  simp only [Memref.view_whole, View.set_whole]

theorem pts_l (q : PosShare TreeShare) (f : Buf (Elt Ideal) (lLoc d)) : (pts d i lV q f : sProp MM) = (lLoc d ↦{q} f) := by
  unfold pts
  simp only [Memref.view_whole, View.set_whole]

theorem own_in (b : Ref sig .scVector) : (iprop(∃ f, (thr d i).loc b ↦{fullShare} f) : sProp MM) ⊢ iprop(∃ A, own d i (Memref.whole b) A) := by
  unfold own owns
  simp only [Memref.view_whole, View.set_whole]
  iintro ⟨%f, H⟩
  iexists _; iexists f
  isplitr; · ipureintro; rfl
  iexact H

theorem own_out (b : Ref sig .scVector) : (iprop(∃ A, own d i (Memref.whole b) A) : sProp MM) ⊢ iprop(∃ f, (thr d i).loc b ↦{fullShare} f) := by
  unfold own owns
  simp only [Memref.view_whole, View.set_whole]
  iintro ⟨%A, %f, -, H⟩
  iexists f; iexact H

/-- The tile's row, once written, is a row of `Gout`. -/
theorem row_out (fs : Buf (Elt Ideal) (fLoc d)) (fl : Buf (Elt Ideal) (lLoc d)) :
    own d i (rowOf (i := i) oV) (rowVal d i fV lV fs fl) ⊢ (oLoc d ↦[rowSet (wid i)]{fullShare} (Gout fs fl : Buf (Elt Ideal) (oLoc d)) : sProp MM) := by
  have key : ∀ f : Buf (Elt Ideal) (oLoc d), (rowOf (i := i) oV).view.read (Elt Ideal) f = rowVal d i fV lV fs fl →
      (oLoc d ↦[rowSet (wid i)]{fullShare} f : sProp MM) = (oLoc d ↦[rowSet (wid i)]{fullShare} (Gout fs fl : Buf (Elt Ideal) (oLoc d))) := by
    intro f hf
    refine pointsTo_congr fun x hx => ?_
    rw [← set_row] at hx
    obtain ⟨y, -, rfl⟩ := Finset.mem_map.mp hx
    have hy := congrFun hf y
    have he := emb_row i y
    have hr : (rowOf (i := i) oV).view.read (Elt Ideal) f y = f ((rowOf (i := i) oV).view.emb y) := (View.read_apply _ _).trans (cast_eq _ _)
    refine (hr.symm.trans hy).trans ?_
    show accT _ _ (8 * b0 i) (8 * bE i) y = Gout fs fl ((rowOf (i := i) oV).view.emb y)
    unfold accT Gout
    rw [he.1, he.2, b0_eq, bE_eq]
    rfl
  unfold own owns
  iintro ⟨%f, %hf, H⟩
  ihave H' := (BIBase.Entails.of_eq ((pts_row d i fullShare f).trans (key f hf))) $$ H
  iexact H'

theorem row_in (f : Buf (Elt Ideal) (oLoc d)) :
    (oLoc d ↦[rowSet (wid i)]{fullShare} f : sProp MM) ⊢ iprop(∃ R, own d i (rowOf (i := i) oV) R) := by
  unfold own owns
  iintro H
  ihave H' := (BIBase.Entails.of_eq (pts_row d i fullShare f).symm) $$ H
  iexists _; iexists f
  isplitr; · ipureintro; rfl
  iexact H'

/-! ### The tile's own buffers and semaphores -/

def bufs5 : Finset (Ref sig .scVector) := {cc0_scratch0, cc0_scratch1, cc0_scratch2, cc0_scratch3, cc0_scratch4}

def sems9 : Finset (SemLoc sig) := {.dma cc0_scratch5.sem, .dma cc0_scratch6.sem, .dma cc0_scratch7.sem, .dma cc0_scratch8.sem, .dma cc0_scratch9.sem,
  .dma cc0_scratch10.sem, .dma cc0_scratch11.sem, .dma cc0_scratch12.sem, .dma cc0_scoped0.sem}

theorem sems9_scoped : ∀ s ∈ sems9, s.isScoped .scVector = true := by decide

theorem bufs5_owner (c : Fin τ.nSC) (j : Fin τ.nSub) : ∀ r ∈ bufs5, ((Proc.scVector c j : Proc τ).devRef r).owner = .proc (.scVector c j) := by
  unfold bufs5
  intro r hr
  simp only [Finset.mem_insert, Finset.mem_singleton] at hr
  obtain h | h | h | h | h := hr <;> subst h <;> rfl

theorem bufs5_split (Φ : Ref sig .scVector → sProp MM) :
    bigSep bufs5 Φ = iprop(Φ cc0_scratch0 ∗ Φ cc0_scratch1 ∗ Φ cc0_scratch2 ∗ Φ cc0_scratch3 ∗ Φ cc0_scratch4) := by
  unfold bufs5
  rw [SparseCore.bigSep_insert' (by decide), SparseCore.bigSep_insert' (by decide), SparseCore.bigSep_insert' (by decide), SparseCore.bigSep_insert' (by decide), bigSep_singleton]

def cells9 : Finset (GSem nD τ sig) := sems9.map ⟨fun s => (thr d i, s), fun _ _ e => (Prod.mk.inj e).2⟩
def refs5 : Finset (DevRef τ sig) := bufs5.map ⟨(thr d i).2.devRef, Proc.devRef_injective _⟩

theorem cells9_sub : cells9 d i ⊆ ownCells (thr d i) := by
  intro g hg
  obtain ⟨s, hs, rfl⟩ := Finset.mem_map.mp hg
  exact mem_ownCells.mpr ⟨rfl, sems9_scoped s hs⟩

theorem refs5_sub : refs5 d i ⊆ ownRefs (thr d i).2 := by
  intro b hb
  obtain ⟨r, hr, rfl⟩ := Finset.mem_map.mp hb
  exact SparseCore.Cfg.mem_ownRefs_of_owner (bufs5_owner _ _ r hr)

theorem ownSems_split : (ownSems0 (thr d i) : sProp MM)
    = iprop((semVal (thr d i, .dma cc0_scratch5.sem) 0 ∗ semVal (thr d i, .dma cc0_scratch6.sem) 0 ∗ semVal (thr d i, .dma cc0_scratch7.sem) 0
        ∗ semVal (thr d i, .dma cc0_scratch8.sem) 0 ∗ semVal (thr d i, .dma cc0_scratch9.sem) 0 ∗ semVal (thr d i, .dma cc0_scratch10.sem) 0
        ∗ semVal (thr d i, .dma cc0_scratch11.sem) 0 ∗ semVal (thr d i, .dma cc0_scratch12.sem) 0 ∗ semVal (thr d i, .dma cc0_scoped0.sem) 0)
      ∗ bigSep (ownCells (thr d i) \ cells9 d i) fun g => semVal g 0) := by
  unfold SparseCore.Cfg.ownSems0
  rw [SparseCore.bigSep_sdiff_split' (cells9_sub d i)]
  congr 1
  unfold cells9; rw [bigSep_map]
  unfold sems9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  rfl

theorem ownBufs_split : (ownBufs (thr d i) : sProp MM)
    = iprop(((∃ f, (thr d i).loc cc0_scratch0 ↦{fullShare} f) ∗ (∃ f, (thr d i).loc cc0_scratch1 ↦{fullShare} f) ∗ (∃ f, (thr d i).loc cc0_scratch2 ↦{fullShare} f)
        ∗ (∃ f, (thr d i).loc cc0_scratch3 ↦{fullShare} f) ∗ (∃ f, (thr d i).loc cc0_scratch4 ↦{fullShare} f))
      ∗ bigSep (ownRefs (thr d i).2 \ refs5 d i) fun b => iprop(∃ f, (((thr d i).1, b) : Loc nD τ sig) ↦{fullShare} f)) := by
  unfold SparseCore.Cfg.ownBufs
  rw [SparseCore.bigSep_sdiff_split' (refs5_sub d i)]
  congr 1
  unfold refs5; rw [bigSep_map]
  exact bufs5_split _

abbrev M0 : Memref sig .scVector .vmem S49152 .f32 := Memref.whole cc0_scratch0
abbrev M1 : Memref sig .scVector .vmem S49152 .f32 := Memref.whole cc0_scratch1
abbrev L0 : Memref sig .scVector .vmem S3072 .i32 := Memref.whole cc0_scratch2
abbrev L1 : Memref sig .scVector .vmem S3072 .i32 := Memref.whole cc0_scratch3
abbrev AC : Memref sig .scVector .vmem S480 .f32 := Memref.whole cc0_scratch4

/-- What a tile holds, of the buffers and semaphores the kernel names. -/
abbrev res (q q' : PosShare TreeShare) (fs : Buf (Elt Ideal) (fLoc d)) (fl : Buf (Elt Ideal) (lLoc d)) (C R : Vec Ideal S480 .f32)
    (O : CellTallies nD τ sig (HIx 1)) (W : Waits sig (HIx 1)) : sProp MM :=
  tileRes d i fV lV q q' fs fl M0 M1 L0 L1 AC cc0_scratch5 cc0_scratch6 cc0_scratch7 cc0_scratch8 cc0_scratch9 cc0_scratch10 cc0_scratch11 cc0_scratch12 cc0_scoped0 oV C R O W

theorem res_in (q q' : PosShare TreeShare) (fs : Buf (Elt Ideal) (fLoc d)) (fl : Buf (Elt Ideal) (lLoc d)) (fo : Buf (Elt Ideal) (oLoc d))
    (O : CellTallies nD τ sig (HIx 1)) (W : Waits sig (HIx 1)) (hO : ∀ g, O g none = 0) :
    iprop(levAts K.L K.lev ∗ ((fLoc d ↦{q} fs) ∗ (lLoc d ↦{q'} fl) ∗ oLoc d ↦[rowSet (wid i)]{fullShare} fo) ∗ ownBufs (thr d i) ∗ ownSems0 (thr d i) ∗ owes (thr d i) O W)
      ⊢ iprop((∃ C R, res d i q q' fs fl C R O W)
        ∗ (bigSep (ownRefs (thr d i).2 \ refs5 d i) fun b => iprop(∃ f, (((thr d i).1, b) : Loc nD τ sig) ↦{fullShare} f))
        ∗ bigSep (ownCells (thr d i) \ cells9 d i) fun g => semVal g 0) := by
  rw [ownBufs_split, ownSems_split]
  unfold res tileRes idle ow
  iintro ⟨#Hlv, ⟨Hf, Hl, Ho⟩, ⟨⟨B0, B1, B2, B3, B4⟩, HB⟩, ⟨⟨Z0, Z1, Z2, Z3, Z4, Z5, Z6, Z7, Z8⟩, HZ⟩, HO⟩
  ihave Hf := (BIBase.Entails.of_eq (pts_f d i q fs).symm) $$ Hf
  ihave Hl := (BIBase.Entails.of_eq (pts_l d i q' fl).symm) $$ Hl
  ihave Hf := (split_share d i fV q fs).1 $$ Hf
  icases Hf with ⟨Hf0, Hf1⟩
  ihave Hl := (split_share d i lV q' fl).1 $$ Hl
  icases Hl with ⟨Hl0, Hl1⟩
  ihave Ho := (row_in d i fo) $$ Ho
  icases Ho with ⟨%R, Ho⟩
  ihave B0 := (own_in d i cc0_scratch0) $$ B0
  icases B0 with ⟨%A0, B0⟩
  ihave B1 := (own_in d i cc0_scratch1) $$ B1
  icases B1 with ⟨%A1, B1⟩
  ihave B2 := (own_in d i cc0_scratch2) $$ B2
  icases B2 with ⟨%A2, B2⟩
  ihave B3 := (own_in d i cc0_scratch3) $$ B3
  icases B3 with ⟨%A3, B3⟩
  ihave B4 := (own_in d i cc0_scratch4) $$ B4
  icases B4 with ⟨%A4, B4⟩
  isplitr [HB HZ]
  · iexists A4; iexists R
    isplitl [B0 B2 Hf0 Hl0 Z0 Z2]
    · iexists A0; iexists A2
      isplitl [B0]; · iexact B0
      isplitl [B2]; · iexact B2
      isplitl [Hf0]; · iexact Hf0
      isplitl [Hl0]; · iexact Hl0
      isplitl [Z0]; · iexact Z0
      iexact Z2
    isplitl [B1 B3 Hf1 Hl1 Z1 Z3]
    · iexists A1; iexists A3
      isplitl [B1]; · iexact B1
      isplitl [B3]; · iexact B3
      isplitl [Hf1]; · iexact Hf1
      isplitl [Hl1]; · iexact Hl1
      isplitl [Z1]; · iexact Z1
      iexact Z3
    isplitl [Z4]; · iexact Z4
    isplitl [Z5]; · iexact Z5
    isplitl [Z6]; · iexact Z6
    isplitl [Z7]; · iexact Z7
    isplitl [Z8]; · iexact Z8
    isplitl [B4]; · iexact B4
    isplitl [Ho]; · iexact Ho
    iexists W
    isplitr; · ipureintro; exact fun p hp => .inl hp
    isplitr
    · iapply (K.mayWaits_none hO); iexact Hlv
    iexact HO
  isplitl [HB]; · iexact HB
  iexact HZ

theorem res_out (q q' : PosShare TreeShare) (fs : Buf (Elt Ideal) (fLoc d)) (fl : Buf (Elt Ideal) (lLoc d))
    (O : CellTallies nD τ sig (HIx 1)) (W : Waits sig (HIx 1)) :
    iprop(res d i q q' fs fl (rowVal d i fV lV fs fl) (rowVal d i fV lV fs fl) O W
        ∗ (bigSep (ownRefs (thr d i).2 \ refs5 d i) fun b => iprop(∃ f, (((thr d i).1, b) : Loc nD τ sig) ↦{fullShare} f))
        ∗ bigSep (ownCells (thr d i) \ cells9 d i) fun g => semVal g 0)
      ⊢ iprop(((fLoc d ↦{q} fs) ∗ (lLoc d ↦{q'} fl) ∗ oLoc d ↦[rowSet (wid i)]{fullShare} (Gout fs fl : Buf (Elt Ideal) (oLoc d)))
        ∗ ownBufs (thr d i) ∗ ownSems0 (thr d i) ∗ ∃ W', ⌜∀ p ∈ W', p ∈ W ∨ p.2 = none⌝ ∗ owes (thr d i) O W') := by
  rw [ownBufs_split, ownSems_split]
  unfold res tileRes idle ow
  iintro ⟨⟨⟨%A0, %A2, B0, B2, Hf0, Hl0, Z0, Z2⟩, ⟨%A1, %A3, B1, B3, Hf1, Hl1, Z1, Z3⟩, Z4, Z5, Z6, Z7, Z8, B4, Ho, ⟨%W', %hW', -, HO⟩⟩, HB, HZ⟩
  isplitl [Hf0 Hf1 Hl0 Hl1 Ho]
  · isplitl [Hf0 Hf1]
    · iapply (BIBase.Entails.of_eq (pts_f d i q fs))
      iapply (split_share d i fV q fs).2
      isplitl [Hf0]; · iexact Hf0
      iexact Hf1
    isplitl [Hl0 Hl1]
    · iapply (BIBase.Entails.of_eq (pts_l d i q' fl))
      iapply (split_share d i lV q' fl).2
      isplitl [Hl0]; · iexact Hl0
      iexact Hl1
    iapply (row_out d i fs fl); iexact Ho
  isplitl [B0 B1 B2 B3 B4 HB]
  · isplitr [HB]
    · isplitl [B0]; · iapply (own_out d i cc0_scratch0); iexists A0; iexact B0
      isplitl [B1]; · iapply (own_out d i cc0_scratch1); iexists A1; iexact B1
      isplitl [B2]; · iapply (own_out d i cc0_scratch2); iexists A2; iexact B2
      isplitl [B3]; · iapply (own_out d i cc0_scratch3); iexists A3; iexact B3
      iapply (own_out d i cc0_scratch4); iexists _; iexact B4
    iexact HB
  isplitl [Z0 Z1 Z2 Z3 Z4 Z5 Z6 Z7 Z8 HZ]
  · isplitr [HZ]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      iexact Z8
    iexact HZ
  iexists W'
  isplitr; · ipureintro; exact hW'
  iexact HO

/-- The task of a tile. -/
theorem tile_body (q q' : PosShare TreeShare) (fs : Buf (Elt Ideal) (fLoc d)) (fl : Buf (Elt Ideal) (lLoc d)) (fo : Buf (Elt Ideal) (oLoc d))
    (hLa : ∀ r, lbR (LaOf d i lV fl) r < 16)
    (O : CellTallies nD τ sig (HIx 1)) (W : Waits sig (HIx 1)) (hO : ∀ g, O g none = 0) :
    iprop(levAts K.L K.lev ∗ emp ∗ ((fLoc d ↦{q} fs) ∗ (lLoc d ↦{q'} fl) ∗ oLoc d ↦[rowSet (wid i)]{fullShare} fo)
        ∗ scopedBufs (thr d i) ∗ scopedSems0 (thr d i) ∗ owes (thr d i) O W)
      ⊢ wpT d i
          (cc0_ece_k (F := Ideal) i fV (Memref.isWhole_whole _) lV (Memref.isWhole_whole _) oV (Memref.isWhole_whole _)
            M0 (Memref.isWhole_whole _) M1 (Memref.isWhole_whole _) L0 (Memref.isWhole_whole _) L1 (Memref.isWhole_whole _) AC (Memref.isWhole_whole _)
            cc0_scratch5 cc0_scratch6 cc0_scratch7 cc0_scratch8 cc0_scratch9 cc0_scratch10 cc0_scratch11 cc0_scratch12 cc0_scoped0)
          fun _ => iprop(((fLoc d ↦{q} fs) ∗ (lLoc d ↦{q'} fl) ∗ oLoc d ↦[rowSet (wid i)]{fullShare} (Gout fs fl : Buf (Elt Ideal) (oLoc d)))
            ∗ scopedBufs (thr d i) ∗ scopedSems0 (thr d i) ∗ ∃ W', ⌜∀ p ∈ W', p ∈ W ∨ p.2 = none⌝ ∗ owes (thr d i) O W') := by
  rw [tile_eq, K.scopedBufs_V facts, SparseCore.Cfg.scopedSems0_V]
  iintro ⟨Hlv, -, Hgo, HB, HS, HO⟩
  ihave H := (res_in d i q q' fs fl fo O W hO) $$ [Hlv Hgo HB HS HO]
  · isplitl [Hlv]; · iexact Hlv
    isplitl [Hgo]; · iexact Hgo
    isplitl [HB]; · iexact HB
    isplitl [HS]; · iexact HS
    iexact HO
  icases H with ⟨⟨%C, %R, H⟩, HB, HS⟩
  ihave Hw := (wp_tile d i fV lV q q' fs fl M0 M1 L0 L1 AC cc0_scratch5 cc0_scratch6 cc0_scratch7 cc0_scratch8 cc0_scratch9 cc0_scratch10 cc0_scratch11 cc0_scratch12 cc0_scoped0 oV
    (Memref.isWhole_whole _) hLa C R O W) $$ H
  iapply (wp_mono frame _ _ fun _ => res_out d i q q' fs fl O W)
  iapply (wp_frame_r frame _ _)
  isplitl [Hw]; · iexact Hw
  isplitl [HB]; · iexact HB
  iexact HS

end

end Cert.Proof.Ece

end
-- ==== Proof.Ece.Oblig.lean ====
/-
  What the call hands each core and each tile, and the launch's obligations about the tiles.
-/
module

public import proofs.«01_k».proof.Proof.Ece.Task

@[expose] public section

noncomputable section

namespace Cert.Proof.Ece

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

theorem nSub_zero : K.nSub 0 = 16 := rfl
theorem nCore_zero : K.nCore 0 = 2 := rfl

/-- A core's share of what both read. -/
def hq (c : Fin 2) : PosShare TreeShare := if c = 0 then (fullShare : PosShare TreeShare).left else (fullShare : PosShare TreeShare).right

/-- The row of tile `s` of core `c`. -/
def wrow (c : Fin 2) (s : Fin 16) : Fin 32 := ⟨2 * s.val + c.val, by omega⟩

/-- The rows of core `c`. -/
def coreSet (c : Fin 2) : Finset S32x480.Idx := (Finset.univ : Finset (Fin 16)).biUnion fun s => rowSet (wrow c s)

theorem wrow_inj {c c' : Fin 2} {s s' : Fin 16} (h : wrow c s = wrow c' s') : c = c' ∧ s = s' := by
  have h' : 2 * s.val + c.val = 2 * s'.val + c'.val := congrArg Fin.val h
  constructor <;> apply Fin.ext <;> omega

theorem core_rows (c : Fin 2) : ∀ s ∈ (Finset.univ : Finset (Fin 16)), ∀ s' ∈ (Finset.univ : Finset (Fin 16)), s ≠ s' → Disjoint (rowSet (wrow c s)) (rowSet (wrow c s')) :=
  fun s _ s' _ h => rows_disjoint fun e => h (wrow_inj e).2

theorem cores_disjoint : Disjoint (coreSet 0) (coreSet 1) := by
  unfold coreSet
  rw [Finset.disjoint_biUnion_left]
  intro s _
  rw [Finset.disjoint_biUnion_right]
  intro s' _
  exact rows_disjoint fun e => absurd (wrow_inj e).1 (by decide)

theorem cores_cover : coreSet 0 ∪ coreSet 1 = Finset.univ := by
  refine Finset.eq_univ_iff_forall.mpr fun x => ?_
  have hx : x ∈ (Finset.univ : Finset (Fin 32)).biUnion rowSet := rows_cover ▸ Finset.mem_univ x
  obtain ⟨w, -, hw⟩ := Finset.mem_biUnion.mp hx
  have hw2 := w.isLt
  rcases Nat.mod_two_eq_zero_or_one w.val with h | h
  · refine Finset.mem_union_left _ (Finset.mem_biUnion.mpr ⟨⟨w.val / 2, by omega⟩, Finset.mem_univ _, ?_⟩)
    rwa [show wrow 0 ⟨w.val / 2, by omega⟩ = w from Fin.ext (show 2 * (w.val / 2) + 0 = w.val by omega)]
  · refine Finset.mem_union_right _ (Finset.mem_biUnion.mpr ⟨⟨w.val / 2, by omega⟩, Finset.mem_univ _, ?_⟩)
    rwa [show wrow 1 ⟨w.val / 2, by omega⟩ = w from Fin.ext (show 2 * (w.val / 2) + 1 = w.val by omega)]

variable (FF : (d : Dev nD) → Buf (Elt Ideal) (fLoc d)) (LL : (d : Dev nD) → Buf (Elt Ideal) (lLoc d)) (OO : (d : Dev nD) → Buf (Elt Ideal) (oLoc d))

/-- The result the call leaves. -/
abbrev GG (d : Dev nD) : Buf (Elt Ideal) (oLoc d) := (Gout (FF d) (LL d) : Vec Ideal S32x480 .f32)

/-- What core `c` is handed, the result at `f`. -/
def coreRes (d : Dev nD) (c : Fin 2) (f : Buf (Elt Ideal) (oLoc d)) : sProp MM :=
  iprop((fLoc d ↦{hq c} FF d) ∗ (lLoc d ↦{hq c} LL d) ∗ oLoc d ↦[coreSet c]{fullShare} f)

/-- What tile `s` of core `c` is handed, the result at `f`. -/
def taskRes (d : Dev nD) (c : Fin 2) (s : Fin 16) (f : Buf (Elt Ideal) (oLoc d)) : sProp MM :=
  iprop((fLoc d ↦{Transfers.shareTok (hq c) 16 s} FF d) ∗ (lLoc d ↦{Transfers.shareTok (hq c) 16 s} LL d) ∗ oLoc d ↦[rowSet (wrow c s)]{fullShare} f)

instance coreRes_storable (d : Dev nD) (c : Fin 2) (f : Buf (Elt Ideal) (oLoc d)) : BI.Storable (upEmb : UEmb _ MM) (coreRes FF LL d c f) := by
  unfold coreRes; infer_instance
instance taskRes_storable (d : Dev nD) (c : Fin 2) (s : Fin 16) (f : Buf (Elt Ideal) (oLoc d)) : BI.Storable (upEmb : UEmb _ MM) (taskRes FF LL d c s f) := by
  unfold taskRes; infer_instance

def P : K.Pay (nD := nD) (Val := Elt Ideal) (Name := ℕ) (U := UU) where
  st := fun q d c => match q with | 0 => coreRes FF LL d (Fin.cast nCore_zero c) (OO d)
  dn := fun q d c => match q with | 0 => coreRes FF LL d (Fin.cast nCore_zero c) (GG FF LL d)
  go := fun q d c i => match q with | 0 => taskRes FF LL d (Fin.cast nCore_zero c) (Fin.cast nSub_zero i) (OO d)
  td := fun q d c i => match q with | 0 => taskRes FF LL d (Fin.cast nCore_zero c) (Fin.cast nSub_zero i) (GG FF LL d)
  x := fun _ _ => iprop(emp)

instance P_storable : (P FF LL OO).IsStorable where
  st q d c := match q with | 0 => coreRes_storable FF LL d (Fin.cast nCore_zero c) (OO d)
  dn q d c := match q with | 0 => coreRes_storable FF LL d (Fin.cast nCore_zero c) (GG FF LL d)
  go q d c i := match q with | 0 => taskRes_storable FF LL d (Fin.cast nCore_zero c) (Fin.cast nSub_zero i) (OO d)
  td q d c i := match q with | 0 => taskRes_storable FF LL d (Fin.cast nCore_zero c) (Fin.cast nSub_zero i) (GG FF LL d)

/-! ### A core's part in its tiles' parts -/

theorem core_split (d : Dev nD) (c : Fin 2) (f g : Buf (Elt Ideal) (oLoc d)) :
    coreRes FF LL d c f ⊢ iprop((bigSep Finset.univ fun s : Fin 16 => taskRes FF LL d c s f)
      ∗ ((bigSep Finset.univ fun s : Fin 16 => taskRes FF LL d c s g) -∗ coreRes FF LL d c g)) := by
  unfold coreRes taskRes
  simp only [bigSep_sep']
  unfold coreSet
  rw [pointsTo_biUnion Finset.univ (ℓ := oLoc d) (fun s => rowSet (wrow c s)) (core_rows c),
    pointsTo_biUnion Finset.univ (ℓ := oLoc d) (fun s => rowSet (wrow c s)) (core_rows c)]
  iintro ⟨Hf, Hl, Ho⟩
  ihave Hf := (Transfers.pointsTo_toks_split (hq c) 16) $$ Hf
  icases Hf with ⟨Hf0, Hf⟩
  ihave Hl := (Transfers.pointsTo_toks_split (hq c) 16) $$ Hl
  icases Hl with ⟨Hl0, Hl⟩
  isplitl [Hf Hl Ho]
  · isplitl [Hf]; · iexact Hf
    isplitl [Hl]; · iexact Hl
    iexact Ho
  iintro ⟨Hf, Hl, Ho⟩
  isplitl [Hf0 Hf]
  · iapply (Transfers.pointsTo_toks_join (hq c) 16)
    isplitl [Hf0]; · iexact Hf0
    iexact Hf
  isplitl [Hl0 Hl]
  · iapply (Transfers.pointsTo_toks_join (hq c) 16)
    isplitl [Hl0]; · iexact Hl0
    iexact Hl
  iexact Ho

theorem bigSep_tasks (Φ : Fin 16 → sProp MM) : (bigSep Finset.univ fun i : Fin (K.nSub 0) => Φ (Fin.cast nSub_zero i)) = bigSep Finset.univ Φ :=
  bigSep_congr fun _ _ => congrArg Φ (Fin.ext rfl)

theorem vecSplit : K.VecSplit' (P FF LL OO) 0 := by
  intro d c
  show coreRes FF LL d (Fin.cast nCore_zero c) (OO d) ⊢ |={Set.univ}=> iprop(
      (bigSep Finset.univ fun i : Fin (K.nSub 0) => taskRes FF LL d (Fin.cast nCore_zero c) (Fin.cast nSub_zero i) (OO d))
      ∗ ((bigSep Finset.univ fun i : Fin (K.nSub 0) => taskRes FF LL d (Fin.cast nCore_zero c) (Fin.cast nSub_zero i) (GG FF LL d))
          -∗ coreRes FF LL d (Fin.cast nCore_zero c) (GG FF LL d)))
  rw [bigSep_tasks (fun s => taskRes FF LL d (Fin.cast nCore_zero c) s (OO d)), bigSep_tasks (fun s => taskRes FF LL d (Fin.cast nCore_zero c) s (GG FF LL d))]
  iintro H; imodintro
  iapply (core_split FF LL d (Fin.cast nCore_zero c) (OO d) (GG FF LL d)); iexact H

/-! ### A tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := Ideal) (.scVector c s) 0 ()
      = SparseCore.onTile hcore0 hsub0 (fun c s => cc0_ece_k (F := Ideal) (coordsV c s) fV (Memref.isWhole_whole _) lV (Memref.isWhole_whole _) oV (Memref.isWhole_whole _)
            M0 (Memref.isWhole_whole _) M1 (Memref.isWhole_whole _) L0 (Memref.isWhole_whole _) L1 (Memref.isWhole_whole _) AC (Memref.isWhole_whole _)
            cc0_scratch5 cc0_scratch6 cc0_scratch7 cc0_scratch8 cc0_scratch9 cc0_scratch10 cc0_scratch11 cc0_scratch12 cc0_scoped0) ⟨⟩ c s := rfl

theorem obl_post {thr : Thread nD τ} {A B C : sProp MM} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem task_body (d : Dev nD) (c : Fin 2) (s : Fin 16) (hLa : ∀ d r, lbR (LL d : Labs) r < 16) (O : CellTallies nD τ sig (HIx 1)) (W : Waits sig (HIx 1))
    (hO : ∀ g, O g none = 0) :
    iprop(levAts K.L K.lev ∗ emp ∗ taskRes FF LL d c s (OO d) ∗ scopedBufs (thr d (coordsV c s)) ∗ scopedSems0 (thr d (coordsV c s)) ∗ owes (thr d (coordsV c s)) O W)
      ⊢ wpT d (coordsV c s)
          (cc0_ece_k (F := Ideal) (coordsV c s) fV (Memref.isWhole_whole _) lV (Memref.isWhole_whole _) oV (Memref.isWhole_whole _)
            M0 (Memref.isWhole_whole _) M1 (Memref.isWhole_whole _) L0 (Memref.isWhole_whole _) L1 (Memref.isWhole_whole _) AC (Memref.isWhole_whole _)
            cc0_scratch5 cc0_scratch6 cc0_scratch7 cc0_scratch8 cc0_scratch9 cc0_scratch10 cc0_scratch11 cc0_scratch12 cc0_scoped0)
          fun _ => iprop(taskRes FF LL d c s (GG FF LL d) ∗ scopedBufs (thr d (coordsV c s)) ∗ scopedSems0 (thr d (coordsV c s))
            ∗ ∃ W', ⌜∀ p ∈ W', p ∈ W ∨ p.2 = none⌝ ∗ owes (thr d (coordsV c s)) O W') := by
  have e : wid (coordsV c s) = wrow c s := rfl
  have hl : LaOf d (coordsV c s) lV (LL d) = (LL d : Labs) := View.read_whole _ _
  have hL : ∀ r, lbR (LaOf d (coordsV c s) lV (LL d)) r < 16 := by rw [hl]; exact hLa d
  unfold taskRes
  rw [← e]
  exact tile_body d (coordsV c s) _ _ (FF d) (LL d) (OO d) hL O W hO

set_option maxRecDepth 16384 in
theorem tileObl (hLa : ∀ d r, lbR (LL d : Labs) r < 16) : K.TileObl D 𝒱 (P FF LL OO) v₀ 0 := by
  intro d c i O W hO _ _
  simp only [show (P FF LL OO).ox = fun _ _ => 0 from rfl, add_zero]
  change _ ⊢ wp _ _ _ (Pipeline.liftProg (defs₀ (F := Ideal) (.scVector (K.core 0 c) (K.sub 0 i)) 0 ())) _
  refine BI.Entails.trans ?_ (Pipeline.wp_liftProg D (Pipeline.defs_kernel pcfgs defs₀) 𝒱₀ _ Set.univ none _ _)
  have hc : (K.core 0 c).val < grid0.bound 0 ∧ (K.sub 0 i).val < grid0.bound 1 := ⟨c.isLt, i.isLt⟩
  rw [defs₀_vector]; simp only [SparseCore.onTile, hc, and_self, ↓reduceDIte]
  exact (task_body FF LL OO d ⟨_, hc.1⟩ ⟨_, hc.2⟩ hLa O W hO).trans (wp_mono frame _ _ fun _ => obl_post)

/-! ### The ghost state at the launch -/

def u₀ : UU := (initOf K.hsCells K.hsToks, 1)

theorem bigSep_emp' {I : Type} (s : Finset I) : (bigSep s fun _ => iprop(emp)) = (iprop(emp) : sProp MM) := bigSep_emp_const s

theorem hu₀ : (ownU u₀ : sProp MM)
    ⊢ |={Set.univ}=> iprop(BI.own (EH (initOf K.hsCells K.hsToks)) ∗ (bigSep Finset.univ fun _ : Dev nD => iprop(emp))
        ∗ bigSep Finset.univ fun thr : Thread nD τ => bigSep Finset.univ fun q : Fin 1 => (P FF LL OO).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp MM)) = iprop(emp) from by
    rw [bigSep_congr fun _ _ => bigSep_emp' _, bigSep_emp']]
  iempintro

end Cert.Proof.Ece

end
-- ==== Proof.Ece.Host.lean ====
/-
  The host's operations before and after the call, and what they compute.
-/
module

public import proofs.«01_k».proof.Proof.Ece.Oblig

@[expose] public section

noncomputable section

namespace Cert.Proof.Ece

open Cert.KernelIdeal Cert.KernelIdeal.Gen
open Idealize.ShloMosaic
open Idealize.ShloMosaic.StableHlo (seq after)
open Idealize.SL.Sem

/-- The operations that lay the logits out for the tiles. -/
def preOpsF {F : FTy → Type} [FloatOps F] : List (HloOp τ sig (Elt F)) :=
  [StableHlo.unary main_arg0 main_v0 ((transpose S16x2000000 [1, 0] · transposes_S2000000x16_S16x2000000_1_0) : (⟨S2000000x16, .f32⟩ : BufTy).Contents (Elt F) → (⟨S16x2000000, .f32⟩ : BufTy).Contents (Elt F)),
   StableHlo.reshape main_v0 main_v1 (rfl : (.f32 : EltTy) = .f32) shapeCasts_S16x2000000_S2x8x15625x128,
   StableHlo.unary main_v1 main_v2 ((transpose S2x15625x8x128 [0, 2, 1, 3] · transposes_S2x8x15625x128_S2x15625x8x128_0_2_1_3) : (⟨S2x8x15625x128, .f32⟩ : BufTy).Contents (Elt F) → (⟨S2x15625x8x128, .f32⟩ : BufTy).Contents (Elt F)),
   StableHlo.reshape main_v2 main_v3 (rfl : (.f32 : EltTy) = .f32) shapeCasts_S2x15625x8x128_S32000000]

/-- The operations that make the error from the tiles' rows. -/
def postOpsF {F : FTy → Type} [FloatOps F] : List (HloOp τ sig (Elt F)) :=
  [StableHlo.nullary main_cst (constant S_ .f32 0x00000000#32),
   StableHlo.binary main_v4 main_cst main_v5 ((fun x v => Host.reduceAdd x v reducesTo_S32x480_S480_d0 h_S_) : (⟨S32x480, .f32⟩ : BufTy).Contents (Elt F) → (⟨S_, .f32⟩ : BufTy).Contents (Elt F) → (⟨S480, .f32⟩ : BufTy).Contents (Elt F)),
   StableHlo.reshape main_v5 main_v6 (rfl : (.f32 : EltTy) = .f32) shapeCasts_S480_S3x10x16,
   StableHlo.nullary main_cst_0 (constant S_ .f32 0x00000000#32),
   StableHlo.binary main_v6 main_cst_0 main_v7 ((fun x v => Host.reduceAdd x v reducesTo_S3x10x16_S3x10_d2 h_S_) : (⟨S3x10x16, .f32⟩ : BufTy).Contents (Elt F) → (⟨S_, .f32⟩ : BufTy).Contents (Elt F) → (⟨S3x10, .f32⟩ : BufTy).Contents (Elt F)),
   StableHlo.unary main_v7 main_v8 ((extractStridedSlice S1x10 ![0, 0] · slices_S3x10_S1x10_0_0) : (⟨S3x10, .f32⟩ : BufTy).Contents (Elt F) → (⟨S1x10, .f32⟩ : BufTy).Contents (Elt F)),
   StableHlo.reshape main_v8 main_v9 (rfl : (.f32 : EltTy) = .f32) shapeCasts_S1x10_S10,
   StableHlo.unary main_v7 main_v10 ((extractStridedSlice S1x10 ![1, 0] · slices_S3x10_S1x10_1_0) : (⟨S3x10, .f32⟩ : BufTy).Contents (Elt F) → (⟨S1x10, .f32⟩ : BufTy).Contents (Elt F)),
   StableHlo.reshape main_v10 main_v11 (rfl : (.f32 : EltTy) = .f32) shapeCasts_S1x10_S10,
   StableHlo.unary main_v7 main_v12 ((extractStridedSlice S1x10 ![2, 0] · slices_S3x10_S1x10_2_0) : (⟨S3x10, .f32⟩ : BufTy).Contents (Elt F) → (⟨S1x10, .f32⟩ : BufTy).Contents (Elt F)),
   StableHlo.reshape main_v12 main_v13 (rfl : (.f32 : EltTy) = .f32) shapeCasts_S1x10_S10,
   StableHlo.nullary main_cst_1 (constant S_ .f32 0x49F42400#32),
   StableHlo.unary main_cst_1 main_v14 (broadcastInDim S10 ![] bcast_S_S10 : (⟨S_, .f32⟩ : BufTy).Contents (Elt F) → (⟨S10, .f32⟩ : BufTy).Contents (Elt F)),
   StableHlo.binary main_v9 main_v14 main_v15 (Host.divf : (⟨S10, .f32⟩ : BufTy).Contents (Elt F) → (⟨S10, .f32⟩ : BufTy).Contents (Elt F) → (⟨S10, .f32⟩ : BufTy).Contents (Elt F)),
   StableHlo.nullary main_cst_2 (constant S_ .f32 0x3F800000#32),
   StableHlo.unary main_cst_2 main_v16 (broadcastInDim S10 ![] bcast_S_S10 : (⟨S_, .f32⟩ : BufTy).Contents (Elt F) → (⟨S10, .f32⟩ : BufTy).Contents (Elt F)),
   StableHlo.binary main_v9 main_v16 main_v17 (maximumf : (⟨S10, .f32⟩ : BufTy).Contents (Elt F) → (⟨S10, .f32⟩ : BufTy).Contents (Elt F) → (⟨S10, .f32⟩ : BufTy).Contents (Elt F)),
   StableHlo.binary main_v11 main_v17 main_v18 (Host.divf : (⟨S10, .f32⟩ : BufTy).Contents (Elt F) → (⟨S10, .f32⟩ : BufTy).Contents (Elt F) → (⟨S10, .f32⟩ : BufTy).Contents (Elt F)),
   StableHlo.binary main_v13 main_v17 main_v19 (Host.divf : (⟨S10, .f32⟩ : BufTy).Contents (Elt F) → (⟨S10, .f32⟩ : BufTy).Contents (Elt F) → (⟨S10, .f32⟩ : BufTy).Contents (Elt F)),
   StableHlo.binary main_v18 main_v19 main_v20 (subf : (⟨S10, .f32⟩ : BufTy).Contents (Elt F) → (⟨S10, .f32⟩ : BufTy).Contents (Elt F) → (⟨S10, .f32⟩ : BufTy).Contents (Elt F)),
   StableHlo.unary main_v20 main_v21 (Host.absf : (⟨S10, .f32⟩ : BufTy).Contents (Elt F) → (⟨S10, .f32⟩ : BufTy).Contents (Elt F)),
   StableHlo.nullary main_cst_3 (constant S_ .f32 0x00000000#32),
   StableHlo.unary main_cst_3 main_v22 (broadcastInDim S10 ![] bcast_S_S10 : (⟨S_, .f32⟩ : BufTy).Contents (Elt F) → (⟨S10, .f32⟩ : BufTy).Contents (Elt F)),
   StableHlo.binary main_v9 main_v22 main_v23 (cmpf .ogt : (⟨S10, .f32⟩ : BufTy).Contents (Elt F) → (⟨S10, .f32⟩ : BufTy).Contents (Elt F) → (⟨S10, .i1⟩ : BufTy).Contents (Elt F)),
   StableHlo.binary main_v21 main_v15 main_v24 (mulf : (⟨S10, .f32⟩ : BufTy).Contents (Elt F) → (⟨S10, .f32⟩ : BufTy).Contents (Elt F) → (⟨S10, .f32⟩ : BufTy).Contents (Elt F)),
   StableHlo.nullary main_cst_4 (constant S_ .f32 0x00000000#32),
   StableHlo.unary main_cst_4 main_call0_v0 (id : (⟨S_, .f32⟩ : BufTy).Contents (Elt F) → (⟨S_, .f32⟩ : BufTy).Contents (Elt F)),
   StableHlo.unary main_call0_v0 main_call0_v1 (broadcastInDim S10 ![] bcast_S_S10 : (⟨S_, .f32⟩ : BufTy).Contents (Elt F) → (⟨S10, .f32⟩ : BufTy).Contents (Elt F)),
   StableHlo.ternary main_v23 main_v24 main_call0_v1 main_v25 (select : (⟨S10, .i1⟩ : BufTy).Contents (Elt F) → (⟨S10, .f32⟩ : BufTy).Contents (Elt F) → (⟨S10, .f32⟩ : BufTy).Contents (Elt F) → (⟨S10, .f32⟩ : BufTy).Contents (Elt F)),
   StableHlo.nullary main_cst_5 (constant S_ .f32 0x00000000#32),
   StableHlo.binary main_v25 main_cst_5 main_v26 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
   StableHlo.reshape main_v26 main_v27 (rfl : (.f32 : EltTy) = .f32) shapeCasts_S_S1]

abbrev preOps : List (HloOp τ sig (Elt Ideal)) := preOpsF (F := Ideal)
abbrev postOps : List (HloOp τ sig (Elt Ideal)) := postOpsF (F := Ideal)

theorem main_eq (d : Dev nD) : main (F := Ideal) d = (seq preOps >>= fun _ => (K.run d 0 >>= fun _ => seq postOps)) := by
  unfold main fn_where.body preOps postOps preOpsF postOpsF
  simp only [seq, bind_assoc, pure_bind]
  rfl

/-- The logits as the tiles read them. -/
def flatOf (X : Vec Ideal S2000000x16 .f32) : Vec Ideal S32000000 .f32 :=
  shapeCast S32000000 (transpose S2x15625x8x128 [0, 2, 1, 3]
    (shapeCast S2x8x15625x128 (transpose S16x2000000 [1, 0] X transposes_S2000000x16_S16x2000000_1_0) shapeCasts_S16x2000000_S2x8x15625x128)
    transposes_S2x8x15625x128_S2x15625x8x128_0_2_1_3) shapeCasts_S2x15625x8x128_S32000000

/-- The sums of the three kinds, bin by bin. -/
def binsOf (R : Vec Ideal S32x480 .f32) : FVec Ideal S3x10 .f32 :=
  Host.reduceAdd (shapeCast S3x10x16 (Host.reduceAdd (F := Ideal) (φ := .f32) R (constant S_ .f32 0x00000000#32) reducesTo_S32x480_S480_d0 h_S_ : FVec Ideal S480 .f32) shapeCasts_S480_S3x10x16)
    (constant S_ .f32 0x00000000#32) reducesTo_S3x10x16_S3x10_d2 h_S_

/-- The error from the three sums of every bin. -/
def errOf (B : FVec Ideal S3x10 .f32) : FVec Ideal S1 .f32 :=
  let n : FVec Ideal S10 .f32 := shapeCast S10 (extractStridedSlice S1x10 ![0, 0] B slices_S3x10_S1x10_0_0) shapeCasts_S1x10_S10
  let c : FVec Ideal S10 .f32 := shapeCast S10 (extractStridedSlice S1x10 ![1, 0] B slices_S3x10_S1x10_1_0) shapeCasts_S1x10_S10
  let a : FVec Ideal S10 .f32 := shapeCast S10 (extractStridedSlice S1x10 ![2, 0] B slices_S3x10_S1x10_2_0) shapeCasts_S1x10_S10
  let k (b : BitVec 32) : FVec Ideal S10 .f32 := broadcastInDim S10 ![] bcast_S_S10 (constant (F := Ideal) S_ .f32 b)
  let d : FVec Ideal S10 .f32 := maximumf n (k 0x3F800000#32)
  shapeCast S1 (Host.reduceAdd (F := Ideal) (φ := .f32) (select (cmpf .ogt n (k 0x00000000#32))
      (mulf (Host.absf (subf (Host.divf c d) (Host.divf a d))) (Host.divf n (k 0x49F42400#32))) (k 0x00000000#32) : FVec Ideal S10 .f32)
    (constant S_ .f32 0x00000000#32) reducesTo_S10_S_d0 h_S_ : FVec Ideal S_ .f32) shapeCasts_S_S1

variable (V : Valuation τ sig (Elt Ideal))

abbrev dr (r : Ref sig .tc) : DevRef τ sig := Proc.devRef .tc r

theorem pre_v3 : after preOps V (dr main_v3) = flatOf (V (dr main_arg0)) := by
  unfold preOps preOpsF dr
  after_results_simp
  rfl

theorem pre_arg0 : after preOps V (dr main_arg0) = V (dr main_arg0) := by
  unfold preOps preOpsF dr
  after_results_simp

theorem pre_arg1 : after preOps V (dr main_arg1) = V (dr main_arg1) := by
  unfold preOps preOpsF dr
  after_results_simp

theorem post_arg0 : after postOps V (dr main_arg0) = V (dr main_arg0) := by
  unfold postOps postOpsF dr
  after_results_simp

theorem post_arg1 : after postOps V (dr main_arg1) = V (dr main_arg1) := by
  unfold postOps postOpsF dr
  after_results_simp

theorem post_v27 : after postOps V (dr main_v27) = errOf (binsOf (V (dr main_v4))) := by
  unfold postOps postOpsF dr
  after_results_simp
  rfl

end Cert.Proof.Ece

end
-- ==== Proof.Ece.Flat.lean ====
/-
  The logits laid out for the tiles, row by row; and the sums of all tiles as
  sums over all rows.
-/
module

public import proofs.«01_k».proof.Proof.Ece.Host
public import proofs.«01_k».proof.Proof.Ece.Task
public import Idealize.ShloMosaic.Lib.Pointwise.Index
public import Idealize.ShloMosaic.Lib.Pointwise.Reduce
public import Idealize.ShloMosaic.Lib.Pipeline.Value

@[expose] public section

noncomputable section

namespace Cert.Proof.Ece

open Cert.KernelIdeal Cert.KernelIdeal.Gen
open Idealize.ShloMosaic

/-- The logits of the tiles' layout are those of the array. -/
theorem flat_at (X : Vec Ideal S2000000x16 .f32) (b w h c : ℕ) (hb : b < 15625) (hw : w < 128) (hh : h < 2) (hc : c < 8) :
    at1 (N := 32000000) (flatOf X) (16000000 * h + b * 1024 + c * 128 + w) = X (ix2 ⟨128 * b + w, by omega⟩ ⟨8 * h + c, by omega⟩) := by
  have e : at1 (N := 32000000) (flatOf X) (16000000 * h + b * 1024 + c * 128 + w) = flatOf X (ix1 ⟨16000000 * h + b * 1024 + c * 128 + w, by omega⟩) :=
    (at1_idx (N := 32000000) (flatOf X) (ix1 ⟨16000000 * h + b * 1024 + c * 128 + w, by omega⟩)).symm
  rw [e]
  unfold flatOf
  rw [shapeCast_apply _ _ _ (ix4 (⟨h, hh⟩ : Fin 2) (⟨b, hb⟩ : Fin 15625) (⟨c, hc⟩ : Fin 8) (⟨w, hw⟩ : Fin 128)) (by
      rw [Shape.rowMajor_val_four, Shape.rowMajor_val_one]; simp [ix4, ix1]; omega),
    transpose_apply _ _ _ _ (ix4 (⟨h, hh⟩ : Fin 2) (⟨c, hc⟩ : Fin 8) (⟨b, hb⟩ : Fin 15625) (⟨w, hw⟩ : Fin 128)) (by intro a; fin_cases a <;> rfl),
    shapeCast_apply _ _ _ (ix2 (⟨8 * h + c, by omega⟩ : Fin 16) (⟨128 * b + w, by omega⟩ : Fin 2000000)) (by
      rw [Shape.rowMajor_val_two, Shape.rowMajor_val_four]; simp [ix4, ix2]; omega),
    transpose_apply _ _ _ _ (ix2 (⟨128 * b + w, by omega⟩ : Fin 2000000) (⟨8 * h + c, by omega⟩ : Fin 16)) (by intro a; fin_cases a <;> rfl)]

theorem flat_row (X : Vec Ideal S2000000x16 .f32) (r : Fin 2000000) (h c n : ℕ) (hh : h < 2) (hc : c < 8) (hn : n = fpos r.val + 128 * c + 16000000 * h) :
    at1 (N := 32000000) (flatOf X) n = X (ix2 r ⟨8 * h + c, by omega⟩) := by
  have hr := r.isLt
  rw [show n = 16000000 * h + (r.val / 128) * 1024 + c * 128 + r.val % 128 by rw [hn]; unfold fpos; omega,
    flat_at X _ _ h c (by omega) (by omega) hh hc]
  congr 2
  exact Fin.ext (by show 128 * (r.val / 128) + r.val % 128 = r.val; omega)

/-- The chosen logit. -/
theorem clR_eq (X : Vec Ideal S2000000x16 .f32) (r : Fin 2000000) (l : Fin 16) : clR (flatOf X) r.val l.val = X (ix2 r l) := by
  have hl := l.isLt
  unfold clR
  rw [flat_row X r (l.val / 8) (l.val % 8) _ (by omega) (by omega) (by omega)]
  congr 2
  exact Fin.ext (by show 8 * (l.val / 8) + l.val % 8 = l.val; omega)

theorem sup16 (f : Fin 16 → EReal) :
    max (max (max (max (f 0) (f 1)) (max (f 2) (f 3))) (max (max (f 4) (f 5)) (max (f 6) (f 7))))
      (max (max (max (f 8) (f 9)) (max (f 10) (f 11))) (max (max (f 12) (f 13)) (max (f 14) (f 15)))) = Finset.univ.sup f := by
  apply le_antisymm
  · have h (l : Fin 16) : f l ≤ Finset.univ.sup f := Finset.le_sup (Finset.mem_univ l)
    simp only [max_le_iff, h, and_self]
  · apply Finset.sup_le
    intro l _
    fin_cases l
    exacts [le_max_of_le_left (le_max_of_le_left (le_max_of_le_left (le_max_left _ _))),
      le_max_of_le_left (le_max_of_le_left (le_max_of_le_left (le_max_right _ _))),
      le_max_of_le_left (le_max_of_le_left (le_max_of_le_right (le_max_left _ _))),
      le_max_of_le_left (le_max_of_le_left (le_max_of_le_right (le_max_right _ _))),
      le_max_of_le_left (le_max_of_le_right (le_max_of_le_left (le_max_left _ _))),
      le_max_of_le_left (le_max_of_le_right (le_max_of_le_left (le_max_right _ _))),
      le_max_of_le_left (le_max_of_le_right (le_max_of_le_right (le_max_left _ _))),
      le_max_of_le_left (le_max_of_le_right (le_max_of_le_right (le_max_right _ _))),
      le_max_of_le_right (le_max_of_le_left (le_max_of_le_left (le_max_left _ _))),
      le_max_of_le_right (le_max_of_le_left (le_max_of_le_left (le_max_right _ _))),
      le_max_of_le_right (le_max_of_le_left (le_max_of_le_right (le_max_left _ _))),
      le_max_of_le_right (le_max_of_le_left (le_max_of_le_right (le_max_right _ _))),
      le_max_of_le_right (le_max_of_le_right (le_max_of_le_left (le_max_left _ _))),
      le_max_of_le_right (le_max_of_le_right (le_max_of_le_left (le_max_right _ _))),
      le_max_of_le_right (le_max_of_le_right (le_max_of_le_right (le_max_left _ _))),
      le_max_of_le_right (le_max_of_le_right (le_max_of_le_right (le_max_right _ _)))]

/-- The largest logit. -/
theorem mxR_eq (X : Vec Ideal S2000000x16 .f32) (r : Fin 2000000) (f : Fin 16 → EReal) (hf : ∀ l, (X (ix2 r l) : EReal) = f l) :
    mxR (flatOf X) r.val = Finset.univ.sup f := by
  have g (h c : ℕ) (hh : h < 2) (hc : c < 8) := (flat_row X r h c _ hh hc rfl).trans (hf _)
  rw [← sup16]
  unfold mxR
  simp only []
  rw [show at1 (N := 32000000) (flatOf X) (fpos r.val + 128 * 0 + 16000000 * 0) = f 0 from g 0 0 (by omega) (by omega),
    show at1 (N := 32000000) (flatOf X) (fpos r.val + 128 * 1 + 16000000 * 0) = f 1 from g 0 1 (by omega) (by omega),
    show at1 (N := 32000000) (flatOf X) (fpos r.val + 128 * 2 + 16000000 * 0) = f 2 from g 0 2 (by omega) (by omega),
    show at1 (N := 32000000) (flatOf X) (fpos r.val + 128 * 3 + 16000000 * 0) = f 3 from g 0 3 (by omega) (by omega),
    show at1 (N := 32000000) (flatOf X) (fpos r.val + 128 * 4 + 16000000 * 0) = f 4 from g 0 4 (by omega) (by omega),
    show at1 (N := 32000000) (flatOf X) (fpos r.val + 128 * 5 + 16000000 * 0) = f 5 from g 0 5 (by omega) (by omega),
    show at1 (N := 32000000) (flatOf X) (fpos r.val + 128 * 6 + 16000000 * 0) = f 6 from g 0 6 (by omega) (by omega),
    show at1 (N := 32000000) (flatOf X) (fpos r.val + 128 * 7 + 16000000 * 0) = f 7 from g 0 7 (by omega) (by omega),
    show at1 (N := 32000000) (flatOf X) (fpos r.val + 128 * 0 + 16000000 * 1) = f 8 from g 1 0 (by omega) (by omega),
    show at1 (N := 32000000) (flatOf X) (fpos r.val + 128 * 1 + 16000000 * 1) = f 9 from g 1 1 (by omega) (by omega),
    show at1 (N := 32000000) (flatOf X) (fpos r.val + 128 * 2 + 16000000 * 1) = f 10 from g 1 2 (by omega) (by omega),
    show at1 (N := 32000000) (flatOf X) (fpos r.val + 128 * 3 + 16000000 * 1) = f 11 from g 1 3 (by omega) (by omega),
    show at1 (N := 32000000) (flatOf X) (fpos r.val + 128 * 4 + 16000000 * 1) = f 12 from g 1 4 (by omega) (by omega),
    show at1 (N := 32000000) (flatOf X) (fpos r.val + 128 * 5 + 16000000 * 1) = f 13 from g 1 5 (by omega) (by omega),
    show at1 (N := 32000000) (flatOf X) (fpos r.val + 128 * 6 + 16000000 * 1) = f 14 from g 1 6 (by omega) (by omega),
    show at1 (N := 32000000) (flatOf X) (fpos r.val + 128 * 7 + 16000000 * 1) = f 15 from g 1 7 (by omega) (by omega)]

/-! ## Sums -/

theorem B0_step (w : ℕ) : BE w = B0 (w + 1) := by unfold BE B0; split <;> omega

theorem sum_tiles (f : ℕ → EReal) (n : ℕ) : ∑ w ∈ Finset.range n, ∑ G ∈ Finset.Ico (8 * B0 w) (8 * BE w), f G = ∑ G ∈ Finset.range (8 * B0 n), f G := by
  induction n with
  | zero => simp [B0]
  | succ n ih =>
    rw [Finset.sum_range_succ, ih, B0_step]
    rw [← Finset.sum_range_add_sum_Ico f (show 8 * B0 n ≤ 8 * B0 (n + 1) by unfold B0; omega)]

theorem sum_lanes (f : ℕ → EReal) (n : ℕ) : ∑ G ∈ Finset.range n, ∑ l ∈ Finset.range 16, f (16 * G + l) = ∑ r ∈ Finset.range (16 * n), f r := by
  induction n with
  | zero => simp
  | succ n ih => rw [Finset.sum_range_succ, ih, show 16 * (n + 1) = 16 * n + 16 by ring, Finset.sum_range_add]

/-- The value a row adds, by kind and bin. -/
def cellK (m x : EReal) (k b : ℕ) : EReal :=
  if b = binN (confE m) then (if k = 0 then 1 else if k = 1 then confE m else if x = m then 1 else 0) else 0

theorem gcell_eq (m x : EReal) (k b l : ℕ) (hk : k < 3) (hb : b < 10) (hl : l < 16) : gcell m x (k * 160 + b * 16 + l) = cellK m x k b := by
  unfold gcell cellK
  rw [show (k * 160 + b * 16 + l) / 16 % 10 = b by omega]
  split
  · interval_cases k
    · rw [if_pos (show 0 * 160 + b * 16 + l < 160 by omega), if_pos rfl]
    · rw [if_neg (show ¬ 1 * 160 + b * 16 + l < 160 by omega), if_pos (show 1 * 160 + b * 16 + l < 320 by omega), if_neg (show ¬ (1 = 0) by omega), if_pos rfl]
    · rw [if_neg (show ¬ 2 * 160 + b * 16 + l < 160 by omega), if_neg (show ¬ 2 * 160 + b * 16 + l < 320 by omega), if_neg (show ¬ (2 = 0) by omega), if_neg (show ¬ (2 = 1) by omega)]
  · rfl

theorem binsOf_eq (Fl : Flat) (La : Labs) (k : Fin 3) (b : Fin 10) :
    binsOf (Gout Fl La) (ix2 k b) = ∑ r : Fin 2000000, cellK (mxR Fl r.val) (clR Fl r.val (lbR La r.val)) k.val b.val := by
  have hk := k.isLt
  have hb := b.isLt
  have z : Ideal.ofBits .f32 0x00000000#32 = 0 := zero_bits
  have e1 : ∀ l : Fin 16, (shapeCast S3x10x16 (Host.reduceAdd (F := Ideal) (φ := .f32) (Gout Fl La) (constant S_ .f32 0x00000000#32) reducesTo_S32x480_S480_d0 h_S_ : FVec Ideal S480 .f32) shapeCasts_S480_S3x10x16) (ix3 k b l)
      = ∑ w ∈ Finset.range 32, ∑ G ∈ Finset.Ico (8 * B0 w) (8 * BE w), cellK (mxR Fl (16 * G + l.val)) (clR Fl (16 * G + l.val) (lbR La (16 * G + l.val))) k.val b.val := by
    intro l
    have hl := l.isLt
    rw [shapeCast_apply _ _ _ (ix1 (⟨k.val * 160 + b.val * 16 + l.val, by omega⟩ : Fin 480)) (by
      rw [Shape.rowMajor_val_one, Shape.rowMajor_val_three]; simp [ix1, ix3]; omega)]
    show Ideal.hostReduceAdd _ (Gout Fl La) (Ideal.ofBits .f32 0x00000000#32) _ = _
    rw [Ideal.hostReduceAdd_r2_a0, z, zero_add, Finset.sum_range]
    apply Finset.sum_congr rfl; intro w _
    show ∑ G ∈ Finset.Ico (8 * B0 w.val) (8 * BE w.val), cellR Fl La (16 * G + (k.val * 160 + b.val * 16 + l.val) % 16) (k.val * 160 + b.val * 16 + l.val) = _
    apply Finset.sum_congr rfl; intro G _
    rw [show (k.val * 160 + b.val * 16 + l.val) % 16 = l.val by omega]
    exact gcell_eq _ _ _ _ _ hk hb hl
  unfold binsOf
  show Ideal.hostReduceAdd _ _ (Ideal.ofBits .f32 0x00000000#32) _ = _
  rw [Ideal.hostReduceAdd_r3_a2, z, zero_add]
  refine (Finset.sum_congr rfl fun l _ => e1 l).trans ?_
  simp only [sum_tiles]
  rw [Finset.sum_comm, ← Finset.sum_range (fun r => cellK (mxR Fl r) (clR Fl r (lbR La r)) k.val b.val), ← show 16 * (8 * B0 32) = 2000000 from rfl, ← sum_lanes]
  apply Finset.sum_congr rfl; intro G _
  rw [Finset.sum_range]

end Cert.Proof.Ece

end
-- ==== Proof.Ece.Row.lean ====
/-
  The confidence of a logit and the bin of a confidence, as real numbers.
-/
module

public import proofs.«01_k».proof.Proof.Ece.Flat

@[expose] public section

noncomputable section

namespace Cert.Proof.Ece

open Cert.KernelIdeal Cert.KernelIdeal.Gen
open Idealize.ShloMosaic

theorem confE_eq (m : EReal) : confE m = Ideal.logistic m := by
  unfold confE Ideal.logistic
  rw [sub_eq_add_neg, zero_add]

theorem confE_bot : confE ⊥ = 0 := by rw [confE_eq, Ideal.logistic_bot]
theorem confE_top : confE ⊤ = 1 := by rw [confE_eq, Ideal.logistic_top]
theorem confE_coe (r : ℝ) : confE (r : EReal) = (((1 + Real.exp (-r))⁻¹ : ℝ) : EReal) := by rw [confE_eq, Ideal.logistic_coe]

theorem sig_pos (r : ℝ) : 0 < (1 + Real.exp (-r))⁻¹ := by have := Real.exp_pos (-r); positivity
theorem sig_lt (r : ℝ) : (1 + Real.exp (-r))⁻¹ < 1 := inv_lt_one_of_one_lt₀ (by have := Real.exp_pos (-r); linarith)

/-- A larger logit has a larger confidence. -/
theorem confE_mono : StrictMono confE := by
  intro a b h
  induction a using EReal.rec with
  | bot =>
    rw [confE_bot]
    induction b using EReal.rec with
    | bot => exact absurd h (lt_irrefl _)
    | top => rw [confE_top]; exact zero_lt_one
    | coe r => rw [confE_coe]; exact_mod_cast sig_pos r
  | top => exact absurd h (not_lt.mpr le_top)
  | coe q =>
    rw [confE_coe]
    induction b using EReal.rec with
    | bot => exact absurd h (not_lt.mpr bot_le)
    | top => rw [confE_top]; exact_mod_cast sig_lt q
    | coe r =>
      rw [confE_coe]
      have h' : q < r := by exact_mod_cast h
      have e : Real.exp (-r) < Real.exp (-q) := Real.exp_lt_exp.mpr (by linarith)
      have p := Real.exp_pos (-r)
      have : (1 + Real.exp (-q))⁻¹ < (1 + Real.exp (-r))⁻¹ := inv_strictAnti₀ (by linarith) (by linarith)
      exact_mod_cast this

theorem confE_le_one (m : EReal) : confE m ≤ 1 := by rw [← confE_top]; exact confE_mono.monotone le_top

/-- A confidence is a real number between 0 and 1. -/
theorem confE_real (m : EReal) : ∃ x : ℝ, confE m = (x : EReal) ∧ 0 ≤ x ∧ x ≤ 1 := by
  induction m using EReal.rec with
  | bot => exact ⟨0, by rw [confE_bot]; rfl, le_refl _, zero_le_one⟩
  | top => exact ⟨1, by rw [confE_top]; rfl, zero_le_one, le_refl _⟩
  | coe r => exact ⟨_, confE_coe r, (sig_pos r).le, (sig_lt r).le⟩

/-- The confidence of the largest logit is the largest confidence. -/
theorem sup_conf (f : Fin 16 → EReal) : (Finset.univ.sup fun l => confE (f l)) = confE (Finset.univ.sup f) := by
  obtain ⟨i, -, hi⟩ := Finset.exists_mem_eq_sup Finset.univ (Finset.univ_nonempty) f
  apply le_antisymm
  · exact Finset.sup_le fun l _ => confE_mono.monotone (Finset.le_sup (f := f) (Finset.mem_univ l))
  · rw [hi]; exact Finset.le_sup (f := fun l => confE (f l)) (Finset.mem_univ i)

theorem minsi9 (i : ℤ) (h1 : 0 ≤ i) (h2 : i ≤ 2147483647) : (IntOp.minsi (BitVec.ofInt 32 i) 9#32).toNat = min i.toNat 9 := by
  unfold IntOp.minsi
  have e : (BitVec.ofInt 32 i).toInt = i := by
    rw [BitVec.toInt_ofInt]; simp [Int.bmod]; omega
  rw [BitVec.slt_eq_decide, e]
  split
  · rename_i h
    have : i < 9 := by simpa using h
    rw [BitVec.toNat_ofInt]; omega
  · rename_i h
    have : ¬ i < 9 := by simpa using h
    show 9 = _
    omega

theorem binN_real (x : ℝ) (h0 : 0 ≤ x) (h1 : x ≤ 1) : binN (x : EReal) = min ⌊x * 10⌋.toNat 9 := by
  unfold binN Ideal.fptosi
  have e : (x : EReal) * 10 = ((x * 10 : ℝ) : EReal) := by push_cast; rfl
  have hp : 0 ≤ x * 10 := by positivity
  have hf0 := Int.floor_nonneg.mpr hp
  have hf1 : ⌊x * 10⌋ ≤ 10 := by
    have : ⌊x * 10⌋ ≤ ⌊(10 : ℝ)⌋ := Int.floor_le_floor (by linarith)
    simpa using this
  rw [e, toInt_coe, if_pos hp, minsi9 _ (by omega) (by norm_num)]
  congr 2
  norm_num
  omega

/-- Away from the lower edges, the kernel's bin is the bin whose edges enclose the confidence. -/
theorem bin_iff (c : EReal) (b : ℕ) (hb : b < 10) (hc : ∃ x : ℝ, c = (x : EReal) ∧ 0 ≤ x ∧ x ≤ 1) (hk : ∀ k : ℕ, k < 10 → c * 10 ≠ ((k : ℝ) : EReal)) :
    b = binN c ↔ ((((b : ℝ) / 10 : ℝ) : EReal) < c ∧ c ≤ ((((b + 1 : ℕ) : ℝ) / 10 : ℝ) : EReal)) := by
  obtain ⟨x, rfl, h0, h1⟩ := hc
  have hk' : ∀ k : ℕ, k < 10 → x * 10 ≠ k := by
    intro k h e
    apply hk k h
    rw [← e]; push_cast; rfl
  rw [binN_real x h0 h1, EReal.coe_lt_coe_iff, EReal.coe_le_coe_iff]
  have hp : 0 ≤ x * 10 := by positivity
  obtain ⟨n, hn⟩ := Int.eq_ofNat_of_zero_le (Int.floor_nonneg.mpr hp)
  have l1 : (n : ℝ) ≤ x * 10 := by have := Int.floor_le (x * 10); rw [hn] at this; exact_mod_cast this
  have l2 : x * 10 < (n : ℝ) + 1 := by have := Int.lt_floor_add_one (x * 10); rw [hn] at this; exact_mod_cast this
  rw [hn, Int.toNat_natCast]
  push_cast
  constructor
  · intro e
    rcases Nat.lt_or_ge n 10 with h | h
    · have : b = n := by omega
      subst this
      have := lt_of_le_of_ne l1 (hk' b hb).symm
      constructor <;> linarith
    · have : b = 9 := by omega
      subst this
      have : (10 : ℝ) ≤ n := by exact_mod_cast h
      constructor <;> push_cast <;> linarith
  · rintro ⟨e1, e2⟩
    have g1 : (b : ℝ) < n + 1 := by linarith
    have g1' : b < n + 1 := by exact_mod_cast g1
    have g2 : (n : ℝ) ≤ b + 1 := by linarith
    have g2' : n ≤ b + 1 := by exact_mod_cast g2
    rcases Nat.lt_or_ge n (b + 1) with h | h
    · omega
    · have : n = b + 1 := by omega
      subst this
      by_cases hb9 : b = 9
      · omega
      · exfalso
        apply hk' (b + 1) (by omega)
        push_cast at l1 ⊢
        linarith

/-- A tenth. -/
theorem tenth (k : ℕ) : Ideal.div ((k : ℝ) : EReal) ((10 : ℝ) : EReal) = ((((k : ℝ) / 10 : ℝ)) : EReal) := by
  unfold Ideal.div
  rw [if_neg (by norm_num), ← EReal.coe_inv, ← EReal.coe_mul]
  rfl

end Cert.Proof.Ece

end
-- ==== Proof.Ece.RefOps.lean ====
/-
  The reference's host program as a line of operations: a head (scores, confidence, accuracy), then one stretch per bin.
-/
module

public import proofs.«01_k».proof.ReferenceIdeal
public import proofs.«01_k».proof.Proof.Gen.ReferenceIdeal
public import Idealize.ShloMosaic.Lib.StableHlo.Run
public import Idealize.ShloMosaic.Lib.Pipeline.Frame
public import Idealize.ShloMosaic.Lib.Quiescent
public import Idealize.ShloMosaic.PureOps.Ideal

@[expose] public section

noncomputable section

namespace Cert.Proof.Ece.Rf

open Cert.ReferenceIdeal Cert.ReferenceIdeal.Gen
open Idealize.ShloMosaic
open Idealize.ShloMosaic.StableHlo (seq after)
open Idealize.SL.Sem

section
variable {F : FTy → Type} [FloatOps F]

/-- Scores, confidence and accuracy of every row. -/
def headOps : List (HloOp τ sig (Elt F)) :=
  [StableHlo.unary main_arg0 main_v0 (Host.negf : (⟨S2000000x16, .f32⟩ : BufTy).Contents (Elt F) → (⟨S2000000x16, .f32⟩ : BufTy).Contents (Elt F)),
   StableHlo.unary main_v0 main_v1 (Host.exp : (⟨S2000000x16, .f32⟩ : BufTy).Contents (Elt F) → (⟨S2000000x16, .f32⟩ : BufTy).Contents (Elt F)),
   StableHlo.nullary main_cst (constant S_ .f32 0x3F800000#32),
   StableHlo.unary main_cst main_v2 (broadcastInDim S2000000x16 ![] bcast_S_S2000000x16 : (⟨S_, .f32⟩ : BufTy).Contents (Elt F) → (⟨S2000000x16, .f32⟩ : BufTy).Contents (Elt F)),
   StableHlo.binary main_v2 main_v1 main_v3 (addf : (⟨S2000000x16, .f32⟩ : BufTy).Contents (Elt F) → (⟨S2000000x16, .f32⟩ : BufTy).Contents (Elt F) → (⟨S2000000x16, .f32⟩ : BufTy).Contents (Elt F)),
   StableHlo.nullary main_cst_0 (constant S_ .f32 0x3F800000#32),
   StableHlo.unary main_cst_0 main_v4 (broadcastInDim S2000000x16 ![] bcast_S_S2000000x16 : (⟨S_, .f32⟩ : BufTy).Contents (Elt F) → (⟨S2000000x16, .f32⟩ : BufTy).Contents (Elt F)),
   StableHlo.binary main_v4 main_v3 main_v5 (Host.divf : (⟨S2000000x16, .f32⟩ : BufTy).Contents (Elt F) → (⟨S2000000x16, .f32⟩ : BufTy).Contents (Elt F) → (⟨S2000000x16, .f32⟩ : BufTy).Contents (Elt F)),
   StableHlo.nullary main_cst_1 (constant S_ .f32 0xFF800000#32),
   StableHlo.binary main_v5 main_cst_1 main_v6 ((fun x v => Host.reduce FloatOps.maximumf x v reducesTo_S2000000x16_S2000000_d1 h_S_) : (⟨S2000000x16, .f32⟩ : BufTy).Contents (Elt F) → (⟨S_, .f32⟩ : BufTy).Contents (Elt F) → (⟨S2000000, .f32⟩ : BufTy).Contents (Elt F)),
   StableHlo.nullary main_call0_v0 (iotaInDim S2000000x16 32 1),
   StableHlo.nullary main_call0_cst (constant S_ .f32 0xFF800000#32),
   StableHlo.nullary main_call0_c (constantI S_ 32 0#32),
   StableHlo.quaternary main_v5 main_call0_v0 main_call0_cst main_call0_c main_call0_v1_0 ((fun x y u v j => (Host.argReduce reducer_argmax_f32_i32 x y u v reducesTo_S2000000x16_S2000000_d1 h_S_ j).1) : (⟨S2000000x16, .f32⟩ : BufTy).Contents (Elt F) → (⟨S2000000x16, .i32⟩ : BufTy).Contents (Elt F) → (⟨S_, .f32⟩ : BufTy).Contents (Elt F) → (⟨S_, .i32⟩ : BufTy).Contents (Elt F) → (⟨S2000000, .f32⟩ : BufTy).Contents (Elt F)),
   StableHlo.quaternary main_v5 main_call0_v0 main_call0_cst main_call0_c main_v7 ((fun x y u v j => (Host.argReduce reducer_argmax_f32_i32 x y u v reducesTo_S2000000x16_S2000000_d1 h_S_ j).2) : (⟨S2000000x16, .f32⟩ : BufTy).Contents (Elt F) → (⟨S2000000x16, .i32⟩ : BufTy).Contents (Elt F) → (⟨S_, .f32⟩ : BufTy).Contents (Elt F) → (⟨S_, .i32⟩ : BufTy).Contents (Elt F) → (⟨S2000000, .i32⟩ : BufTy).Contents (Elt F)),
   StableHlo.binary main_v7 main_arg1 main_v8 (cmpi .eq : (⟨S2000000, .i32⟩ : BufTy).Contents (Elt F) → (⟨S2000000, .i32⟩ : BufTy).Contents (Elt F) → (⟨S2000000, .i1⟩ : BufTy).Contents (Elt F)),
   StableHlo.unary main_v8 main_v9 (uitofp .f32 : (⟨S2000000, .i1⟩ : BufTy).Contents (Elt F) → (⟨S2000000, .f32⟩ : BufTy).Contents (Elt F)),
   StableHlo.nullary main_cst_2 (constant S_ .f32 0x00000000#32),
   StableHlo.unary main_cst_2 main_v10 (broadcastInDim S1 ![] bcast_S_S1 : (⟨S_, .f32⟩ : BufTy).Contents (Elt F) → (⟨S1, .f32⟩ : BufTy).Contents (Elt F))]

/-- Bin 0. -/
def binOps0 : List (HloOp τ sig (Elt F)) :=
  [StableHlo.nullary main_cst_3 (constant S_ .f32 0x00000000#32),
   StableHlo.nullary main_cst_4 (constant S_ .f32 0x41200000#32),
   StableHlo.binary main_cst_3 main_cst_4 main_v11 (Host.divf : (⟨S_, .f32⟩ : BufTy).Contents (Elt F) → (⟨S_, .f32⟩ : BufTy).Contents (Elt F) → (⟨S_, .f32⟩ : BufTy).Contents (Elt F)),
   StableHlo.nullary main_cst_5 (constant S_ .f32 0x3F800000#32),
   StableHlo.nullary main_cst_6 (constant S_ .f32 0x41200000#32),
   StableHlo.binary main_cst_5 main_cst_6 main_v12 (Host.divf : (⟨S_, .f32⟩ : BufTy).Contents (Elt F) → (⟨S_, .f32⟩ : BufTy).Contents (Elt F) → (⟨S_, .f32⟩ : BufTy).Contents (Elt F)),
   StableHlo.unary main_v11 main_v13 (broadcastInDim S2000000 ![] bcast_S_S2000000 : (⟨S_, .f32⟩ : BufTy).Contents (Elt F) → (⟨S2000000, .f32⟩ : BufTy).Contents (Elt F)),
   StableHlo.binary main_v6 main_v13 main_v14 (cmpf .ogt : (⟨S2000000, .f32⟩ : BufTy).Contents (Elt F) → (⟨S2000000, .f32⟩ : BufTy).Contents (Elt F) → (⟨S2000000, .i1⟩ : BufTy).Contents (Elt F)),
   StableHlo.unary main_v12 main_v15 (broadcastInDim S2000000 ![] bcast_S_S2000000 : (⟨S_, .f32⟩ : BufTy).Contents (Elt F) → (⟨S2000000, .f32⟩ : BufTy).Contents (Elt F)),
   StableHlo.binary main_v6 main_v15 main_v16 (cmpf .ole : (⟨S2000000, .f32⟩ : BufTy).Contents (Elt F) → (⟨S2000000, .f32⟩ : BufTy).Contents (Elt F) → (⟨S2000000, .i1⟩ : BufTy).Contents (Elt F)),
   StableHlo.binary main_v14 main_v16 main_v17 (andi : (⟨S2000000, .i1⟩ : BufTy).Contents (Elt F) → (⟨S2000000, .i1⟩ : BufTy).Contents (Elt F) → (⟨S2000000, .i1⟩ : BufTy).Contents (Elt F)),
   StableHlo.unary main_v17 main_v18 (uitofp .f32 : (⟨S2000000, .i1⟩ : BufTy).Contents (Elt F) → (⟨S2000000, .f32⟩ : BufTy).Contents (Elt F)),
   StableHlo.nullary main_cst_7 (constant S_ .f32 0x00000000#32),
   StableHlo.binary main_v18 main_cst_7 main_v19 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_8 (constant S_ .f32 0x49F42400#32),
   StableHlo.binary main_v19 main_cst_8 main_v20 (Host.divf : (⟨S_, .f32⟩ : BufTy).Contents (Elt F) → (⟨S_, .f32⟩ : BufTy).Contents (Elt F) → (⟨S_, .f32⟩ : BufTy).Contents (Elt F)),
   StableHlo.nullary main_cst_9 (constant S_ .f32 0x3F800000#32),
   StableHlo.binary main_v19 main_cst_9 main_v21 (maximumf : (⟨S_, .f32⟩ : BufTy).Contents (Elt F) → (⟨S_, .f32⟩ : BufTy).Contents (Elt F) → (⟨S_, .f32⟩ : BufTy).Contents (Elt F)),
   StableHlo.binary main_v9 main_v18 main_v22 (mulf : (⟨S2000000, .f32⟩ : BufTy).Contents (Elt F) → (⟨S2000000, .f32⟩ : BufTy).Contents (Elt F) → (⟨S2000000, .f32⟩ : BufTy).Contents (Elt F)),
   StableHlo.nullary main_cst_10 (constant S_ .f32 0x00000000#32),
   StableHlo.binary main_v22 main_cst_10 main_v23 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v23 main_v21 main_v24 (Host.divf : (⟨S_, .f32⟩ : BufTy).Contents (Elt F) → (⟨S_, .f32⟩ : BufTy).Contents (Elt F) → (⟨S_, .f32⟩ : BufTy).Contents (Elt F)),
   StableHlo.binary main_v6 main_v18 main_v25 (mulf : (⟨S2000000, .f32⟩ : BufTy).Contents (Elt F) → (⟨S2000000, .f32⟩ : BufTy).Contents (Elt F) → (⟨S2000000, .f32⟩ : BufTy).Contents (Elt F)),
   StableHlo.nullary main_cst_11 (constant S_ .f32 0x00000000#32),
   StableHlo.binary main_v25 main_cst_11 main_v26 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v26 main_v21 main_v27 (Host.divf : (⟨S_, .f32⟩ : BufTy).Contents (Elt F) → (⟨S_, .f32⟩ : BufTy).Contents (Elt F) → (⟨S_, .f32⟩ : BufTy).Contents (Elt F)),
   StableHlo.binary main_v27 main_v24 main_v28 (subf : (⟨S_, .f32⟩ : BufTy).Contents (Elt F) → (⟨S_, .f32⟩ : BufTy).Contents (Elt F) → (⟨S_, .f32⟩ : BufTy).Contents (Elt F)),
   StableHlo.unary main_v28 main_v29 (Host.absf : (⟨S_, .f32⟩ : BufTy).Contents (Elt F) → (⟨S_, .f32⟩ : BufTy).Contents (Elt F)),
   StableHlo.binary main_v29 main_v20 main_v30 (mulf : (⟨S_, .f32⟩ : BufTy).Contents (Elt F) → (⟨S_, .f32⟩ : BufTy).Contents (Elt F) → (⟨S_, .f32⟩ : BufTy).Contents (Elt F)),
   StableHlo.nullary main_cst_12 (constant S_ .f32 0x00000000#32),
   StableHlo.binary main_v19 main_cst_12 main_v31 (cmpf .ogt : (⟨S_, .f32⟩ : BufTy).Contents (Elt F) → (⟨S_, .f32⟩ : BufTy).Contents (Elt F) → (⟨S_, .i1⟩ : BufTy).Contents (Elt F)),
   StableHlo.nullary main_cst_13 (constant S_ .f32 0x00000000#32),
   StableHlo.unary main_cst_13 main_call1_v0 (id : (⟨S_, .f32⟩ : BufTy).Contents (Elt F) → (⟨S_, .f32⟩ : BufTy).Contents (Elt F)),
   StableHlo.ternary main_v31 main_v30 main_call1_v0 main_v32 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v32 main_v33 (broadcastInDim S1 ![] bcast_S_S1 : (⟨S_, .f32⟩ : BufTy).Contents (Elt F) → (⟨S1, .f32⟩ : BufTy).Contents (Elt F)),
   StableHlo.binary main_v10 main_v33 main_v34 (addf : (⟨S1, .f32⟩ : BufTy).Contents (Elt F) → (⟨S1, .f32⟩ : BufTy).Contents (Elt F) → (⟨S1, .f32⟩ : BufTy).Contents (Elt F))]

/-- Bin 1. -/
def binOps1 : List (HloOp τ sig (Elt F)) :=
  [StableHlo.nullary main_cst_14 (constant S_ .f32 0x3F800000#32),
   StableHlo.nullary main_cst_15 (constant S_ .f32 0x41200000#32),
   StableHlo.binary main_cst_14 main_cst_15 main_v35 (Host.divf : (⟨S_, .f32⟩ : BufTy).Contents (Elt F) → (⟨S_, .f32⟩ : BufTy).Contents (Elt F) → (⟨S_, .f32⟩ : BufTy).Contents (Elt F)),
   StableHlo.nullary main_cst_16 (constant S_ .f32 0x40000000#32),
   StableHlo.nullary main_cst_17 (constant S_ .f32 0x41200000#32),
   StableHlo.binary main_cst_16 main_cst_17 main_v36 (Host.divf : (⟨S_, .f32⟩ : BufTy).Contents (Elt F) → (⟨S_, .f32⟩ : BufTy).Contents (Elt F) → (⟨S_, .f32⟩ : BufTy).Contents (Elt F)),
   StableHlo.unary main_v35 main_v37 (broadcastInDim S2000000 ![] bcast_S_S2000000 : (⟨S_, .f32⟩ : BufTy).Contents (Elt F) → (⟨S2000000, .f32⟩ : BufTy).Contents (Elt F)),
   StableHlo.binary main_v6 main_v37 main_v38 (cmpf .ogt : (⟨S2000000, .f32⟩ : BufTy).Contents (Elt F) → (⟨S2000000, .f32⟩ : BufTy).Contents (Elt F) → (⟨S2000000, .i1⟩ : BufTy).Contents (Elt F)),
   StableHlo.unary main_v36 main_v39 (broadcastInDim S2000000 ![] bcast_S_S2000000 : (⟨S_, .f32⟩ : BufTy).Contents (Elt F) → (⟨S2000000, .f32⟩ : BufTy).Contents (Elt F)),
   StableHlo.binary main_v6 main_v39 main_v40 (cmpf .ole : (⟨S2000000, .f32⟩ : BufTy).Contents (Elt F) → (⟨S2000000, .f32⟩ : BufTy).Contents (Elt F) → (⟨S2000000, .i1⟩ : BufTy).Contents (Elt F)),
   StableHlo.binary main_v38 main_v40 main_v41 (andi : (⟨S2000000, .i1⟩ : BufTy).Contents (Elt F) → (⟨S2000000, .i1⟩ : BufTy).Contents (Elt F) → (⟨S2000000, .i1⟩ : BufTy).Contents (Elt F)),
   StableHlo.unary main_v41 main_v42 (uitofp .f32 : (⟨S2000000, .i1⟩ : BufTy).Contents (Elt F) → (⟨S2000000, .f32⟩ : BufTy).Contents (Elt F)),
   StableHlo.nullary main_cst_18 (constant S_ .f32 0x00000000#32),
   StableHlo.binary main_v42 main_cst_18 main_v43 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_19 (constant S_ .f32 0x49F42400#32),
   StableHlo.binary main_v43 main_cst_19 main_v44 (Host.divf : (⟨S_, .f32⟩ : BufTy).Contents (Elt F) → (⟨S_, .f32⟩ : BufTy).Contents (Elt F) → (⟨S_, .f32⟩ : BufTy).Contents (Elt F)),
   StableHlo.nullary main_cst_20 (constant S_ .f32 0x3F800000#32),
   StableHlo.binary main_v43 main_cst_20 main_v45 (maximumf : (⟨S_, .f32⟩ : BufTy).Contents (Elt F) → (⟨S_, .f32⟩ : BufTy).Contents (Elt F) → (⟨S_, .f32⟩ : BufTy).Contents (Elt F)),
   StableHlo.binary main_v9 main_v42 main_v46 (mulf : (⟨S2000000, .f32⟩ : BufTy).Contents (Elt F) → (⟨S2000000, .f32⟩ : BufTy).Contents (Elt F) → (⟨S2000000, .f32⟩ : BufTy).Contents (Elt F)),
   StableHlo.nullary main_cst_21 (constant S_ .f32 0x00000000#32),
   StableHlo.binary main_v46 main_cst_21 main_v47 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v47 main_v45 main_v48 (Host.divf : (⟨S_, .f32⟩ : BufTy).Contents (Elt F) → (⟨S_, .f32⟩ : BufTy).Contents (Elt F) → (⟨S_, .f32⟩ : BufTy).Contents (Elt F)),
   StableHlo.binary main_v6 main_v42 main_v49 (mulf : (⟨S2000000, .f32⟩ : BufTy).Contents (Elt F) → (⟨S2000000, .f32⟩ : BufTy).Contents (Elt F) → (⟨S2000000, .f32⟩ : BufTy).Contents (Elt F)),
   StableHlo.nullary main_cst_22 (constant S_ .f32 0x00000000#32),
   StableHlo.binary main_v49 main_cst_22 main_v50 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v50 main_v45 main_v51 (Host.divf : (⟨S_, .f32⟩ : BufTy).Contents (Elt F) → (⟨S_, .f32⟩ : BufTy).Contents (Elt F) → (⟨S_, .f32⟩ : BufTy).Contents (Elt F)),
   StableHlo.binary main_v51 main_v48 main_v52 (subf : (⟨S_, .f32⟩ : BufTy).Contents (Elt F) → (⟨S_, .f32⟩ : BufTy).Contents (Elt F) → (⟨S_, .f32⟩ : BufTy).Contents (Elt F)),
   StableHlo.unary main_v52 main_v53 (Host.absf : (⟨S_, .f32⟩ : BufTy).Contents (Elt F) → (⟨S_, .f32⟩ : BufTy).Contents (Elt F)),
   StableHlo.binary main_v53 main_v44 main_v54 (mulf : (⟨S_, .f32⟩ : BufTy).Contents (Elt F) → (⟨S_, .f32⟩ : BufTy).Contents (Elt F) → (⟨S_, .f32⟩ : BufTy).Contents (Elt F)),
   StableHlo.nullary main_cst_23 (constant S_ .f32 0x00000000#32),
   StableHlo.binary main_v43 main_cst_23 main_v55 (cmpf .ogt : (⟨S_, .f32⟩ : BufTy).Contents (Elt F) → (⟨S_, .f32⟩ : BufTy).Contents (Elt F) → (⟨S_, .i1⟩ : BufTy).Contents (Elt F)),
   StableHlo.nullary main_cst_24 (constant S_ .f32 0x00000000#32),
   StableHlo.unary main_cst_24 main_call2_v0 (id : (⟨S_, .f32⟩ : BufTy).Contents (Elt F) → (⟨S_, .f32⟩ : BufTy).Contents (Elt F)),
   StableHlo.ternary main_v55 main_v54 main_call2_v0 main_v56 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v56 main_v57 (broadcastInDim S1 ![] bcast_S_S1 : (⟨S_, .f32⟩ : BufTy).Contents (Elt F) → (⟨S1, .f32⟩ : BufTy).Contents (Elt F)),
   StableHlo.binary main_v34 main_v57 main_v58 (addf : (⟨S1, .f32⟩ : BufTy).Contents (Elt F) → (⟨S1, .f32⟩ : BufTy).Contents (Elt F) → (⟨S1, .f32⟩ : BufTy).Contents (Elt F))]

/-- Bin 2. -/
def binOps2 : List (HloOp τ sig (Elt F)) :=
  [StableHlo.nullary main_cst_25 (constant S_ .f32 0x40000000#32),
   StableHlo.nullary main_cst_26 (constant S_ .f32 0x41200000#32),
   StableHlo.binary main_cst_25 main_cst_26 main_v59 (Host.divf : (⟨S_, .f32⟩ : BufTy).Contents (Elt F) → (⟨S_, .f32⟩ : BufTy).Contents (Elt F) → (⟨S_, .f32⟩ : BufTy).Contents (Elt F)),
   StableHlo.nullary main_cst_27 (constant S_ .f32 0x40400000#32),
   StableHlo.nullary main_cst_28 (constant S_ .f32 0x41200000#32),
   StableHlo.binary main_cst_27 main_cst_28 main_v60 (Host.divf : (⟨S_, .f32⟩ : BufTy).Contents (Elt F) → (⟨S_, .f32⟩ : BufTy).Contents (Elt F) → (⟨S_, .f32⟩ : BufTy).Contents (Elt F)),
   StableHlo.unary main_v59 main_v61 (broadcastInDim S2000000 ![] bcast_S_S2000000 : (⟨S_, .f32⟩ : BufTy).Contents (Elt F) → (⟨S2000000, .f32⟩ : BufTy).Contents (Elt F)),
   StableHlo.binary main_v6 main_v61 main_v62 (cmpf .ogt : (⟨S2000000, .f32⟩ : BufTy).Contents (Elt F) → (⟨S2000000, .f32⟩ : BufTy).Contents (Elt F) → (⟨S2000000, .i1⟩ : BufTy).Contents (Elt F)),
   StableHlo.unary main_v60 main_v63 (broadcastInDim S2000000 ![] bcast_S_S2000000 : (⟨S_, .f32⟩ : BufTy).Contents (Elt F) → (⟨S2000000, .f32⟩ : BufTy).Contents (Elt F)),
   StableHlo.binary main_v6 main_v63 main_v64 (cmpf .ole : (⟨S2000000, .f32⟩ : BufTy).Contents (Elt F) → (⟨S2000000, .f32⟩ : BufTy).Contents (Elt F) → (⟨S2000000, .i1⟩ : BufTy).Contents (Elt F)),
   StableHlo.binary main_v62 main_v64 main_v65 (andi : (⟨S2000000, .i1⟩ : BufTy).Contents (Elt F) → (⟨S2000000, .i1⟩ : BufTy).Contents (Elt F) → (⟨S2000000, .i1⟩ : BufTy).Contents (Elt F)),
   StableHlo.unary main_v65 main_v66 (uitofp .f32 : (⟨S2000000, .i1⟩ : BufTy).Contents (Elt F) → (⟨S2000000, .f32⟩ : BufTy).Contents (Elt F)),
   StableHlo.nullary main_cst_29 (constant S_ .f32 0x00000000#32),
   StableHlo.binary main_v66 main_cst_29 main_v67 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_30 (constant S_ .f32 0x49F42400#32),
   StableHlo.binary main_v67 main_cst_30 main_v68 (Host.divf : (⟨S_, .f32⟩ : BufTy).Contents (Elt F) → (⟨S_, .f32⟩ : BufTy).Contents (Elt F) → (⟨S_, .f32⟩ : BufTy).Contents (Elt F)),
   StableHlo.nullary main_cst_31 (constant S_ .f32 0x3F800000#32),
   StableHlo.binary main_v67 main_cst_31 main_v69 (maximumf : (⟨S_, .f32⟩ : BufTy).Contents (Elt F) → (⟨S_, .f32⟩ : BufTy).Contents (Elt F) → (⟨S_, .f32⟩ : BufTy).Contents (Elt F)),
   StableHlo.binary main_v9 main_v66 main_v70 (mulf : (⟨S2000000, .f32⟩ : BufTy).Contents (Elt F) → (⟨S2000000, .f32⟩ : BufTy).Contents (Elt F) → (⟨S2000000, .f32⟩ : BufTy).Contents (Elt F)),
   StableHlo.nullary main_cst_32 (constant S_ .f32 0x00000000#32),
   StableHlo.binary main_v70 main_cst_32 main_v71 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v71 main_v69 main_v72 (Host.divf : (⟨S_, .f32⟩ : BufTy).Contents (Elt F) → (⟨S_, .f32⟩ : BufTy).Contents (Elt F) → (⟨S_, .f32⟩ : BufTy).Contents (Elt F)),
   StableHlo.binary main_v6 main_v66 main_v73 (mulf : (⟨S2000000, .f32⟩ : BufTy).Contents (Elt F) → (⟨S2000000, .f32⟩ : BufTy).Contents (Elt F) → (⟨S2000000, .f32⟩ : BufTy).Contents (Elt F)),
   StableHlo.nullary main_cst_33 (constant S_ .f32 0x00000000#32),
   StableHlo.binary main_v73 main_cst_33 main_v74 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v74 main_v69 main_v75 (Host.divf : (⟨S_, .f32⟩ : BufTy).Contents (Elt F) → (⟨S_, .f32⟩ : BufTy).Contents (Elt F) → (⟨S_, .f32⟩ : BufTy).Contents (Elt F)),
   StableHlo.binary main_v75 main_v72 main_v76 (subf : (⟨S_, .f32⟩ : BufTy).Contents (Elt F) → (⟨S_, .f32⟩ : BufTy).Contents (Elt F) → (⟨S_, .f32⟩ : BufTy).Contents (Elt F)),
   StableHlo.unary main_v76 main_v77 (Host.absf : (⟨S_, .f32⟩ : BufTy).Contents (Elt F) → (⟨S_, .f32⟩ : BufTy).Contents (Elt F)),
   StableHlo.binary main_v77 main_v68 main_v78 (mulf : (⟨S_, .f32⟩ : BufTy).Contents (Elt F) → (⟨S_, .f32⟩ : BufTy).Contents (Elt F) → (⟨S_, .f32⟩ : BufTy).Contents (Elt F)),
   StableHlo.nullary main_cst_34 (constant S_ .f32 0x00000000#32),
   StableHlo.binary main_v67 main_cst_34 main_v79 (cmpf .ogt : (⟨S_, .f32⟩ : BufTy).Contents (Elt F) → (⟨S_, .f32⟩ : BufTy).Contents (Elt F) → (⟨S_, .i1⟩ : BufTy).Contents (Elt F)),
   StableHlo.nullary main_cst_35 (constant S_ .f32 0x00000000#32),
   StableHlo.unary main_cst_35 main_call3_v0 (id : (⟨S_, .f32⟩ : BufTy).Contents (Elt F) → (⟨S_, .f32⟩ : BufTy).Contents (Elt F)),
   StableHlo.ternary main_v79 main_v78 main_call3_v0 main_v80 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v80 main_v81 (broadcastInDim S1 ![] bcast_S_S1 : (⟨S_, .f32⟩ : BufTy).Contents (Elt F) → (⟨S1, .f32⟩ : BufTy).Contents (Elt F)),
   StableHlo.binary main_v58 main_v81 main_v82 (addf : (⟨S1, .f32⟩ : BufTy).Contents (Elt F) → (⟨S1, .f32⟩ : BufTy).Contents (Elt F) → (⟨S1, .f32⟩ : BufTy).Contents (Elt F))]

/-- Bin 3. -/
def binOps3 : List (HloOp τ sig (Elt F)) :=
  [StableHlo.nullary main_cst_36 (constant S_ .f32 0x40400000#32),
   StableHlo.nullary main_cst_37 (constant S_ .f32 0x41200000#32),
   StableHlo.binary main_cst_36 main_cst_37 main_v83 (Host.divf : (⟨S_, .f32⟩ : BufTy).Contents (Elt F) → (⟨S_, .f32⟩ : BufTy).Contents (Elt F) → (⟨S_, .f32⟩ : BufTy).Contents (Elt F)),
   StableHlo.nullary main_cst_38 (constant S_ .f32 0x40800000#32),
   StableHlo.nullary main_cst_39 (constant S_ .f32 0x41200000#32),
   StableHlo.binary main_cst_38 main_cst_39 main_v84 (Host.divf : (⟨S_, .f32⟩ : BufTy).Contents (Elt F) → (⟨S_, .f32⟩ : BufTy).Contents (Elt F) → (⟨S_, .f32⟩ : BufTy).Contents (Elt F)),
   StableHlo.unary main_v83 main_v85 (broadcastInDim S2000000 ![] bcast_S_S2000000 : (⟨S_, .f32⟩ : BufTy).Contents (Elt F) → (⟨S2000000, .f32⟩ : BufTy).Contents (Elt F)),
   StableHlo.binary main_v6 main_v85 main_v86 (cmpf .ogt : (⟨S2000000, .f32⟩ : BufTy).Contents (Elt F) → (⟨S2000000, .f32⟩ : BufTy).Contents (Elt F) → (⟨S2000000, .i1⟩ : BufTy).Contents (Elt F)),
   StableHlo.unary main_v84 main_v87 (broadcastInDim S2000000 ![] bcast_S_S2000000 : (⟨S_, .f32⟩ : BufTy).Contents (Elt F) → (⟨S2000000, .f32⟩ : BufTy).Contents (Elt F)),
   StableHlo.binary main_v6 main_v87 main_v88 (cmpf .ole : (⟨S2000000, .f32⟩ : BufTy).Contents (Elt F) → (⟨S2000000, .f32⟩ : BufTy).Contents (Elt F) → (⟨S2000000, .i1⟩ : BufTy).Contents (Elt F)),
   StableHlo.binary main_v86 main_v88 main_v89 (andi : (⟨S2000000, .i1⟩ : BufTy).Contents (Elt F) → (⟨S2000000, .i1⟩ : BufTy).Contents (Elt F) → (⟨S2000000, .i1⟩ : BufTy).Contents (Elt F)),
   StableHlo.unary main_v89 main_v90 (uitofp .f32 : (⟨S2000000, .i1⟩ : BufTy).Contents (Elt F) → (⟨S2000000, .f32⟩ : BufTy).Contents (Elt F)),
   StableHlo.nullary main_cst_40 (constant S_ .f32 0x00000000#32),
   StableHlo.binary main_v90 main_cst_40 main_v91 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_41 (constant S_ .f32 0x49F42400#32),
   StableHlo.binary main_v91 main_cst_41 main_v92 (Host.divf : (⟨S_, .f32⟩ : BufTy).Contents (Elt F) → (⟨S_, .f32⟩ : BufTy).Contents (Elt F) → (⟨S_, .f32⟩ : BufTy).Contents (Elt F)),
   StableHlo.nullary main_cst_42 (constant S_ .f32 0x3F800000#32),
   StableHlo.binary main_v91 main_cst_42 main_v93 (maximumf : (⟨S_, .f32⟩ : BufTy).Contents (Elt F) → (⟨S_, .f32⟩ : BufTy).Contents (Elt F) → (⟨S_, .f32⟩ : BufTy).Contents (Elt F)),
   StableHlo.binary main_v9 main_v90 main_v94 (mulf : (⟨S2000000, .f32⟩ : BufTy).Contents (Elt F) → (⟨S2000000, .f32⟩ : BufTy).Contents (Elt F) → (⟨S2000000, .f32⟩ : BufTy).Contents (Elt F)),
   StableHlo.nullary main_cst_43 (constant S_ .f32 0x00000000#32),
   StableHlo.binary main_v94 main_cst_43 main_v95 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v95 main_v93 main_v96 (Host.divf : (⟨S_, .f32⟩ : BufTy).Contents (Elt F) → (⟨S_, .f32⟩ : BufTy).Contents (Elt F) → (⟨S_, .f32⟩ : BufTy).Contents (Elt F)),
   StableHlo.binary main_v6 main_v90 main_v97 (mulf : (⟨S2000000, .f32⟩ : BufTy).Contents (Elt F) → (⟨S2000000, .f32⟩ : BufTy).Contents (Elt F) → (⟨S2000000, .f32⟩ : BufTy).Contents (Elt F)),
   StableHlo.nullary main_cst_44 (constant S_ .f32 0x00000000#32),
   StableHlo.binary main_v97 main_cst_44 main_v98 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v98 main_v93 main_v99 (Host.divf : (⟨S_, .f32⟩ : BufTy).Contents (Elt F) → (⟨S_, .f32⟩ : BufTy).Contents (Elt F) → (⟨S_, .f32⟩ : BufTy).Contents (Elt F)),
   StableHlo.binary main_v99 main_v96 main_v100 (subf : (⟨S_, .f32⟩ : BufTy).Contents (Elt F) → (⟨S_, .f32⟩ : BufTy).Contents (Elt F) → (⟨S_, .f32⟩ : BufTy).Contents (Elt F)),
   StableHlo.unary main_v100 main_v101 (Host.absf : (⟨S_, .f32⟩ : BufTy).Contents (Elt F) → (⟨S_, .f32⟩ : BufTy).Contents (Elt F)),
   StableHlo.binary main_v101 main_v92 main_v102 (mulf : (⟨S_, .f32⟩ : BufTy).Contents (Elt F) → (⟨S_, .f32⟩ : BufTy).Contents (Elt F) → (⟨S_, .f32⟩ : BufTy).Contents (Elt F)),
   StableHlo.nullary main_cst_45 (constant S_ .f32 0x00000000#32),
   StableHlo.binary main_v91 main_cst_45 main_v103 (cmpf .ogt : (⟨S_, .f32⟩ : BufTy).Contents (Elt F) → (⟨S_, .f32⟩ : BufTy).Contents (Elt F) → (⟨S_, .i1⟩ : BufTy).Contents (Elt F)),
   StableHlo.nullary main_cst_46 (constant S_ .f32 0x00000000#32),
   StableHlo.unary main_cst_46 main_call4_v0 (id : (⟨S_, .f32⟩ : BufTy).Contents (Elt F) → (⟨S_, .f32⟩ : BufTy).Contents (Elt F)),
   StableHlo.ternary main_v103 main_v102 main_call4_v0 main_v104 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v104 main_v105 (broadcastInDim S1 ![] bcast_S_S1 : (⟨S_, .f32⟩ : BufTy).Contents (Elt F) → (⟨S1, .f32⟩ : BufTy).Contents (Elt F)),
   StableHlo.binary main_v82 main_v105 main_v106 (addf : (⟨S1, .f32⟩ : BufTy).Contents (Elt F) → (⟨S1, .f32⟩ : BufTy).Contents (Elt F) → (⟨S1, .f32⟩ : BufTy).Contents (Elt F))]

/-- Bin 4. -/
def binOps4 : List (HloOp τ sig (Elt F)) :=
  [StableHlo.nullary main_cst_47 (constant S_ .f32 0x40800000#32),
   StableHlo.nullary main_cst_48 (constant S_ .f32 0x41200000#32),
   StableHlo.binary main_cst_47 main_cst_48 main_v107 (Host.divf : (⟨S_, .f32⟩ : BufTy).Contents (Elt F) → (⟨S_, .f32⟩ : BufTy).Contents (Elt F) → (⟨S_, .f32⟩ : BufTy).Contents (Elt F)),
   StableHlo.nullary main_cst_49 (constant S_ .f32 0x40A00000#32),
   StableHlo.nullary main_cst_50 (constant S_ .f32 0x41200000#32),
   StableHlo.binary main_cst_49 main_cst_50 main_v108 (Host.divf : (⟨S_, .f32⟩ : BufTy).Contents (Elt F) → (⟨S_, .f32⟩ : BufTy).Contents (Elt F) → (⟨S_, .f32⟩ : BufTy).Contents (Elt F)),
   StableHlo.unary main_v107 main_v109 (broadcastInDim S2000000 ![] bcast_S_S2000000 : (⟨S_, .f32⟩ : BufTy).Contents (Elt F) → (⟨S2000000, .f32⟩ : BufTy).Contents (Elt F)),
   StableHlo.binary main_v6 main_v109 main_v110 (cmpf .ogt : (⟨S2000000, .f32⟩ : BufTy).Contents (Elt F) → (⟨S2000000, .f32⟩ : BufTy).Contents (Elt F) → (⟨S2000000, .i1⟩ : BufTy).Contents (Elt F)),
   StableHlo.unary main_v108 main_v111 (broadcastInDim S2000000 ![] bcast_S_S2000000 : (⟨S_, .f32⟩ : BufTy).Contents (Elt F) → (⟨S2000000, .f32⟩ : BufTy).Contents (Elt F)),
   StableHlo.binary main_v6 main_v111 main_v112 (cmpf .ole : (⟨S2000000, .f32⟩ : BufTy).Contents (Elt F) → (⟨S2000000, .f32⟩ : BufTy).Contents (Elt F) → (⟨S2000000, .i1⟩ : BufTy).Contents (Elt F)),
   StableHlo.binary main_v110 main_v112 main_v113 (andi : (⟨S2000000, .i1⟩ : BufTy).Contents (Elt F) → (⟨S2000000, .i1⟩ : BufTy).Contents (Elt F) → (⟨S2000000, .i1⟩ : BufTy).Contents (Elt F)),
   StableHlo.unary main_v113 main_v114 (uitofp .f32 : (⟨S2000000, .i1⟩ : BufTy).Contents (Elt F) → (⟨S2000000, .f32⟩ : BufTy).Contents (Elt F)),
   StableHlo.nullary main_cst_51 (constant S_ .f32 0x00000000#32),
   StableHlo.binary main_v114 main_cst_51 main_v115 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_52 (constant S_ .f32 0x49F42400#32),
   StableHlo.binary main_v115 main_cst_52 main_v116 (Host.divf : (⟨S_, .f32⟩ : BufTy).Contents (Elt F) → (⟨S_, .f32⟩ : BufTy).Contents (Elt F) → (⟨S_, .f32⟩ : BufTy).Contents (Elt F)),
   StableHlo.nullary main_cst_53 (constant S_ .f32 0x3F800000#32),
   StableHlo.binary main_v115 main_cst_53 main_v117 (maximumf : (⟨S_, .f32⟩ : BufTy).Contents (Elt F) → (⟨S_, .f32⟩ : BufTy).Contents (Elt F) → (⟨S_, .f32⟩ : BufTy).Contents (Elt F)),
   StableHlo.binary main_v9 main_v114 main_v118 (mulf : (⟨S2000000, .f32⟩ : BufTy).Contents (Elt F) → (⟨S2000000, .f32⟩ : BufTy).Contents (Elt F) → (⟨S2000000, .f32⟩ : BufTy).Contents (Elt F)),
   StableHlo.nullary main_cst_54 (constant S_ .f32 0x00000000#32),
   StableHlo.binary main_v118 main_cst_54 main_v119 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v119 main_v117 main_v120 (Host.divf : (⟨S_, .f32⟩ : BufTy).Contents (Elt F) → (⟨S_, .f32⟩ : BufTy).Contents (Elt F) → (⟨S_, .f32⟩ : BufTy).Contents (Elt F)),
   StableHlo.binary main_v6 main_v114 main_v121 (mulf : (⟨S2000000, .f32⟩ : BufTy).Contents (Elt F) → (⟨S2000000, .f32⟩ : BufTy).Contents (Elt F) → (⟨S2000000, .f32⟩ : BufTy).Contents (Elt F)),
   StableHlo.nullary main_cst_55 (constant S_ .f32 0x00000000#32),
   StableHlo.binary main_v121 main_cst_55 main_v122 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v122 main_v117 main_v123 (Host.divf : (⟨S_, .f32⟩ : BufTy).Contents (Elt F) → (⟨S_, .f32⟩ : BufTy).Contents (Elt F) → (⟨S_, .f32⟩ : BufTy).Contents (Elt F)),
   StableHlo.binary main_v123 main_v120 main_v124 (subf : (⟨S_, .f32⟩ : BufTy).Contents (Elt F) → (⟨S_, .f32⟩ : BufTy).Contents (Elt F) → (⟨S_, .f32⟩ : BufTy).Contents (Elt F)),
   StableHlo.unary main_v124 main_v125 (Host.absf : (⟨S_, .f32⟩ : BufTy).Contents (Elt F) → (⟨S_, .f32⟩ : BufTy).Contents (Elt F)),
   StableHlo.binary main_v125 main_v116 main_v126 (mulf : (⟨S_, .f32⟩ : BufTy).Contents (Elt F) → (⟨S_, .f32⟩ : BufTy).Contents (Elt F) → (⟨S_, .f32⟩ : BufTy).Contents (Elt F)),
   StableHlo.nullary main_cst_56 (constant S_ .f32 0x00000000#32),
   StableHlo.binary main_v115 main_cst_56 main_v127 (cmpf .ogt : (⟨S_, .f32⟩ : BufTy).Contents (Elt F) → (⟨S_, .f32⟩ : BufTy).Contents (Elt F) → (⟨S_, .i1⟩ : BufTy).Contents (Elt F)),
   StableHlo.nullary main_cst_57 (constant S_ .f32 0x00000000#32),
   StableHlo.unary main_cst_57 main_call5_v0 (id : (⟨S_, .f32⟩ : BufTy).Contents (Elt F) → (⟨S_, .f32⟩ : BufTy).Contents (Elt F)),
   StableHlo.ternary main_v127 main_v126 main_call5_v0 main_v128 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v128 main_v129 (broadcastInDim S1 ![] bcast_S_S1 : (⟨S_, .f32⟩ : BufTy).Contents (Elt F) → (⟨S1, .f32⟩ : BufTy).Contents (Elt F)),
   StableHlo.binary main_v106 main_v129 main_v130 (addf : (⟨S1, .f32⟩ : BufTy).Contents (Elt F) → (⟨S1, .f32⟩ : BufTy).Contents (Elt F) → (⟨S1, .f32⟩ : BufTy).Contents (Elt F))]

/-- Bin 5. -/
def binOps5 : List (HloOp τ sig (Elt F)) :=
  [StableHlo.nullary main_cst_58 (constant S_ .f32 0x40A00000#32),
   StableHlo.nullary main_cst_59 (constant S_ .f32 0x41200000#32),
   StableHlo.binary main_cst_58 main_cst_59 main_v131 (Host.divf : (⟨S_, .f32⟩ : BufTy).Contents (Elt F) → (⟨S_, .f32⟩ : BufTy).Contents (Elt F) → (⟨S_, .f32⟩ : BufTy).Contents (Elt F)),
   StableHlo.nullary main_cst_60 (constant S_ .f32 0x40C00000#32),
   StableHlo.nullary main_cst_61 (constant S_ .f32 0x41200000#32),
   StableHlo.binary main_cst_60 main_cst_61 main_v132 (Host.divf : (⟨S_, .f32⟩ : BufTy).Contents (Elt F) → (⟨S_, .f32⟩ : BufTy).Contents (Elt F) → (⟨S_, .f32⟩ : BufTy).Contents (Elt F)),
   StableHlo.unary main_v131 main_v133 (broadcastInDim S2000000 ![] bcast_S_S2000000 : (⟨S_, .f32⟩ : BufTy).Contents (Elt F) → (⟨S2000000, .f32⟩ : BufTy).Contents (Elt F)),
   StableHlo.binary main_v6 main_v133 main_v134 (cmpf .ogt : (⟨S2000000, .f32⟩ : BufTy).Contents (Elt F) → (⟨S2000000, .f32⟩ : BufTy).Contents (Elt F) → (⟨S2000000, .i1⟩ : BufTy).Contents (Elt F)),
   StableHlo.unary main_v132 main_v135 (broadcastInDim S2000000 ![] bcast_S_S2000000 : (⟨S_, .f32⟩ : BufTy).Contents (Elt F) → (⟨S2000000, .f32⟩ : BufTy).Contents (Elt F)),
   StableHlo.binary main_v6 main_v135 main_v136 (cmpf .ole : (⟨S2000000, .f32⟩ : BufTy).Contents (Elt F) → (⟨S2000000, .f32⟩ : BufTy).Contents (Elt F) → (⟨S2000000, .i1⟩ : BufTy).Contents (Elt F)),
   StableHlo.binary main_v134 main_v136 main_v137 (andi : (⟨S2000000, .i1⟩ : BufTy).Contents (Elt F) → (⟨S2000000, .i1⟩ : BufTy).Contents (Elt F) → (⟨S2000000, .i1⟩ : BufTy).Contents (Elt F)),
   StableHlo.unary main_v137 main_v138 (uitofp .f32 : (⟨S2000000, .i1⟩ : BufTy).Contents (Elt F) → (⟨S2000000, .f32⟩ : BufTy).Contents (Elt F)),
   StableHlo.nullary main_cst_62 (constant S_ .f32 0x00000000#32),
   StableHlo.binary main_v138 main_cst_62 main_v139 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_63 (constant S_ .f32 0x49F42400#32),
   StableHlo.binary main_v139 main_cst_63 main_v140 (Host.divf : (⟨S_, .f32⟩ : BufTy).Contents (Elt F) → (⟨S_, .f32⟩ : BufTy).Contents (Elt F) → (⟨S_, .f32⟩ : BufTy).Contents (Elt F)),
   StableHlo.nullary main_cst_64 (constant S_ .f32 0x3F800000#32),
   StableHlo.binary main_v139 main_cst_64 main_v141 (maximumf : (⟨S_, .f32⟩ : BufTy).Contents (Elt F) → (⟨S_, .f32⟩ : BufTy).Contents (Elt F) → (⟨S_, .f32⟩ : BufTy).Contents (Elt F)),
   StableHlo.binary main_v9 main_v138 main_v142 (mulf : (⟨S2000000, .f32⟩ : BufTy).Contents (Elt F) → (⟨S2000000, .f32⟩ : BufTy).Contents (Elt F) → (⟨S2000000, .f32⟩ : BufTy).Contents (Elt F)),
   StableHlo.nullary main_cst_65 (constant S_ .f32 0x00000000#32),
   StableHlo.binary main_v142 main_cst_65 main_v143 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v143 main_v141 main_v144 (Host.divf : (⟨S_, .f32⟩ : BufTy).Contents (Elt F) → (⟨S_, .f32⟩ : BufTy).Contents (Elt F) → (⟨S_, .f32⟩ : BufTy).Contents (Elt F)),
   StableHlo.binary main_v6 main_v138 main_v145 (mulf : (⟨S2000000, .f32⟩ : BufTy).Contents (Elt F) → (⟨S2000000, .f32⟩ : BufTy).Contents (Elt F) → (⟨S2000000, .f32⟩ : BufTy).Contents (Elt F)),
   StableHlo.nullary main_cst_66 (constant S_ .f32 0x00000000#32),
   StableHlo.binary main_v145 main_cst_66 main_v146 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v146 main_v141 main_v147 (Host.divf : (⟨S_, .f32⟩ : BufTy).Contents (Elt F) → (⟨S_, .f32⟩ : BufTy).Contents (Elt F) → (⟨S_, .f32⟩ : BufTy).Contents (Elt F)),
   StableHlo.binary main_v147 main_v144 main_v148 (subf : (⟨S_, .f32⟩ : BufTy).Contents (Elt F) → (⟨S_, .f32⟩ : BufTy).Contents (Elt F) → (⟨S_, .f32⟩ : BufTy).Contents (Elt F)),
   StableHlo.unary main_v148 main_v149 (Host.absf : (⟨S_, .f32⟩ : BufTy).Contents (Elt F) → (⟨S_, .f32⟩ : BufTy).Contents (Elt F)),
   StableHlo.binary main_v149 main_v140 main_v150 (mulf : (⟨S_, .f32⟩ : BufTy).Contents (Elt F) → (⟨S_, .f32⟩ : BufTy).Contents (Elt F) → (⟨S_, .f32⟩ : BufTy).Contents (Elt F)),
   StableHlo.nullary main_cst_67 (constant S_ .f32 0x00000000#32),
   StableHlo.binary main_v139 main_cst_67 main_v151 (cmpf .ogt : (⟨S_, .f32⟩ : BufTy).Contents (Elt F) → (⟨S_, .f32⟩ : BufTy).Contents (Elt F) → (⟨S_, .i1⟩ : BufTy).Contents (Elt F)),
   StableHlo.nullary main_cst_68 (constant S_ .f32 0x00000000#32),
   StableHlo.unary main_cst_68 main_call6_v0 (id : (⟨S_, .f32⟩ : BufTy).Contents (Elt F) → (⟨S_, .f32⟩ : BufTy).Contents (Elt F)),
   StableHlo.ternary main_v151 main_v150 main_call6_v0 main_v152 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v152 main_v153 (broadcastInDim S1 ![] bcast_S_S1 : (⟨S_, .f32⟩ : BufTy).Contents (Elt F) → (⟨S1, .f32⟩ : BufTy).Contents (Elt F)),
   StableHlo.binary main_v130 main_v153 main_v154 (addf : (⟨S1, .f32⟩ : BufTy).Contents (Elt F) → (⟨S1, .f32⟩ : BufTy).Contents (Elt F) → (⟨S1, .f32⟩ : BufTy).Contents (Elt F))]

/-- Bin 6. -/
def binOps6 : List (HloOp τ sig (Elt F)) :=
  [StableHlo.nullary main_cst_69 (constant S_ .f32 0x40C00000#32),
   StableHlo.nullary main_cst_70 (constant S_ .f32 0x41200000#32),
   StableHlo.binary main_cst_69 main_cst_70 main_v155 (Host.divf : (⟨S_, .f32⟩ : BufTy).Contents (Elt F) → (⟨S_, .f32⟩ : BufTy).Contents (Elt F) → (⟨S_, .f32⟩ : BufTy).Contents (Elt F)),
   StableHlo.nullary main_cst_71 (constant S_ .f32 0x40E00000#32),
   StableHlo.nullary main_cst_72 (constant S_ .f32 0x41200000#32),
   StableHlo.binary main_cst_71 main_cst_72 main_v156 (Host.divf : (⟨S_, .f32⟩ : BufTy).Contents (Elt F) → (⟨S_, .f32⟩ : BufTy).Contents (Elt F) → (⟨S_, .f32⟩ : BufTy).Contents (Elt F)),
   StableHlo.unary main_v155 main_v157 (broadcastInDim S2000000 ![] bcast_S_S2000000 : (⟨S_, .f32⟩ : BufTy).Contents (Elt F) → (⟨S2000000, .f32⟩ : BufTy).Contents (Elt F)),
   StableHlo.binary main_v6 main_v157 main_v158 (cmpf .ogt : (⟨S2000000, .f32⟩ : BufTy).Contents (Elt F) → (⟨S2000000, .f32⟩ : BufTy).Contents (Elt F) → (⟨S2000000, .i1⟩ : BufTy).Contents (Elt F)),
   StableHlo.unary main_v156 main_v159 (broadcastInDim S2000000 ![] bcast_S_S2000000 : (⟨S_, .f32⟩ : BufTy).Contents (Elt F) → (⟨S2000000, .f32⟩ : BufTy).Contents (Elt F)),
   StableHlo.binary main_v6 main_v159 main_v160 (cmpf .ole : (⟨S2000000, .f32⟩ : BufTy).Contents (Elt F) → (⟨S2000000, .f32⟩ : BufTy).Contents (Elt F) → (⟨S2000000, .i1⟩ : BufTy).Contents (Elt F)),
   StableHlo.binary main_v158 main_v160 main_v161 (andi : (⟨S2000000, .i1⟩ : BufTy).Contents (Elt F) → (⟨S2000000, .i1⟩ : BufTy).Contents (Elt F) → (⟨S2000000, .i1⟩ : BufTy).Contents (Elt F)),
   StableHlo.unary main_v161 main_v162 (uitofp .f32 : (⟨S2000000, .i1⟩ : BufTy).Contents (Elt F) → (⟨S2000000, .f32⟩ : BufTy).Contents (Elt F)),
   StableHlo.nullary main_cst_73 (constant S_ .f32 0x00000000#32),
   StableHlo.binary main_v162 main_cst_73 main_v163 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_74 (constant S_ .f32 0x49F42400#32),
   StableHlo.binary main_v163 main_cst_74 main_v164 (Host.divf : (⟨S_, .f32⟩ : BufTy).Contents (Elt F) → (⟨S_, .f32⟩ : BufTy).Contents (Elt F) → (⟨S_, .f32⟩ : BufTy).Contents (Elt F)),
   StableHlo.nullary main_cst_75 (constant S_ .f32 0x3F800000#32),
   StableHlo.binary main_v163 main_cst_75 main_v165 (maximumf : (⟨S_, .f32⟩ : BufTy).Contents (Elt F) → (⟨S_, .f32⟩ : BufTy).Contents (Elt F) → (⟨S_, .f32⟩ : BufTy).Contents (Elt F)),
   StableHlo.binary main_v9 main_v162 main_v166 (mulf : (⟨S2000000, .f32⟩ : BufTy).Contents (Elt F) → (⟨S2000000, .f32⟩ : BufTy).Contents (Elt F) → (⟨S2000000, .f32⟩ : BufTy).Contents (Elt F)),
   StableHlo.nullary main_cst_76 (constant S_ .f32 0x00000000#32),
   StableHlo.binary main_v166 main_cst_76 main_v167 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v167 main_v165 main_v168 (Host.divf : (⟨S_, .f32⟩ : BufTy).Contents (Elt F) → (⟨S_, .f32⟩ : BufTy).Contents (Elt F) → (⟨S_, .f32⟩ : BufTy).Contents (Elt F)),
   StableHlo.binary main_v6 main_v162 main_v169 (mulf : (⟨S2000000, .f32⟩ : BufTy).Contents (Elt F) → (⟨S2000000, .f32⟩ : BufTy).Contents (Elt F) → (⟨S2000000, .f32⟩ : BufTy).Contents (Elt F)),
   StableHlo.nullary main_cst_77 (constant S_ .f32 0x00000000#32),
   StableHlo.binary main_v169 main_cst_77 main_v170 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v170 main_v165 main_v171 (Host.divf : (⟨S_, .f32⟩ : BufTy).Contents (Elt F) → (⟨S_, .f32⟩ : BufTy).Contents (Elt F) → (⟨S_, .f32⟩ : BufTy).Contents (Elt F)),
   StableHlo.binary main_v171 main_v168 main_v172 (subf : (⟨S_, .f32⟩ : BufTy).Contents (Elt F) → (⟨S_, .f32⟩ : BufTy).Contents (Elt F) → (⟨S_, .f32⟩ : BufTy).Contents (Elt F)),
   StableHlo.unary main_v172 main_v173 (Host.absf : (⟨S_, .f32⟩ : BufTy).Contents (Elt F) → (⟨S_, .f32⟩ : BufTy).Contents (Elt F)),
   StableHlo.binary main_v173 main_v164 main_v174 (mulf : (⟨S_, .f32⟩ : BufTy).Contents (Elt F) → (⟨S_, .f32⟩ : BufTy).Contents (Elt F) → (⟨S_, .f32⟩ : BufTy).Contents (Elt F)),
   StableHlo.nullary main_cst_78 (constant S_ .f32 0x00000000#32),
   StableHlo.binary main_v163 main_cst_78 main_v175 (cmpf .ogt : (⟨S_, .f32⟩ : BufTy).Contents (Elt F) → (⟨S_, .f32⟩ : BufTy).Contents (Elt F) → (⟨S_, .i1⟩ : BufTy).Contents (Elt F)),
   StableHlo.nullary main_cst_79 (constant S_ .f32 0x00000000#32),
   StableHlo.unary main_cst_79 main_call7_v0 (id : (⟨S_, .f32⟩ : BufTy).Contents (Elt F) → (⟨S_, .f32⟩ : BufTy).Contents (Elt F)),
   StableHlo.ternary main_v175 main_v174 main_call7_v0 main_v176 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v176 main_v177 (broadcastInDim S1 ![] bcast_S_S1 : (⟨S_, .f32⟩ : BufTy).Contents (Elt F) → (⟨S1, .f32⟩ : BufTy).Contents (Elt F)),
   StableHlo.binary main_v154 main_v177 main_v178 (addf : (⟨S1, .f32⟩ : BufTy).Contents (Elt F) → (⟨S1, .f32⟩ : BufTy).Contents (Elt F) → (⟨S1, .f32⟩ : BufTy).Contents (Elt F))]

/-- Bin 7. -/
def binOps7 : List (HloOp τ sig (Elt F)) :=
  [StableHlo.nullary main_cst_80 (constant S_ .f32 0x40E00000#32),
   StableHlo.nullary main_cst_81 (constant S_ .f32 0x41200000#32),
   StableHlo.binary main_cst_80 main_cst_81 main_v179 (Host.divf : (⟨S_, .f32⟩ : BufTy).Contents (Elt F) → (⟨S_, .f32⟩ : BufTy).Contents (Elt F) → (⟨S_, .f32⟩ : BufTy).Contents (Elt F)),
   StableHlo.nullary main_cst_82 (constant S_ .f32 0x41000000#32),
   StableHlo.nullary main_cst_83 (constant S_ .f32 0x41200000#32),
   StableHlo.binary main_cst_82 main_cst_83 main_v180 (Host.divf : (⟨S_, .f32⟩ : BufTy).Contents (Elt F) → (⟨S_, .f32⟩ : BufTy).Contents (Elt F) → (⟨S_, .f32⟩ : BufTy).Contents (Elt F)),
   StableHlo.unary main_v179 main_v181 (broadcastInDim S2000000 ![] bcast_S_S2000000 : (⟨S_, .f32⟩ : BufTy).Contents (Elt F) → (⟨S2000000, .f32⟩ : BufTy).Contents (Elt F)),
   StableHlo.binary main_v6 main_v181 main_v182 (cmpf .ogt : (⟨S2000000, .f32⟩ : BufTy).Contents (Elt F) → (⟨S2000000, .f32⟩ : BufTy).Contents (Elt F) → (⟨S2000000, .i1⟩ : BufTy).Contents (Elt F)),
   StableHlo.unary main_v180 main_v183 (broadcastInDim S2000000 ![] bcast_S_S2000000 : (⟨S_, .f32⟩ : BufTy).Contents (Elt F) → (⟨S2000000, .f32⟩ : BufTy).Contents (Elt F)),
   StableHlo.binary main_v6 main_v183 main_v184 (cmpf .ole : (⟨S2000000, .f32⟩ : BufTy).Contents (Elt F) → (⟨S2000000, .f32⟩ : BufTy).Contents (Elt F) → (⟨S2000000, .i1⟩ : BufTy).Contents (Elt F)),
   StableHlo.binary main_v182 main_v184 main_v185 (andi : (⟨S2000000, .i1⟩ : BufTy).Contents (Elt F) → (⟨S2000000, .i1⟩ : BufTy).Contents (Elt F) → (⟨S2000000, .i1⟩ : BufTy).Contents (Elt F)),
   StableHlo.unary main_v185 main_v186 (uitofp .f32 : (⟨S2000000, .i1⟩ : BufTy).Contents (Elt F) → (⟨S2000000, .f32⟩ : BufTy).Contents (Elt F)),
   StableHlo.nullary main_cst_84 (constant S_ .f32 0x00000000#32),
   StableHlo.binary main_v186 main_cst_84 main_v187 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_85 (constant S_ .f32 0x49F42400#32),
   StableHlo.binary main_v187 main_cst_85 main_v188 (Host.divf : (⟨S_, .f32⟩ : BufTy).Contents (Elt F) → (⟨S_, .f32⟩ : BufTy).Contents (Elt F) → (⟨S_, .f32⟩ : BufTy).Contents (Elt F)),
   StableHlo.nullary main_cst_86 (constant S_ .f32 0x3F800000#32),
   StableHlo.binary main_v187 main_cst_86 main_v189 (maximumf : (⟨S_, .f32⟩ : BufTy).Contents (Elt F) → (⟨S_, .f32⟩ : BufTy).Contents (Elt F) → (⟨S_, .f32⟩ : BufTy).Contents (Elt F)),
   StableHlo.binary main_v9 main_v186 main_v190 (mulf : (⟨S2000000, .f32⟩ : BufTy).Contents (Elt F) → (⟨S2000000, .f32⟩ : BufTy).Contents (Elt F) → (⟨S2000000, .f32⟩ : BufTy).Contents (Elt F)),
   StableHlo.nullary main_cst_87 (constant S_ .f32 0x00000000#32),
   StableHlo.binary main_v190 main_cst_87 main_v191 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v191 main_v189 main_v192 (Host.divf : (⟨S_, .f32⟩ : BufTy).Contents (Elt F) → (⟨S_, .f32⟩ : BufTy).Contents (Elt F) → (⟨S_, .f32⟩ : BufTy).Contents (Elt F)),
   StableHlo.binary main_v6 main_v186 main_v193 (mulf : (⟨S2000000, .f32⟩ : BufTy).Contents (Elt F) → (⟨S2000000, .f32⟩ : BufTy).Contents (Elt F) → (⟨S2000000, .f32⟩ : BufTy).Contents (Elt F)),
   StableHlo.nullary main_cst_88 (constant S_ .f32 0x00000000#32),
   StableHlo.binary main_v193 main_cst_88 main_v194 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v194 main_v189 main_v195 (Host.divf : (⟨S_, .f32⟩ : BufTy).Contents (Elt F) → (⟨S_, .f32⟩ : BufTy).Contents (Elt F) → (⟨S_, .f32⟩ : BufTy).Contents (Elt F)),
   StableHlo.binary main_v195 main_v192 main_v196 (subf : (⟨S_, .f32⟩ : BufTy).Contents (Elt F) → (⟨S_, .f32⟩ : BufTy).Contents (Elt F) → (⟨S_, .f32⟩ : BufTy).Contents (Elt F)),
   StableHlo.unary main_v196 main_v197 (Host.absf : (⟨S_, .f32⟩ : BufTy).Contents (Elt F) → (⟨S_, .f32⟩ : BufTy).Contents (Elt F)),
   StableHlo.binary main_v197 main_v188 main_v198 (mulf : (⟨S_, .f32⟩ : BufTy).Contents (Elt F) → (⟨S_, .f32⟩ : BufTy).Contents (Elt F) → (⟨S_, .f32⟩ : BufTy).Contents (Elt F)),
   StableHlo.nullary main_cst_89 (constant S_ .f32 0x00000000#32),
   StableHlo.binary main_v187 main_cst_89 main_v199 (cmpf .ogt : (⟨S_, .f32⟩ : BufTy).Contents (Elt F) → (⟨S_, .f32⟩ : BufTy).Contents (Elt F) → (⟨S_, .i1⟩ : BufTy).Contents (Elt F)),
   StableHlo.nullary main_cst_90 (constant S_ .f32 0x00000000#32),
   StableHlo.unary main_cst_90 main_call8_v0 (id : (⟨S_, .f32⟩ : BufTy).Contents (Elt F) → (⟨S_, .f32⟩ : BufTy).Contents (Elt F)),
   StableHlo.ternary main_v199 main_v198 main_call8_v0 main_v200 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v200 main_v201 (broadcastInDim S1 ![] bcast_S_S1 : (⟨S_, .f32⟩ : BufTy).Contents (Elt F) → (⟨S1, .f32⟩ : BufTy).Contents (Elt F)),
   StableHlo.binary main_v178 main_v201 main_v202 (addf : (⟨S1, .f32⟩ : BufTy).Contents (Elt F) → (⟨S1, .f32⟩ : BufTy).Contents (Elt F) → (⟨S1, .f32⟩ : BufTy).Contents (Elt F))]

/-- Bin 8. -/
def binOps8 : List (HloOp τ sig (Elt F)) :=
  [StableHlo.nullary main_cst_91 (constant S_ .f32 0x41000000#32),
   StableHlo.nullary main_cst_92 (constant S_ .f32 0x41200000#32),
   StableHlo.binary main_cst_91 main_cst_92 main_v203 (Host.divf : (⟨S_, .f32⟩ : BufTy).Contents (Elt F) → (⟨S_, .f32⟩ : BufTy).Contents (Elt F) → (⟨S_, .f32⟩ : BufTy).Contents (Elt F)),
   StableHlo.nullary main_cst_93 (constant S_ .f32 0x41100000#32),
   StableHlo.nullary main_cst_94 (constant S_ .f32 0x41200000#32),
   StableHlo.binary main_cst_93 main_cst_94 main_v204 (Host.divf : (⟨S_, .f32⟩ : BufTy).Contents (Elt F) → (⟨S_, .f32⟩ : BufTy).Contents (Elt F) → (⟨S_, .f32⟩ : BufTy).Contents (Elt F)),
   StableHlo.unary main_v203 main_v205 (broadcastInDim S2000000 ![] bcast_S_S2000000 : (⟨S_, .f32⟩ : BufTy).Contents (Elt F) → (⟨S2000000, .f32⟩ : BufTy).Contents (Elt F)),
   StableHlo.binary main_v6 main_v205 main_v206 (cmpf .ogt : (⟨S2000000, .f32⟩ : BufTy).Contents (Elt F) → (⟨S2000000, .f32⟩ : BufTy).Contents (Elt F) → (⟨S2000000, .i1⟩ : BufTy).Contents (Elt F)),
   StableHlo.unary main_v204 main_v207 (broadcastInDim S2000000 ![] bcast_S_S2000000 : (⟨S_, .f32⟩ : BufTy).Contents (Elt F) → (⟨S2000000, .f32⟩ : BufTy).Contents (Elt F)),
   StableHlo.binary main_v6 main_v207 main_v208 (cmpf .ole : (⟨S2000000, .f32⟩ : BufTy).Contents (Elt F) → (⟨S2000000, .f32⟩ : BufTy).Contents (Elt F) → (⟨S2000000, .i1⟩ : BufTy).Contents (Elt F)),
   StableHlo.binary main_v206 main_v208 main_v209 (andi : (⟨S2000000, .i1⟩ : BufTy).Contents (Elt F) → (⟨S2000000, .i1⟩ : BufTy).Contents (Elt F) → (⟨S2000000, .i1⟩ : BufTy).Contents (Elt F)),
   StableHlo.unary main_v209 main_v210 (uitofp .f32 : (⟨S2000000, .i1⟩ : BufTy).Contents (Elt F) → (⟨S2000000, .f32⟩ : BufTy).Contents (Elt F)),
   StableHlo.nullary main_cst_95 (constant S_ .f32 0x00000000#32),
   StableHlo.binary main_v210 main_cst_95 main_v211 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_96 (constant S_ .f32 0x49F42400#32),
   StableHlo.binary main_v211 main_cst_96 main_v212 (Host.divf : (⟨S_, .f32⟩ : BufTy).Contents (Elt F) → (⟨S_, .f32⟩ : BufTy).Contents (Elt F) → (⟨S_, .f32⟩ : BufTy).Contents (Elt F)),
   StableHlo.nullary main_cst_97 (constant S_ .f32 0x3F800000#32),
   StableHlo.binary main_v211 main_cst_97 main_v213 (maximumf : (⟨S_, .f32⟩ : BufTy).Contents (Elt F) → (⟨S_, .f32⟩ : BufTy).Contents (Elt F) → (⟨S_, .f32⟩ : BufTy).Contents (Elt F)),
   StableHlo.binary main_v9 main_v210 main_v214 (mulf : (⟨S2000000, .f32⟩ : BufTy).Contents (Elt F) → (⟨S2000000, .f32⟩ : BufTy).Contents (Elt F) → (⟨S2000000, .f32⟩ : BufTy).Contents (Elt F)),
   StableHlo.nullary main_cst_98 (constant S_ .f32 0x00000000#32),
   StableHlo.binary main_v214 main_cst_98 main_v215 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v215 main_v213 main_v216 (Host.divf : (⟨S_, .f32⟩ : BufTy).Contents (Elt F) → (⟨S_, .f32⟩ : BufTy).Contents (Elt F) → (⟨S_, .f32⟩ : BufTy).Contents (Elt F)),
   StableHlo.binary main_v6 main_v210 main_v217 (mulf : (⟨S2000000, .f32⟩ : BufTy).Contents (Elt F) → (⟨S2000000, .f32⟩ : BufTy).Contents (Elt F) → (⟨S2000000, .f32⟩ : BufTy).Contents (Elt F)),
   StableHlo.nullary main_cst_99 (constant S_ .f32 0x00000000#32),
   StableHlo.binary main_v217 main_cst_99 main_v218 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v218 main_v213 main_v219 (Host.divf : (⟨S_, .f32⟩ : BufTy).Contents (Elt F) → (⟨S_, .f32⟩ : BufTy).Contents (Elt F) → (⟨S_, .f32⟩ : BufTy).Contents (Elt F)),
   StableHlo.binary main_v219 main_v216 main_v220 (subf : (⟨S_, .f32⟩ : BufTy).Contents (Elt F) → (⟨S_, .f32⟩ : BufTy).Contents (Elt F) → (⟨S_, .f32⟩ : BufTy).Contents (Elt F)),
   StableHlo.unary main_v220 main_v221 (Host.absf : (⟨S_, .f32⟩ : BufTy).Contents (Elt F) → (⟨S_, .f32⟩ : BufTy).Contents (Elt F)),
   StableHlo.binary main_v221 main_v212 main_v222 (mulf : (⟨S_, .f32⟩ : BufTy).Contents (Elt F) → (⟨S_, .f32⟩ : BufTy).Contents (Elt F) → (⟨S_, .f32⟩ : BufTy).Contents (Elt F)),
   StableHlo.nullary main_cst_100 (constant S_ .f32 0x00000000#32),
   StableHlo.binary main_v211 main_cst_100 main_v223 (cmpf .ogt : (⟨S_, .f32⟩ : BufTy).Contents (Elt F) → (⟨S_, .f32⟩ : BufTy).Contents (Elt F) → (⟨S_, .i1⟩ : BufTy).Contents (Elt F)),
   StableHlo.nullary main_cst_101 (constant S_ .f32 0x00000000#32),
   StableHlo.unary main_cst_101 main_call9_v0 (id : (⟨S_, .f32⟩ : BufTy).Contents (Elt F) → (⟨S_, .f32⟩ : BufTy).Contents (Elt F)),
   StableHlo.ternary main_v223 main_v222 main_call9_v0 main_v224 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v224 main_v225 (broadcastInDim S1 ![] bcast_S_S1 : (⟨S_, .f32⟩ : BufTy).Contents (Elt F) → (⟨S1, .f32⟩ : BufTy).Contents (Elt F)),
   StableHlo.binary main_v202 main_v225 main_v226 (addf : (⟨S1, .f32⟩ : BufTy).Contents (Elt F) → (⟨S1, .f32⟩ : BufTy).Contents (Elt F) → (⟨S1, .f32⟩ : BufTy).Contents (Elt F))]

/-- Bin 9. -/
def binOps9 : List (HloOp τ sig (Elt F)) :=
  [StableHlo.nullary main_cst_102 (constant S_ .f32 0x41100000#32),
   StableHlo.nullary main_cst_103 (constant S_ .f32 0x41200000#32),
   StableHlo.binary main_cst_102 main_cst_103 main_v227 (Host.divf : (⟨S_, .f32⟩ : BufTy).Contents (Elt F) → (⟨S_, .f32⟩ : BufTy).Contents (Elt F) → (⟨S_, .f32⟩ : BufTy).Contents (Elt F)),
   StableHlo.nullary main_cst_104 (constant S_ .f32 0x41200000#32),
   StableHlo.nullary main_cst_105 (constant S_ .f32 0x41200000#32),
   StableHlo.binary main_cst_104 main_cst_105 main_v228 (Host.divf : (⟨S_, .f32⟩ : BufTy).Contents (Elt F) → (⟨S_, .f32⟩ : BufTy).Contents (Elt F) → (⟨S_, .f32⟩ : BufTy).Contents (Elt F)),
   StableHlo.unary main_v227 main_v229 (broadcastInDim S2000000 ![] bcast_S_S2000000 : (⟨S_, .f32⟩ : BufTy).Contents (Elt F) → (⟨S2000000, .f32⟩ : BufTy).Contents (Elt F)),
   StableHlo.binary main_v6 main_v229 main_v230 (cmpf .ogt : (⟨S2000000, .f32⟩ : BufTy).Contents (Elt F) → (⟨S2000000, .f32⟩ : BufTy).Contents (Elt F) → (⟨S2000000, .i1⟩ : BufTy).Contents (Elt F)),
   StableHlo.unary main_v228 main_v231 (broadcastInDim S2000000 ![] bcast_S_S2000000 : (⟨S_, .f32⟩ : BufTy).Contents (Elt F) → (⟨S2000000, .f32⟩ : BufTy).Contents (Elt F)),
   StableHlo.binary main_v6 main_v231 main_v232 (cmpf .ole : (⟨S2000000, .f32⟩ : BufTy).Contents (Elt F) → (⟨S2000000, .f32⟩ : BufTy).Contents (Elt F) → (⟨S2000000, .i1⟩ : BufTy).Contents (Elt F)),
   StableHlo.binary main_v230 main_v232 main_v233 (andi : (⟨S2000000, .i1⟩ : BufTy).Contents (Elt F) → (⟨S2000000, .i1⟩ : BufTy).Contents (Elt F) → (⟨S2000000, .i1⟩ : BufTy).Contents (Elt F)),
   StableHlo.unary main_v233 main_v234 (uitofp .f32 : (⟨S2000000, .i1⟩ : BufTy).Contents (Elt F) → (⟨S2000000, .f32⟩ : BufTy).Contents (Elt F)),
   StableHlo.nullary main_cst_106 (constant S_ .f32 0x00000000#32),
   StableHlo.binary main_v234 main_cst_106 main_v235 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.nullary main_cst_107 (constant S_ .f32 0x49F42400#32),
   StableHlo.binary main_v235 main_cst_107 main_v236 (Host.divf : (⟨S_, .f32⟩ : BufTy).Contents (Elt F) → (⟨S_, .f32⟩ : BufTy).Contents (Elt F) → (⟨S_, .f32⟩ : BufTy).Contents (Elt F)),
   StableHlo.nullary main_cst_108 (constant S_ .f32 0x3F800000#32),
   StableHlo.binary main_v235 main_cst_108 main_v237 (maximumf : (⟨S_, .f32⟩ : BufTy).Contents (Elt F) → (⟨S_, .f32⟩ : BufTy).Contents (Elt F) → (⟨S_, .f32⟩ : BufTy).Contents (Elt F)),
   StableHlo.binary main_v9 main_v234 main_v238 (mulf : (⟨S2000000, .f32⟩ : BufTy).Contents (Elt F) → (⟨S2000000, .f32⟩ : BufTy).Contents (Elt F) → (⟨S2000000, .f32⟩ : BufTy).Contents (Elt F)),
   StableHlo.nullary main_cst_109 (constant S_ .f32 0x00000000#32),
   StableHlo.binary main_v238 main_cst_109 main_v239 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v239 main_v237 main_v240 (Host.divf : (⟨S_, .f32⟩ : BufTy).Contents (Elt F) → (⟨S_, .f32⟩ : BufTy).Contents (Elt F) → (⟨S_, .f32⟩ : BufTy).Contents (Elt F)),
   StableHlo.binary main_v6 main_v234 main_v241 (mulf : (⟨S2000000, .f32⟩ : BufTy).Contents (Elt F) → (⟨S2000000, .f32⟩ : BufTy).Contents (Elt F) → (⟨S2000000, .f32⟩ : BufTy).Contents (Elt F)),
   StableHlo.nullary main_cst_110 (constant S_ .f32 0x00000000#32),
   StableHlo.binary main_v241 main_cst_110 main_v242 ((fun x v => Host.reduceAdd x v reducesTo_S2000000_S_d0 h_S_) : (⟨S2000000, .f32⟩ : BufTy).Contents (Elt F) → (⟨S_, .f32⟩ : BufTy).Contents (Elt F) → (⟨S_, .f32⟩ : BufTy).Contents (Elt F)),
   StableHlo.binary main_v242 main_v237 main_v243 (Host.divf : (⟨S_, .f32⟩ : BufTy).Contents (Elt F) → (⟨S_, .f32⟩ : BufTy).Contents (Elt F) → (⟨S_, .f32⟩ : BufTy).Contents (Elt F)),
   StableHlo.binary main_v243 main_v240 main_v244 (subf : (⟨S_, .f32⟩ : BufTy).Contents (Elt F) → (⟨S_, .f32⟩ : BufTy).Contents (Elt F) → (⟨S_, .f32⟩ : BufTy).Contents (Elt F)),
   StableHlo.unary main_v244 main_v245 (Host.absf : (⟨S_, .f32⟩ : BufTy).Contents (Elt F) → (⟨S_, .f32⟩ : BufTy).Contents (Elt F)),
   StableHlo.binary main_v245 main_v236 main_v246 (mulf : (⟨S_, .f32⟩ : BufTy).Contents (Elt F) → (⟨S_, .f32⟩ : BufTy).Contents (Elt F) → (⟨S_, .f32⟩ : BufTy).Contents (Elt F)),
   StableHlo.nullary main_cst_111 (constant S_ .f32 0x00000000#32),
   StableHlo.binary main_v235 main_cst_111 main_v247 (cmpf .ogt : (⟨S_, .f32⟩ : BufTy).Contents (Elt F) → (⟨S_, .f32⟩ : BufTy).Contents (Elt F) → (⟨S_, .i1⟩ : BufTy).Contents (Elt F)),
   StableHlo.nullary main_cst_112 (constant S_ .f32 0x00000000#32),
   StableHlo.unary main_cst_112 main_call10_v0 (id : (⟨S_, .f32⟩ : BufTy).Contents (Elt F) → (⟨S_, .f32⟩ : BufTy).Contents (Elt F)),
   StableHlo.ternary main_v247 main_v246 main_call10_v0 main_v248 (select : (⟨S_, .i1⟩ : BufTy).Contents (Elt F) → (⟨S_, .f32⟩ : BufTy).Contents (Elt F) → (⟨S_, .f32⟩ : BufTy).Contents (Elt F) → (⟨S_, .f32⟩ : BufTy).Contents (Elt F)),
   StableHlo.unary main_v248 main_v249 (broadcastInDim S1 ![] bcast_S_S1 : (⟨S_, .f32⟩ : BufTy).Contents (Elt F) → (⟨S1, .f32⟩ : BufTy).Contents (Elt F)),
   StableHlo.binary main_v226 main_v249 main_v250 (addf : (⟨S1, .f32⟩ : BufTy).Contents (Elt F) → (⟨S1, .f32⟩ : BufTy).Contents (Elt F) → (⟨S1, .f32⟩ : BufTy).Contents (Elt F))]

def win0 : List (HloOp τ sig (Elt F)) := headOps ++ binOps0 ++ (binOps1.take 10)

set_option maxHeartbeats 4000000 in
theorem part0 (d : Dev nD) : main_part0 (F := F) d = seq win0 := by
  unfold main_part0 win0 fn_argmax.body fn_where.body headOps binOps0 binOps1
  simp only [List.take_succ_cons, List.take_zero, List.drop_succ_cons, List.drop_zero, List.cons_append, List.nil_append, seq, bind_assoc, pure_bind]
  rfl

def win1 : List (HloOp τ sig (Elt F)) := (binOps1.drop 10) ++ binOps2

set_option maxHeartbeats 4000000 in
theorem part1 (d : Dev nD) : main_part1 (F := F) d = seq win1 := by
  unfold main_part1 win1 fn_where.body binOps1 binOps2
  simp only [List.take_succ_cons, List.take_zero, List.drop_succ_cons, List.drop_zero, List.cons_append, List.nil_append, seq, bind_assoc, pure_bind]
  rfl

def win2 : List (HloOp τ sig (Elt F)) := binOps3 ++ (binOps4.take 25)

set_option maxHeartbeats 4000000 in
theorem part2 (d : Dev nD) : main_part2 (F := F) d = seq win2 := by
  unfold main_part2 win2 fn_where.body binOps3 binOps4
  simp only [List.take_succ_cons, List.take_zero, List.drop_succ_cons, List.drop_zero, List.cons_append, List.nil_append, seq, bind_assoc, pure_bind]
  rfl

def win3 : List (HloOp τ sig (Elt F)) := (binOps4.drop 25) ++ binOps5 ++ (binOps6.take 15)

set_option maxHeartbeats 4000000 in
theorem part3 (d : Dev nD) : main_part3 (F := F) d = seq win3 := by
  unfold main_part3 win3 fn_where.body binOps4 binOps5 binOps6
  simp only [List.take_succ_cons, List.take_zero, List.drop_succ_cons, List.drop_zero, List.cons_append, List.nil_append, seq, bind_assoc, pure_bind]
  rfl

def win4 : List (HloOp τ sig (Elt F)) := (binOps6.drop 15) ++ binOps7 ++ (binOps8.take 5)

set_option maxHeartbeats 4000000 in
theorem part4 (d : Dev nD) : main_part4 (F := F) d = seq win4 := by
  unfold main_part4 win4 fn_where.body binOps6 binOps7 binOps8
  simp only [List.take_succ_cons, List.take_zero, List.drop_succ_cons, List.drop_zero, List.cons_append, List.nil_append, seq, bind_assoc, pure_bind]
  rfl

def win5 : List (HloOp τ sig (Elt F)) := (binOps8.drop 5) ++ (binOps9.take 30)

set_option maxHeartbeats 4000000 in
theorem part5 (d : Dev nD) : main_part5 (F := F) d = seq win5 := by
  unfold main_part5 win5 fn_where.body binOps8 binOps9
  simp only [List.take_succ_cons, List.take_zero, List.drop_succ_cons, List.drop_zero, List.cons_append, List.nil_append, seq, bind_assoc, pure_bind]
  rfl

def win6 : List (HloOp τ sig (Elt F)) := (binOps9.drop 30)

set_option maxHeartbeats 4000000 in
theorem part6 (d : Dev nD) : main_part6 (F := F) d = seq win6 := by
  unfold main_part6 win6 fn_where.body binOps9
  simp only [List.take_succ_cons, List.take_zero, List.drop_succ_cons, List.drop_zero, List.cons_append, List.nil_append, seq, bind_assoc, pure_bind]
  rfl

/-- The whole line. -/
def ops : List (HloOp τ sig (Elt F)) :=
  headOps ++ (binOps0 ++ (binOps1 ++ (binOps2 ++ (binOps3 ++ (binOps4 ++ (binOps5 ++ (binOps6 ++ (binOps7 ++ (binOps8 ++ (binOps9))))))))))

theorem ops_cut : (ops : List (HloOp τ sig (Elt F))) = win0 ++ (win1 ++ (win2 ++ (win3 ++ (win4 ++ (win5 ++ (win6)))))) := by
  rfl

theorem main_eq (d : Dev nD) : main (F := F) d = seq ops := by
  rw [ops_cut]
  unfold main
  rw [part0, part1, part2, part3, part4, part5, part6]
  simp only [StableHlo.seq_append]

end

end Cert.Proof.Ece.Rf

end
-- ==== Proof.Ece.Ref.lean ====
/-
  What the reference computes: its run from any memory, and the value left in its result.
-/
module

public import proofs.«01_k».proof.Proof.Ece.RefOps

@[expose] public section

noncomputable section

namespace Cert.Proof.Ece.Rf

open Cert.ReferenceIdeal Cert.ReferenceIdeal.Gen
open Idealize.ShloMosaic
open Idealize.ShloMosaic.StableHlo (seq after)
open Idealize.SL.Sem

abbrev dr (r : Ref sig .tc) : DevRef τ sig := Proc.devRef .tc r

/-- The scores: the logistic function of every logit. -/
def scoresOf (X : FVec Ideal S2000000x16 .f32) : FVec Ideal S2000000x16 .f32 :=
  let one : FVec Ideal S2000000x16 .f32 := broadcastInDim S2000000x16 ![] bcast_S_S2000000x16 (constant (F := Ideal) S_ .f32 0x3F800000#32)
  Host.divf one (addf one (Host.exp (Host.negf X)))

/-- The best score of every row. -/
def confOf (X : FVec Ideal S2000000x16 .f32) : FVec Ideal S2000000 .f32 :=
  Host.reduce FloatOps.maximumf (scoresOf X) (constant (F := Ideal) S_ .f32 0xFF800000#32) reducesTo_S2000000x16_S2000000_d1 h_S_

/-- The class taken in every row. -/
def classOf (X : FVec Ideal S2000000x16 .f32) : IVec S2000000 32 :=
  fun j => (Host.argReduce reducer_argmax_f32_i32 (scoresOf X) (iotaInDim S2000000x16 32 1) (constant (F := Ideal) S_ .f32 0xFF800000#32)
    (constantI S_ 32 0#32) reducesTo_S2000000x16_S2000000_d1 h_S_ j).2

/-- One where the class taken is the label's, zero elsewhere. -/
def accOf (X : FVec Ideal S2000000x16 .f32) (L : IVec S2000000 32) : FVec Ideal S2000000 .f32 :=
  uitofp .f32 (cmpi .eq (classOf X) L)

/-- What one bin adds: from the boundaries' tenths `lo` and `hi`, the confidences `C` and the accuracies `A`. -/
def binTerm (lo hi : BitVec 32) (C A : FVec Ideal S2000000 .f32) : FVec Ideal S_ .f32 :=
  let q (b : BitVec 32) : FVec Ideal S2000000 .f32 := broadcastInDim S2000000 ![] bcast_S_S2000000
    (Host.divf (constant (F := Ideal) S_ .f32 b) (constant (F := Ideal) S_ .f32 0x41200000#32))
  let M : FVec Ideal S2000000 .f32 := uitofp .f32 (andi (cmpf .ogt C (q lo)) (cmpf .ole C (q hi)))
  let z : FVec Ideal S_ .f32 := constant (F := Ideal) S_ .f32 0x00000000#32
  let n : FVec Ideal S_ .f32 := Host.reduceAdd M z reducesTo_S2000000_S_d0 h_S_
  let d : FVec Ideal S_ .f32 := maximumf n (constant (F := Ideal) S_ .f32 0x3F800000#32)
  let a : FVec Ideal S_ .f32 := Host.divf (Host.reduceAdd (mulf A M) z reducesTo_S2000000_S_d0 h_S_) d
  let c : FVec Ideal S_ .f32 := Host.divf (Host.reduceAdd (mulf C M) z reducesTo_S2000000_S_d0 h_S_) d
  select (cmpf .ogt n z) (mulf (Host.absf (subf c a)) (Host.divf n (constant (F := Ideal) S_ .f32 0x49F42400#32))) z

/-- One bin's step: the error so far and what the bin adds. -/
def addBin (lo hi : BitVec 32) (C A : FVec Ideal S2000000 .f32) (E : FVec Ideal S1 .f32) : FVec Ideal S1 .f32 :=
  addf E (broadcastInDim S1 ![] bcast_S_S1 (binTerm lo hi C A))

variable (V : Valuation τ sig (Elt Ideal))

theorem headOps_kept {r : Ref sig .tc} (hr : r ∉ [main_v0, main_v1, main_cst, main_v2, main_v3, main_cst_0, main_v4, main_v5, main_cst_1, main_v6, main_call0_v0, main_call0_cst, main_call0_c, main_call0_v1_0, main_v7, main_v8, main_v9, main_cst_2, main_v10]) : after (headOps (F := Ideal)) V (dr r) = V (dr r) :=
  StableHlo.after_of_writes_sub _ V (StableHlo.forall_writes_sub_of_map rfl) hr

theorem headOps_sub : (headOps : List (HloOp τ sig (Elt Ideal))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.binary_bufs_sub .., StableHlo.unary_bufs_sub .., StableHlo.nullary_bufs_sub .., StableHlo.unary_bufs_sub ..⟩

theorem headOps_fresh : ∀ op ∈ (headOps : List (HloOp τ sig (Elt Ideal))), op.fresh = ∅ := by
  intro _ h
  unfold headOps at h
  (repeat (cases h with | head => rfl | tail _ h => ?_)); exact nomatch h

theorem head_v6 : after (headOps (F := Ideal)) V (dr main_v6) = confOf (V (dr main_arg0)) := by
  unfold headOps dr
  after_results_simp
  rfl

theorem head_v9 : after (headOps (F := Ideal)) V (dr main_v9) = accOf (V (dr main_arg0)) (V (dr main_arg1)) := by
  unfold headOps dr
  after_results_simp
  rfl

theorem head_v10 : after (headOps (F := Ideal)) V (dr main_v10) = broadcastInDim S1 ![] bcast_S_S1 (constant (F := Ideal) S_ .f32 0x00000000#32) := by
  unfold headOps dr
  after_results_simp

theorem binOps0_kept {r : Ref sig .tc} (hr : r ∉ [main_cst_3, main_cst_4, main_v11, main_cst_5, main_cst_6, main_v12, main_v13, main_v14, main_v15, main_v16, main_v17, main_v18, main_cst_7, main_v19, main_cst_8, main_v20, main_cst_9, main_v21, main_v22, main_cst_10, main_v23, main_v24, main_v25, main_cst_11, main_v26, main_v27, main_v28, main_v29, main_v30, main_cst_12, main_v31, main_cst_13, main_call1_v0, main_v32, main_v33, main_v34]) : after (binOps0 (F := Ideal)) V (dr r) = V (dr r) :=
  StableHlo.after_of_writes_sub _ V (StableHlo.forall_writes_sub_of_map rfl) hr

theorem binOps0_sub : (binOps0 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps0_fresh : ∀ op ∈ (binOps0 : List (HloOp τ sig (Elt Ideal))), op.fresh = ∅ := by
  intro _ h
  unfold binOps0 at h
  (repeat (cases h with | head => rfl | tail _ h => ?_)); exact nomatch h

theorem bin0 : after (binOps0 (F := Ideal)) V (dr main_v34) = addBin 0x00000000#32 0x3F800000#32 (V (dr main_v6)) (V (dr main_v9)) (V (dr main_v10)) := by
  unfold binOps0 dr
  after_results_simp
  rfl

theorem binOps1_kept {r : Ref sig .tc} (hr : r ∉ [main_cst_14, main_cst_15, main_v35, main_cst_16, main_cst_17, main_v36, main_v37, main_v38, main_v39, main_v40, main_v41, main_v42, main_cst_18, main_v43, main_cst_19, main_v44, main_cst_20, main_v45, main_v46, main_cst_21, main_v47, main_v48, main_v49, main_cst_22, main_v50, main_v51, main_v52, main_v53, main_v54, main_cst_23, main_v55, main_cst_24, main_call2_v0, main_v56, main_v57, main_v58]) : after (binOps1 (F := Ideal)) V (dr r) = V (dr r) :=
  StableHlo.after_of_writes_sub _ V (StableHlo.forall_writes_sub_of_map rfl) hr

theorem binOps1_sub : (binOps1 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps1_fresh : ∀ op ∈ (binOps1 : List (HloOp τ sig (Elt Ideal))), op.fresh = ∅ := by
  intro _ h
  unfold binOps1 at h
  (repeat (cases h with | head => rfl | tail _ h => ?_)); exact nomatch h

theorem bin1 : after (binOps1 (F := Ideal)) V (dr main_v58) = addBin 0x3F800000#32 0x40000000#32 (V (dr main_v6)) (V (dr main_v9)) (V (dr main_v34)) := by
  unfold binOps1 dr
  after_results_simp
  rfl

theorem binOps2_kept {r : Ref sig .tc} (hr : r ∉ [main_cst_25, main_cst_26, main_v59, main_cst_27, main_cst_28, main_v60, main_v61, main_v62, main_v63, main_v64, main_v65, main_v66, main_cst_29, main_v67, main_cst_30, main_v68, main_cst_31, main_v69, main_v70, main_cst_32, main_v71, main_v72, main_v73, main_cst_33, main_v74, main_v75, main_v76, main_v77, main_v78, main_cst_34, main_v79, main_cst_35, main_call3_v0, main_v80, main_v81, main_v82]) : after (binOps2 (F := Ideal)) V (dr r) = V (dr r) :=
  StableHlo.after_of_writes_sub _ V (StableHlo.forall_writes_sub_of_map rfl) hr

theorem binOps2_sub : (binOps2 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps2_fresh : ∀ op ∈ (binOps2 : List (HloOp τ sig (Elt Ideal))), op.fresh = ∅ := by
  intro _ h
  unfold binOps2 at h
  (repeat (cases h with | head => rfl | tail _ h => ?_)); exact nomatch h

theorem bin2 : after (binOps2 (F := Ideal)) V (dr main_v82) = addBin 0x40000000#32 0x40400000#32 (V (dr main_v6)) (V (dr main_v9)) (V (dr main_v58)) := by
  unfold binOps2 dr
  after_results_simp
  rfl

theorem binOps3_kept {r : Ref sig .tc} (hr : r ∉ [main_cst_36, main_cst_37, main_v83, main_cst_38, main_cst_39, main_v84, main_v85, main_v86, main_v87, main_v88, main_v89, main_v90, main_cst_40, main_v91, main_cst_41, main_v92, main_cst_42, main_v93, main_v94, main_cst_43, main_v95, main_v96, main_v97, main_cst_44, main_v98, main_v99, main_v100, main_v101, main_v102, main_cst_45, main_v103, main_cst_46, main_call4_v0, main_v104, main_v105, main_v106]) : after (binOps3 (F := Ideal)) V (dr r) = V (dr r) :=
  StableHlo.after_of_writes_sub _ V (StableHlo.forall_writes_sub_of_map rfl) hr

theorem binOps3_sub : (binOps3 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps3_fresh : ∀ op ∈ (binOps3 : List (HloOp τ sig (Elt Ideal))), op.fresh = ∅ := by
  intro _ h
  unfold binOps3 at h
  (repeat (cases h with | head => rfl | tail _ h => ?_)); exact nomatch h

theorem bin3 : after (binOps3 (F := Ideal)) V (dr main_v106) = addBin 0x40400000#32 0x40800000#32 (V (dr main_v6)) (V (dr main_v9)) (V (dr main_v82)) := by
  unfold binOps3 dr
  after_results_simp
  rfl

theorem binOps4_kept {r : Ref sig .tc} (hr : r ∉ [main_cst_47, main_cst_48, main_v107, main_cst_49, main_cst_50, main_v108, main_v109, main_v110, main_v111, main_v112, main_v113, main_v114, main_cst_51, main_v115, main_cst_52, main_v116, main_cst_53, main_v117, main_v118, main_cst_54, main_v119, main_v120, main_v121, main_cst_55, main_v122, main_v123, main_v124, main_v125, main_v126, main_cst_56, main_v127, main_cst_57, main_call5_v0, main_v128, main_v129, main_v130]) : after (binOps4 (F := Ideal)) V (dr r) = V (dr r) :=
  StableHlo.after_of_writes_sub _ V (StableHlo.forall_writes_sub_of_map rfl) hr

theorem binOps4_sub : (binOps4 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps4_fresh : ∀ op ∈ (binOps4 : List (HloOp τ sig (Elt Ideal))), op.fresh = ∅ := by
  intro _ h
  unfold binOps4 at h
  (repeat (cases h with | head => rfl | tail _ h => ?_)); exact nomatch h

theorem bin4 : after (binOps4 (F := Ideal)) V (dr main_v130) = addBin 0x40800000#32 0x40A00000#32 (V (dr main_v6)) (V (dr main_v9)) (V (dr main_v106)) := by
  unfold binOps4 dr
  after_results_simp
  rfl

theorem binOps5_kept {r : Ref sig .tc} (hr : r ∉ [main_cst_58, main_cst_59, main_v131, main_cst_60, main_cst_61, main_v132, main_v133, main_v134, main_v135, main_v136, main_v137, main_v138, main_cst_62, main_v139, main_cst_63, main_v140, main_cst_64, main_v141, main_v142, main_cst_65, main_v143, main_v144, main_v145, main_cst_66, main_v146, main_v147, main_v148, main_v149, main_v150, main_cst_67, main_v151, main_cst_68, main_call6_v0, main_v152, main_v153, main_v154]) : after (binOps5 (F := Ideal)) V (dr r) = V (dr r) :=
  StableHlo.after_of_writes_sub _ V (StableHlo.forall_writes_sub_of_map rfl) hr

theorem binOps5_sub : (binOps5 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps5_fresh : ∀ op ∈ (binOps5 : List (HloOp τ sig (Elt Ideal))), op.fresh = ∅ := by
  intro _ h
  unfold binOps5 at h
  (repeat (cases h with | head => rfl | tail _ h => ?_)); exact nomatch h

theorem bin5 : after (binOps5 (F := Ideal)) V (dr main_v154) = addBin 0x40A00000#32 0x40C00000#32 (V (dr main_v6)) (V (dr main_v9)) (V (dr main_v130)) := by
  unfold binOps5 dr
  after_results_simp
  rfl

theorem binOps6_kept {r : Ref sig .tc} (hr : r ∉ [main_cst_69, main_cst_70, main_v155, main_cst_71, main_cst_72, main_v156, main_v157, main_v158, main_v159, main_v160, main_v161, main_v162, main_cst_73, main_v163, main_cst_74, main_v164, main_cst_75, main_v165, main_v166, main_cst_76, main_v167, main_v168, main_v169, main_cst_77, main_v170, main_v171, main_v172, main_v173, main_v174, main_cst_78, main_v175, main_cst_79, main_call7_v0, main_v176, main_v177, main_v178]) : after (binOps6 (F := Ideal)) V (dr r) = V (dr r) :=
  StableHlo.after_of_writes_sub _ V (StableHlo.forall_writes_sub_of_map rfl) hr

theorem binOps6_sub : (binOps6 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps6_fresh : ∀ op ∈ (binOps6 : List (HloOp τ sig (Elt Ideal))), op.fresh = ∅ := by
  intro _ h
  unfold binOps6 at h
  (repeat (cases h with | head => rfl | tail _ h => ?_)); exact nomatch h

theorem bin6 : after (binOps6 (F := Ideal)) V (dr main_v178) = addBin 0x40C00000#32 0x40E00000#32 (V (dr main_v6)) (V (dr main_v9)) (V (dr main_v154)) := by
  unfold binOps6 dr
  after_results_simp
  rfl

theorem binOps7_kept {r : Ref sig .tc} (hr : r ∉ [main_cst_80, main_cst_81, main_v179, main_cst_82, main_cst_83, main_v180, main_v181, main_v182, main_v183, main_v184, main_v185, main_v186, main_cst_84, main_v187, main_cst_85, main_v188, main_cst_86, main_v189, main_v190, main_cst_87, main_v191, main_v192, main_v193, main_cst_88, main_v194, main_v195, main_v196, main_v197, main_v198, main_cst_89, main_v199, main_cst_90, main_call8_v0, main_v200, main_v201, main_v202]) : after (binOps7 (F := Ideal)) V (dr r) = V (dr r) :=
  StableHlo.after_of_writes_sub _ V (StableHlo.forall_writes_sub_of_map rfl) hr

theorem binOps7_sub : (binOps7 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps7_fresh : ∀ op ∈ (binOps7 : List (HloOp τ sig (Elt Ideal))), op.fresh = ∅ := by
  intro _ h
  unfold binOps7 at h
  (repeat (cases h with | head => rfl | tail _ h => ?_)); exact nomatch h

theorem bin7 : after (binOps7 (F := Ideal)) V (dr main_v202) = addBin 0x40E00000#32 0x41000000#32 (V (dr main_v6)) (V (dr main_v9)) (V (dr main_v178)) := by
  unfold binOps7 dr
  after_results_simp
  rfl

theorem binOps8_kept {r : Ref sig .tc} (hr : r ∉ [main_cst_91, main_cst_92, main_v203, main_cst_93, main_cst_94, main_v204, main_v205, main_v206, main_v207, main_v208, main_v209, main_v210, main_cst_95, main_v211, main_cst_96, main_v212, main_cst_97, main_v213, main_v214, main_cst_98, main_v215, main_v216, main_v217, main_cst_99, main_v218, main_v219, main_v220, main_v221, main_v222, main_cst_100, main_v223, main_cst_101, main_call9_v0, main_v224, main_v225, main_v226]) : after (binOps8 (F := Ideal)) V (dr r) = V (dr r) :=
  StableHlo.after_of_writes_sub _ V (StableHlo.forall_writes_sub_of_map rfl) hr

theorem binOps8_sub : (binOps8 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps8_fresh : ∀ op ∈ (binOps8 : List (HloOp τ sig (Elt Ideal))), op.fresh = ∅ := by
  intro _ h
  unfold binOps8 at h
  (repeat (cases h with | head => rfl | tail _ h => ?_)); exact nomatch h

theorem bin8 : after (binOps8 (F := Ideal)) V (dr main_v226) = addBin 0x41000000#32 0x41100000#32 (V (dr main_v6)) (V (dr main_v9)) (V (dr main_v202)) := by
  unfold binOps8 dr
  after_results_simp
  rfl

theorem binOps9_kept {r : Ref sig .tc} (hr : r ∉ [main_cst_102, main_cst_103, main_v227, main_cst_104, main_cst_105, main_v228, main_v229, main_v230, main_v231, main_v232, main_v233, main_v234, main_cst_106, main_v235, main_cst_107, main_v236, main_cst_108, main_v237, main_v238, main_cst_109, main_v239, main_v240, main_v241, main_cst_110, main_v242, main_v243, main_v244, main_v245, main_v246, main_cst_111, main_v247, main_cst_112, main_call10_v0, main_v248, main_v249, main_v250]) : after (binOps9 (F := Ideal)) V (dr r) = V (dr r) :=
  StableHlo.after_of_writes_sub _ V (StableHlo.forall_writes_sub_of_map rfl) hr

theorem binOps9_sub : (binOps9 : List (HloOp τ sig (Elt Ideal))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.binary_bufs_sub ..⟩

theorem binOps9_fresh : ∀ op ∈ (binOps9 : List (HloOp τ sig (Elt Ideal))), op.fresh = ∅ := by
  intro _ h
  unfold binOps9 at h
  (repeat (cases h with | head => rfl | tail _ h => ?_)); exact nomatch h

theorem bin9 : after (binOps9 (F := Ideal)) V (dr main_v250) = addBin 0x41100000#32 0x41200000#32 (V (dr main_v6)) (V (dr main_v9)) (V (dr main_v226)) := by
  unfold binOps9 dr
  after_results_simp
  rfl

/-- The error from the confidences and the accuracies. -/
def eceOf (C A : FVec Ideal S2000000 .f32) : FVec Ideal S1 .f32 :=
  addBin 0x41100000#32 0x41200000#32 C A
    (addBin 0x41000000#32 0x41100000#32 C A
    (addBin 0x40E00000#32 0x41000000#32 C A
    (addBin 0x40C00000#32 0x40E00000#32 C A
    (addBin 0x40A00000#32 0x40C00000#32 C A
    (addBin 0x40800000#32 0x40A00000#32 C A
    (addBin 0x40400000#32 0x40800000#32 C A
    (addBin 0x40000000#32 0x40400000#32 C A
    (addBin 0x3F800000#32 0x40000000#32 C A
    (addBin 0x00000000#32 0x3F800000#32 C A (broadcastInDim S1 ![] bcast_S_S1 (constant (F := Ideal) S_ .f32 0x00000000#32)))))))))))

open Idealize.ShloMosaic.StableHlo (after_append)

theorem ops_v250 : after (ops (F := Ideal)) V (dr main_v250) = eceOf (confOf (V (dr main_arg0))) (accOf (V (dr main_arg0)) (V (dr main_arg1))) := by
  unfold ops
  simp only [after_append]
  rw [bin9, bin8, bin7, bin6, bin5, bin4, bin3, bin2, bin1, bin0]
  rw [binOps8_kept _ (r := main_v6) (by decide),
    binOps7_kept _ (r := main_v6) (by decide),
    binOps6_kept _ (r := main_v6) (by decide),
    binOps5_kept _ (r := main_v6) (by decide),
    binOps4_kept _ (r := main_v6) (by decide),
    binOps3_kept _ (r := main_v6) (by decide),
    binOps2_kept _ (r := main_v6) (by decide),
    binOps1_kept _ (r := main_v6) (by decide),
    binOps0_kept _ (r := main_v6) (by decide),
    binOps8_kept _ (r := main_v9) (by decide),
    binOps7_kept _ (r := main_v9) (by decide),
    binOps6_kept _ (r := main_v9) (by decide),
    binOps5_kept _ (r := main_v9) (by decide),
    binOps4_kept _ (r := main_v9) (by decide),
    binOps3_kept _ (r := main_v9) (by decide),
    binOps2_kept _ (r := main_v9) (by decide),
    binOps1_kept _ (r := main_v9) (by decide),
    binOps0_kept _ (r := main_v9) (by decide),
    head_v6, head_v9, head_v10]
  unfold eceOf
  rfl

theorem ops_arg0 : after (ops (F := Ideal)) V (dr main_arg0) = V (dr main_arg0) := by
  unfold ops
  simp only [after_append]
  rw [binOps9_kept _ (r := main_arg0) (by decide),
    binOps8_kept _ (r := main_arg0) (by decide),
    binOps7_kept _ (r := main_arg0) (by decide),
    binOps6_kept _ (r := main_arg0) (by decide),
    binOps5_kept _ (r := main_arg0) (by decide),
    binOps4_kept _ (r := main_arg0) (by decide),
    binOps3_kept _ (r := main_arg0) (by decide),
    binOps2_kept _ (r := main_arg0) (by decide),
    binOps1_kept _ (r := main_arg0) (by decide),
    binOps0_kept _ (r := main_arg0) (by decide),
    headOps_kept _ (r := main_arg0) (by decide)]

theorem ops_arg1 : after (ops (F := Ideal)) V (dr main_arg1) = V (dr main_arg1) := by
  unfold ops
  simp only [after_append]
  rw [binOps9_kept _ (r := main_arg1) (by decide),
    binOps8_kept _ (r := main_arg1) (by decide),
    binOps7_kept _ (r := main_arg1) (by decide),
    binOps6_kept _ (r := main_arg1) (by decide),
    binOps5_kept _ (r := main_arg1) (by decide),
    binOps4_kept _ (r := main_arg1) (by decide),
    binOps3_kept _ (r := main_arg1) (by decide),
    binOps2_kept _ (r := main_arg1) (by decide),
    binOps1_kept _ (r := main_arg1) (by decide),
    binOps0_kept _ (r := main_arg1) (by decide),
    headOps_kept _ (r := main_arg1) (by decide)]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ StableHlo.tcRefs τ sig := by
  unfold ops
  simp only [List.forall_append]
  exact ⟨headOps_sub, binOps0_sub, binOps1_sub, binOps2_sub, binOps3_sub, binOps4_sub, binOps5_sub, binOps6_sub, binOps7_sub, binOps8_sub, binOps9_sub⟩

theorem ops_fresh : ∀ op ∈ (ops : List (HloOp τ sig (Elt Ideal))), op.fresh = ∅ := by
  intro op h
  unfold ops at h
  simp only [List.mem_append] at h
  rcases h with h | h | h | h | h | h | h | h | h | h | h
  · exact headOps_fresh op h
  · exact binOps0_fresh op h
  · exact binOps1_fresh op h
  · exact binOps2_fresh op h
  · exact binOps3_fresh op h
  · exact binOps4_fresh op h
  · exact binOps5_fresh op h
  · exact binOps6_fresh op h
  · exact binOps7_fresh op h
  · exact binOps8_fresh op h
  · exact binOps9_fresh op h

/-- Every run of the reference ends, with the error in its result, its arguments and its counters as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v250)
          = eceOf (confOf (m ((c.tc : Thread nD τ).loc main_arg0))) (accOf (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine (θ_run defs _ _).mono (fun r h => ⟨fun c => ⟨?_, ?_, ?_⟩, sem_eq_zero_of_no_sems rfl _⟩)
    (StableHlo.run_seq scopedRefs_eq scopedSems_eq defs main (fun _ => ops) main_eq (fun _ => ops_sub) m ρ (fun _ => ops_fresh))
  · exact (h c main_v250).trans (ops_v250 _)
  · exact (h c main_arg0).trans (ops_arg0 _)
  · exact (h c main_arg1).trans (ops_arg1 _)

end Cert.Proof.Ece.Rf

end
-- ==== Proof.Ece.Pre.lean ====
/-
  What the two preconditions say of the rows.
-/
module

public import proofs.«01_k».proof.Defs
public import proofs.«01_k».proof.Proof.Gen.Pre_labels_ok
public import proofs.«01_k».proof.Proof.Gen.Pre_rows_ok
public import proofs.«01_k».proof.Proof.Ece.Ref
public import proofs.«01_k».proof.Proof.Ece.Acc
public import Idealize.ShloMosaic.Lib.Pointwise.Index
public import Idealize.ShloMosaic.Lib.Pipeline.Value

@[expose] public section

noncomputable section

namespace Cert.Proof.Ece

open Idealize.ShloMosaic

attribute [local instance] Cert.Pre_labels_ok.Gen.facts Cert.Pre_rows_ok.Gen.facts

theorem andi_bool (p q : Bool) : IntOp.andi (BitVec.ofBool p) (BitVec.ofBool q) = BitVec.ofBool (p && q) := by
  cases p <;> cases q <;> decide
theorem ori_bool (p q : Bool) : IntOp.ori (BitVec.ofBool p) (BitVec.ofBool q) = BitVec.ofBool (p || q) := by
  cases p <;> cases q <;> decide
theorem bool_one (p : Bool) : (BitVec.ofBool p = 1#1) ↔ p = true := by cases p <;> decide
theorem andi_one (a b : BitVec 1) : IntOp.andi a b = 1#1 ↔ a = 1#1 ∧ b = 1#1 := by
  revert a b; decide
theorem ori_one (a b : BitVec 1) : IntOp.ori a b = 1#1 ↔ a = 1#1 ∨ b = 1#1 := by
  revert a b; decide

theorem range_of (v : BitVec 32) (e : IntOp.andi (IntOp.cmpi .sge v 0#32) (IntOp.cmpi .slt v 16#32) = 1#1) : v.toNat < 16 := by
  simp only [IntOp.cmpi, andi_bool, bool_one, Bool.and_eq_true, BitVec.sle_eq_decide, BitVec.slt_eq_decide,
    decide_eq_true_eq, BitVec.toInt_eq_toNat_cond, BitVec.toNat_ofNat, Nat.reducePow, Nat.reduceMod] at e
  omega

abbrev Logits : Type := FVec Ideal Cert.ReferenceIdeal.S2000000x16 .f32

theorem labels_range (X : Logits) (L : Labs) (h : Cert.Pre_labels_ok.fn (F := Ideal) X L = fun _ => 1#1) (r : ℕ) : lbR L r < 16 :=
  range_of _ (congrFun h _)

/-- What `rows_ok` says: labels name classes, a label attaining the best score is the class taken, no confidence is a boundary. -/
structure RowsOk (X : Logits) (L : Labs) : Prop where
  lab : ∀ j, BitVec.toNat (L j) < 16
  untied : ∀ (j : Fin 2000000) (l : Fin 16), BitVec.ofNat 32 l.val ≠ L (ix1 j)
    ∨ (Rf.scoresOf X (ix2 j l) : EReal) < Rf.confOf X (ix1 j) ∨ Rf.classOf X (ix1 j) = L (ix1 j)
  inside : ∀ (j : Fin 2000000) (k : ℕ), k < 10 → (Rf.confOf X (ix1 j) : EReal) * 10 ≠ ((k : ℝ) : EReal)

theorem une_one (x y : EReal) : Ideal.cmp .une x y = 1#1 ↔ x ≠ y := by
  simp only [Ideal.cmp, bool_one, decide_eq_true_eq]
theorem olt_one (x y : EReal) : Ideal.cmp .olt x y = 1#1 ↔ x < y := by
  simp only [Ideal.cmp, bool_one, decide_eq_true_eq]

theorem bits0 : Ideal.ofBits .f32 0x00000000#32 = ((0 : ℕ) : ℝ) := by simp [Ideal.ofBits, Ideal.ieee]
theorem bits1 : Ideal.ofBits .f32 0x3F800000#32 = ((1 : ℕ) : ℝ) := by simp [Ideal.ofBits, Ideal.ieee, -EReal.coe_mul]; norm_num
theorem bits2 : Ideal.ofBits .f32 0x40000000#32 = ((2 : ℕ) : ℝ) := by simp [Ideal.ofBits, Ideal.ieee, -EReal.coe_mul]; norm_num
theorem bits3 : Ideal.ofBits .f32 0x40400000#32 = ((3 : ℕ) : ℝ) := by simp [Ideal.ofBits, Ideal.ieee, -EReal.coe_mul]; norm_num
theorem bits4 : Ideal.ofBits .f32 0x40800000#32 = ((4 : ℕ) : ℝ) := by simp [Ideal.ofBits, Ideal.ieee, -EReal.coe_mul]; norm_num
theorem bits5 : Ideal.ofBits .f32 0x40A00000#32 = ((5 : ℕ) : ℝ) := by simp [Ideal.ofBits, Ideal.ieee, -EReal.coe_mul]; norm_num
theorem bits6 : Ideal.ofBits .f32 0x40C00000#32 = ((6 : ℕ) : ℝ) := by simp [Ideal.ofBits, Ideal.ieee, -EReal.coe_mul]; norm_num
theorem bits7 : Ideal.ofBits .f32 0x40E00000#32 = ((7 : ℕ) : ℝ) := by simp [Ideal.ofBits, Ideal.ieee, -EReal.coe_mul]; norm_num
theorem bits8 : Ideal.ofBits .f32 0x41000000#32 = ((8 : ℕ) : ℝ) := by simp [Ideal.ofBits, Ideal.ieee, -EReal.coe_mul]; norm_num
theorem bits9 : Ideal.ofBits .f32 0x41100000#32 = ((9 : ℕ) : ℝ) := by simp [Ideal.ofBits, Ideal.ieee, -EReal.coe_mul]; norm_num
theorem bits10 : Ideal.ofBits .f32 0x41200000#32 = ((10 : ℕ) : ℝ) := by simp [Ideal.ofBits, Ideal.ieee, -EReal.coe_mul]; norm_num

theorem ten_cast : ((10 : ℕ) : ℝ) = (10 : EReal) := by norm_cast

section
open Cert.Pre_rows_ok Cert.Pre_rows_ok.Facts

/-- The three tests from the scores, the confidences and the classes taken. -/
def testsOf (S : FVec Ideal S2000000x16 .f32) (C : FVec Ideal S2000000 .f32) (K : IVec S2000000 32) (L : IVec S2000000 32) :
    IVec S2000000 1 × IVec S2000000x16 1 × IVec S2000000 1 :=
  fn_part1 (F := Ideal) L C
    (ori (cmpi .ne (broadcastInDim S2000000x16 ![0, 1] bcast_S1x16_S2000000x16_0_1 (broadcastInDim S1x16 ![1] bcast_S16_S1x16_1 (iotaInDim S16 32 0)))
        (broadcastInDim S2000000x16 ![0, 1] bcast_S2000000x1_S2000000x16_0_1 (broadcastInDim S2000000x1 ![0] bcast_S2000000_S2000000x1_0 L)))
      (cmpf .olt S (broadcastInDim S2000000x16 ![0, 1] bcast_S2000000x1_S2000000x16_0_1 (broadcastInDim S2000000x1 ![0] bcast_S2000000_S2000000x1_0 C))))
    (broadcastInDim S2000000x16 ![0, 1] bcast_S2000000x1_S2000000x16_0_1 (broadcastInDim S2000000x1 ![0] bcast_S2000000_S2000000x1_0 (cmpi .eq K L)))

theorem fn_tests (X : Logits) (L : Labs) : fn (F := Ideal) X L = testsOf (Rf.scoresOf X) (Rf.confOf X) (Rf.classOf X) L := rfl

theorem down {α : Type} (v : S2000000.Idx → α) (j : Fin 2000000) (l : Fin 16) :
    broadcastInDim S2000000x16 ![0, 1] bcast_S2000000x1_S2000000x16_0_1 (broadcastInDim S2000000x1 ![0] bcast_S2000000_S2000000x1_0 v) (ix2 j l) = v (ix1 j) := by
  rw [Idealize.ShloMosaic.broadcastInDim_apply (k := ix2 j 0) _ _ _ _ (by intro a; fin_cases a <;> rfl), Idealize.ShloMosaic.broadcastInDim_apply (k := ix1 j) _ _ _ _ (by intro a; fin_cases a <;> rfl)]

theorem across (j : Fin 2000000) (l : Fin 16) :
    broadcastInDim S2000000x16 ![0, 1] bcast_S1x16_S2000000x16_0_1 (broadcastInDim S1x16 ![1] bcast_S16_S1x16_1 (iotaInDim S16 32 0)) (ix2 j l) = BitVec.ofNat 32 l.val := by
  rw [Idealize.ShloMosaic.broadcastInDim_apply (k := ix2 0 l) _ _ _ _ (by intro a; fin_cases a <;> rfl), Idealize.ShloMosaic.broadcastInDim_apply (k := ix1 l) _ _ _ _ (by intro a; fin_cases a <;> rfl)]
  rfl

variable (S : FVec Ideal S2000000x16 .f32) (C : FVec Ideal S2000000 .f32) (K : IVec S2000000 32) (L : IVec S2000000 32)

theorem tests_lab (h : (testsOf S C K L).1 = fun _ => 1#1) (j : S2000000.Idx) : BitVec.toNat (L j) < 16 :=
  range_of _ (congrFun h j)

theorem tests_untied (h : (testsOf S C K L).2.1 = fun _ => 1#1) (j : Fin 2000000) (l : Fin 16) :
    BitVec.ofNat 32 l.val ≠ L (ix1 j) ∨ (S (ix2 j l) : EReal) < C (ix1 j) ∨ K (ix1 j) = L (ix1 j) := by
  have e := congrFun h (ix2 j l)
  simp only [testsOf, fn_part1, fn_part2, fn_part3, ori, cmpi, cmpf] at e
  rw [down, down, down (cmpi .eq K L), across, ori_one, ori_one] at e
  have ec : FloatOps.cmpf (F := Idealize.ShloMosaic.Ideal) (φ := .f32) .olt (S (ix2 j l)) (C (ix1 j)) = 1#1 ↔ (S (ix2 j l) : EReal) < C (ix1 j) := olt_one _ _
  rw [ec] at e
  rcases e with (e | e) | e
  · left; simpa [IntOp.cmpi, bool_one] using e
  · right; left; exact e
  · right; right; simpa [cmpi, IntOp.cmpi, bool_one] using e

theorem tests_inside (h : (testsOf S C K L).2.2 = fun _ => 1#1) (j : S2000000.Idx) (k : ℕ) (hk : k < 10) :
    (C j : EReal) * 10 ≠ ((k : ℝ) : EReal) := by
  have e := congrFun h j
  have e' : IntOp.andi (IntOp.andi (IntOp.andi (IntOp.andi (IntOp.andi (IntOp.andi (IntOp.andi (IntOp.andi (IntOp.andi
      (Ideal.cmp .une ((C j : EReal) * Ideal.ofBits .f32 0x41200000#32) (Ideal.ofBits .f32 0x00000000#32))
      (Ideal.cmp .une ((C j : EReal) * Ideal.ofBits .f32 0x41200000#32) (Ideal.ofBits .f32 0x3F800000#32)))
      (Ideal.cmp .une ((C j : EReal) * Ideal.ofBits .f32 0x41200000#32) (Ideal.ofBits .f32 0x40000000#32)))
      (Ideal.cmp .une ((C j : EReal) * Ideal.ofBits .f32 0x41200000#32) (Ideal.ofBits .f32 0x40400000#32)))
      (Ideal.cmp .une ((C j : EReal) * Ideal.ofBits .f32 0x41200000#32) (Ideal.ofBits .f32 0x40800000#32)))
      (Ideal.cmp .une ((C j : EReal) * Ideal.ofBits .f32 0x41200000#32) (Ideal.ofBits .f32 0x40A00000#32)))
      (Ideal.cmp .une ((C j : EReal) * Ideal.ofBits .f32 0x41200000#32) (Ideal.ofBits .f32 0x40C00000#32)))
      (Ideal.cmp .une ((C j : EReal) * Ideal.ofBits .f32 0x41200000#32) (Ideal.ofBits .f32 0x40E00000#32)))
      (Ideal.cmp .une ((C j : EReal) * Ideal.ofBits .f32 0x41200000#32) (Ideal.ofBits .f32 0x41000000#32)))
      (Ideal.cmp .une ((C j : EReal) * Ideal.ofBits .f32 0x41200000#32) (Ideal.ofBits .f32 0x41100000#32)) = 1#1 := e
  simp only [andi_one, une_one, bits0, bits1, bits2, bits3, bits4, bits5, bits6, bits7, bits8, bits9, bits10, ten_cast] at e'
  obtain ⟨⟨⟨⟨⟨⟨⟨⟨⟨e0, e1⟩, e2⟩, e3⟩, e4⟩, e5⟩, e6⟩, e7⟩, e8⟩, e9⟩ := e'
  interval_cases k
  exacts [e0, e1, e2, e3, e4, e5, e6, e7, e8, e9]

end

theorem rows_of (X : Logits) (L : Labs) (h : (Cert.Pre_rows_ok.fn (F := Ideal) X L).1 = (fun _ => 1#1)
    ∧ (Cert.Pre_rows_ok.fn (F := Ideal) X L).2.1 = (fun _ => 1#1) ∧ (Cert.Pre_rows_ok.fn (F := Ideal) X L).2.2 = (fun _ => 1#1)) : RowsOk X L := by
  rw [fn_tests] at h
  exact ⟨tests_lab _ _ _ _ h.1, tests_untied _ _ _ _ h.2.1, fun j => tests_inside _ _ _ _ h.2.2 (ix1 j)⟩

end Cert.Proof.Ece

end
-- ==== Proof.Ece.RefRow.lean ====
/-
  The reference's confidences and classes, row by row.
-/
module

public import proofs.«01_k».proof.Proof.Ece.Row
public import proofs.«01_k».proof.Proof.Ece.Pre

@[expose] public section

noncomputable section

namespace Cert.Proof.Ece

open Cert.ReferenceIdeal Cert.ReferenceIdeal.Gen
open Idealize.ShloMosaic

theorem score_at (X : Logits) (i : S2000000x16.Idx) : (Rf.scoresOf X i : EReal) = confE (X i) := by
  rw [confE_eq]
  show Ideal.div (Ideal.ofBits .f32 0x3F800000#32) (Ideal.ofBits .f32 0x3F800000#32 + Ideal.exp (-(X i))) = _
  rw [show Ideal.ofBits .f32 0x3F800000#32 = (1 : EReal) from one_bits]
  rfl

/-- The largest logit of a row. -/
def best (X : Logits) (r : Fin 2000000) : EReal := Finset.univ.sup fun l : Fin 16 => (X (ix2 r l) : EReal)

theorem bot_bits : Ideal.ofBits .f32 0xFF800000#32 = ⊥ := by simp [Ideal.ofBits, Ideal.ieee]

theorem max_rows {n : ℕ} (S : FVec Ideal (⟨2, ![n, 16]⟩ : Shape) .f32) (h : (⟨2, ![n, 16]⟩ : Shape).ReducesTo [1] (⟨1, ![n]⟩ : Shape)) (r : Fin n) :
    (show EReal from Host.reduce (α := Ideal .f32) FloatOps.maximumf S (constant (F := Ideal) S_ .f32 0xFF800000#32) h h_S_ (ix1 r))
      = Finset.univ.sup fun l : Fin 16 => (S (ix2 r l) : EReal) := by
  have e : Host.reduce (FloatOps.maximumf : Ideal .f32 → Ideal .f32 → Ideal .f32) S (constant (F := Ideal) S_ .f32 0xFF800000#32) h h_S_
      = Host.reduce (max : EReal → EReal → EReal) S (constant (F := Ideal) S_ .f32 0xFF800000#32) h h_S_ := rfl
  rw [e]
  refine (Host.reduce_eq_fold (α := EReal) max S _ _ _ (ix1 r)).trans ?_
  refine (Shape.ReducesTo.fold_fiber_r2_a1 h (ix1 r) (α := EReal) max _ S).trans ?_
  show Finset.fold max (Ideal.ofBits .f32 0xFF800000#32) _ _ = _
  rw [bot_bits]
  rfl

theorem conf_at (X : Logits) (r : Fin 2000000) : (Rf.confOf X (ix1 r) : EReal) = confE (best X r) := by
  unfold Rf.confOf
  refine (max_rows (Rf.scoresOf X) _ r).trans ?_
  simp only [score_at]
  exact sup_conf (fun l => X (ix2 r l))

/-! ## The class taken -/

theorem red_cases (a b : Ideal .f32 × BitVec 32) :
    (reducer_argmax_f32_i32 (F := Ideal) a b = a ∨ reducer_argmax_f32_i32 (F := Ideal) a b = b)
      ∧ (a.1 : EReal) ≤ (reducer_argmax_f32_i32 (F := Ideal) a b).1 ∧ (b.1 : EReal) ≤ (reducer_argmax_f32_i32 (F := Ideal) a b).1 := by
  obtain ⟨x, i⟩ := a
  obtain ⟨y, k⟩ := b
  have e : reducer_argmax_f32_i32 (F := Ideal) (x, i) (y, k)
      = (Scalar.select (IntOp.ori (Ideal.cmp .ogt x y) (Ideal.cmp .une x x)) x y,
         Scalar.select (IntOp.ori (IntOp.ori (Ideal.cmp .ogt x y) (Ideal.cmp .une x x)) (IntOp.andi (Ideal.cmp .oeq x y) (IntOp.cmpi .slt i k))) i k) := rfl
  rw [e]
  have h0 : Ideal.cmp .une (x : EReal) x = 0#1 := by simp [Ideal.cmp]
  by_cases h : (y : EReal) < x
  · have h1 : Ideal.cmp .ogt (x : EReal) y = 1#1 := by simp [Ideal.cmp, h]
    rw [h0, h1, show IntOp.ori 1#1 0#1 = 1#1 by decide]
    refine ⟨Or.inl ?_, le_refl _, h.le⟩
    generalize IntOp.andi _ _ = w
    revert w
    intro w
    rw [show IntOp.ori 1#1 w = 1#1 by revert w; decide]
    rfl
  · have h1 : Ideal.cmp .ogt (x : EReal) y = 0#1 := by simp [Ideal.cmp, h]
    rw [h0, h1, show IntOp.ori 0#1 0#1 = 0#1 by decide]
    refine ⟨?_, not_lt.mp h, le_refl _⟩
    by_cases hxy : (x : EReal) = y
    · have : IntOp.andi (Ideal.cmp .oeq (x : EReal) y) (IntOp.cmpi .slt i k) = 0#1 ∨ IntOp.andi (Ideal.cmp .oeq (x : EReal) y) (IntOp.cmpi .slt i k) = 1#1 := by
        generalize IntOp.andi _ _ = w
        revert w; decide
      rcases this with h2 | h2
      · right; rw [h2]; rfl
      · left; rw [h2, hxy]; rfl
    · have h2 : Ideal.cmp .oeq (x : EReal) y = 0#1 := by simp [Ideal.cmp, hxy]
      right
      rw [h2]
      generalize IntOp.cmpi _ _ _ = w
      rw [show IntOp.andi 0#1 w = 0#1 by revert w; decide]
      rfl

theorem fold_best (P : List (Ideal .f32 × BitVec 32)) (p : Ideal .f32 × BitVec 32) :
    (P.foldl (reducer_argmax_f32_i32 (F := Ideal)) p = p ∨ P.foldl (reducer_argmax_f32_i32 (F := Ideal)) p ∈ P)
      ∧ (p.1 : EReal) ≤ (P.foldl (reducer_argmax_f32_i32 (F := Ideal)) p).1
      ∧ ∀ q ∈ P, (q.1 : EReal) ≤ (P.foldl (reducer_argmax_f32_i32 (F := Ideal)) p).1 := by
  induction P generalizing p with
  | nil => exact ⟨Or.inl rfl, le_refl _, by simp⟩
  | cons a P ih =>
    obtain ⟨i1, i2, i3⟩ := ih (reducer_argmax_f32_i32 (F := Ideal) p a)
    obtain ⟨c1, c2, c3⟩ := red_cases p a
    rw [List.foldl_cons]
    refine ⟨?_, c2.trans i2, ?_⟩
    · rcases i1 with i1 | i1
      · rw [i1]
        rcases c1 with c1 | c1
        · left; exact c1
        · right; rw [c1]; exact List.mem_cons_self
      · right; exact List.mem_cons_of_mem _ i1
    · intro q hq
      rcases List.mem_cons.mp hq with rfl | hq
      · exact c3.trans i2
      · exact i3 q hq

theorem arg_rows {n : ℕ} (S : FVec Ideal (⟨2, ![n, 16]⟩ : Shape) .f32) (h : (⟨2, ![n, 16]⟩ : Shape).ReducesTo [1] (⟨1, ![n]⟩ : Shape)) (hS : ∀ i, (0 : EReal) ≤ S i) (r : Fin n) :
    ∃ l : Fin 16, Prod.snd (Host.argReduce reducer_argmax_f32_i32 S (iotaInDim (⟨2, ![n, 16]⟩ : Shape) 32 1) (constant (F := Ideal) S_ .f32 0xFF800000#32)
        (constantI S_ 32 0#32) h h_S_ (ix1 r)) = BitVec.ofNat 32 l.val
      ∧ ∀ k : Fin 16, (S (ix2 r k) : EReal) ≤ S (ix2 r l) := by
  rw [Ideal.argReduce_eq_reduce2, Host.reduce2_eq_foldl_fiber]
  have hmem : ∀ q, q ∈ Host.argReduceFiber S (iotaInDim (⟨2, ![n, 16]⟩ : Shape) 32 1) h (ix1 r)
      ↔ ∃ k : Fin 16, (S (ix2 r k), BitVec.ofNat 32 k.val) = q := by
    intro q
    unfold Host.argReduceFiber
    rw [List.mem_map]
    constructor
    · rintro ⟨m, hn, rfl⟩
      rw [List.mem_filter] at hn
      obtain ⟨k, hk⟩ := (Shape.ReducesTo.fiber_r2_a1 h (ix1 r) _).mp (by simpa using hn.2)
      refine ⟨k, ?_⟩
      rw [← hk]
      rfl
    · rintro ⟨k, rfl⟩
      refine ⟨(⟨2, ![n, 16]⟩ : Shape).rowMajor (ix2 r k), List.mem_filter.mpr ⟨List.mem_finRange _, ?_⟩, ?_⟩
      · rw [Equiv.symm_apply_apply]
        exact decide_eq_true ((Shape.ReducesTo.fiber_r2_a1 h (ix1 r) _).mpr ⟨k, rfl⟩)
      · rw [Equiv.symm_apply_apply]
        rfl
  obtain ⟨h1, -, h3⟩ := fold_best (Host.argReduceFiber S (iotaInDim (⟨2, ![n, 16]⟩ : Shape) 32 1) h (ix1 r))
    (constant (F := Ideal) S_ .f32 0xFF800000#32 (Shape.Idx.first h_S_), constantI S_ 32 0#32 (Shape.Idx.first h_S_))
  generalize List.foldl _ _ _ = q at h1 h3 ⊢
  rcases h1 with h1 | h1
  · exfalso
    have := h3 _ ((hmem _).mpr ⟨0, rfl⟩)
    rw [h1] at this
    have hb : (S (ix2 r 0) : EReal) ≤ Ideal.ofBits .f32 0xFF800000#32 := this
    rw [bot_bits] at hb
    exact absurd ((hS _).trans hb) (by simp)
  · obtain ⟨l, rfl⟩ := (hmem _).mp h1
    exact ⟨l, rfl, fun k => h3 _ ((hmem _).mpr ⟨k, rfl⟩)⟩

theorem arg_fun {n : ℕ} (S : FVec Ideal (⟨2, ![n, 16]⟩ : Shape) .f32) (h : (⟨2, ![n, 16]⟩ : Shape).ReducesTo [1] (⟨1, ![n]⟩ : Shape)) (hS : ∀ i, (0 : EReal) ≤ S i)
    (T : IVec (⟨1, ![n]⟩ : Shape) 32) (hT : T = fun j => (Host.argReduce reducer_argmax_f32_i32 S (iotaInDim (⟨2, ![n, 16]⟩ : Shape) 32 1) (constant (F := Ideal) S_ .f32 0xFF800000#32)
        (constantI S_ 32 0#32) h h_S_ j).2) (r : Fin n) :
    ∃ l : Fin 16, T (ix1 r) = BitVec.ofNat 32 l.val ∧ ∀ k : Fin 16, (S (ix2 r k) : EReal) ≤ S (ix2 r l) := by
  subst hT
  exact arg_rows S h hS r

theorem class_at (X : Logits) (r : Fin 2000000) : ∃ l : Fin 16, Rf.classOf X (ix1 r) = BitVec.ofNat 32 l.val ∧ (X (ix2 r l) : EReal) = best X r := by
  obtain ⟨l, h1, h2⟩ := arg_fun (Rf.scoresOf X) reducesTo_S2000000x16_S2000000_d1 (fun i => by rw [score_at]; exact confE_nonneg _) (Rf.classOf X) rfl r
  refine ⟨l, h1, le_antisymm (Finset.le_sup (f := fun l : Fin 16 => (X (ix2 r l) : EReal)) (Finset.mem_univ l)) ?_⟩
  apply Finset.sup_le
  intro k _
  have := h2 k
  rw [score_at, score_at] at this
  exact confE_mono.le_iff_le.mp this

/-- The label is the class taken exactly where the label's logit is the largest. -/
theorem class_iff (X : Logits) (L : Labs) (h : RowsOk X L) (r : Fin 2000000) (l : Fin 16) (hl : l.val = BitVec.toNat (L (ix1 r))) :
    Rf.classOf X (ix1 r) = L (ix1 r) ↔ (X (ix2 r l) : EReal) = best X r := by
  constructor
  · intro e
    obtain ⟨k, h1, h2⟩ := class_at X r
    have : k = l := by
      apply Fin.ext
      rw [hl, ← e, h1, BitVec.toNat_ofNat]
      have := k.isLt
      omega
    rw [← this, h2]
  · intro e
    rcases h.untied r l with u | u | u
    · exact absurd (by rw [hl]; simp) u
    · rw [score_at, conf_at, e] at u
      exact absurd u (lt_irrefl _)
    · exact u

/-- One row's accuracy. -/
theorem acc_at (X : Logits) (L : Labs) (h : RowsOk X L) (r : Fin 2000000) (l : Fin 16) (hl : l.val = BitVec.toNat (L (ix1 r))) :
    (Rf.accOf X L (ix1 r) : EReal) = if (X (ix2 r l) : EReal) = best X r then 1 else 0 := by
  show (((IntOp.cmpi .eq (Rf.classOf X (ix1 r)) (L (ix1 r))).toNat : ℝ) : EReal) = _
  have := class_iff X L h r l hl
  by_cases e : (X (ix2 r l) : EReal) = best X r
  · rw [if_pos e, show IntOp.cmpi .eq (Rf.classOf X (ix1 r)) (L (ix1 r)) = 1#1 by simp [IntOp.cmpi, this.mpr e]]
    simp
  · rw [if_neg e, show IntOp.cmpi .eq (Rf.classOf X (ix1 r)) (L (ix1 r)) = 0#1 by
      have e' := mt this.mp e
      generalize Rf.classOf X (ix1 r) = a at e' ⊢
      generalize L (ix1 r) = b at e' ⊢
      simp only [IntOp.cmpi]; rw [beq_false_of_ne e']; rfl]
    simp

end Cert.Proof.Ece

end
-- ==== Proof.Ece.RefVal.lean ====
/-
  The reference's bins, as numbers.
-/
module

public import proofs.«01_k».proof.Proof.Ece.RefRow

@[expose] public section

noncomputable section

namespace Cert.Proof.Ece

open Cert.ReferenceIdeal Cert.ReferenceIdeal.Gen
open Idealize.ShloMosaic

/-! ## A bin -/

/-- What a bin adds, from its count, its sum of confidences and its sum of accuracies. -/
def termE (n c a : EReal) : EReal :=
  let d := max n (Ideal.ofBits .f32 0x3F800000#32)
  let x := Ideal.div c d - Ideal.div a d
  Scalar.select (Ideal.cmp .ogt n (Ideal.ofBits .f32 0x00000000#32)) (max x (-x) * Ideal.div n (Ideal.ofBits .f32 0x49F42400#32)) (Ideal.ofBits .f32 0x00000000#32)

/-- Whether a confidence lies in a bin, as a number. -/
def inE (lo hi : BitVec 32) (c : EReal) : EReal :=
  (((IntOp.andi (Ideal.cmp .ogt c (Ideal.div (Ideal.ofBits .f32 lo) (Ideal.ofBits .f32 0x41200000#32)))
    (Ideal.cmp .ole c (Ideal.div (Ideal.ofBits .f32 hi) (Ideal.ofBits .f32 0x41200000#32)))).toNat : ℝ) : EReal)

theorem sum_rows (v : FVec Ideal S2000000 .f32) (j : S_.Idx) :
    (Host.reduceAdd (F := Ideal) v (constant (F := Ideal) S_ .f32 0x00000000#32) reducesTo_S2000000_S_d0 h_S_ j : EReal) = ∑ r : Fin 2000000, (v (ix1 r) : EReal) := by
  show Ideal.hostReduceAdd _ v (Ideal.ofBits .f32 0x00000000#32) _ = _
  rw [Ideal.hostReduceAdd_r1_a0, show Ideal.ofBits .f32 0x00000000#32 = (0 : EReal) from zero_bits, zero_add]

theorem term_at (N N1 N2 : FVec Ideal S_ .f32) (j : S_.Idx) :
    (select (cmpf .ogt N (constant (F := Ideal) S_ .f32 0x00000000#32))
      (mulf (Host.absf (subf (Host.divf N1 (maximumf N (constant (F := Ideal) S_ .f32 0x3F800000#32))) (Host.divf N2 (maximumf N (constant (F := Ideal) S_ .f32 0x3F800000#32)))))
        (Host.divf N (constant (F := Ideal) S_ .f32 0x49F42400#32))) (constant (F := Ideal) S_ .f32 0x00000000#32) j : EReal) = termE (N j) (N1 j) (N2 j) := rfl

/-- The rows of a bin, as numbers. -/
def maskOf (lo hi : BitVec 32) (C : FVec Ideal S2000000 .f32) : FVec Ideal S2000000 .f32 :=
  uitofp .f32 (andi (cmpf .ogt C (broadcastInDim S2000000 ![] bcast_S_S2000000 (Host.divf (constant (F := Ideal) S_ .f32 lo) (constant (F := Ideal) S_ .f32 0x41200000#32))))
    (cmpf .ole C (broadcastInDim S2000000 ![] bcast_S_S2000000 (Host.divf (constant (F := Ideal) S_ .f32 hi) (constant (F := Ideal) S_ .f32 0x41200000#32)))))

theorem mask_at (lo hi : BitVec 32) (C : FVec Ideal S2000000 .f32) (i : S2000000.Idx) : (maskOf lo hi C i : EReal) = inE lo hi (C i) := rfl

/-- The sum of a vector of rows. -/
def sumOf (v : FVec Ideal S2000000 .f32) : FVec Ideal S_ .f32 :=
  Host.reduceAdd (F := Ideal) v (constant (F := Ideal) S_ .f32 0x00000000#32) reducesTo_S2000000_S_d0 h_S_

theorem sumOf_at (v : FVec Ideal S2000000 .f32) (j : S_.Idx) : (sumOf v j : EReal) = ∑ r : Fin 2000000, (v (ix1 r) : EReal) := sum_rows v j

theorem binTerm_eq (lo hi : BitVec 32) (C A : FVec Ideal S2000000 .f32) (j : S_.Idx) :
    (Rf.binTerm lo hi C A j : EReal) = termE (sumOf (maskOf lo hi C) j) (sumOf (mulf C (maskOf lo hi C)) j) (sumOf (mulf A (maskOf lo hi C)) j) := by
  rw [← term_at]
  unfold Rf.binTerm sumOf maskOf
  rfl

theorem binTerm_at (lo hi : BitVec 32) (C A : FVec Ideal S2000000 .f32) (j : S_.Idx) :
    (Rf.binTerm lo hi C A j : EReal) = termE (∑ r : Fin 2000000, inE lo hi (C (ix1 r))) (∑ r : Fin 2000000, (C (ix1 r) : EReal) * inE lo hi (C (ix1 r)))
      (∑ r : Fin 2000000, (A (ix1 r) : EReal) * inE lo hi (C (ix1 r))) := by
  rw [binTerm_eq, sumOf_at, sumOf_at, sumOf_at]
  have e (V : FVec Ideal S2000000 .f32) (r : Fin 2000000) : (mulf V (maskOf lo hi C) (ix1 r) : EReal) = (V (ix1 r) : EReal) * inE lo hi (C (ix1 r)) := by
    rw [← mask_at]; rfl
  simp only [e, mask_at]

/-- The reference's error: what the ten bins add, one after another. -/
theorem eceOf_at (C A : FVec Ideal S2000000 .f32) (j : S1.Idx) (t : Fin 10 → EReal)
    (h : ∀ i : S_.Idx, (Rf.binTerm 0x00000000#32 0x3F800000#32 C A i : EReal) = t 0 ∧ (Rf.binTerm 0x3F800000#32 0x40000000#32 C A i : EReal) = t 1
      ∧ (Rf.binTerm 0x40000000#32 0x40400000#32 C A i : EReal) = t 2 ∧ (Rf.binTerm 0x40400000#32 0x40800000#32 C A i : EReal) = t 3
      ∧ (Rf.binTerm 0x40800000#32 0x40A00000#32 C A i : EReal) = t 4 ∧ (Rf.binTerm 0x40A00000#32 0x40C00000#32 C A i : EReal) = t 5
      ∧ (Rf.binTerm 0x40C00000#32 0x40E00000#32 C A i : EReal) = t 6 ∧ (Rf.binTerm 0x40E00000#32 0x41000000#32 C A i : EReal) = t 7
      ∧ (Rf.binTerm 0x41000000#32 0x41100000#32 C A i : EReal) = t 8 ∧ (Rf.binTerm 0x41100000#32 0x41200000#32 C A i : EReal) = t 9) :
    (Rf.eceOf C A j : EReal) = ∑ b : Fin 10, t b := by
  have step : ∀ (lo hi : BitVec 32) (E : FVec Ideal S1 .f32) (x y : EReal), (E j : EReal) = x → (∀ i : S_.Idx, (Rf.binTerm lo hi C A i : EReal) = y) →
      (Rf.addBin lo hi C A E j : EReal) = x + y := by
    intro lo hi E x y h1 h2
    rw [← h1, ← h2 (fun a => a.elim0)]
    show (E j : EReal) + Rf.binTerm lo hi C A _ = _
    congr 2
    funext a; exact a.elim0
  have z : (broadcastInDim S1 ![] bcast_S_S1 (constant (F := Ideal) S_ .f32 0x00000000#32) j : EReal) = 0 := by
    show Ideal.ofBits .f32 0x00000000#32 = 0
    exact zero_bits
  unfold Rf.eceOf
  refine (step _ _ _ _ _ (step _ _ _ _ _ (step _ _ _ _ _ (step _ _ _ _ _ (step _ _ _ _ _ (step _ _ _ _ _ (step _ _ _ _ _ (step _ _ _ _ _ (step _ _ _ _ _
    (step _ _ _ _ _ z fun i => (h i).1) fun i => (h i).2.1) fun i => (h i).2.2.1) fun i => (h i).2.2.2.1) fun i => (h i).2.2.2.2.1) fun i => (h i).2.2.2.2.2.1)
    fun i => (h i).2.2.2.2.2.2.1) fun i => (h i).2.2.2.2.2.2.2.1) fun i => (h i).2.2.2.2.2.2.2.2.1) fun i => (h i).2.2.2.2.2.2.2.2.2).trans ?_
  simp only [Fin.sum_univ_succ, Fin.sum_univ_zero]
  simp only [zero_add, add_zero, add_assoc]
  rfl

end Cert.Proof.Ece

end
-- ==== Proof.Ece.Launch.lean ====
/-
  The program's run: the host's operations, the call, the host's operations; what stands in the arrays at the end.
-/
module

public import proofs.«01_k».proof.Proof.Ece.Host
public import Idealize.ShloMosaic.Lib.Pipeline.Frame

@[expose] public section

noncomputable section

namespace Cert.Proof.Ece

open Cert.KernelIdeal Cert.KernelIdeal.Gen
open Idealize.ShloMosaic
open Idealize.ShloMosaic.StableHlo (seq after held tcRefs)
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

abbrev aLoc (d : Dev nD) : Loc nD τ sig := (SparseCore.T d : Thread nD τ).loc main_arg0
abbrev rLoc (d : Dev nD) : Loc nD τ sig := (SparseCore.T d : Thread nD τ).loc main_v27

abbrev UC : Finset (DevRef τ sig) := Pipeline.ucRefs τ sig

theorem mem_UC (r : Ref sig .tc) (h : r.isScoped = false) : dr r ∈ UC :=
  Finset.mem_filter.mpr ⟨StableHlo.devRef_mem_tcRefs r, by rw [show (dr r).isScoped = r.isScoped from rfl, h]; decide⟩

theorem pre_sub : ∀ op ∈ preOps, op.bufs ⊆ UC := by
  intro op hop
  refine Pipeline.sub_ucRefs op ?_
  revert op
  unfold preOps preOpsF
  simp only [List.forall_mem_cons, StableHlo.unary_bufs_sub, StableHlo.reshape_bufs_sub, _root_.true_and]
  exact fun _ h => absurd h List.not_mem_nil

theorem post_sub : ∀ op ∈ postOps, op.bufs ⊆ UC := by
  intro op hop
  refine Pipeline.sub_ucRefs op ?_
  revert op
  unfold postOps postOpsF
  simp only [List.forall_mem_cons, StableHlo.nullary_bufs_sub, StableHlo.unary_bufs_sub, StableHlo.binary_bufs_sub, StableHlo.ternary_bufs_sub, StableHlo.reshape_bufs_sub, _root_.true_and]
  exact fun _ h => absurd h List.not_mem_nil

theorem pre_fresh : ∀ op ∈ preOps, op.fresh = ∅ := by
  unfold preOps preOpsF
  simp only [List.forall_mem_cons]
  refine ⟨rfl, rfl, rfl, rfl, fun _ h => absurd h List.not_mem_nil⟩

theorem post_fresh : ∀ op ∈ postOps, op.fresh = ∅ := by
  unfold postOps postOpsF
  simp only [List.forall_mem_cons]
  repeat' first | exact fun _ h => absurd h List.not_mem_nil | refine ⟨rfl, ?_⟩

/-! ### The arrays the call takes, out of all -/

def callRefs : Finset (Ref sig .tc) := {main_v3, main_arg1, main_v4}
def endRefs : Finset (Ref sig .tc) := {main_v27, main_arg0, main_arg1}

abbrev up (s : Finset (Ref sig .tc)) : Finset (DevRef τ sig) := s.map ⟨Proc.devRef .tc, Proc.devRef_injective _⟩

theorem call_sub : up callRefs ⊆ UC := by
  intro b hb
  obtain ⟨r, hr, rfl⟩ := Finset.mem_map.mp hb
  refine mem_UC r ?_
  revert r; unfold callRefs; decide

theorem end_sub : up endRefs ⊆ UC := by
  intro b hb
  obtain ⟨r, hr, rfl⟩ := Finset.mem_map.mp hb
  refine mem_UC r ?_
  revert r; unfold endRefs; decide

theorem held_call (d : Dev nD) (W : Valuation τ sig (Elt Ideal)) :
    (held (T d) UC W : sProp MM) = iprop(((fLoc d ↦{fullShare} W (dr main_v3)) ∗ (lLoc d ↦{fullShare} W (dr main_arg1)) ∗ (oLoc d ↦{fullShare} W (dr main_v4)))
      ∗ held (T d) (UC \ up callRefs) W) := by
  unfold held
  rw [SparseCore.bigSep_sdiff_split' call_sub]
  congr 1
  unfold up; rw [bigSep_map]
  unfold callRefs
  rw [SparseCore.bigSep_insert' (by decide), SparseCore.bigSep_insert' (by decide), bigSep_singleton]
  rfl

theorem held_end (d : Dev nD) (W : Valuation τ sig (Elt Ideal)) :
    (held (T d) UC W : sProp MM) = iprop(((rLoc d ↦{fullShare} W (dr main_v27)) ∗ (aLoc d ↦{fullShare} W (dr main_arg0)) ∗ (lLoc d ↦{fullShare} W (dr main_arg1)))
      ∗ held (T d) (UC \ up endRefs) W) := by
  unfold held
  rw [SparseCore.bigSep_sdiff_split' end_sub]
  congr 1
  unfold up; rw [bigSep_map]
  unfold endRefs
  rw [SparseCore.bigSep_insert' (by decide), SparseCore.bigSep_insert' (by decide), bigSep_singleton]
  rfl

variable (m : (ℓ : Loc nD τ sig) → Buf (Elt Ideal) ℓ) (ρ : Dev nD → PrngReg)

def val0 (d : Dev nD) : Valuation τ sig (Elt Ideal) := fun b => m (d, b)
def val1 (d : Dev nD) : Valuation τ sig (Elt Ideal) := after preOps (val0 m d)

abbrev flatM (d : Dev nD) : Buf (Elt Ideal) (fLoc d) := (flatOf (m (aLoc d)) : Vec Ideal S32000000 .f32)
abbrev labM (d : Dev nD) : Buf (Elt Ideal) (lLoc d) := m (lLoc d)
abbrev outM (d : Dev nD) : Buf (Elt Ideal) (oLoc d) := val1 m d (dr main_v4)

abbrev gOut (d : Dev nD) : Buf (Elt Ideal) (oLoc d) := GG (flatM m) (labM m) d

def val2 (d : Dev nD) : Valuation τ sig (Elt Ideal) := Function.update (val1 m d) (dr main_v4) (gOut m d)

theorem V1_f (d : Dev nD) : val1 m d (dr main_v3) = flatM m d := pre_v3 _
theorem V1_l (d : Dev nD) : val1 m d (dr main_arg1) = labM m d := pre_arg1 _
theorem V1_a (d : Dev nD) : val1 m d (dr main_arg0) = m (aLoc d) := pre_arg0 _
theorem V2_o (d : Dev nD) : val2 m d (dr main_v4) = gOut m d := Function.update_self _ _ _
theorem V2_ne (d : Dev nD) (r : Ref sig .tc) (h : r ≠ main_v4) : val2 m d (dr r) = val1 m d (dr r) :=
  Function.update_of_ne (fun e => h (Proc.devRef_injective _ e)) _ _

/-- The result. -/
def res27 (d : Dev nD) : Buf (Elt Ideal) (rLoc d) := (errOf (binsOf (gOut m d)) : FVec Ideal S1 .f32)

theorem V3_r (d : Dev nD) : after postOps (val2 m d) (dr main_v27) = res27 m d := by
  rw [post_v27, V2_o]; rfl
theorem V3_a (d : Dev nD) : after postOps (val2 m d) (dr main_arg0) = m (aLoc d) := by
  rw [post_arg0, V2_ne m d _ (by decide), V1_a]
theorem V3_l (d : Dev nD) : after postOps (val2 m d) (dr main_arg1) = m (lLoc d) := by
  rw [post_arg1, V2_ne m d _ (by decide), V1_l]

theorem held_rest (d : Dev nD) : (held (T d) (UC \ up callRefs) (val1 m d) : sProp MM) = held (T d) (UC \ up callRefs) (val2 m d) := by
  unfold held
  refine bigSep_congr fun b hb => ?_
  have hne : b ≠ dr main_v4 := by
    rintro rfl
    exact (Finset.mem_sdiff.mp hb).2 (Finset.mem_map.mpr ⟨main_v4, by unfold callRefs; decide, rfl⟩)
  rw [show val2 m d b = val1 m d b from Function.update_of_ne hne _ _]

abbrev PP : K.Pay (nD := nD) (Val := Elt Ideal) (Name := ℕ) (U := UU) := P (flatM m) (labM m) (outM m)

section
variable (F : (d : Dev nD) → Buf (Elt Ideal) (fLoc d)) (L : (d : Dev nD) → Buf (Elt Ideal) (lLoc d))

theorem call_res (d : Dev nD) (f : Buf (Elt Ideal) (oLoc d)) :
    (iprop((fLoc d ↦{fullShare} F d) ∗ (lLoc d ↦{fullShare} L d) ∗ oLoc d ↦{fullShare} f) : sProp MM) ⊣⊢ iprop(coreRes F L d 0 f ∗ coreRes F L d 1 f) := by
  have hf : (fLoc d ↦{fullShare} F d : sProp MM) ⊣⊢ iprop((fLoc d ↦{hq 0} F d) ∗ fLoc d ↦{hq 1} F d) := pointsTo_share (PosShare.mem_left_op_right _)
  have hl : (lLoc d ↦{fullShare} L d : sProp MM) ⊣⊢ iprop((lLoc d ↦{hq 0} L d) ∗ lLoc d ↦{hq 1} L d) := pointsTo_share (PosShare.mem_left_op_right _)
  have ho : (oLoc d ↦[coreSet 0 ∪ coreSet 1]{fullShare} f : sProp MM) ⊣⊢ iprop((oLoc d ↦[coreSet 0]{fullShare} f) ∗ oLoc d ↦[coreSet 1]{fullShare} f) := pointsTo_union cores_disjoint
  rw [cores_cover] at ho
  unfold coreRes
  constructor
  · iintro ⟨Hf, Hl, Ho⟩
    ihave Hf := hf.1 $$ Hf
    ihave Hl := hl.1 $$ Hl
    ihave Ho := ho.1 $$ Ho
    icases Hf with ⟨Hf0, Hf1⟩
    icases Hl with ⟨Hl0, Hl1⟩
    icases Ho with ⟨Ho0, Ho1⟩
    isplitl [Hf0 Hl0 Ho0]
    · isplitl [Hf0]; · iexact Hf0
      isplitl [Hl0]; · iexact Hl0
      iexact Ho0
    isplitl [Hf1]; · iexact Hf1
    isplitl [Hl1]; · iexact Hl1
    iexact Ho1
  · iintro ⟨⟨Hf0, Hl0, Ho0⟩, Hf1, Hl1, Ho1⟩
    isplitl [Hf0 Hf1]
    · iapply hf.2
      isplitl [Hf0]; · iexact Hf0
      iexact Hf1
    isplitl [Hl0 Hl1]
    · iapply hl.2
      isplitl [Hl0]; · iexact Hl0
      iexact Hl1
    iapply ho.2
    isplitl [Ho0]; · iexact Ho0
    iexact Ho1
end

theorem bigSep_two (Φ : Fin 2 → sProp MM) : (bigSep Finset.univ Φ) = iprop(Φ 0 ∗ Φ 1) := by
  rw [show (Finset.univ : Finset (Fin 2)) = {0, 1} by decide, SparseCore.bigSep_insert' (by decide), bigSep_singleton]

theorem st0_eq (d : Dev nD) : (bigSep Finset.univ fun c : Fin (K.nCore 0) => (PP m).st 0 d c) = iprop(coreRes (flatM m) (labM m) d 0 (outM m d) ∗ coreRes (flatM m) (labM m) d 1 (outM m d)) := by
  show (bigSep (Finset.univ : Finset (Fin 2)) fun c => coreRes (flatM m) (labM m) d c (outM m d)) = _
  rw [bigSep_two]
theorem dn0_eq (d : Dev nD) : (bigSep Finset.univ fun c : Fin (K.nCore 0) => (PP m).dn 0 d c) = iprop(coreRes (flatM m) (labM m) d 0 (gOut m d) ∗ coreRes (flatM m) (labM m) d 1 (gOut m d)) := by
  show (bigSep (Finset.univ : Finset (Fin 2)) fun c => coreRes (flatM m) (labM m) d c (gOut m d)) = _
  rw [bigSep_two]

/-- What the program leaves: its result and its arguments. -/
abbrev FIN (d : Dev nD) : sProp MM := iprop((rLoc d ↦{fullShare} res27 m d) ∗ (aLoc d ↦{fullShare} m (aLoc d)) ∗ (lLoc d ↦{fullShare} m (lLoc d)))

theorem unscoped_held (d : Dev nD) : (unscopedBufs d (fun b => m ((SparseCore.T d).loc b)) : sProp MM) = held (T d) UC (val0 m d) :=
  Pipeline.unscopedBufs_held d (val0 m d)

theorem before_call (d : Dev nD) : (held d.tc UC (after preOps (val0 m d)) : sProp MM)
    = iprop(((fLoc d ↦{fullShare} flatM m d) ∗ (lLoc d ↦{fullShare} labM m d) ∗ (oLoc d ↦{fullShare} outM m d)) ∗ held (T d) (UC \ up callRefs) (val2 m d)) := by
  rw [← held_rest]
  refine (held_call d (val1 m d)).trans ?_
  rw [V1_f, V1_l]

theorem after_call (d : Dev nD) : iprop(((fLoc d ↦{fullShare} flatM m d) ∗ (lLoc d ↦{fullShare} labM m d) ∗ (oLoc d ↦{fullShare} gOut m d)) ∗ held (T d) (UC \ up callRefs) (val2 m d))
    = (held d.tc UC (val2 m d) : sProp MM) := by
  refine Eq.trans ?_ (held_call d (val2 m d)).symm
  rw [V2_ne m d main_v3 (by decide), V2_ne m d main_arg1 (by decide), V2_o, V1_f, V1_l]

theorem at_end (d : Dev nD) : (held d.tc UC (after postOps (val2 m d)) : sProp MM) = iprop(FIN m d ∗ held (T d) (UC \ up endRefs) (after postOps (val2 m d))) := by
  refine (held_end d (after postOps (val2 m d))).trans ?_
  rw [V3_r, V3_a, V3_l]

theorem hmain (κ : GSem nD τ sig → ℕ) (d : Dev nD) :
    iprop(K.ctx EH (PP m) κ ∗ K.tcSt EH d 0 ∗ K.tcRes m ρ d ∗ emp)
      ⊢ wp frame (wpE (K.defs D) 𝒱 (SparseCore.T d) none) Set.univ (main d)
          fun _ => iprop(K.tcSt EH d 1 ∗ FIN m d ∗ K.tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d UC _ preOps pre_sub pre_fresh (val0 m d)) $$ [Hb Hheld]
  · isplitl [Hb]; · iexact Hb
    iexact Hheld
  iintro ⟨Hb, Hheld⟩
  ihave Hh := (BIBase.Entails.of_eq (before_call m d)) $$ Hheld
  icases Hh with ⟨H3, Hrest⟩
  ihave H3 := (call_res (flatM m) (labM m) d (outM m d)).1 $$ H3
  rw [wp_bind]
  iapply (K.wp_run D 𝒱 (EH := EH) (P := PP m) κ d 0) $$ [Hst H3 Hb Hrest Hts]
  isplitr; · iexact Hctx
  isplitl [Hst]; · iexact Hst
  isplitl [H3]
  · rw [st0_eq]; iexact H3
  iintro ⟨Hst, Hdn⟩
  ihave Hdn := (BIBase.Entails.of_eq (dn0_eq m d)) $$ Hdn
  ihave H3 := (call_res (flatM m) (labM m) d (gOut m d)).2 $$ Hdn
  ihave Hheld := (BIBase.Entails.of_eq (after_call m d)) $$ [H3 Hrest]
  · isplitl [H3]; · iexact H3
    iexact Hrest
  rw [show seq (Λ := SparseCore.Sig ΛP 1) (nD := nD) postOps = (seq postOps >>= fun u => Pure.pure u) from (bind_pure _).symm]
  iapply (StableHlo.wp_seq 𝒱 none Set.univ d UC (fun u => Pure.pure u) postOps post_sub post_fresh (val2 m d)) $$ [Hb Hheld]
  · isplitl [Hb]; · iexact Hb
    iexact Hheld
  iintro ⟨Hb, Hheld⟩
  ihave Hh := (BIBase.Entails.of_eq (at_end m d)) $$ Hheld
  icases Hh with ⟨H3, -⟩
  rw [wp_pure]; imodintro
  isplitl [Hst]; · iexact Hst
  isplitl [H3]; · iexact H3
  isplitl [Hb]; · iexact Hb
  iexact Hts

def fq (d : Dev nD) (s' : Phys nD τ sig (Elt Ideal)) : Prop :=
  s'.mem.mem (rLoc d) = res27 m d ∧ s'.mem.mem (aLoc d) = m (aLoc d) ∧ s'.mem.mem (lLoc d) = m (lLoc d)

theorem hfin (d : Dev nD) (s' : Phys nD τ sig (Elt Ideal)) : iprop(FIN m d ∗ SI s') ⊢ (⌜fq m d s'⌝ : sProp MM) := by
  iintro ⟨⟨Hr, Ha, Hl⟩, HSI⟩
  ihave H := (persistent_entails_right (SI_pointsTo_agree (st := s') (ℓ := rLoc d) (I := Finset.univ) (q := fullShare) (f := res27 m d))) $$ [HSI Hr]
  · isplitl [HSI] <;> iassumption
  icases H with ⟨%h0, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := lLoc d) (I := Finset.univ) (q := fullShare) (f := m (lLoc d))) $$ [HSI Hl]
  · isplitl [HSI] <;> iassumption
  icases H with %h2
  ipureintro; exact ⟨funext fun i => h0 i (Finset.mem_univ i), funext fun i => h1 i (Finset.mem_univ i), funext fun i => h2 i (Finset.mem_univ i)⟩

/-- The final memories: the result, the arguments as they were, every semaphore at zero. -/
def QC : PUnit × MemSt nD τ sig (Elt Ideal) → Prop := fun r =>
  (∀ c : Dev nD, r.2.mem (rLoc c) = res27 m c ∧ r.2.mem (aLoc c) = m (aLoc c) ∧ r.2.mem (lLoc c) = m (lLoc c)) ∧ r.2.sem = fun _ => 0

theorem run_main (hLa : ∀ d r, lbR (labM m d : Labs) r < 16) :
    θ_run (Cert.KernelIdeal.defs (F := Ideal)) (Cert.KernelIdeal.threads (F := Ideal)) ⟨m, fun _ => 0, ρ⟩ (QC m) :=
  SparseCore.Cfg.θ_run_sc_quiescent (K := K) (D := D) (𝒱 := 𝒱) (EH := EH) (P := PP m) (A := ∅) facts v₀
    (fun q hq => match q with | 0 => nomatch hq)
    (fun q _ => match q with | 0 => tileObl (flatM m) (labM m) (outM m) hLa)
    (fun q _ => match q with | 0 => SparseCore.Cfg.VecSplit.of_plain (vecSplit (flatM m) (labM m) (outM m)))
    m ρ main (fun _ => iprop(emp)) (FIN m) u₀ (sep_elim_left.trans (hu₀ (flatM m) (labM m) (outM m))) (hmain m ρ) (fq m) (hfin m) (QC m) (fun _ h hz => ⟨h, hz⟩)

end Cert.Proof.Ece

end
-- ==== Proof.Ece.Eq.lean ====
/-
  The kernel's error is the reference's.
-/
module

public import proofs.«01_k».proof.Proof.Ece.RefVal
public import proofs.«01_k».proof.Proof.Ece.Launch

@[expose] public section

noncomputable section

namespace Cert.Proof.Ece

open Cert.KernelIdeal Cert.KernelIdeal.Gen
open Idealize.ShloMosaic

theorem slice_at (B : FVec Ideal S3x10 .f32) (k : Fin 3) (b : Fin 10) (o : Fin 2 → ℕ) (h0 : o 0 = k.val) (h1 : o 1 = 0) (h : S3x10.Slices o S1x10) :
    (shapeCast S10 (extractStridedSlice S1x10 o B h) shapeCasts_S1x10_S10 (ix1 b) : EReal) = B (ix2 k b) := by
  have hb := b.isLt
  rw [shapeCast_apply _ _ _ (ix2 (0 : Fin 1) b) (by rw [Shape.rowMajor_val_two, Shape.rowMajor_val_one]; simp [ix1, ix2])]
  unfold extractStridedSlice
  congr 1
  funext a
  apply Fin.ext
  match a with
  | ⟨0, _⟩ => simp [ix2, h0]
  | ⟨1, _⟩ => simp [ix2, h1]

theorem term10_at (N N1 N2 : FVec Ideal S10 .f32) (b : Fin 10) :
    (select (cmpf .ogt N (broadcastInDim S10 ![] bcast_S_S10 (constant (F := Ideal) S_ .f32 0x00000000#32)))
      (mulf (Host.absf (subf (Host.divf N1 (maximumf N (broadcastInDim S10 ![] bcast_S_S10 (constant (F := Ideal) S_ .f32 0x3F800000#32))))
          (Host.divf N2 (maximumf N (broadcastInDim S10 ![] bcast_S_S10 (constant (F := Ideal) S_ .f32 0x3F800000#32))))))
        (Host.divf N (broadcastInDim S10 ![] bcast_S_S10 (constant (F := Ideal) S_ .f32 0x49F42400#32))))
      (broadcastInDim S10 ![] bcast_S_S10 (constant (F := Ideal) S_ .f32 0x00000000#32)) (ix1 b) : EReal) = termE (N (ix1 b)) (N1 (ix1 b)) (N2 (ix1 b)) := rfl

theorem errOf_at (B : FVec Ideal S3x10 .f32) (j : S1.Idx) :
    (errOf B j : EReal) = ∑ b : Fin 10, termE (B (ix2 0 b)) (B (ix2 1 b)) (B (ix2 2 b)) := by
  unfold errOf
  simp only []
  rw [shapeCast_apply _ _ _ (fun a => a.elim0 : S_.Idx) (by
    have h1 := (S_.rowMajor (fun a => a.elim0 : S_.Idx)).isLt
    have h2 := (S1.rowMajor j).isLt
    have e1 : S_.numel = 1 := by decide
    have e2 : S1.numel = 1 := by decide
    omega)]
  show Ideal.hostReduceAdd _ _ (Ideal.ofBits .f32 0x00000000#32) _ = _
  rw [Ideal.hostReduceAdd_r1_a0, show Ideal.ofBits .f32 0x00000000#32 = (0 : EReal) from zero_bits, zero_add]
  apply Finset.sum_congr rfl; intro b _
  refine (term10_at _ _ _ b).trans ?_
  rw [slice_at B 0 b ![0, 0] rfl rfl slices_S3x10_S1x10_0_0, slice_at B 1 b ![1, 0] rfl rfl slices_S3x10_S1x10_1_0, slice_at B 2 b ![2, 0] rfl rfl slices_S3x10_S1x10_2_0]

/-- Whether a confidence lies in a bin: the reference's test is the kernel's. -/
theorem inE_eq (lo hi : BitVec 32) (b : ℕ) (hb : b < 10) (hlo : Ideal.ofBits .f32 lo = ((b : ℝ) : EReal)) (hhi : Ideal.ofBits .f32 hi = (((b + 1 : ℕ) : ℝ) : EReal))
    (c : EReal) (hc : ∃ x : ℝ, c = (x : EReal) ∧ 0 ≤ x ∧ x ≤ 1) (hk : ∀ k : ℕ, k < 10 → c * 10 ≠ ((k : ℝ) : EReal)) :
    inE lo hi c = if b = binN c then 1 else 0 := by
  have hb10 : Ideal.ofBits .f32 0x41200000#32 = ((10 : ℝ) : EReal) := by rw [bits10]; norm_num
  unfold inE
  rw [hlo, hhi, hb10, tenth, tenth]
  have := bin_iff c b hb hc hk
  simp only [Ideal.cmp, andi_bool]
  by_cases e : b = binN c
  · rw [if_pos e]
    obtain ⟨e1, e2⟩ := this.mp e
    rw [decide_eq_true e1, decide_eq_true e2]
    simp
  · rw [if_neg e]
    have e' := mt this.mpr e
    rw [← Bool.decide_and, decide_eq_false e']
    simp

variable (X : Logits) (L : Labs)

/-- The label of a row, as a class. -/
def labelOf (h : RowsOk X L) (r : Fin 2000000) : Fin 16 := ⟨BitVec.toNat (L (ix1 r)), h.lab _⟩

theorem lbR_eq (h : RowsOk X L) (r : Fin 2000000) : lbR L r.val = (labelOf X L h r).val := by
  have e : at1 (N := 2000000) L r.val = L (ix1 r) := (at1_idx (N := 2000000) L (ix1 r)).symm
  unfold lbR labelOf
  rw [e]

theorem row_eq (h : RowsOk X L) (r : Fin 2000000) (k b : ℕ) :
    cellK (mxR (flatOf X) r.val) (clR (flatOf X) r.val (lbR L r.val)) k b = cellK (best X r) (X (ix2 r (labelOf X L h r))) k b := by
  rw [lbR_eq X L h, clR_eq, mxR_eq X r _ fun l => rfl]
  rfl

theorem bin_eq (h : RowsOk X L) (lo hi : BitVec 32) (b : Fin 10) (hlo : Ideal.ofBits .f32 lo = ((b.val : ℝ) : EReal))
    (hhi : Ideal.ofBits .f32 hi = (((b.val + 1 : ℕ) : ℝ) : EReal)) (i : Cert.ReferenceIdeal.S_.Idx) :
    (Rf.binTerm lo hi (Rf.confOf X) (Rf.accOf X L) i : EReal)
      = termE (binsOf (Gout (flatOf X) L) (ix2 0 b)) (binsOf (Gout (flatOf X) L) (ix2 1 b)) (binsOf (Gout (flatOf X) L) (ix2 2 b)) := by
  have hin : ∀ r : Fin 2000000, inE lo hi (confE (best X r)) = if b.val = binN (confE (best X r)) then 1 else 0 := fun r =>
    inE_eq lo hi b.val b.isLt hlo hhi _ (confE_real _) fun k hk => by rw [← conf_at]; exact h.inside r k hk
  have s0 : (∑ r : Fin 2000000, inE lo hi (Rf.confOf X (ix1 r))) = binsOf (Gout (flatOf X) L) (ix2 0 b) := by
    rw [binsOf_eq]
    apply Finset.sum_congr rfl; intro r _
    rw [row_eq X L h, conf_at, hin]
    unfold cellK
    rw [if_pos (show ((0 : Fin 3).val = 0) from rfl)]
  have s1 : (∑ r : Fin 2000000, (Rf.confOf X (ix1 r) : EReal) * inE lo hi (Rf.confOf X (ix1 r))) = binsOf (Gout (flatOf X) L) (ix2 1 b) := by
    rw [binsOf_eq]
    apply Finset.sum_congr rfl; intro r _
    rw [row_eq X L h, conf_at, hin]
    unfold cellK
    rw [if_neg (show ¬ ((1 : Fin 3).val = 0) by decide), if_pos (show ((1 : Fin 3).val = 1) from rfl), mul_ite, mul_one, mul_zero]
  have s2 : (∑ r : Fin 2000000, (Rf.accOf X L (ix1 r) : EReal) * inE lo hi (Rf.confOf X (ix1 r))) = binsOf (Gout (flatOf X) L) (ix2 2 b) := by
    rw [binsOf_eq]
    apply Finset.sum_congr rfl; intro r _
    rw [row_eq X L h, conf_at, hin, acc_at X L h r (labelOf X L h r) rfl]
    unfold cellK
    rw [if_neg (show ¬ ((2 : Fin 3).val = 0) by decide), if_neg (show ¬ ((2 : Fin 3).val = 1) by decide), mul_ite, mul_one, mul_zero]
  rw [binTerm_at, s0, s1, s2]

/-- The two errors are one. -/
theorem ece_eq (h : RowsOk X L) : errOf (binsOf (Gout (flatOf X) L)) = Rf.eceOf (Rf.confOf X) (Rf.accOf X L) := by
  funext j
  refine (errOf_at _ j).trans (Eq.symm ?_)
  exact eceOf_at _ _ j (fun b => termE (binsOf (Gout (flatOf X) L) (ix2 0 b)) (binsOf (Gout (flatOf X) L) (ix2 1 b)) (binsOf (Gout (flatOf X) L) (ix2 2 b))) fun i =>
    ⟨bin_eq X L h _ _ 0 bits0 bits1 i, bin_eq X L h _ _ 1 bits1 bits2 i, bin_eq X L h _ _ 2 bits2 bits3 i, bin_eq X L h _ _ 3 bits3 bits4 i,
      bin_eq X L h _ _ 4 bits4 bits5 i, bin_eq X L h _ _ 5 bits5 bits6 i, bin_eq X L h _ _ 6 bits6 bits7 i, bin_eq X L h _ _ 7 bits7 bits8 i,
      bin_eq X L h _ _ 8 bits8 bits9 i, bin_eq X L h _ _ 9 bits9 bits10 i⟩

end Cert.Proof.Ece

end
-- ==== Proof.lean ====
/-
  The claims: the kernel and the reference run, leave their arguments as they
  were and every semaphore at zero, and end with one result.
-/
module

public import proofs.«01_k».proof.Defs
public import proofs.«01_k».proof.Proof.Gen.KernelIdeal
public import proofs.«01_k».proof.Proof.Gen.ReferenceIdeal
public import proofs.«01_k».proof.Proof.Gen.Pre_labels_ok
public import proofs.«01_k».proof.Proof.Gen.Pre_rows_ok
public import proofs.«01_k».proof.Proof.Ece.Eq

@[expose] public section

noncomputable section

namespace Cert.Proof

open Idealize.ShloMosaic Idealize.SL.Sem
open Cert.Proof.Ece

attribute [local instance] Cert.KernelIdeal.Gen.facts Cert.ReferenceIdeal.Gen.facts Cert.Pre_labels_ok.Gen.facts Cert.Pre_rows_ok.Gen.facts

theorem rows (m : (ℓ : Loc Cert.KernelIdeal.nD Cert.KernelIdeal.τ Cert.KernelIdeal.sig) → Buf (Elt Ideal) ℓ) (h : Cert.Pre_KernelIdeal_rows_ok m) (d : Dev Cert.KernelIdeal.nD) :
    RowsOk (m (aLoc d)) (m (lLoc d)) := rows_of _ _ (h d)

theorem quiet : Cert.quiescent_KernelIdeal := fun m g h =>
  (θ_run _ _ _).mono (fun _ q => ⟨fun c => (q.1 c).2, q.2⟩) (run_main m g fun d r => labels_range _ _ (h d) r)

theorem quiet_rows : Cert.quiescent_KernelIdeal_pre_rows_ok := fun m g h =>
  (θ_run _ _ _).mono (fun _ q => ⟨fun c => (q.1 c).2, q.2⟩) (run_main m g fun d r => (rows m h d).lab _)

theorem quiet_ref : Cert.quiescent_ReferenceIdeal := fun m g _ =>
  (θ_run _ _ _).mono (fun _ q => ⟨fun c => (q.1 c).2, q.2⟩) (Rf.run_ref m g)

theorem quiet_ref_rows : Cert.quiescent_ReferenceIdeal_pre_rows_ok := fun m g _ =>
  (θ_run _ _ _).mono (fun _ q => ⟨fun c => (q.1 c).2, q.2⟩) (Rf.run_ref m g)

theorem equal : Cert.algebraic_KernelIdeal_ReferenceIdeal_pre_rows_ok := by
  intro m g m' g' h he
  refine ⟨res27 m, (θ_run _ _ _).mono (fun _ q => q.1) (run_main m g fun d r => (rows m h d).lab _), ?_⟩
  refine (θ_run _ _ _).mono (fun r q => fun c => ⟨?_, (q.1 c).2⟩) (Rf.run_ref m' g')
  refine (q.1 c).1.trans ?_
  obtain ⟨e0, e1⟩ := he c
  rw [e0, e1]
  exact (ece_eq _ _ (rows m h c)).symm

theorem claim : Cert.Claim :=
  ⟨Cert.KernelIdeal.Gen.facts, Cert.ReferenceIdeal.Gen.facts, Cert.Pre_labels_ok.Gen.facts, Cert.Pre_rows_ok.Gen.facts,
    quiet, quiet_rows, quiet_ref, quiet_ref_rows, equal⟩

end Cert.Proof

end
